-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2 = (fun _ => 1#1)

def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def Pre_HgrnIdeal_hgrn_finite [hPre_hgrn_finite : Cert.Pre_hgrn_finite.Facts] (m : (ℓ : Loc Cert.HgrnIdeal.nD Cert.HgrnIdeal.τ Cert.HgrnIdeal.sig) → Buf (Elt Ideal) ℓ) : Prop :=
  ∀ c : Dev Cert.HgrnIdeal.nD,
    (Cert.Pre_hgrn_finite.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2)) (m ((c.tc : Thread Cert.HgrnIdeal.nD Cert.HgrnIdeal.τ).loc Cert.HgrnIdeal.main_arg3))) = (fun _ => 1#1)

def Pre_HgrnRefIdeal (m : (ℓ : Loc Cert.HgrnRefIdeal.nD Cert.HgrnRefIdeal.τ Cert.HgrnRefIdeal.sig) → Buf (Elt Ideal) ℓ) : Prop :=
  True

def Pre_HgrnRefIdeal_hgrn_finite [hPre_hgrn_finite : Cert.Pre_hgrn_finite.Facts] (m : (ℓ : Loc Cert.HgrnRefIdeal.nD Cert.HgrnRefIdeal.τ Cert.HgrnRefIdeal.sig) → Buf (Elt Ideal) ℓ) : Prop :=
  ∀ c : Dev Cert.HgrnRefIdeal.nD,
    (Cert.Pre_hgrn_finite.fn (F := Ideal) (m ((c.tc : Thread Cert.HgrnRefIdeal.nD Cert.HgrnRefIdeal.τ).loc Cert.HgrnRefIdeal.main_arg0)) (m ((c.tc : Thread Cert.HgrnRefIdeal.nD Cert.HgrnRefIdeal.τ).loc Cert.HgrnRefIdeal.main_arg1)) (m ((c.tc : Thread Cert.HgrnRefIdeal.nD Cert.HgrnRefIdeal.τ).loc Cert.HgrnRefIdeal.main_arg2)) (m ((c.tc : Thread Cert.HgrnRefIdeal.nD Cert.HgrnRefIdeal.τ).loc Cert.HgrnRefIdeal.main_arg3))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InProjS (m : (ℓ : Loc Cert.InProjS.nD Cert.InProjS.τ Cert.InProjS.sig) → Buf (Elt Bits) ℓ) : Prop :=
  True

def Pre_InProjSIdeal (m : (ℓ : Loc Cert.InProjSIdeal.nD Cert.InProjSIdeal.τ Cert.InProjSIdeal.sig) → Buf (Elt Ideal) ℓ) : Prop :=
  True

def Pre_InProjSRefIdeal (m : (ℓ : Loc Cert.InProjSRefIdeal.nD Cert.InProjSRefIdeal.τ Cert.InProjSRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_merge_finite [hPre_merge_finite : Cert.Pre_merge_finite.Facts] (m : (ℓ : Loc Cert.MergeIdeal.nD Cert.MergeIdeal.τ Cert.MergeIdeal.sig) → Buf (Elt Ideal) ℓ) : Prop :=
  ∀ c : Dev Cert.MergeIdeal.nD,
    (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7))).1 = (fun _ => 1#1)
    ∧ (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7))).2 = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_merge_finite [hPre_merge_finite : Cert.Pre_merge_finite.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7))).1 = (fun _ => 1#1)
    ∧ (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7))).2 = (fun _ => 1#1)

def Pre_MergeS (m : (ℓ : Loc Cert.MergeS.nD Cert.MergeS.τ Cert.MergeS.sig) → Buf (Elt Bits) ℓ) : Prop :=
  True

def Pre_MergeSIdeal (m : (ℓ : Loc Cert.MergeSIdeal.nD Cert.MergeSIdeal.τ Cert.MergeSIdeal.sig) → Buf (Elt Ideal) ℓ) : Prop :=
  True

def Pre_MergeSIdeal_merges_finite [hPre_merges_finite : Cert.Pre_merges_finite.Facts] (m : (ℓ : Loc Cert.MergeSIdeal.nD Cert.MergeSIdeal.τ Cert.MergeSIdeal.sig) → Buf (Elt Ideal) ℓ) : Prop :=
  ∀ c : Dev Cert.MergeSIdeal.nD,
    (Cert.Pre_merges_finite.fn (F := Ideal) (m ((c.tc : Thread Cert.MergeSIdeal.nD Cert.MergeSIdeal.τ).loc Cert.MergeSIdeal.main_arg0)) (m ((c.tc : Thread Cert.MergeSIdeal.nD Cert.MergeSIdeal.τ).loc Cert.MergeSIdeal.main_arg1)) (m ((c.tc : Thread Cert.MergeSIdeal.nD Cert.MergeSIdeal.τ).loc Cert.MergeSIdeal.main_arg2)) (m ((c.tc : Thread Cert.MergeSIdeal.nD Cert.MergeSIdeal.τ).loc Cert.MergeSIdeal.main_arg3)) (m ((c.tc : Thread Cert.MergeSIdeal.nD Cert.MergeSIdeal.τ).loc Cert.MergeSIdeal.main_arg4)) (m ((c.tc : Thread Cert.MergeSIdeal.nD Cert.MergeSIdeal.τ).loc Cert.MergeSIdeal.main_arg5)) (m ((c.tc : Thread Cert.MergeSIdeal.nD Cert.MergeSIdeal.τ).loc Cert.MergeSIdeal.main_arg6)) (m ((c.tc : Thread Cert.MergeSIdeal.nD Cert.MergeSIdeal.τ).loc Cert.MergeSIdeal.main_arg7))).1 = (fun _ => 1#1)
    ∧ (Cert.Pre_merges_finite.fn (F := Ideal) (m ((c.tc : Thread Cert.MergeSIdeal.nD Cert.MergeSIdeal.τ).loc Cert.MergeSIdeal.main_arg0)) (m ((c.tc : Thread Cert.MergeSIdeal.nD Cert.MergeSIdeal.τ).loc Cert.MergeSIdeal.main_arg1)) (m ((c.tc : Thread Cert.MergeSIdeal.nD Cert.MergeSIdeal.τ).loc Cert.MergeSIdeal.main_arg2)) (m ((c.tc : Thread Cert.MergeSIdeal.nD Cert.MergeSIdeal.τ).loc Cert.MergeSIdeal.main_arg3)) (m ((c.tc : Thread Cert.MergeSIdeal.nD Cert.MergeSIdeal.τ).loc Cert.MergeSIdeal.main_arg4)) (m ((c.tc : Thread Cert.MergeSIdeal.nD Cert.MergeSIdeal.τ).loc Cert.MergeSIdeal.main_arg5)) (m ((c.tc : Thread Cert.MergeSIdeal.nD Cert.MergeSIdeal.τ).loc Cert.MergeSIdeal.main_arg6)) (m ((c.tc : Thread Cert.MergeSIdeal.nD Cert.MergeSIdeal.τ).loc Cert.MergeSIdeal.main_arg7))).2 = (fun _ => 1#1)

def Pre_MergeSRefIdeal (m : (ℓ : Loc Cert.MergeSRefIdeal.nD Cert.MergeSRefIdeal.τ Cert.MergeSRefIdeal.sig) → Buf (Elt Ideal) ℓ) : Prop :=
  True

def Pre_MergeSRefIdeal_merges_finite [hPre_merges_finite : Cert.Pre_merges_finite.Facts] (m : (ℓ : Loc Cert.MergeSRefIdeal.nD Cert.MergeSRefIdeal.τ Cert.MergeSRefIdeal.sig) → Buf (Elt Ideal) ℓ) : Prop :=
  ∀ c : Dev Cert.MergeSRefIdeal.nD,
    (Cert.Pre_merges_finite.fn (F := Ideal) (m ((c.tc : Thread Cert.MergeSRefIdeal.nD Cert.MergeSRefIdeal.τ).loc Cert.MergeSRefIdeal.main_arg0)) (m ((c.tc : Thread Cert.MergeSRefIdeal.nD Cert.MergeSRefIdeal.τ).loc Cert.MergeSRefIdeal.main_arg1)) (m ((c.tc : Thread Cert.MergeSRefIdeal.nD Cert.MergeSRefIdeal.τ).loc Cert.MergeSRefIdeal.main_arg2)) (m ((c.tc : Thread Cert.MergeSRefIdeal.nD Cert.MergeSRefIdeal.τ).loc Cert.MergeSRefIdeal.main_arg3)) (m ((c.tc : Thread Cert.MergeSRefIdeal.nD Cert.MergeSRefIdeal.τ).loc Cert.MergeSRefIdeal.main_arg4)) (m ((c.tc : Thread Cert.MergeSRefIdeal.nD Cert.MergeSRefIdeal.τ).loc Cert.MergeSRefIdeal.main_arg5)) (m ((c.tc : Thread Cert.MergeSRefIdeal.nD Cert.MergeSRefIdeal.τ).loc Cert.MergeSRefIdeal.main_arg6)) (m ((c.tc : Thread Cert.MergeSRefIdeal.nD Cert.MergeSRefIdeal.τ).loc Cert.MergeSRefIdeal.main_arg7))).1 = (fun _ => 1#1)
    ∧ (Cert.Pre_merges_finite.fn (F := Ideal) (m ((c.tc : Thread Cert.MergeSRefIdeal.nD Cert.MergeSRefIdeal.τ).loc Cert.MergeSRefIdeal.main_arg0)) (m ((c.tc : Thread Cert.MergeSRefIdeal.nD Cert.MergeSRefIdeal.τ).loc Cert.MergeSRefIdeal.main_arg1)) (m ((c.tc : Thread Cert.MergeSRefIdeal.nD Cert.MergeSRefIdeal.τ).loc Cert.MergeSRefIdeal.main_arg2)) (m ((c.tc : Thread Cert.MergeSRefIdeal.nD Cert.MergeSRefIdeal.τ).loc Cert.MergeSRefIdeal.main_arg3)) (m ((c.tc : Thread Cert.MergeSRefIdeal.nD Cert.MergeSRefIdeal.τ).loc Cert.MergeSRefIdeal.main_arg4)) (m ((c.tc : Thread Cert.MergeSRefIdeal.nD Cert.MergeSRefIdeal.τ).loc Cert.MergeSRefIdeal.main_arg5)) (m ((c.tc : Thread Cert.MergeSRefIdeal.nD Cert.MergeSRefIdeal.τ).loc Cert.MergeSRefIdeal.main_arg6)) (m ((c.tc : Thread Cert.MergeSRefIdeal.nD Cert.MergeSRefIdeal.τ).loc Cert.MergeSRefIdeal.main_arg7))).2 = (fun _ => 1#1)

def Pre_HgrnO (m : (ℓ : Loc Cert.HgrnO.nD Cert.HgrnO.τ Cert.HgrnO.sig) → Buf (Elt Bits) ℓ) : Prop :=
  True

def Pre_HgrnOIdeal (m : (ℓ : Loc Cert.HgrnOIdeal.nD Cert.HgrnOIdeal.τ Cert.HgrnOIdeal.sig) → Buf (Elt Ideal) ℓ) : Prop :=
  True

def Pre_HgrnOIdeal_hgrno_finite [hPre_hgrno_finite : Cert.Pre_hgrno_finite.Facts] (m : (ℓ : Loc Cert.HgrnOIdeal.nD Cert.HgrnOIdeal.τ Cert.HgrnOIdeal.sig) → Buf (Elt Ideal) ℓ) : Prop :=
  ∀ c : Dev Cert.HgrnOIdeal.nD,
    (Cert.Pre_hgrno_finite.fn (F := Ideal) (m ((c.tc : Thread Cert.HgrnOIdeal.nD Cert.HgrnOIdeal.τ).loc Cert.HgrnOIdeal.main_arg0)) (m ((c.tc : Thread Cert.HgrnOIdeal.nD Cert.HgrnOIdeal.τ).loc Cert.HgrnOIdeal.main_arg1)) (m ((c.tc : Thread Cert.HgrnOIdeal.nD Cert.HgrnOIdeal.τ).loc Cert.HgrnOIdeal.main_arg2)) (m ((c.tc : Thread Cert.HgrnOIdeal.nD Cert.HgrnOIdeal.τ).loc Cert.HgrnOIdeal.main_arg3))).1 = (fun _ => 1#1)
    ∧ (Cert.Pre_hgrno_finite.fn (F := Ideal) (m ((c.tc : Thread Cert.HgrnOIdeal.nD Cert.HgrnOIdeal.τ).loc Cert.HgrnOIdeal.main_arg0)) (m ((c.tc : Thread Cert.HgrnOIdeal.nD Cert.HgrnOIdeal.τ).loc Cert.HgrnOIdeal.main_arg1)) (m ((c.tc : Thread Cert.HgrnOIdeal.nD Cert.HgrnOIdeal.τ).loc Cert.HgrnOIdeal.main_arg2)) (m ((c.tc : Thread Cert.HgrnOIdeal.nD Cert.HgrnOIdeal.τ).loc Cert.HgrnOIdeal.main_arg3))).2.1 = (fun _ => 1#1)
    ∧ (Cert.Pre_hgrno_finite.fn (F := Ideal) (m ((c.tc : Thread Cert.HgrnOIdeal.nD Cert.HgrnOIdeal.τ).loc Cert.HgrnOIdeal.main_arg0)) (m ((c.tc : Thread Cert.HgrnOIdeal.nD Cert.HgrnOIdeal.τ).loc Cert.HgrnOIdeal.main_arg1)) (m ((c.tc : Thread Cert.HgrnOIdeal.nD Cert.HgrnOIdeal.τ).loc Cert.HgrnOIdeal.main_arg2)) (m ((c.tc : Thread Cert.HgrnOIdeal.nD Cert.HgrnOIdeal.τ).loc Cert.HgrnOIdeal.main_arg3))).2.2 = (fun _ => 1#1)

def Pre_HgrnORefIdeal (m : (ℓ : Loc Cert.HgrnORefIdeal.nD Cert.HgrnORefIdeal.τ Cert.HgrnORefIdeal.sig) → Buf (Elt Ideal) ℓ) : Prop :=
  True

def Pre_HgrnORefIdeal_hgrno_finite [hPre_hgrno_finite : Cert.Pre_hgrno_finite.Facts] (m : (ℓ : Loc Cert.HgrnORefIdeal.nD Cert.HgrnORefIdeal.τ Cert.HgrnORefIdeal.sig) → Buf (Elt Ideal) ℓ) : Prop :=
  ∀ c : Dev Cert.HgrnORefIdeal.nD,
    (Cert.Pre_hgrno_finite.fn (F := Ideal) (m ((c.tc : Thread Cert.HgrnORefIdeal.nD Cert.HgrnORefIdeal.τ).loc Cert.HgrnORefIdeal.main_arg0)) (m ((c.tc : Thread Cert.HgrnORefIdeal.nD Cert.HgrnORefIdeal.τ).loc Cert.HgrnORefIdeal.main_arg1)) (m ((c.tc : Thread Cert.HgrnORefIdeal.nD Cert.HgrnORefIdeal.τ).loc Cert.HgrnORefIdeal.main_arg2)) (m ((c.tc : Thread Cert.HgrnORefIdeal.nD Cert.HgrnORefIdeal.τ).loc Cert.HgrnORefIdeal.main_arg3))).1 = (fun _ => 1#1)
    ∧ (Cert.Pre_hgrno_finite.fn (F := Ideal) (m ((c.tc : Thread Cert.HgrnORefIdeal.nD Cert.HgrnORefIdeal.τ).loc Cert.HgrnORefIdeal.main_arg0)) (m ((c.tc : Thread Cert.HgrnORefIdeal.nD Cert.HgrnORefIdeal.τ).loc Cert.HgrnORefIdeal.main_arg1)) (m ((c.tc : Thread Cert.HgrnORefIdeal.nD Cert.HgrnORefIdeal.τ).loc Cert.HgrnORefIdeal.main_arg2)) (m ((c.tc : Thread Cert.HgrnORefIdeal.nD Cert.HgrnORefIdeal.τ).loc Cert.HgrnORefIdeal.main_arg3))).2.1 = (fun _ => 1#1)
    ∧ (Cert.Pre_hgrno_finite.fn (F := Ideal) (m ((c.tc : Thread Cert.HgrnORefIdeal.nD Cert.HgrnORefIdeal.τ).loc Cert.HgrnORefIdeal.main_arg0)) (m ((c.tc : Thread Cert.HgrnORefIdeal.nD Cert.HgrnORefIdeal.τ).loc Cert.HgrnORefIdeal.main_arg1)) (m ((c.tc : Thread Cert.HgrnORefIdeal.nD Cert.HgrnORefIdeal.τ).loc Cert.HgrnORefIdeal.main_arg2)) (m ((c.tc : Thread Cert.HgrnORefIdeal.nD Cert.HgrnORefIdeal.τ).loc Cert.HgrnORefIdeal.main_arg3))).2.2 = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2)
      ∧ r.2.mem ((c.tc : Thread Cert.Hgrn.nD Cert.Hgrn.τ).loc Cert.Hgrn.main_arg3) = m ((c.tc : Thread Cert.Hgrn.nD Cert.Hgrn.τ).loc Cert.Hgrn.main_arg3))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
      ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3))
      ∧ r.2.sem = fun _ => 0)

def quiescent_HgrnIdeal_pre_hgrn_finite [hHgrnIdeal : Cert.HgrnIdeal.Facts] [hPre_hgrn_finite : Cert.Pre_hgrn_finite.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal_hgrn_finite m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
      ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3))
      ∧ r.2.sem = fun _ => 0)

def quiescent_HgrnRefIdeal [hHgrnRefIdeal : Cert.HgrnRefIdeal.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2)
      ∧ r.2.mem ((c.tc : Thread Cert.HgrnRefIdeal.nD Cert.HgrnRefIdeal.τ).loc Cert.HgrnRefIdeal.main_arg3) = m ((c.tc : Thread Cert.HgrnRefIdeal.nD Cert.HgrnRefIdeal.τ).loc Cert.HgrnRefIdeal.main_arg3))
      ∧ r.2.sem = fun _ => 0)

def quiescent_HgrnRefIdeal_pre_hgrn_finite [hHgrnRefIdeal : Cert.HgrnRefIdeal.Facts] [hPre_hgrn_finite : Cert.Pre_hgrn_finite.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal_hgrn_finite m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2)
      ∧ r.2.mem ((c.tc : Thread Cert.HgrnRefIdeal.nD Cert.HgrnRefIdeal.τ).loc Cert.HgrnRefIdeal.main_arg3) = m ((c.tc : Thread Cert.HgrnRefIdeal.nD Cert.HgrnRefIdeal.τ).loc Cert.HgrnRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6))
      ∧ r.2.sem = fun _ => 0)

def quiescent_InProjS [hInProjS : Cert.InProjS.Facts] : Prop :=
  ∀ (m : (ℓ : Loc Cert.InProjS.nD Cert.InProjS.τ Cert.InProjS.sig) → Buf (Elt Bits) ℓ) (g : Dev Cert.InProjS.nD → PrngReg), Pre_InProjS m →
    θ_run (Cert.InProjS.defs (F := Bits)) (onTc (τ := Cert.InProjS.τ) (Cert.InProjS.main (F := Bits))) ⟨m, fun _ => 0, g⟩ (fun r => (∀ c : Dev Cert.InProjS.nD,
      r.2.mem ((c.tc : Thread Cert.InProjS.nD Cert.InProjS.τ).loc Cert.InProjS.main_arg0) = m ((c.tc : Thread Cert.InProjS.nD Cert.InProjS.τ).loc Cert.InProjS.main_arg0)
      ∧ r.2.mem ((c.tc : Thread Cert.InProjS.nD Cert.InProjS.τ).loc Cert.InProjS.main_arg1) = m ((c.tc : Thread Cert.InProjS.nD Cert.InProjS.τ).loc Cert.InProjS.main_arg1)
      ∧ r.2.mem ((c.tc : Thread Cert.InProjS.nD Cert.InProjS.τ).loc Cert.InProjS.main_arg2) = m ((c.tc : Thread Cert.InProjS.nD Cert.InProjS.τ).loc Cert.InProjS.main_arg2)
      ∧ r.2.mem ((c.tc : Thread Cert.InProjS.nD Cert.InProjS.τ).loc Cert.InProjS.main_arg3) = m ((c.tc : Thread Cert.InProjS.nD Cert.InProjS.τ).loc Cert.InProjS.main_arg3)
      ∧ r.2.mem ((c.tc : Thread Cert.InProjS.nD Cert.InProjS.τ).loc Cert.InProjS.main_arg4) = m ((c.tc : Thread Cert.InProjS.nD Cert.InProjS.τ).loc Cert.InProjS.main_arg4)
      ∧ r.2.mem ((c.tc : Thread Cert.InProjS.nD Cert.InProjS.τ).loc Cert.InProjS.main_arg5) = m ((c.tc : Thread Cert.InProjS.nD Cert.InProjS.τ).loc Cert.InProjS.main_arg5)
      ∧ r.2.mem ((c.tc : Thread Cert.InProjS.nD Cert.InProjS.τ).loc Cert.InProjS.main_arg6) = m ((c.tc : Thread Cert.InProjS.nD Cert.InProjS.τ).loc Cert.InProjS.main_arg6))
      ∧ r.2.sem = fun _ => 0)

def quiescent_InProjSIdeal [hInProjSIdeal : Cert.InProjSIdeal.Facts] : Prop :=
  ∀ (m : (ℓ : Loc Cert.InProjSIdeal.nD Cert.InProjSIdeal.τ Cert.InProjSIdeal.sig) → Buf (Elt Ideal) ℓ) (g : Dev Cert.InProjSIdeal.nD → PrngReg), Pre_InProjSIdeal m →
    θ_run (Cert.InProjSIdeal.defs (F := Ideal)) (onTc (τ := Cert.InProjSIdeal.τ) (Cert.InProjSIdeal.main (F := Ideal))) ⟨m, fun _ => 0, g⟩ (fun r => (∀ c : Dev Cert.InProjSIdeal.nD,
      r.2.mem ((c.tc : Thread Cert.InProjSIdeal.nD Cert.InProjSIdeal.τ).loc Cert.InProjSIdeal.main_arg0) = m ((c.tc : Thread Cert.InProjSIdeal.nD Cert.InProjSIdeal.τ).loc Cert.InProjSIdeal.main_arg0)
      ∧ r.2.mem ((c.tc : Thread Cert.InProjSIdeal.nD Cert.InProjSIdeal.τ).loc Cert.InProjSIdeal.main_arg1) = m ((c.tc : Thread Cert.InProjSIdeal.nD Cert.InProjSIdeal.τ).loc Cert.InProjSIdeal.main_arg1)
      ∧ r.2.mem ((c.tc : Thread Cert.InProjSIdeal.nD Cert.InProjSIdeal.τ).loc Cert.InProjSIdeal.main_arg2) = m ((c.tc : Thread Cert.InProjSIdeal.nD Cert.InProjSIdeal.τ).loc Cert.InProjSIdeal.main_arg2)
      ∧ r.2.mem ((c.tc : Thread Cert.InProjSIdeal.nD Cert.InProjSIdeal.τ).loc Cert.InProjSIdeal.main_arg3) = m ((c.tc : Thread Cert.InProjSIdeal.nD Cert.InProjSIdeal.τ).loc Cert.InProjSIdeal.main_arg3)
      ∧ r.2.mem ((c.tc : Thread Cert.InProjSIdeal.nD Cert.InProjSIdeal.τ).loc Cert.InProjSIdeal.main_arg4) = m ((c.tc : Thread Cert.InProjSIdeal.nD Cert.InProjSIdeal.τ).loc Cert.InProjSIdeal.main_arg4)
      ∧ r.2.mem ((c.tc : Thread Cert.InProjSIdeal.nD Cert.InProjSIdeal.τ).loc Cert.InProjSIdeal.main_arg5) = m ((c.tc : Thread Cert.InProjSIdeal.nD Cert.InProjSIdeal.τ).loc Cert.InProjSIdeal.main_arg5)
      ∧ r.2.mem ((c.tc : Thread Cert.InProjSIdeal.nD Cert.InProjSIdeal.τ).loc Cert.InProjSIdeal.main_arg6) = m ((c.tc : Thread Cert.InProjSIdeal.nD Cert.InProjSIdeal.τ).loc Cert.InProjSIdeal.main_arg6))
      ∧ r.2.sem = fun _ => 0)

def quiescent_InProjSRefIdeal [hInProjSRefIdeal : Cert.InProjSRefIdeal.Facts] : Prop :=
  ∀ (m : (ℓ : Loc Cert.InProjSRefIdeal.nD Cert.InProjSRefIdeal.τ Cert.InProjSRefIdeal.sig) → Buf (Elt Ideal) ℓ) (g : Dev Cert.InProjSRefIdeal.nD → PrngReg), Pre_InProjSRefIdeal m →
    θ_run (Cert.InProjSRefIdeal.defs (F := Ideal)) (onTc (τ := Cert.InProjSRefIdeal.τ) (Cert.InProjSRefIdeal.main (F := Ideal))) ⟨m, fun _ => 0, g⟩ (fun r => (∀ c : Dev Cert.InProjSRefIdeal.nD,
      r.2.mem ((c.tc : Thread Cert.InProjSRefIdeal.nD Cert.InProjSRefIdeal.τ).loc Cert.InProjSRefIdeal.main_arg0) = m ((c.tc : Thread Cert.InProjSRefIdeal.nD Cert.InProjSRefIdeal.τ).loc Cert.InProjSRefIdeal.main_arg0)
      ∧ r.2.mem ((c.tc : Thread Cert.InProjSRefIdeal.nD Cert.InProjSRefIdeal.τ).loc Cert.InProjSRefIdeal.main_arg1) = m ((c.tc : Thread Cert.InProjSRefIdeal.nD Cert.InProjSRefIdeal.τ).loc Cert.InProjSRefIdeal.main_arg1)
      ∧ r.2.mem ((c.tc : Thread Cert.InProjSRefIdeal.nD Cert.InProjSRefIdeal.τ).loc Cert.InProjSRefIdeal.main_arg2) = m ((c.tc : Thread Cert.InProjSRefIdeal.nD Cert.InProjSRefIdeal.τ).loc Cert.InProjSRefIdeal.main_arg2)
      ∧ r.2.mem ((c.tc : Thread Cert.InProjSRefIdeal.nD Cert.InProjSRefIdeal.τ).loc Cert.InProjSRefIdeal.main_arg3) = m ((c.tc : Thread Cert.InProjSRefIdeal.nD Cert.InProjSRefIdeal.τ).loc Cert.InProjSRefIdeal.main_arg3)
      ∧ r.2.mem ((c.tc : Thread Cert.InProjSRefIdeal.nD Cert.InProjSRefIdeal.τ).loc Cert.InProjSRefIdeal.main_arg4) = m ((c.tc : Thread Cert.InProjSRefIdeal.nD Cert.InProjSRefIdeal.τ).loc Cert.InProjSRefIdeal.main_arg4)
      ∧ r.2.mem ((c.tc : Thread Cert.InProjSRefIdeal.nD Cert.InProjSRefIdeal.τ).loc Cert.InProjSRefIdeal.main_arg5) = m ((c.tc : Thread Cert.InProjSRefIdeal.nD Cert.InProjSRefIdeal.τ).loc Cert.InProjSRefIdeal.main_arg5)
      ∧ r.2.mem ((c.tc : Thread Cert.InProjSRefIdeal.nD Cert.InProjSRefIdeal.τ).loc Cert.InProjSRefIdeal.main_arg6) = m ((c.tc : Thread Cert.InProjSRefIdeal.nD Cert.InProjSRefIdeal.τ).loc Cert.InProjSRefIdeal.main_arg6))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeIdeal_pre_merge_finite [hMergeIdeal : Cert.MergeIdeal.Facts] [hPre_merge_finite : Cert.Pre_merge_finite.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_merge_finite m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_MergeRefIdeal_pre_merge_finite [hMergeRefIdeal : Cert.MergeRefIdeal.Facts] [hPre_merge_finite : Cert.Pre_merge_finite.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_merge_finite m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_MergeS [hMergeS : Cert.MergeS.Facts] : Prop :=
  ∀ (m : (ℓ : Loc Cert.MergeS.nD Cert.MergeS.τ Cert.MergeS.sig) → Buf (Elt Bits) ℓ) (g : Dev Cert.MergeS.nD → PrngReg), Pre_MergeS m →
    θ_run (Cert.MergeS.defs (F := Bits)) (onTc (τ := Cert.MergeS.τ) (Cert.MergeS.main (F := Bits))) ⟨m, fun _ => 0, g⟩ (fun r => (∀ c : Dev Cert.MergeS.nD,
      r.2.mem ((c.tc : Thread Cert.MergeS.nD Cert.MergeS.τ).loc Cert.MergeS.main_arg0) = m ((c.tc : Thread Cert.MergeS.nD Cert.MergeS.τ).loc Cert.MergeS.main_arg0)
      ∧ r.2.mem ((c.tc : Thread Cert.MergeS.nD Cert.MergeS.τ).loc Cert.MergeS.main_arg1) = m ((c.tc : Thread Cert.MergeS.nD Cert.MergeS.τ).loc Cert.MergeS.main_arg1)
      ∧ r.2.mem ((c.tc : Thread Cert.MergeS.nD Cert.MergeS.τ).loc Cert.MergeS.main_arg2) = m ((c.tc : Thread Cert.MergeS.nD Cert.MergeS.τ).loc Cert.MergeS.main_arg2)
      ∧ r.2.mem ((c.tc : Thread Cert.MergeS.nD Cert.MergeS.τ).loc Cert.MergeS.main_arg3) = m ((c.tc : Thread Cert.MergeS.nD Cert.MergeS.τ).loc Cert.MergeS.main_arg3)
      ∧ r.2.mem ((c.tc : Thread Cert.MergeS.nD Cert.MergeS.τ).loc Cert.MergeS.main_arg4) = m ((c.tc : Thread Cert.MergeS.nD Cert.MergeS.τ).loc Cert.MergeS.main_arg4)
      ∧ r.2.mem ((c.tc : Thread Cert.MergeS.nD Cert.MergeS.τ).loc Cert.MergeS.main_arg5) = m ((c.tc : Thread Cert.MergeS.nD Cert.MergeS.τ).loc Cert.MergeS.main_arg5)
      ∧ r.2.mem ((c.tc : Thread Cert.MergeS.nD Cert.MergeS.τ).loc Cert.MergeS.main_arg6) = m ((c.tc : Thread Cert.MergeS.nD Cert.MergeS.τ).loc Cert.MergeS.main_arg6)
      ∧ r.2.mem ((c.tc : Thread Cert.MergeS.nD Cert.MergeS.τ).loc Cert.MergeS.main_arg7) = m ((c.tc : Thread Cert.MergeS.nD Cert.MergeS.τ).loc Cert.MergeS.main_arg7))
      ∧ r.2.sem = fun _ => 0)

def quiescent_MergeSIdeal [hMergeSIdeal : Cert.MergeSIdeal.Facts] : Prop :=
  ∀ (m : (ℓ : Loc Cert.MergeSIdeal.nD Cert.MergeSIdeal.τ Cert.MergeSIdeal.sig) → Buf (Elt Ideal) ℓ) (g : Dev Cert.MergeSIdeal.nD → PrngReg), Pre_MergeSIdeal m →
    θ_run (Cert.MergeSIdeal.defs (F := Ideal)) (onTc (τ := Cert.MergeSIdeal.τ) (Cert.MergeSIdeal.main (F := Ideal))) ⟨m, fun _ => 0, g⟩ (fun r => (∀ c : Dev Cert.MergeSIdeal.nD,
      r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
      ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
      ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
      ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3)
      ∧ r.2.mem ((c.tc : Thread Cert.MergeSIdeal.nD Cert.MergeSIdeal.τ).loc Cert.MergeSIdeal.main_arg4) = m ((c.tc : Thread Cert.MergeSIdeal.nD Cert.MergeSIdeal.τ).loc Cert.MergeSIdeal.main_arg4)
      ∧ r.2.mem ((c.tc : Thread Cert.MergeSIdeal.nD Cert.MergeSIdeal.τ).loc Cert.MergeSIdeal.main_arg5) = m ((c.tc : Thread Cert.MergeSIdeal.nD Cert.MergeSIdeal.τ).loc Cert.MergeSIdeal.main_arg5)
      ∧ r.2.mem ((c.tc : Thread Cert.MergeSIdeal.nD Cert.MergeSIdeal.τ).loc Cert.MergeSIdeal.main_arg6) = m ((c.tc : Thread Cert.MergeSIdeal.nD Cert.MergeSIdeal.τ).loc Cert.MergeSIdeal.main_arg6)
      ∧ r.2.mem ((c.tc : Thread Cert.MergeSIdeal.nD Cert.MergeSIdeal.τ).loc Cert.MergeSIdeal.main_arg7) = m ((c.tc : Thread Cert.MergeSIdeal.nD Cert.MergeSIdeal.τ).loc Cert.MergeSIdeal.main_arg7))
      ∧ r.2.sem = fun _ => 0)

def quiescent_MergeSIdeal_pre_merges_finite [hMergeSIdeal : Cert.MergeSIdeal.Facts] [hPre_merges_finite : Cert.Pre_merges_finite.Facts] : Prop :=
  ∀ (m : (ℓ : Loc Cert.MergeSIdeal.nD Cert.MergeSIdeal.τ Cert.MergeSIdeal.sig) → Buf (Elt Ideal) ℓ) (g : Dev Cert.MergeSIdeal.nD → PrngReg), Pre_MergeSIdeal_merges_finite m →
    θ_run (Cert.MergeSIdeal.defs (F := Ideal)) (onTc (τ := Cert.MergeSIdeal.τ) (Cert.MergeSIdeal.main (F := Ideal))) ⟨m, fun _ => 0, g⟩ (fun r => (∀ c : Dev Cert.MergeSIdeal.nD,
      r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
      ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
      ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
      ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3)
      ∧ r.2.mem ((c.tc : Thread Cert.MergeSIdeal.nD Cert.MergeSIdeal.τ).loc Cert.MergeSIdeal.main_arg4) = m ((c.tc : Thread Cert.MergeSIdeal.nD Cert.MergeSIdeal.τ).loc Cert.MergeSIdeal.main_arg4)
      ∧ r.2.mem ((c.tc : Thread Cert.MergeSIdeal.nD Cert.MergeSIdeal.τ).loc Cert.MergeSIdeal.main_arg5) = m ((c.tc : Thread Cert.MergeSIdeal.nD Cert.MergeSIdeal.τ).loc Cert.MergeSIdeal.main_arg5)
      ∧ r.2.mem ((c.tc : Thread Cert.MergeSIdeal.nD Cert.MergeSIdeal.τ).loc Cert.MergeSIdeal.main_arg6) = m ((c.tc : Thread Cert.MergeSIdeal.nD Cert.MergeSIdeal.τ).loc Cert.MergeSIdeal.main_arg6)
      ∧ r.2.mem ((c.tc : Thread Cert.MergeSIdeal.nD Cert.MergeSIdeal.τ).loc Cert.MergeSIdeal.main_arg7) = m ((c.tc : Thread Cert.MergeSIdeal.nD Cert.MergeSIdeal.τ).loc Cert.MergeSIdeal.main_arg7))
      ∧ r.2.sem = fun _ => 0)

def quiescent_MergeSRefIdeal [hMergeSRefIdeal : Cert.MergeSRefIdeal.Facts] : Prop :=
  ∀ (m : (ℓ : Loc Cert.MergeSRefIdeal.nD Cert.MergeSRefIdeal.τ Cert.MergeSRefIdeal.sig) → Buf (Elt Ideal) ℓ) (g : Dev Cert.MergeSRefIdeal.nD → PrngReg), Pre_MergeSRefIdeal m →
    θ_run (Cert.MergeSRefIdeal.defs (F := Ideal)) (onTc (τ := Cert.MergeSRefIdeal.τ) (Cert.MergeSRefIdeal.main (F := Ideal))) ⟨m, fun _ => 0, g⟩ (fun r => (∀ c : Dev Cert.MergeSRefIdeal.nD,
      r.2.mem ((c.tc : Thread Cert.MergeSRefIdeal.nD Cert.MergeSRefIdeal.τ).loc Cert.MergeSRefIdeal.main_arg0) = m ((c.tc : Thread Cert.MergeSRefIdeal.nD Cert.MergeSRefIdeal.τ).loc Cert.MergeSRefIdeal.main_arg0)
      ∧ r.2.mem ((c.tc : Thread Cert.MergeSRefIdeal.nD Cert.MergeSRefIdeal.τ).loc Cert.MergeSRefIdeal.main_arg1) = m ((c.tc : Thread Cert.MergeSRefIdeal.nD Cert.MergeSRefIdeal.τ).loc Cert.MergeSRefIdeal.main_arg1)
      ∧ r.2.mem ((c.tc : Thread Cert.MergeSRefIdeal.nD Cert.MergeSRefIdeal.τ).loc Cert.MergeSRefIdeal.main_arg2) = m ((c.tc : Thread Cert.MergeSRefIdeal.nD Cert.MergeSRefIdeal.τ).loc Cert.MergeSRefIdeal.main_arg2)
      ∧ r.2.mem ((c.tc : Thread Cert.MergeSRefIdeal.nD Cert.MergeSRefIdeal.τ).loc Cert.MergeSRefIdeal.main_arg3) = m ((c.tc : Thread Cert.MergeSRefIdeal.nD Cert.MergeSRefIdeal.τ).loc Cert.MergeSRefIdeal.main_arg3)
      ∧ r.2.mem ((c.tc : Thread Cert.MergeSRefIdeal.nD Cert.MergeSRefIdeal.τ).loc Cert.MergeSRefIdeal.main_arg4) = m ((c.tc : Thread Cert.MergeSRefIdeal.nD Cert.MergeSRefIdeal.τ).loc Cert.MergeSRefIdeal.main_arg4)
      ∧ r.2.mem ((c.tc : Thread Cert.MergeSRefIdeal.nD Cert.MergeSRefIdeal.τ).loc Cert.MergeSRefIdeal.main_arg5) = m ((c.tc : Thread Cert.MergeSRefIdeal.nD Cert.MergeSRefIdeal.τ).loc Cert.MergeSRefIdeal.main_arg5)
      ∧ r.2.mem ((c.tc : Thread Cert.MergeSRefIdeal.nD Cert.MergeSRefIdeal.τ).loc Cert.MergeSRefIdeal.main_arg6) = m ((c.tc : Thread Cert.MergeSRefIdeal.nD Cert.MergeSRefIdeal.τ).loc Cert.MergeSRefIdeal.main_arg6)
      ∧ r.2.mem ((c.tc : Thread Cert.MergeSRefIdeal.nD Cert.MergeSRefIdeal.τ).loc Cert.MergeSRefIdeal.main_arg7) = m ((c.tc : Thread Cert.MergeSRefIdeal.nD Cert.MergeSRefIdeal.τ).loc Cert.MergeSRefIdeal.main_arg7))
      ∧ r.2.sem = fun _ => 0)

def quiescent_MergeSRefIdeal_pre_merges_finite [hMergeSRefIdeal : Cert.MergeSRefIdeal.Facts] [hPre_merges_finite : Cert.Pre_merges_finite.Facts] : Prop :=
  ∀ (m : (ℓ : Loc Cert.MergeSRefIdeal.nD Cert.MergeSRefIdeal.τ Cert.MergeSRefIdeal.sig) → Buf (Elt Ideal) ℓ) (g : Dev Cert.MergeSRefIdeal.nD → PrngReg), Pre_MergeSRefIdeal_merges_finite m →
    θ_run (Cert.MergeSRefIdeal.defs (F := Ideal)) (onTc (τ := Cert.MergeSRefIdeal.τ) (Cert.MergeSRefIdeal.main (F := Ideal))) ⟨m, fun _ => 0, g⟩ (fun r => (∀ c : Dev Cert.MergeSRefIdeal.nD,
      r.2.mem ((c.tc : Thread Cert.MergeSRefIdeal.nD Cert.MergeSRefIdeal.τ).loc Cert.MergeSRefIdeal.main_arg0) = m ((c.tc : Thread Cert.MergeSRefIdeal.nD Cert.MergeSRefIdeal.τ).loc Cert.MergeSRefIdeal.main_arg0)
      ∧ r.2.mem ((c.tc : Thread Cert.MergeSRefIdeal.nD Cert.MergeSRefIdeal.τ).loc Cert.MergeSRefIdeal.main_arg1) = m ((c.tc : Thread Cert.MergeSRefIdeal.nD Cert.MergeSRefIdeal.τ).loc Cert.MergeSRefIdeal.main_arg1)
      ∧ r.2.mem ((c.tc : Thread Cert.MergeSRefIdeal.nD Cert.MergeSRefIdeal.τ).loc Cert.MergeSRefIdeal.main_arg2) = m ((c.tc : Thread Cert.MergeSRefIdeal.nD Cert.MergeSRefIdeal.τ).loc Cert.MergeSRefIdeal.main_arg2)
      ∧ r.2.mem ((c.tc : Thread Cert.MergeSRefIdeal.nD Cert.MergeSRefIdeal.τ).loc Cert.MergeSRefIdeal.main_arg3) = m ((c.tc : Thread Cert.MergeSRefIdeal.nD Cert.MergeSRefIdeal.τ).loc Cert.MergeSRefIdeal.main_arg3)
      ∧ r.2.mem ((c.tc : Thread Cert.MergeSRefIdeal.nD Cert.MergeSRefIdeal.τ).loc Cert.MergeSRefIdeal.main_arg4) = m ((c.tc : Thread Cert.MergeSRefIdeal.nD Cert.MergeSRefIdeal.τ).loc Cert.MergeSRefIdeal.main_arg4)
      ∧ r.2.mem ((c.tc : Thread Cert.MergeSRefIdeal.nD Cert.MergeSRefIdeal.τ).loc Cert.MergeSRefIdeal.main_arg5) = m ((c.tc : Thread Cert.MergeSRefIdeal.nD Cert.MergeSRefIdeal.τ).loc Cert.MergeSRefIdeal.main_arg5)
      ∧ r.2.mem ((c.tc : Thread Cert.MergeSRefIdeal.nD Cert.MergeSRefIdeal.τ).loc Cert.MergeSRefIdeal.main_arg6) = m ((c.tc : Thread Cert.MergeSRefIdeal.nD Cert.MergeSRefIdeal.τ).loc Cert.MergeSRefIdeal.main_arg6)
      ∧ r.2.mem ((c.tc : Thread Cert.MergeSRefIdeal.nD Cert.MergeSRefIdeal.τ).loc Cert.MergeSRefIdeal.main_arg7) = m ((c.tc : Thread Cert.MergeSRefIdeal.nD Cert.MergeSRefIdeal.τ).loc Cert.MergeSRefIdeal.main_arg7))
      ∧ r.2.sem = fun _ => 0)

def quiescent_HgrnO [hHgrnO : Cert.HgrnO.Facts] : Prop :=
  ∀ (m : (ℓ : Loc Cert.HgrnO.nD Cert.HgrnO.τ Cert.HgrnO.sig) → Buf (Elt Bits) ℓ) (g : Dev Cert.HgrnO.nD → PrngReg), Pre_HgrnO m →
    θ_run (Cert.HgrnO.defs (F := Bits)) (onTc (τ := Cert.HgrnO.τ) (Cert.HgrnO.main (F := Bits))) ⟨m, fun _ => 0, g⟩ (fun r => (∀ c : Dev Cert.HgrnO.nD,
      r.2.mem ((c.tc : Thread Cert.HgrnO.nD Cert.HgrnO.τ).loc Cert.HgrnO.main_arg0) = m ((c.tc : Thread Cert.HgrnO.nD Cert.HgrnO.τ).loc Cert.HgrnO.main_arg0)
      ∧ r.2.mem ((c.tc : Thread Cert.HgrnO.nD Cert.HgrnO.τ).loc Cert.HgrnO.main_arg1) = m ((c.tc : Thread Cert.HgrnO.nD Cert.HgrnO.τ).loc Cert.HgrnO.main_arg1)
      ∧ r.2.mem ((c.tc : Thread Cert.HgrnO.nD Cert.HgrnO.τ).loc Cert.HgrnO.main_arg2) = m ((c.tc : Thread Cert.HgrnO.nD Cert.HgrnO.τ).loc Cert.HgrnO.main_arg2)
      ∧ r.2.mem ((c.tc : Thread Cert.HgrnO.nD Cert.HgrnO.τ).loc Cert.HgrnO.main_arg3) = m ((c.tc : Thread Cert.HgrnO.nD Cert.HgrnO.τ).loc Cert.HgrnO.main_arg3))
      ∧ r.2.sem = fun _ => 0)

def quiescent_HgrnOIdeal [hHgrnOIdeal : Cert.HgrnOIdeal.Facts] : Prop :=
  ∀ (m : (ℓ : Loc Cert.HgrnOIdeal.nD Cert.HgrnOIdeal.τ Cert.HgrnOIdeal.sig) → Buf (Elt Ideal) ℓ) (g : Dev Cert.HgrnOIdeal.nD → PrngReg), Pre_HgrnOIdeal m →
    θ_run (Cert.HgrnOIdeal.defs (F := Ideal)) (onTc (τ := Cert.HgrnOIdeal.τ) (Cert.HgrnOIdeal.main (F := Ideal))) ⟨m, fun _ => 0, g⟩ (fun r => (∀ c : Dev Cert.HgrnOIdeal.nD,
      r.2.mem ((c.tc : Thread Cert.HgrnOIdeal.nD Cert.HgrnOIdeal.τ).loc Cert.HgrnOIdeal.main_arg0) = m ((c.tc : Thread Cert.HgrnOIdeal.nD Cert.HgrnOIdeal.τ).loc Cert.HgrnOIdeal.main_arg0)
      ∧ r.2.mem ((c.tc : Thread Cert.HgrnOIdeal.nD Cert.HgrnOIdeal.τ).loc Cert.HgrnOIdeal.main_arg1) = m ((c.tc : Thread Cert.HgrnOIdeal.nD Cert.HgrnOIdeal.τ).loc Cert.HgrnOIdeal.main_arg1)
      ∧ r.2.mem ((c.tc : Thread Cert.HgrnOIdeal.nD Cert.HgrnOIdeal.τ).loc Cert.HgrnOIdeal.main_arg2) = m ((c.tc : Thread Cert.HgrnOIdeal.nD Cert.HgrnOIdeal.τ).loc Cert.HgrnOIdeal.main_arg2)
      ∧ r.2.mem ((c.tc : Thread Cert.HgrnOIdeal.nD Cert.HgrnOIdeal.τ).loc Cert.HgrnOIdeal.main_arg3) = m ((c.tc : Thread Cert.HgrnOIdeal.nD Cert.HgrnOIdeal.τ).loc Cert.HgrnOIdeal.main_arg3))
      ∧ r.2.sem = fun _ => 0)

def quiescent_HgrnOIdeal_pre_hgrno_finite [hHgrnOIdeal : Cert.HgrnOIdeal.Facts] [hPre_hgrno_finite : Cert.Pre_hgrno_finite.Facts] : Prop :=
  ∀ (m : (ℓ : Loc Cert.HgrnOIdeal.nD Cert.HgrnOIdeal.τ Cert.HgrnOIdeal.sig) → Buf (Elt Ideal) ℓ) (g : Dev Cert.HgrnOIdeal.nD → PrngReg), Pre_HgrnOIdeal_hgrno_finite m →
    θ_run (Cert.HgrnOIdeal.defs (F := Ideal)) (onTc (τ := Cert.HgrnOIdeal.τ) (Cert.HgrnOIdeal.main (F := Ideal))) ⟨m, fun _ => 0, g⟩ (fun r => (∀ c : Dev Cert.HgrnOIdeal.nD,
      r.2.mem ((c.tc : Thread Cert.HgrnOIdeal.nD Cert.HgrnOIdeal.τ).loc Cert.HgrnOIdeal.main_arg0) = m ((c.tc : Thread Cert.HgrnOIdeal.nD Cert.HgrnOIdeal.τ).loc Cert.HgrnOIdeal.main_arg0)
      ∧ r.2.mem ((c.tc : Thread Cert.HgrnOIdeal.nD Cert.HgrnOIdeal.τ).loc Cert.HgrnOIdeal.main_arg1) = m ((c.tc : Thread Cert.HgrnOIdeal.nD Cert.HgrnOIdeal.τ).loc Cert.HgrnOIdeal.main_arg1)
      ∧ r.2.mem ((c.tc : Thread Cert.HgrnOIdeal.nD Cert.HgrnOIdeal.τ).loc Cert.HgrnOIdeal.main_arg2) = m ((c.tc : Thread Cert.HgrnOIdeal.nD Cert.HgrnOIdeal.τ).loc Cert.HgrnOIdeal.main_arg2)
      ∧ r.2.mem ((c.tc : Thread Cert.HgrnOIdeal.nD Cert.HgrnOIdeal.τ).loc Cert.HgrnOIdeal.main_arg3) = m ((c.tc : Thread Cert.HgrnOIdeal.nD Cert.HgrnOIdeal.τ).loc Cert.HgrnOIdeal.main_arg3))
      ∧ r.2.sem = fun _ => 0)

def quiescent_HgrnORefIdeal [hHgrnORefIdeal : Cert.HgrnORefIdeal.Facts] : Prop :=
  ∀ (m : (ℓ : Loc Cert.HgrnORefIdeal.nD Cert.HgrnORefIdeal.τ Cert.HgrnORefIdeal.sig) → Buf (Elt Ideal) ℓ) (g : Dev Cert.HgrnORefIdeal.nD → PrngReg), Pre_HgrnORefIdeal m →
    θ_run (Cert.HgrnORefIdeal.defs (F := Ideal)) (onTc (τ := Cert.HgrnORefIdeal.τ) (Cert.HgrnORefIdeal.main (F := Ideal))) ⟨m, fun _ => 0, g⟩ (fun r => (∀ c : Dev Cert.HgrnORefIdeal.nD,
      r.2.mem ((c.tc : Thread Cert.HgrnORefIdeal.nD Cert.HgrnORefIdeal.τ).loc Cert.HgrnORefIdeal.main_arg0) = m ((c.tc : Thread Cert.HgrnORefIdeal.nD Cert.HgrnORefIdeal.τ).loc Cert.HgrnORefIdeal.main_arg0)
      ∧ r.2.mem ((c.tc : Thread Cert.HgrnORefIdeal.nD Cert.HgrnORefIdeal.τ).loc Cert.HgrnORefIdeal.main_arg1) = m ((c.tc : Thread Cert.HgrnORefIdeal.nD Cert.HgrnORefIdeal.τ).loc Cert.HgrnORefIdeal.main_arg1)
      ∧ r.2.mem ((c.tc : Thread Cert.HgrnORefIdeal.nD Cert.HgrnORefIdeal.τ).loc Cert.HgrnORefIdeal.main_arg2) = m ((c.tc : Thread Cert.HgrnORefIdeal.nD Cert.HgrnORefIdeal.τ).loc Cert.HgrnORefIdeal.main_arg2)
      ∧ r.2.mem ((c.tc : Thread Cert.HgrnORefIdeal.nD Cert.HgrnORefIdeal.τ).loc Cert.HgrnORefIdeal.main_arg3) = m ((c.tc : Thread Cert.HgrnORefIdeal.nD Cert.HgrnORefIdeal.τ).loc Cert.HgrnORefIdeal.main_arg3))
      ∧ r.2.sem = fun _ => 0)

def quiescent_HgrnORefIdeal_pre_hgrno_finite [hHgrnORefIdeal : Cert.HgrnORefIdeal.Facts] [hPre_hgrno_finite : Cert.Pre_hgrno_finite.Facts] : Prop :=
  ∀ (m : (ℓ : Loc Cert.HgrnORefIdeal.nD Cert.HgrnORefIdeal.τ Cert.HgrnORefIdeal.sig) → Buf (Elt Ideal) ℓ) (g : Dev Cert.HgrnORefIdeal.nD → PrngReg), Pre_HgrnORefIdeal_hgrno_finite m →
    θ_run (Cert.HgrnORefIdeal.defs (F := Ideal)) (onTc (τ := Cert.HgrnORefIdeal.τ) (Cert.HgrnORefIdeal.main (F := Ideal))) ⟨m, fun _ => 0, g⟩ (fun r => (∀ c : Dev Cert.HgrnORefIdeal.nD,
      r.2.mem ((c.tc : Thread Cert.HgrnORefIdeal.nD Cert.HgrnORefIdeal.τ).loc Cert.HgrnORefIdeal.main_arg0) = m ((c.tc : Thread Cert.HgrnORefIdeal.nD Cert.HgrnORefIdeal.τ).loc Cert.HgrnORefIdeal.main_arg0)
      ∧ r.2.mem ((c.tc : Thread Cert.HgrnORefIdeal.nD Cert.HgrnORefIdeal.τ).loc Cert.HgrnORefIdeal.main_arg1) = m ((c.tc : Thread Cert.HgrnORefIdeal.nD Cert.HgrnORefIdeal.τ).loc Cert.HgrnORefIdeal.main_arg1)
      ∧ r.2.mem ((c.tc : Thread Cert.HgrnORefIdeal.nD Cert.HgrnORefIdeal.τ).loc Cert.HgrnORefIdeal.main_arg2) = m ((c.tc : Thread Cert.HgrnORefIdeal.nD Cert.HgrnORefIdeal.τ).loc Cert.HgrnORefIdeal.main_arg2)
      ∧ r.2.mem ((c.tc : Thread Cert.HgrnORefIdeal.nD Cert.HgrnORefIdeal.τ).loc Cert.HgrnORefIdeal.main_arg3) = m ((c.tc : Thread Cert.HgrnORefIdeal.nD Cert.HgrnORefIdeal.τ).loc Cert.HgrnORefIdeal.main_arg3))
      ∧ r.2.sem = fun _ => 0)

def preserves_Attn_AttnIdeal : Prop :=
  True

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)) →
    ∃ (v0 : (c : Dev Cert.AttnIdeal.nD) → Buf (Elt Ideal) ((c.tc : Thread Cert.AttnIdeal.nD Cert.AttnIdeal.τ).loc Cert.AttnIdeal.main_v16)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v16) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v66) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7))

def preserves_Hgrn_HgrnIdeal : Prop :=
  True

def algebraic_HgrnIdeal_HgrnRefIdeal_pre_hgrn_finite [hHgrnIdeal : Cert.HgrnIdeal.Facts] [hHgrnRefIdeal : Cert.HgrnRefIdeal.Facts] [hPre_hgrn_finite : Cert.Pre_hgrn_finite.Facts] : Prop :=
  ∀ (m : (ℓ : Loc Cert.HgrnIdeal.nD Cert.HgrnIdeal.τ Cert.HgrnIdeal.sig) → Buf (Elt Ideal) ℓ) (g : Dev Cert.HgrnIdeal.nD → PrngReg)
    (m' : (ℓ : Loc Cert.HgrnRefIdeal.nD Cert.HgrnRefIdeal.τ Cert.HgrnRefIdeal.sig) → Buf (Elt Ideal) ℓ) (g' : Dev Cert.HgrnRefIdeal.nD → PrngReg), Pre_HgrnIdeal_hgrn_finite m →
    (∀ c : Dev Cert.HgrnIdeal.nD,
      m' ((c.tc : Thread Cert.HgrnRefIdeal.nD Cert.HgrnRefIdeal.τ).loc Cert.HgrnRefIdeal.main_arg0) = m ((c.tc : Thread Cert.HgrnIdeal.nD Cert.HgrnIdeal.τ).loc Cert.HgrnIdeal.main_arg0)
      ∧ m' ((c.tc : Thread Cert.HgrnRefIdeal.nD Cert.HgrnRefIdeal.τ).loc Cert.HgrnRefIdeal.main_arg1) = m ((c.tc : Thread Cert.HgrnIdeal.nD Cert.HgrnIdeal.τ).loc Cert.HgrnIdeal.main_arg1)
      ∧ m' ((c.tc : Thread Cert.HgrnRefIdeal.nD Cert.HgrnRefIdeal.τ).loc Cert.HgrnRefIdeal.main_arg2) = m ((c.tc : Thread Cert.HgrnIdeal.nD Cert.HgrnIdeal.τ).loc Cert.HgrnIdeal.main_arg2)
      ∧ m' ((c.tc : Thread Cert.HgrnRefIdeal.nD Cert.HgrnRefIdeal.τ).loc Cert.HgrnRefIdeal.main_arg3) = m ((c.tc : Thread Cert.HgrnIdeal.nD Cert.HgrnIdeal.τ).loc Cert.HgrnIdeal.main_arg3)) →
    ∃ (v0 : (c : Dev Cert.HgrnIdeal.nD) → Buf (Elt Ideal) ((c.tc : Thread Cert.HgrnIdeal.nD Cert.HgrnIdeal.τ).loc Cert.HgrnIdeal.main_v3_1)),
      θ_run (Cert.HgrnIdeal.defs (F := Ideal)) (onTc (τ := Cert.HgrnIdeal.τ) (Cert.HgrnIdeal.main (F := Ideal))) ⟨m, fun _ => 0, g⟩ (fun r => ∀ c : Dev Cert.HgrnIdeal.nD,
          r.2.mem ((c.tc : Thread Cert.HgrnIdeal.nD Cert.HgrnIdeal.τ).loc Cert.HgrnIdeal.main_v3_1) = v0 c
          ∧ r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
          ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
          ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
          ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3))
      ∧ θ_run (Cert.HgrnRefIdeal.defs (F := Ideal)) (onTc (τ := Cert.HgrnRefIdeal.τ) (Cert.HgrnRefIdeal.main (F := Ideal))) ⟨m', fun _ => 0, g'⟩ (fun r => ∀ c : Dev Cert.HgrnRefIdeal.nD,
          r.2.mem ((c.tc : Thread Cert.HgrnRefIdeal.nD Cert.HgrnRefIdeal.τ).loc Cert.HgrnRefIdeal.main_v104) = v0 c
          ∧ r.2.mem ((c.tc : Thread Cert.HgrnRefIdeal.nD Cert.HgrnRefIdeal.τ).loc Cert.HgrnRefIdeal.main_arg0) = m' ((c.tc : Thread Cert.HgrnRefIdeal.nD Cert.HgrnRefIdeal.τ).loc Cert.HgrnRefIdeal.main_arg0)
          ∧ r.2.mem ((c.tc : Thread Cert.HgrnRefIdeal.nD Cert.HgrnRefIdeal.τ).loc Cert.HgrnRefIdeal.main_arg1) = m' ((c.tc : Thread Cert.HgrnRefIdeal.nD Cert.HgrnRefIdeal.τ).loc Cert.HgrnRefIdeal.main_arg1)
          ∧ r.2.mem ((c.tc : Thread Cert.HgrnRefIdeal.nD Cert.HgrnRefIdeal.τ).loc Cert.HgrnRefIdeal.main_arg2) = m' ((c.tc : Thread Cert.HgrnRefIdeal.nD Cert.HgrnRefIdeal.τ).loc Cert.HgrnRefIdeal.main_arg2)
          ∧ r.2.mem ((c.tc : Thread Cert.HgrnRefIdeal.nD Cert.HgrnRefIdeal.τ).loc Cert.HgrnRefIdeal.main_arg3) = m' ((c.tc : Thread Cert.HgrnRefIdeal.nD Cert.HgrnRefIdeal.τ).loc Cert.HgrnRefIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)) →
    ∃ (v0 : (c : Dev Cert.InProjIdeal.nD) → Buf (Elt Ideal) ((c.tc : Thread Cert.InProjIdeal.nD Cert.InProjIdeal.τ).loc Cert.InProjIdeal.main_v16_0)) (v1 : (c : Dev Cert.InProjIdeal.nD) → Buf (Elt Ideal) ((c.tc : Thread Cert.InProjIdeal.nD Cert.InProjIdeal.τ).loc Cert.InProjIdeal.main_v16_1)) (v2 : (c : Dev Cert.InProjIdeal.nD) → Buf (Elt Ideal) ((c.tc : Thread Cert.InProjIdeal.nD Cert.InProjIdeal.τ).loc Cert.InProjIdeal.main_v16_2)) (v3 : (c : Dev Cert.InProjIdeal.nD) → Buf (Elt Ideal) ((c.tc : Thread Cert.InProjIdeal.nD Cert.InProjIdeal.τ).loc Cert.InProjIdeal.main_v16_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v16_0) = v0 c
          ∧ r.2.mem ((c.tc : Thread Cert.InProjIdeal.nD Cert.InProjIdeal.τ).loc Cert.InProjIdeal.main_v16_1) = v1 c
          ∧ r.2.mem ((c.tc : Thread Cert.InProjIdeal.nD Cert.InProjIdeal.τ).loc Cert.InProjIdeal.main_v16_2) = v2 c
          ∧ r.2.mem ((c.tc : Thread Cert.InProjIdeal.nD Cert.InProjIdeal.τ).loc Cert.InProjIdeal.main_v16_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v132) = v0 c
          ∧ r.2.mem ((c.tc : Thread Cert.InProjRefIdeal.nD Cert.InProjRefIdeal.τ).loc Cert.InProjRefIdeal.main_v55) = v1 c
          ∧ r.2.mem ((c.tc : Thread Cert.InProjRefIdeal.nD Cert.InProjRefIdeal.τ).loc Cert.InProjRefIdeal.main_v131) = v2 c
          ∧ r.2.mem ((c.tc : Thread Cert.InProjRefIdeal.nD Cert.InProjRefIdeal.τ).loc Cert.InProjRefIdeal.main_v36) = v3 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6))

def preserves_InProjS_InProjSIdeal : Prop :=
  True

def algebraic_InProjSIdeal_InProjSRefIdeal [hInProjSIdeal : Cert.InProjSIdeal.Facts] [hInProjSRefIdeal : Cert.InProjSRefIdeal.Facts] : Prop :=
  ∀ (m : (ℓ : Loc Cert.InProjSIdeal.nD Cert.InProjSIdeal.τ Cert.InProjSIdeal.sig) → Buf (Elt Ideal) ℓ) (g : Dev Cert.InProjSIdeal.nD → PrngReg)
    (m' : (ℓ : Loc Cert.InProjSRefIdeal.nD Cert.InProjSRefIdeal.τ Cert.InProjSRefIdeal.sig) → Buf (Elt Ideal) ℓ) (g' : Dev Cert.InProjSRefIdeal.nD → PrngReg), Pre_InProjSIdeal m →
    (∀ c : Dev Cert.InProjSIdeal.nD,
      m' ((c.tc : Thread Cert.InProjSRefIdeal.nD Cert.InProjSRefIdeal.τ).loc Cert.InProjSRefIdeal.main_arg0) = m ((c.tc : Thread Cert.InProjSIdeal.nD Cert.InProjSIdeal.τ).loc Cert.InProjSIdeal.main_arg0)
      ∧ m' ((c.tc : Thread Cert.InProjSRefIdeal.nD Cert.InProjSRefIdeal.τ).loc Cert.InProjSRefIdeal.main_arg1) = m ((c.tc : Thread Cert.InProjSIdeal.nD Cert.InProjSIdeal.τ).loc Cert.InProjSIdeal.main_arg1)
      ∧ m' ((c.tc : Thread Cert.InProjSRefIdeal.nD Cert.InProjSRefIdeal.τ).loc Cert.InProjSRefIdeal.main_arg2) = m ((c.tc : Thread Cert.InProjSIdeal.nD Cert.InProjSIdeal.τ).loc Cert.InProjSIdeal.main_arg2)
      ∧ m' ((c.tc : Thread Cert.InProjSRefIdeal.nD Cert.InProjSRefIdeal.τ).loc Cert.InProjSRefIdeal.main_arg3) = m ((c.tc : Thread Cert.InProjSIdeal.nD Cert.InProjSIdeal.τ).loc Cert.InProjSIdeal.main_arg3)
      ∧ m' ((c.tc : Thread Cert.InProjSRefIdeal.nD Cert.InProjSRefIdeal.τ).loc Cert.InProjSRefIdeal.main_arg4) = m ((c.tc : Thread Cert.InProjSIdeal.nD Cert.InProjSIdeal.τ).loc Cert.InProjSIdeal.main_arg4)
      ∧ m' ((c.tc : Thread Cert.InProjSRefIdeal.nD Cert.InProjSRefIdeal.τ).loc Cert.InProjSRefIdeal.main_arg5) = m ((c.tc : Thread Cert.InProjSIdeal.nD Cert.InProjSIdeal.τ).loc Cert.InProjSIdeal.main_arg5)
      ∧ m' ((c.tc : Thread Cert.InProjSRefIdeal.nD Cert.InProjSRefIdeal.τ).loc Cert.InProjSRefIdeal.main_arg6) = m ((c.tc : Thread Cert.InProjSIdeal.nD Cert.InProjSIdeal.τ).loc Cert.InProjSIdeal.main_arg6)) →
    ∃ (v0 : (c : Dev Cert.InProjSIdeal.nD) → Buf (Elt Ideal) ((c.tc : Thread Cert.InProjSIdeal.nD Cert.InProjSIdeal.τ).loc Cert.InProjSIdeal.main_v16_2)) (v1 : (c : Dev Cert.InProjSIdeal.nD) → Buf (Elt Ideal) ((c.tc : Thread Cert.InProjSIdeal.nD Cert.InProjSIdeal.τ).loc Cert.InProjSIdeal.main_v16_3)),
      θ_run (Cert.InProjSIdeal.defs (F := Ideal)) (onTc (τ := Cert.InProjSIdeal.τ) (Cert.InProjSIdeal.main (F := Ideal))) ⟨m, fun _ => 0, g⟩ (fun r => ∀ c : Dev Cert.InProjSIdeal.nD,
          r.2.mem ((c.tc : Thread Cert.InProjSIdeal.nD Cert.InProjSIdeal.τ).loc Cert.InProjSIdeal.main_v16_2) = v0 c
          ∧ r.2.mem ((c.tc : Thread Cert.InProjSIdeal.nD Cert.InProjSIdeal.τ).loc Cert.InProjSIdeal.main_v16_3) = v1 c
          ∧ r.2.mem ((c.tc : Thread Cert.InProjSIdeal.nD Cert.InProjSIdeal.τ).loc Cert.InProjSIdeal.main_arg0) = m ((c.tc : Thread Cert.InProjSIdeal.nD Cert.InProjSIdeal.τ).loc Cert.InProjSIdeal.main_arg0)
          ∧ r.2.mem ((c.tc : Thread Cert.InProjSIdeal.nD Cert.InProjSIdeal.τ).loc Cert.InProjSIdeal.main_arg1) = m ((c.tc : Thread Cert.InProjSIdeal.nD Cert.InProjSIdeal.τ).loc Cert.InProjSIdeal.main_arg1)
          ∧ r.2.mem ((c.tc : Thread Cert.InProjSIdeal.nD Cert.InProjSIdeal.τ).loc Cert.InProjSIdeal.main_arg2) = m ((c.tc : Thread Cert.InProjSIdeal.nD Cert.InProjSIdeal.τ).loc Cert.InProjSIdeal.main_arg2)
          ∧ r.2.mem ((c.tc : Thread Cert.InProjSIdeal.nD Cert.InProjSIdeal.τ).loc Cert.InProjSIdeal.main_arg3) = m ((c.tc : Thread Cert.InProjSIdeal.nD Cert.InProjSIdeal.τ).loc Cert.InProjSIdeal.main_arg3)
          ∧ r.2.mem ((c.tc : Thread Cert.InProjSIdeal.nD Cert.InProjSIdeal.τ).loc Cert.InProjSIdeal.main_arg4) = m ((c.tc : Thread Cert.InProjSIdeal.nD Cert.InProjSIdeal.τ).loc Cert.InProjSIdeal.main_arg4)
          ∧ r.2.mem ((c.tc : Thread Cert.InProjSIdeal.nD Cert.InProjSIdeal.τ).loc Cert.InProjSIdeal.main_arg5) = m ((c.tc : Thread Cert.InProjSIdeal.nD Cert.InProjSIdeal.τ).loc Cert.InProjSIdeal.main_arg5)
          ∧ r.2.mem ((c.tc : Thread Cert.InProjSIdeal.nD Cert.InProjSIdeal.τ).loc Cert.InProjSIdeal.main_arg6) = m ((c.tc : Thread Cert.InProjSIdeal.nD Cert.InProjSIdeal.τ).loc Cert.InProjSIdeal.main_arg6))
      ∧ θ_run (Cert.InProjSRefIdeal.defs (F := Ideal)) (onTc (τ := Cert.InProjSRefIdeal.τ) (Cert.InProjSRefIdeal.main (F := Ideal))) ⟨m', fun _ => 0, g'⟩ (fun r => ∀ c : Dev Cert.InProjSRefIdeal.nD,
          r.2.mem ((c.tc : Thread Cert.InProjSRefIdeal.nD Cert.InProjSRefIdeal.τ).loc Cert.InProjSRefIdeal.main_v32) = v0 c
          ∧ r.2.mem ((c.tc : Thread Cert.InProjSRefIdeal.nD Cert.InProjSRefIdeal.τ).loc Cert.InProjSRefIdeal.main_v33) = v1 c
          ∧ r.2.mem ((c.tc : Thread Cert.InProjSRefIdeal.nD Cert.InProjSRefIdeal.τ).loc Cert.InProjSRefIdeal.main_arg0) = m' ((c.tc : Thread Cert.InProjSRefIdeal.nD Cert.InProjSRefIdeal.τ).loc Cert.InProjSRefIdeal.main_arg0)
          ∧ r.2.mem ((c.tc : Thread Cert.InProjSRefIdeal.nD Cert.InProjSRefIdeal.τ).loc Cert.InProjSRefIdeal.main_arg1) = m' ((c.tc : Thread Cert.InProjSRefIdeal.nD Cert.InProjSRefIdeal.τ).loc Cert.InProjSRefIdeal.main_arg1)
          ∧ r.2.mem ((c.tc : Thread Cert.InProjSRefIdeal.nD Cert.InProjSRefIdeal.τ).loc Cert.InProjSRefIdeal.main_arg2) = m' ((c.tc : Thread Cert.InProjSRefIdeal.nD Cert.InProjSRefIdeal.τ).loc Cert.InProjSRefIdeal.main_arg2)
          ∧ r.2.mem ((c.tc : Thread Cert.InProjSRefIdeal.nD Cert.InProjSRefIdeal.τ).loc Cert.InProjSRefIdeal.main_arg3) = m' ((c.tc : Thread Cert.InProjSRefIdeal.nD Cert.InProjSRefIdeal.τ).loc Cert.InProjSRefIdeal.main_arg3)
          ∧ r.2.mem ((c.tc : Thread Cert.InProjSRefIdeal.nD Cert.InProjSRefIdeal.τ).loc Cert.InProjSRefIdeal.main_arg4) = m' ((c.tc : Thread Cert.InProjSRefIdeal.nD Cert.InProjSRefIdeal.τ).loc Cert.InProjSRefIdeal.main_arg4)
          ∧ r.2.mem ((c.tc : Thread Cert.InProjSRefIdeal.nD Cert.InProjSRefIdeal.τ).loc Cert.InProjSRefIdeal.main_arg5) = m' ((c.tc : Thread Cert.InProjSRefIdeal.nD Cert.InProjSRefIdeal.τ).loc Cert.InProjSRefIdeal.main_arg5)
          ∧ r.2.mem ((c.tc : Thread Cert.InProjSRefIdeal.nD Cert.InProjSRefIdeal.τ).loc Cert.InProjSRefIdeal.main_arg6) = m' ((c.tc : Thread Cert.InProjSRefIdeal.nD Cert.InProjSRefIdeal.τ).loc Cert.InProjSRefIdeal.main_arg6))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v7_0)) (v1 : (c : Dev Cert.MemKvIdeal.nD) → Buf (Elt Ideal) ((c.tc : Thread Cert.MemKvIdeal.nD Cert.MemKvIdeal.τ).loc Cert.MemKvIdeal.main_v7_1)) (v2 : (c : Dev Cert.MemKvIdeal.nD) → Buf (Elt Ideal) ((c.tc : Thread Cert.MemKvIdeal.nD Cert.MemKvIdeal.τ).loc Cert.MemKvIdeal.main_v7_2)) (v3 : (c : Dev Cert.MemKvIdeal.nD) → Buf (Elt Ideal) ((c.tc : Thread Cert.MemKvIdeal.nD Cert.MemKvIdeal.τ).loc Cert.MemKvIdeal.main_v7_3)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v7_0) = v0 c
          ∧ r.2.mem ((c.tc : Thread Cert.MemKvIdeal.nD Cert.MemKvIdeal.τ).loc Cert.MemKvIdeal.main_v7_1) = v1 c
          ∧ r.2.mem ((c.tc : Thread Cert.MemKvIdeal.nD Cert.MemKvIdeal.τ).loc Cert.MemKvIdeal.main_v7_2) = v2 c
          ∧ r.2.mem ((c.tc : Thread Cert.MemKvIdeal.nD Cert.MemKvIdeal.τ).loc Cert.MemKvIdeal.main_v7_3) = v3 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v32) = v0 c
          ∧ r.2.mem ((c.tc : Thread Cert.MemKvRefIdeal.nD Cert.MemKvRefIdeal.τ).loc Cert.MemKvRefIdeal.main_v33) = v1 c
          ∧ r.2.mem ((c.tc : Thread Cert.MemKvRefIdeal.nD Cert.MemKvRefIdeal.τ).loc Cert.MemKvRefIdeal.main_v35) = v2 c
          ∧ r.2.mem ((c.tc : Thread Cert.MemKvRefIdeal.nD Cert.MemKvRefIdeal.τ).loc Cert.MemKvRefIdeal.main_v37) = v3 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def preserves_Merge_MergeIdeal : Prop :=
  True

def algebraic_MergeIdeal_MergeRefIdeal_pre_merge_finite [hMergeIdeal : Cert.MergeIdeal.Facts] [hMergeRefIdeal : Cert.MergeRefIdeal.Facts] [hPre_merge_finite : Cert.Pre_merge_finite.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_merge_finite m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v57) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_MergeS_MergeSIdeal : Prop :=
  True

def algebraic_MergeSIdeal_MergeSRefIdeal_pre_merges_finite [hMergeSIdeal : Cert.MergeSIdeal.Facts] [hMergeSRefIdeal : Cert.MergeSRefIdeal.Facts] [hPre_merges_finite : Cert.Pre_merges_finite.Facts] : Prop :=
  ∀ (m : (ℓ : Loc Cert.MergeSIdeal.nD Cert.MergeSIdeal.τ Cert.MergeSIdeal.sig) → Buf (Elt Ideal) ℓ) (g : Dev Cert.MergeSIdeal.nD → PrngReg)
    (m' : (ℓ : Loc Cert.MergeSRefIdeal.nD Cert.MergeSRefIdeal.τ Cert.MergeSRefIdeal.sig) → Buf (Elt Ideal) ℓ) (g' : Dev Cert.MergeSRefIdeal.nD → PrngReg), Pre_MergeSIdeal_merges_finite m →
    (∀ c : Dev Cert.MergeSIdeal.nD,
      m' ((c.tc : Thread Cert.MergeSRefIdeal.nD Cert.MergeSRefIdeal.τ).loc Cert.MergeSRefIdeal.main_arg0) = m ((c.tc : Thread Cert.MergeSIdeal.nD Cert.MergeSIdeal.τ).loc Cert.MergeSIdeal.main_arg0)
      ∧ m' ((c.tc : Thread Cert.MergeSRefIdeal.nD Cert.MergeSRefIdeal.τ).loc Cert.MergeSRefIdeal.main_arg1) = m ((c.tc : Thread Cert.MergeSIdeal.nD Cert.MergeSIdeal.τ).loc Cert.MergeSIdeal.main_arg1)
      ∧ m' ((c.tc : Thread Cert.MergeSRefIdeal.nD Cert.MergeSRefIdeal.τ).loc Cert.MergeSRefIdeal.main_arg2) = m ((c.tc : Thread Cert.MergeSIdeal.nD Cert.MergeSIdeal.τ).loc Cert.MergeSIdeal.main_arg2)
      ∧ m' ((c.tc : Thread Cert.MergeSRefIdeal.nD Cert.MergeSRefIdeal.τ).loc Cert.MergeSRefIdeal.main_arg3) = m ((c.tc : Thread Cert.MergeSIdeal.nD Cert.MergeSIdeal.τ).loc Cert.MergeSIdeal.main_arg3)
      ∧ m' ((c.tc : Thread Cert.MergeSRefIdeal.nD Cert.MergeSRefIdeal.τ).loc Cert.MergeSRefIdeal.main_arg4) = m ((c.tc : Thread Cert.MergeSIdeal.nD Cert.MergeSIdeal.τ).loc Cert.MergeSIdeal.main_arg4)
      ∧ m' ((c.tc : Thread Cert.MergeSRefIdeal.nD Cert.MergeSRefIdeal.τ).loc Cert.MergeSRefIdeal.main_arg5) = m ((c.tc : Thread Cert.MergeSIdeal.nD Cert.MergeSIdeal.τ).loc Cert.MergeSIdeal.main_arg5)
      ∧ m' ((c.tc : Thread Cert.MergeSRefIdeal.nD Cert.MergeSRefIdeal.τ).loc Cert.MergeSRefIdeal.main_arg6) = m ((c.tc : Thread Cert.MergeSIdeal.nD Cert.MergeSIdeal.τ).loc Cert.MergeSIdeal.main_arg6)
      ∧ m' ((c.tc : Thread Cert.MergeSRefIdeal.nD Cert.MergeSRefIdeal.τ).loc Cert.MergeSRefIdeal.main_arg7) = m ((c.tc : Thread Cert.MergeSIdeal.nD Cert.MergeSIdeal.τ).loc Cert.MergeSIdeal.main_arg7)) →
    ∃ (v0 : (c : Dev Cert.MergeSIdeal.nD) → Buf (Elt Ideal) ((c.tc : Thread Cert.MergeSIdeal.nD Cert.MergeSIdeal.τ).loc Cert.MergeSIdeal.main_v11)),
      θ_run (Cert.MergeSIdeal.defs (F := Ideal)) (onTc (τ := Cert.MergeSIdeal.τ) (Cert.MergeSIdeal.main (F := Ideal))) ⟨m, fun _ => 0, g⟩ (fun r => ∀ c : Dev Cert.MergeSIdeal.nD,
          r.2.mem ((c.tc : Thread Cert.MergeSIdeal.nD Cert.MergeSIdeal.τ).loc Cert.MergeSIdeal.main_v11) = v0 c
          ∧ r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
          ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
          ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
          ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3)
          ∧ r.2.mem ((c.tc : Thread Cert.MergeSIdeal.nD Cert.MergeSIdeal.τ).loc Cert.MergeSIdeal.main_arg4) = m ((c.tc : Thread Cert.MergeSIdeal.nD Cert.MergeSIdeal.τ).loc Cert.MergeSIdeal.main_arg4)
          ∧ r.2.mem ((c.tc : Thread Cert.MergeSIdeal.nD Cert.MergeSIdeal.τ).loc Cert.MergeSIdeal.main_arg5) = m ((c.tc : Thread Cert.MergeSIdeal.nD Cert.MergeSIdeal.τ).loc Cert.MergeSIdeal.main_arg5)
          ∧ r.2.mem ((c.tc : Thread Cert.MergeSIdeal.nD Cert.MergeSIdeal.τ).loc Cert.MergeSIdeal.main_arg6) = m ((c.tc : Thread Cert.MergeSIdeal.nD Cert.MergeSIdeal.τ).loc Cert.MergeSIdeal.main_arg6)
          ∧ r.2.mem ((c.tc : Thread Cert.MergeSIdeal.nD Cert.MergeSIdeal.τ).loc Cert.MergeSIdeal.main_arg7) = m ((c.tc : Thread Cert.MergeSIdeal.nD Cert.MergeSIdeal.τ).loc Cert.MergeSIdeal.main_arg7))
      ∧ θ_run (Cert.MergeSRefIdeal.defs (F := Ideal)) (onTc (τ := Cert.MergeSRefIdeal.τ) (Cert.MergeSRefIdeal.main (F := Ideal))) ⟨m', fun _ => 0, g'⟩ (fun r => ∀ c : Dev Cert.MergeSRefIdeal.nD,
          r.2.mem ((c.tc : Thread Cert.MergeSRefIdeal.nD Cert.MergeSRefIdeal.τ).loc Cert.MergeSRefIdeal.main_v55) = v0 c
          ∧ r.2.mem ((c.tc : Thread Cert.MergeSRefIdeal.nD Cert.MergeSRefIdeal.τ).loc Cert.MergeSRefIdeal.main_arg0) = m' ((c.tc : Thread Cert.MergeSRefIdeal.nD Cert.MergeSRefIdeal.τ).loc Cert.MergeSRefIdeal.main_arg0)
          ∧ r.2.mem ((c.tc : Thread Cert.MergeSRefIdeal.nD Cert.MergeSRefIdeal.τ).loc Cert.MergeSRefIdeal.main_arg1) = m' ((c.tc : Thread Cert.MergeSRefIdeal.nD Cert.MergeSRefIdeal.τ).loc Cert.MergeSRefIdeal.main_arg1)
          ∧ r.2.mem ((c.tc : Thread Cert.MergeSRefIdeal.nD Cert.MergeSRefIdeal.τ).loc Cert.MergeSRefIdeal.main_arg2) = m' ((c.tc : Thread Cert.MergeSRefIdeal.nD Cert.MergeSRefIdeal.τ).loc Cert.MergeSRefIdeal.main_arg2)
          ∧ r.2.mem ((c.tc : Thread Cert.MergeSRefIdeal.nD Cert.MergeSRefIdeal.τ).loc Cert.MergeSRefIdeal.main_arg3) = m' ((c.tc : Thread Cert.MergeSRefIdeal.nD Cert.MergeSRefIdeal.τ).loc Cert.MergeSRefIdeal.main_arg3)
          ∧ r.2.mem ((c.tc : Thread Cert.MergeSRefIdeal.nD Cert.MergeSRefIdeal.τ).loc Cert.MergeSRefIdeal.main_arg4) = m' ((c.tc : Thread Cert.MergeSRefIdeal.nD Cert.MergeSRefIdeal.τ).loc Cert.MergeSRefIdeal.main_arg4)
          ∧ r.2.mem ((c.tc : Thread Cert.MergeSRefIdeal.nD Cert.MergeSRefIdeal.τ).loc Cert.MergeSRefIdeal.main_arg5) = m' ((c.tc : Thread Cert.MergeSRefIdeal.nD Cert.MergeSRefIdeal.τ).loc Cert.MergeSRefIdeal.main_arg5)
          ∧ r.2.mem ((c.tc : Thread Cert.MergeSRefIdeal.nD Cert.MergeSRefIdeal.τ).loc Cert.MergeSRefIdeal.main_arg6) = m' ((c.tc : Thread Cert.MergeSRefIdeal.nD Cert.MergeSRefIdeal.τ).loc Cert.MergeSRefIdeal.main_arg6)
          ∧ r.2.mem ((c.tc : Thread Cert.MergeSRefIdeal.nD Cert.MergeSRefIdeal.τ).loc Cert.MergeSRefIdeal.main_arg7) = m' ((c.tc : Thread Cert.MergeSRefIdeal.nD Cert.MergeSRefIdeal.τ).loc Cert.MergeSRefIdeal.main_arg7))

def preserves_HgrnO_HgrnOIdeal : Prop :=
  True

def algebraic_HgrnOIdeal_HgrnORefIdeal_pre_hgrno_finite [hHgrnOIdeal : Cert.HgrnOIdeal.Facts] [hHgrnORefIdeal : Cert.HgrnORefIdeal.Facts] [hPre_hgrno_finite : Cert.Pre_hgrno_finite.Facts] : Prop :=
  ∀ (m : (ℓ : Loc Cert.HgrnOIdeal.nD Cert.HgrnOIdeal.τ Cert.HgrnOIdeal.sig) → Buf (Elt Ideal) ℓ) (g : Dev Cert.HgrnOIdeal.nD → PrngReg)
    (m' : (ℓ : Loc Cert.HgrnORefIdeal.nD Cert.HgrnORefIdeal.τ Cert.HgrnORefIdeal.sig) → Buf (Elt Ideal) ℓ) (g' : Dev Cert.HgrnORefIdeal.nD → PrngReg), Pre_HgrnOIdeal_hgrno_finite m →
    (∀ c : Dev Cert.HgrnOIdeal.nD,
      m' ((c.tc : Thread Cert.HgrnORefIdeal.nD Cert.HgrnORefIdeal.τ).loc Cert.HgrnORefIdeal.main_arg0) = m ((c.tc : Thread Cert.HgrnOIdeal.nD Cert.HgrnOIdeal.τ).loc Cert.HgrnOIdeal.main_arg0)
      ∧ m' ((c.tc : Thread Cert.HgrnORefIdeal.nD Cert.HgrnORefIdeal.τ).loc Cert.HgrnORefIdeal.main_arg1) = m ((c.tc : Thread Cert.HgrnOIdeal.nD Cert.HgrnOIdeal.τ).loc Cert.HgrnOIdeal.main_arg1)
      ∧ m' ((c.tc : Thread Cert.HgrnORefIdeal.nD Cert.HgrnORefIdeal.τ).loc Cert.HgrnORefIdeal.main_arg2) = m ((c.tc : Thread Cert.HgrnOIdeal.nD Cert.HgrnOIdeal.τ).loc Cert.HgrnOIdeal.main_arg2)
      ∧ m' ((c.tc : Thread Cert.HgrnORefIdeal.nD Cert.HgrnORefIdeal.τ).loc Cert.HgrnORefIdeal.main_arg3) = m ((c.tc : Thread Cert.HgrnOIdeal.nD Cert.HgrnOIdeal.τ).loc Cert.HgrnOIdeal.main_arg3)) →
    ∃ (v0 : (c : Dev Cert.HgrnOIdeal.nD) → Buf (Elt Ideal) ((c.tc : Thread Cert.HgrnOIdeal.nD Cert.HgrnOIdeal.τ).loc Cert.HgrnOIdeal.main_v3_0)),
      θ_run (Cert.HgrnOIdeal.defs (F := Ideal)) (onTc (τ := Cert.HgrnOIdeal.τ) (Cert.HgrnOIdeal.main (F := Ideal))) ⟨m, fun _ => 0, g⟩ (fun r => ∀ c : Dev Cert.HgrnOIdeal.nD,
          r.2.mem ((c.tc : Thread Cert.HgrnOIdeal.nD Cert.HgrnOIdeal.τ).loc Cert.HgrnOIdeal.main_v3_0) = v0 c
          ∧ r.2.mem ((c.tc : Thread Cert.HgrnOIdeal.nD Cert.HgrnOIdeal.τ).loc Cert.HgrnOIdeal.main_arg0) = m ((c.tc : Thread Cert.HgrnOIdeal.nD Cert.HgrnOIdeal.τ).loc Cert.HgrnOIdeal.main_arg0)
          ∧ r.2.mem ((c.tc : Thread Cert.HgrnOIdeal.nD Cert.HgrnOIdeal.τ).loc Cert.HgrnOIdeal.main_arg1) = m ((c.tc : Thread Cert.HgrnOIdeal.nD Cert.HgrnOIdeal.τ).loc Cert.HgrnOIdeal.main_arg1)
          ∧ r.2.mem ((c.tc : Thread Cert.HgrnOIdeal.nD Cert.HgrnOIdeal.τ).loc Cert.HgrnOIdeal.main_arg2) = m ((c.tc : Thread Cert.HgrnOIdeal.nD Cert.HgrnOIdeal.τ).loc Cert.HgrnOIdeal.main_arg2)
          ∧ r.2.mem ((c.tc : Thread Cert.HgrnOIdeal.nD Cert.HgrnOIdeal.τ).loc Cert.HgrnOIdeal.main_arg3) = m ((c.tc : Thread Cert.HgrnOIdeal.nD Cert.HgrnOIdeal.τ).loc Cert.HgrnOIdeal.main_arg3))
      ∧ θ_run (Cert.HgrnORefIdeal.defs (F := Ideal)) (onTc (τ := Cert.HgrnORefIdeal.τ) (Cert.HgrnORefIdeal.main (F := Ideal))) ⟨m', fun _ => 0, g'⟩ (fun r => ∀ c : Dev Cert.HgrnORefIdeal.nD,
          r.2.mem ((c.tc : Thread Cert.HgrnORefIdeal.nD Cert.HgrnORefIdeal.τ).loc Cert.HgrnORefIdeal.main_v195) = v0 c
          ∧ r.2.mem ((c.tc : Thread Cert.HgrnORefIdeal.nD Cert.HgrnORefIdeal.τ).loc Cert.HgrnORefIdeal.main_arg0) = m' ((c.tc : Thread Cert.HgrnORefIdeal.nD Cert.HgrnORefIdeal.τ).loc Cert.HgrnORefIdeal.main_arg0)
          ∧ r.2.mem ((c.tc : Thread Cert.HgrnORefIdeal.nD Cert.HgrnORefIdeal.τ).loc Cert.HgrnORefIdeal.main_arg1) = m' ((c.tc : Thread Cert.HgrnORefIdeal.nD Cert.HgrnORefIdeal.τ).loc Cert.HgrnORefIdeal.main_arg1)
          ∧ r.2.mem ((c.tc : Thread Cert.HgrnORefIdeal.nD Cert.HgrnORefIdeal.τ).loc Cert.HgrnORefIdeal.main_arg2) = m' ((c.tc : Thread Cert.HgrnORefIdeal.nD Cert.HgrnORefIdeal.τ).loc Cert.HgrnORefIdeal.main_arg2)
          ∧ r.2.mem ((c.tc : Thread Cert.HgrnORefIdeal.nD Cert.HgrnORefIdeal.τ).loc Cert.HgrnORefIdeal.main_arg3) = m' ((c.tc : Thread Cert.HgrnORefIdeal.nD Cert.HgrnORefIdeal.τ).loc Cert.HgrnORefIdeal.main_arg3))

def Claim : Prop :=
  ∃ (hAttn : Cert.Attn.Facts) (hAttnIdeal : Cert.AttnIdeal.Facts) (hAttnRefIdeal : Cert.AttnRefIdeal.Facts) (hHgrn : Cert.Hgrn.Facts) (hHgrnIdeal : Cert.HgrnIdeal.Facts) (hHgrnRefIdeal : Cert.HgrnRefIdeal.Facts) (hInProj : Cert.InProj.Facts) (hInProjIdeal : Cert.InProjIdeal.Facts) (hInProjRefIdeal : Cert.InProjRefIdeal.Facts) (hInProjS : Cert.InProjS.Facts) (hInProjSIdeal : Cert.InProjSIdeal.Facts) (hInProjSRefIdeal : Cert.InProjSRefIdeal.Facts) (hMemKv : Cert.MemKv.Facts) (hMemKvIdeal : Cert.MemKvIdeal.Facts) (hMemKvRefIdeal : Cert.MemKvRefIdeal.Facts) (hMerge : Cert.Merge.Facts) (hMergeIdeal : Cert.MergeIdeal.Facts) (hMergeRefIdeal : Cert.MergeRefIdeal.Facts) (hMergeS : Cert.MergeS.Facts) (hMergeSIdeal : Cert.MergeSIdeal.Facts) (hMergeSRefIdeal : Cert.MergeSRefIdeal.Facts) (hHgrnO : Cert.HgrnO.Facts) (hHgrnOIdeal : Cert.HgrnOIdeal.Facts) (hHgrnORefIdeal : Cert.HgrnORefIdeal.Facts) (hPre_attn_finite : Cert.Pre_attn_finite.Facts) (hPre_hgrn_finite : Cert.Pre_hgrn_finite.Facts) (hPre_merge_finite : Cert.Pre_merge_finite.Facts) (hPre_merges_finite : Cert.Pre_merges_finite.Facts) (hPre_hgrno_finite : Cert.Pre_hgrno_finite.Facts),
    quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Hgrn (hHgrn := hHgrn)
    ∧ quiescent_HgrnIdeal (hHgrnIdeal := hHgrnIdeal)
    ∧ quiescent_HgrnIdeal_pre_hgrn_finite (hHgrnIdeal := hHgrnIdeal) (hPre_hgrn_finite := hPre_hgrn_finite)
    ∧ quiescent_HgrnRefIdeal (hHgrnRefIdeal := hHgrnRefIdeal)
    ∧ quiescent_HgrnRefIdeal_pre_hgrn_finite (hHgrnRefIdeal := hHgrnRefIdeal) (hPre_hgrn_finite := hPre_hgrn_finite)
    ∧ quiescent_InProj (hInProj := hInProj)
    ∧ quiescent_InProjIdeal (hInProjIdeal := hInProjIdeal)
    ∧ quiescent_InProjRefIdeal (hInProjRefIdeal := hInProjRefIdeal)
    ∧ quiescent_InProjS (hInProjS := hInProjS)
    ∧ quiescent_InProjSIdeal (hInProjSIdeal := hInProjSIdeal)
    ∧ quiescent_InProjSRefIdeal (hInProjSRefIdeal := hInProjSRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Merge (hMerge := hMerge)
    ∧ quiescent_MergeIdeal (hMergeIdeal := hMergeIdeal)
    ∧ quiescent_MergeIdeal_pre_merge_finite (hMergeIdeal := hMergeIdeal) (hPre_merge_finite := hPre_merge_finite)
    ∧ quiescent_MergeRefIdeal (hMergeRefIdeal := hMergeRefIdeal)
    ∧ quiescent_MergeRefIdeal_pre_merge_finite (hMergeRefIdeal := hMergeRefIdeal) (hPre_merge_finite := hPre_merge_finite)
    ∧ quiescent_MergeS (hMergeS := hMergeS)
    ∧ quiescent_MergeSIdeal (hMergeSIdeal := hMergeSIdeal)
    ∧ quiescent_MergeSIdeal_pre_merges_finite (hMergeSIdeal := hMergeSIdeal) (hPre_merges_finite := hPre_merges_finite)
    ∧ quiescent_MergeSRefIdeal (hMergeSRefIdeal := hMergeSRefIdeal)
    ∧ quiescent_MergeSRefIdeal_pre_merges_finite (hMergeSRefIdeal := hMergeSRefIdeal) (hPre_merges_finite := hPre_merges_finite)
    ∧ quiescent_HgrnO (hHgrnO := hHgrnO)
    ∧ quiescent_HgrnOIdeal (hHgrnOIdeal := hHgrnOIdeal)
    ∧ quiescent_HgrnOIdeal_pre_hgrno_finite (hHgrnOIdeal := hHgrnOIdeal) (hPre_hgrno_finite := hPre_hgrno_finite)
    ∧ quiescent_HgrnORefIdeal (hHgrnORefIdeal := hHgrnORefIdeal)
    ∧ quiescent_HgrnORefIdeal_pre_hgrno_finite (hHgrnORefIdeal := hHgrnORefIdeal) (hPre_hgrno_finite := hPre_hgrno_finite)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Hgrn_HgrnIdeal
    ∧ algebraic_HgrnIdeal_HgrnRefIdeal_pre_hgrn_finite (hHgrnIdeal := hHgrnIdeal) (hHgrnRefIdeal := hHgrnRefIdeal) (hPre_hgrn_finite := hPre_hgrn_finite)
    ∧ preserves_InProj_InProjIdeal
    ∧ algebraic_InProjIdeal_InProjRefIdeal (hInProjIdeal := hInProjIdeal) (hInProjRefIdeal := hInProjRefIdeal)
    ∧ preserves_InProjS_InProjSIdeal
    ∧ algebraic_InProjSIdeal_InProjSRefIdeal (hInProjSIdeal := hInProjSIdeal) (hInProjSRefIdeal := hInProjSRefIdeal)
    ∧ preserves_MemKv_MemKvIdeal
    ∧ algebraic_MemKvIdeal_MemKvRefIdeal (hMemKvIdeal := hMemKvIdeal) (hMemKvRefIdeal := hMemKvRefIdeal)
    ∧ preserves_Merge_MergeIdeal
    ∧ algebraic_MergeIdeal_MergeRefIdeal_pre_merge_finite (hMergeIdeal := hMergeIdeal) (hMergeRefIdeal := hMergeRefIdeal) (hPre_merge_finite := hPre_merge_finite)
    ∧ preserves_MergeS_MergeSIdeal
    ∧ algebraic_MergeSIdeal_MergeSRefIdeal_pre_merges_finite (hMergeSIdeal := hMergeSIdeal) (hMergeSRefIdeal := hMergeSRefIdeal) (hPre_merges_finite := hPre_merges_finite)
    ∧ preserves_HgrnO_HgrnOIdeal
    ∧ algebraic_HgrnOIdeal_HgrnORefIdeal_pre_hgrno_finite (hHgrnOIdeal := hHgrnOIdeal) (hHgrnORefIdeal := hHgrnORefIdeal) (hPre_hgrno_finite := hPre_hgrno_finite)
-- ==== Pre_attn_finite.lean ====
abbrev S1x64 : Shape := ⟨2, ![1, 64]⟩
abbrev S2048x13312 : Shape := ⟨2, ![2048, 13312]⟩
abbrev S1x128 : Shape := ⟨2, ![1, 128]⟩
abbrev S1x32x1024x8x2x64 : Shape := ⟨6, ![1, 32, 1024, 8, 2, 64]⟩
abbrev S1x32x1024x8x128 : Shape := ⟨5, ![1, 32, 1024, 8, 128]⟩
abbrev S2048x2048 : Shape := ⟨2, ![2048, 2048]⟩
abbrev S_ : Shape := ⟨0, ![]⟩

class Facts : Prop where
  slices_S2048x13312_S2048x2048_0_4096 : S2048x13312.Slices ![0, 4096] S2048x2048
  bcast_S_S2048x2048 : S_.BroadcastsInDim S2048x2048 (![] : Fin 0 → Fin S2048x2048.rank)
  bcast_S_S1x32x1024x8x2x64 : S_.BroadcastsInDim S1x32x1024x8x2x64 (![] : Fin 0 → Fin S1x32x1024x8x2x64.rank)

variable [Facts]

def fn {F : FTy → Type} [FloatOps F] (main_arg0 : FVec F S1x64 .f32) (main_arg1 : FVec F S1x64 .f32) (main_arg2 : FVec F S1x64 .f32) (main_arg3 : FVec F S1x64 .f32) (main_arg4 : FVec F S2048x13312 .bf16) (main_arg5 : FVec F S1x128 .f32) (main_arg6 : FVec F S1x32x1024x8x2x64 .f32) (main_arg7 : FVec F S1x32x1024x8x128 .f32) : IVec S2048x2048 1 × IVec S1x32x1024x8x2x64 1 :=
  let main_v0 : FVec F S2048x2048 .bf16 := (extractStridedSlice S2048x2048 ![0, 4096] · slices_S2048x13312_S2048x2048_0_4096) main_arg4
  let main_v1 : FVec F S2048x2048 .bf16 := Host.absf main_v0
  let main_cst : FVec F S_ .bf16 := constant S_ .bf16 0x7F80#16
  let main_v2 : FVec F S2048x2048 .bf16 := broadcastInDim S2048x2048 ![] bcast_S_S2048x2048 main_cst
  let main_v3 : IVec S2048x2048 1 := cmpf .olt main_v1 main_v2
  let main_v4 : FVec F S1x32x1024x8x2x64 .f32 := Host.absf main_arg6
  let main_cst_0 : FVec F S_ .f32 := constant S_ .f32 0x7F800000#32
  let main_v5 : FVec F S1x32x1024x8x2x64 .f32 := broadcastInDim S1x32x1024x8x2x64 ![] bcast_S_S1x32x1024x8x2x64 main_cst_0
  let main_v6 : IVec S1x32x1024x8x2x64 1 := cmpf .olt main_v4 main_v5
  (main_v3, main_v6)
-- ==== Pre_hgrn_finite.lean ====
abbrev S2048x13312 : Shape := ⟨2, ![2048, 13312]⟩
abbrev S2048x1024 : Shape := ⟨2, ![2048, 1024]⟩
abbrev S1x32x8x128x128 : Shape := ⟨5, ![1, 32, 8, 128, 128]⟩
abbrev S1x128 : Shape := ⟨2, ![1, 128]⟩
abbrev S_ : Shape := ⟨0, ![]⟩

class Facts : Prop where
  bcast_S_S2048x1024 : S_.BroadcastsInDim S2048x1024 (![] : Fin 0 → Fin S2048x1024.rank)

variable [Facts]

def fn {F : FTy → Type} [FloatOps F] (main_arg0 : FVec F S2048x13312 .bf16) (main_arg1 : FVec F S2048x1024 .f32) (main_arg2 : FVec F S1x32x8x128x128 .f32) (main_arg3 : FVec F S1x128 .f32) : IVec S2048x1024 1 :=
  let main_v0 : FVec F S2048x1024 .f32 := Host.absf main_arg1
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  main_v2
-- ==== Pre_hgrno_finite.lean ====
abbrev S2048x13312 : Shape := ⟨2, ![2048, 13312]⟩
abbrev S2048x1024 : Shape := ⟨2, ![2048, 1024]⟩
abbrev S1x32x8x128x128 : Shape := ⟨5, ![1, 32, 8, 128, 128]⟩
abbrev S1x128 : Shape := ⟨2, ![1, 128]⟩
abbrev S_ : Shape := ⟨0, ![]⟩

class Facts : Prop where
  bcast_S_S2048x1024 : S_.BroadcastsInDim S2048x1024 (![] : Fin 0 → Fin S2048x1024.rank)
  slices_S2048x13312_S2048x1024_0_0 : S2048x13312.Slices ![0, 0] S2048x1024
  slices_S2048x13312_S2048x1024_0_2048 : S2048x13312.Slices ![0, 2048] S2048x1024

variable [Facts]

def fn {F : FTy → Type} [FloatOps F] (main_arg0 : FVec F S2048x13312 .bf16) (main_arg1 : FVec F S2048x1024 .f32) (main_arg2 : FVec F S1x32x8x128x128 .f32) (main_arg3 : FVec F S1x128 .f32) : IVec S2048x1024 1 × IVec S2048x1024 1 × IVec S2048x1024 1 :=
  let main_v0 : FVec F S2048x1024 .f32 := Host.absf main_arg1
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .bf16 := (extractStridedSlice S2048x1024 ![0, 0] · slices_S2048x13312_S2048x1024_0_0) main_arg0
  let main_v4 : FVec F S2048x1024 .bf16 := Host.absf main_v3
  let main_cst_0 : FVec F S_ .bf16 := constant S_ .bf16 0x7F80#16
  let main_v5 : FVec F S2048x1024 .bf16 := broadcastInDim S2048x1024 ![] bcast_S_S2048x1024 main_cst_0
  let main_v6 : IVec S2048x1024 1 := cmpf .olt main_v4 main_v5
  let main_v7 : FVec F S2048x1024 .bf16 := (extractStridedSlice S2048x1024 ![0, 2048] · slices_S2048x13312_S2048x1024_0_2048) main_arg0
  let main_v8 : FVec F S2048x1024 .bf16 := Host.absf main_v7
  let main_cst_1 : FVec F S_ .bf16 := constant S_ .bf16 0x7F80#16
  let main_v9 : FVec F S2048x1024 .bf16 := broadcastInDim S2048x1024 ![] bcast_S_S2048x1024 main_cst_1
  let main_v10 : IVec S2048x1024 1 := cmpf .olt main_v8 main_v9
  (main_v2, main_v6, main_v10)
-- ==== Pre_merge_finite.lean ====
abbrev S32x2048x1024 : Shape := ⟨3, ![32, 2048, 1024]⟩
abbrev S65536x1024 : Shape := ⟨2, ![65536, 1024]⟩
abbrev S65536x13312 : Shape := ⟨2, ![65536, 13312]⟩
abbrev S8192x1024 : Shape := ⟨2, ![8192, 1024]⟩
abbrev S1x3x1024x1024 : Shape := ⟨4, ![1, 3, 1024, 1024]⟩
abbrev S1x1024x1024 : Shape := ⟨3, ![1, 1024, 1024]⟩
abbrev S_ : Shape := ⟨0, ![]⟩

class Facts : Prop where
  slices_S65536x13312_S65536x1024_0_8192 : S65536x13312.Slices ![0, 8192] S65536x1024
  bcast_S_S65536x1024 : S_.BroadcastsInDim S65536x1024 (![] : Fin 0 → Fin S65536x1024.rank)
  bcast_S_S8192x1024 : S_.BroadcastsInDim S8192x1024 (![] : Fin 0 → Fin S8192x1024.rank)

variable [Facts]

def fn {F : FTy → Type} [FloatOps F] (main_arg0 : FVec F S32x2048x1024 .f32) (main_arg1 : FVec F S65536x1024 .bf16) (main_arg2 : FVec F S65536x1024 .bf16) (main_arg3 : FVec F S65536x13312 .bf16) (main_arg4 : FVec F S8192x1024 .bf16) (main_arg5 : FVec F S8192x1024 .bf16) (main_arg6 : FVec F S1x3x1024x1024 .f32) (main_arg7 : FVec F S1x1024x1024 .f32) : IVec S65536x1024 1 × IVec S8192x1024 1 :=
  let main_v0 : FVec F S65536x1024 .bf16 := (extractStridedSlice S65536x1024 ![0, 8192] · slices_S65536x13312_S65536x1024_0_8192) main_arg3
  let main_v1 : FVec F S65536x1024 .bf16 := Host.absf main_v0
  let main_cst : FVec F S_ .bf16 := constant S_ .bf16 0x7F80#16
  let main_v2 : FVec F S65536x1024 .bf16 := broadcastInDim S65536x1024 ![] bcast_S_S65536x1024 main_cst
  let main_v3 : IVec S65536x1024 1 := cmpf .olt main_v1 main_v2
  let main_v4 : FVec F S8192x1024 .bf16 := Host.absf main_arg4
  let main_cst_0 : FVec F S_ .bf16 := constant S_ .bf16 0x7F80#16
  let main_v5 : FVec F S8192x1024 .bf16 := broadcastInDim S8192x1024 ![] bcast_S_S8192x1024 main_cst_0
  let main_v6 : IVec S8192x1024 1 := cmpf .olt main_v4 main_v5
  (main_v3, main_v6)
-- ==== Pre_merges_finite.lean ====
abbrev S32x64x1024 : Shape := ⟨3, ![32, 64, 1024]⟩
abbrev S2048x1024 : Shape := ⟨2, ![2048, 1024]⟩
abbrev S2048x13312 : Shape := ⟨2, ![2048, 13312]⟩
abbrev S1x32x256x4x256 : Shape := ⟨5, ![1, 32, 256, 4, 256]⟩
abbrev S1x3x1024x1024 : Shape := ⟨4, ![1, 3, 1024, 1024]⟩
abbrev S1x1024x1024 : Shape := ⟨3, ![1, 1024, 1024]⟩
abbrev S_ : Shape := ⟨0, ![]⟩

class Facts : Prop where
  slices_S2048x13312_S2048x1024_0_8192 : S2048x13312.Slices ![0, 8192] S2048x1024
  bcast_S_S2048x1024 : S_.BroadcastsInDim S2048x1024 (![] : Fin 0 → Fin S2048x1024.rank)
  bcast_S_S1x32x256x4x256 : S_.BroadcastsInDim S1x32x256x4x256 (![] : Fin 0 → Fin S1x32x256x4x256.rank)

variable [Facts]

def fn {F : FTy → Type} [FloatOps F] (main_arg0 : FVec F S32x64x1024 .f32) (main_arg1 : FVec F S2048x1024 .bf16) (main_arg2 : FVec F S2048x1024 .bf16) (main_arg3 : FVec F S2048x13312 .bf16) (main_arg4 : FVec F S1x32x256x4x256 .f32) (main_arg5 : FVec F S1x32x256x4x256 .f32) (main_arg6 : FVec F S1x3x1024x1024 .f32) (main_arg7 : FVec F S1x1024x1024 .f32) : IVec S2048x1024 1 × IVec S1x32x256x4x256 1 :=
  let main_v0 : FVec F S2048x1024 .bf16 := (extractStridedSlice S2048x1024 ![0, 8192] · slices_S2048x13312_S2048x1024_0_8192) main_arg3
  let main_v1 : FVec F S2048x1024 .bf16 := Host.absf main_v0
  let main_cst : FVec F S_ .bf16 := constant S_ .bf16 0x7F80#16
  let main_v2 : FVec F S2048x1024 .bf16 := broadcastInDim S2048x1024 ![] bcast_S_S2048x1024 main_cst
  let main_v3 : IVec S2048x1024 1 := cmpf .olt main_v1 main_v2
  let main_v4 : FVec F S1x32x256x4x256 .f32 := Host.absf main_arg4
  let main_cst_0 : FVec F S_ .f32 := constant S_ .f32 0x7F800000#32
  let main_v5 : FVec F S1x32x256x4x256 .f32 := broadcastInDim S1x32x256x4x256 ![] bcast_S_S1x32x256x4x256 main_cst_0
  let main_v6 : IVec S1x32x256x4x256 1 := cmpf .olt main_v4 main_v5
  (main_v3, main_v6)
-- ==== Attn.lean ====
abbrev S1x64 : Shape := ⟨2, ![1, 64]⟩
abbrev S2048x13312 : Shape := ⟨2, ![2048, 13312]⟩
abbrev S1x128 : Shape := ⟨2, ![1, 128]⟩
abbrev S1x32x1024x8x2x64 : Shape := ⟨6, ![1, 32, 1024, 8, 2, 64]⟩
abbrev S1x32x1024x8x128 : Shape := ⟨5, ![1, 32, 1024, 8, 128]⟩
abbrev S64 : Shape := ⟨1, ![64]⟩
abbrev S4x64 : Shape := ⟨2, ![4, 64]⟩
abbrev S32x1024x8x2x64 : Shape := ⟨5, ![32, 1024, 8, 2, 64]⟩
abbrev S32x8x2x64x1024 : Shape := ⟨5, ![32, 8, 2, 64, 1024]⟩
abbrev S32x1024x1024 : Shape := ⟨3, ![32, 1024, 1024]⟩
abbrev S128 : Shape := ⟨1, ![128]⟩
abbrev S32x1024x8x128 : Shape := ⟨4, ![32, 1024, 8, 128]⟩
abbrev S32x8192x128 : Shape := ⟨3, ![32, 8192, 128]⟩
abbrev S2048x1024 : Shape := ⟨2, ![2048, 1024]⟩
abbrev S64x1024 : Shape := ⟨2, ![64, 1024]⟩
abbrev S1x1024x1024 : Shape := ⟨3, ![1, 1024, 1024]⟩
abbrev S1x8192x128 : Shape := ⟨3, ![1, 8192, 128]⟩
abbrev S1 : Shape := ⟨1, ![1]⟩
abbrev S1x1 : Shape := ⟨2, ![1, 1]⟩
abbrev S64x128 : Shape := ⟨2, ![64, 128]⟩
abbrev S128x128 : Shape := ⟨2, ![128, 128]⟩
abbrev S1x128x1024 : Shape := ⟨3, ![1, 128, 1024]⟩
abbrev S128x1024 : Shape := ⟨2, ![128, 1024]⟩
abbrev S128x64 : Shape := ⟨2, ![128, 64]⟩
abbrev S128x1 : Shape := ⟨2, ![128, 1]⟩
abbrev S64x1 : Shape := ⟨2, ![64, 1]⟩
abbrev S64x64 : Shape := ⟨2, ![64, 64]⟩
abbrev S1x1024x128 : Shape := ⟨3, ![1, 1024, 128]⟩
abbrev S1024x128 : Shape := ⟨2, ![1024, 128]⟩

abbrev nBuf : Space → Nat
  | .hbm => 25
  | .vmem => 16
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S2048x13312, .bf16⟩
  | .hbm, ⟨5, _⟩ => ⟨S1x128, .f32⟩
  | .hbm, ⟨6, _⟩ => ⟨S1x32x1024x8x2x64, .f32⟩
  | .hbm, ⟨7, _⟩ => ⟨S1x32x1024x8x128, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S1x64, .f32⟩
  | .hbm, ⟨16, _⟩ => ⟨S4x64, .f32⟩
  | .hbm, ⟨17, _⟩ => ⟨S32x1024x8x2x64, .f32⟩
  | .hbm, ⟨18, _⟩ => ⟨S32x8x2x64x1024, .f32⟩
  | .hbm, ⟨19, _⟩ => ⟨S32x1024x1024, .f32⟩
  | .hbm, ⟨20, _⟩ => ⟨S128, .f32⟩
  | .hbm, ⟨21, _⟩ => ⟨S32x1024x8x128, .f32⟩
  | .hbm, ⟨22, _⟩ => ⟨S1x128, .f32⟩
  | .hbm, ⟨23, _⟩ => ⟨S32x8192x128, .f32⟩
  | .hbm, ⟨24, _⟩ => ⟨S2048x1024, .bf16⟩
  | .local _ .vmem, ⟨0, _⟩ => ⟨S4x64, .f32⟩
  | .local _ .vmem, ⟨1, _⟩ => ⟨S64x1024, .bf16⟩
  | .local _ .vmem, ⟨2, _⟩ => ⟨S64x1024, .bf16⟩
  | .local _ .vmem, ⟨3, _⟩ => ⟨S64x1024, .bf16⟩
  | .local _ .vmem, ⟨4, _⟩ => ⟨S64x1024, .bf16⟩
  | .local _ .vmem, ⟨5, _⟩ => ⟨S64x1024, .bf16⟩
  | .local _ .vmem, ⟨6, _⟩ => ⟨S64x1024, .bf16⟩
  | .local _ .vmem, ⟨7, _⟩ => ⟨S64x1024, .bf16⟩
  | .local _ .vmem, ⟨8, _⟩ => ⟨S64x1024, .bf16⟩
  | .local _ .vmem, ⟨9, _⟩ => ⟨S1x128, .f32⟩
  | .local _ .vmem, ⟨10, _⟩ => ⟨S1x1024x1024, .f32⟩
  | .local _ .vmem, ⟨11, _⟩ => ⟨S1x1024x1024, .f32⟩
  | .local _ .vmem, ⟨12, _⟩ => ⟨S1x8192x128, .f32⟩
  | .local _ .vmem, ⟨13, _⟩ => ⟨S1x8192x128, .f32⟩
  | .local _ .vmem, ⟨14, _⟩ => ⟨S64x1024, .bf16⟩
  | .local _ .vmem, ⟨15, _⟩ => ⟨S64x1024, .bf16⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttnRefIdeal.lean ====
abbrev S1x64 : Shape := ⟨2, ![1, 64]⟩
abbrev S2048x13312 : Shape := ⟨2, ![2048, 13312]⟩
abbrev S1x128 : Shape := ⟨2, ![1, 128]⟩
abbrev S1x32x1024x8x2x64 : Shape := ⟨6, ![1, 32, 1024, 8, 2, 64]⟩
abbrev S1x32x1024x8x128 : Shape := ⟨5, ![1, 32, 1024, 8, 128]⟩
abbrev S2048x1024 : Shape := ⟨2, ![2048, 1024]⟩
abbrev S32x64x8x2x64 : Shape := ⟨5, ![32, 64, 8, 2, 64]⟩
abbrev S32x64x8x128 : Shape := ⟨4, ![32, 64, 8, 128]⟩
abbrev S64 : Shape := ⟨1, ![64]⟩
abbrev S_ : Shape := ⟨0, ![]⟩
abbrev S32x1024x8x2x64 : Shape := ⟨5, ![32, 1024, 8, 2, 64]⟩
abbrev S32x1088x8x2x64 : Shape := ⟨5, ![32, 1088, 8, 2, 64]⟩
abbrev S32x1024x8x128 : Shape := ⟨4, ![32, 1024, 8, 128]⟩
abbrev S32x1088x8x128 : Shape := ⟨4, ![32, 1088, 8, 128]⟩
abbrev S32x8x2x64x1088 : Shape := ⟨5, ![32, 8, 2, 64, 1088]⟩
abbrev S32x8x2x64 : Shape := ⟨4, ![32, 8, 2, 64]⟩
abbrev S32x8x2x64x1 : Shape := ⟨5, ![32, 8, 2, 64, 1]⟩
abbrev S32x8x1x64x1088 : Shape := ⟨5, ![32, 8, 1, 64, 1088]⟩
abbrev S32x8x64x1088 : Shape := ⟨4, ![32, 8, 64, 1088]⟩
abbrev S32x8x128x64 : Shape := ⟨4, ![32, 8, 128, 64]⟩
abbrev S128 : Shape := ⟨1, ![128]⟩
abbrev S32x64x8 : Shape := ⟨3, ![32, 64, 8]⟩
abbrev S32x64x8x1 : Shape := ⟨4, ![32, 64, 8, 1]⟩
abbrev S1x1x1x128 : Shape := ⟨4, ![1, 1, 1, 128]⟩

abbrev nBuf : Space → Nat
  | .hbm => 86
  | .vmem => 0
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S2048x13312, .bf16⟩
  | .hbm, ⟨5, _⟩ => ⟨S1x128, .f32⟩
  | .hbm, ⟨6, _⟩ => ⟨S1x32x1024x8x2x64, .f32⟩
  | .hbm, ⟨7, _⟩ => ⟨S1x32x1024x8x128, .f32⟩
  | .hbm, ⟨8, _⟩ => ⟨S2048x13312, .f32⟩
  | .hbm, ⟨9, _⟩ => ⟨S2048x1024, .f32⟩
  | .hbm, ⟨10, _⟩ => ⟨S32x64x8x2x64, .f32⟩
  | .hbm, ⟨11, _⟩ => ⟨S2048x1024, .f32⟩
  | .hbm, ⟨12, _⟩ => ⟨S32x64x8x2x64, .f32⟩
  | .hbm, ⟨13, _⟩ => ⟨S2048x1024, .f32⟩
  | .hbm, ⟨14, _⟩ => ⟨S32x64x8x128, .f32⟩
  | .hbm, ⟨15, _⟩ => ⟨S2048x1024, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S32x1024x8x2x64, .f32⟩
  | .hbm, ⟨32, _⟩ => ⟨S32x1088x8x2x64, .f32⟩
  | .hbm, ⟨33, _⟩ => ⟨S32x1024x8x128, .f32⟩
  | .hbm, ⟨34, _⟩ => ⟨S32x1088x8x128, .f32⟩
  | .hbm, ⟨35, _⟩ => ⟨S32x8x2x64x1088, .f32⟩
  | .hbm, ⟨36, _⟩ => ⟨S_, .f32⟩
  | .hbm, ⟨37, _⟩ => ⟨S_, .f32⟩
  | .hbm, ⟨38, _⟩ => ⟨S32x8x2x64x1088, .f32⟩
  | .hbm, ⟨39, _⟩ => ⟨S32x8x2x64x1088, .f32⟩
  | .hbm, ⟨40, _⟩ => ⟨S_, .f32⟩
  | .hbm, ⟨41, _⟩ => ⟨S32x8x2x64, .f32⟩
  | .hbm, ⟨42, _⟩ => ⟨S_, .f32⟩
  | .hbm, ⟨43, _⟩ => ⟨S32x8x2x64, .f32⟩
  | .hbm, ⟨44, _⟩ => ⟨S32x8x2x64, .f32⟩
  | .hbm, ⟨45, _⟩ => ⟨S32x8x2x64x1, .f32⟩
  | .hbm, ⟨46, _⟩ => ⟨S32x8x2x64x1088, .f32⟩
  | .hbm, ⟨47, _⟩ => ⟨S32x8x2x64x1088, .f32⟩
  | .hbm, ⟨48, _⟩ => ⟨S32x8x2x64x1088, .f32⟩
  | .hbm, ⟨49, _⟩ => ⟨S_, .f32⟩
  | .hbm, ⟨50, _⟩ => ⟨S32x8x2x64, .f32⟩
  | .hbm, ⟨51, _⟩ => ⟨S32x8x2x64x1, .f32⟩
  | .hbm, ⟨52, _⟩ => ⟨S32x8x2x64x1088, .f32⟩
  | .hbm, ⟨53, _⟩ => ⟨S32x8x2x64x1088, .f32⟩
  | .hbm, ⟨54, _⟩ => ⟨S32x8x1x64x1088, .f32⟩
  | .hbm, ⟨55, _⟩ => ⟨S32x8x64x1088, .f32⟩
  | .hbm, ⟨56, _⟩ => ⟨S32x8x1x64x1088, .f32⟩
  | .hbm, ⟨57, _⟩ => ⟨S32x8x64x1088, .f32⟩
  | .hbm, ⟨58, _⟩ => ⟨S32x8x64x1088, .f32⟩
  | .hbm, ⟨59, _⟩ => ⟨S32x8x64x1088, .f32⟩
  | .hbm, ⟨60, _⟩ => ⟨S32x8x64x1088, .f32⟩
  | .hbm, ⟨61, _⟩ => ⟨S32x8x128x64, .f32⟩
  | .hbm, ⟨62, _⟩ => ⟨S32x64x8x128, .f32⟩
  | .hbm, ⟨63, _⟩ => ⟨S128, .f32⟩
  | .hbm, ⟨64, _⟩ => ⟨S32x64x8x128, .f32⟩
  | .hbm, ⟨65, _⟩ => ⟨S_, .f32⟩
  | .hbm, ⟨66, _⟩ => ⟨S32x64x8, .f32⟩
  | .hbm, ⟨67, _⟩ => ⟨S32x64x8x1, .f32⟩
  | .hbm, ⟨68, _⟩ => ⟨S_, .f32⟩
  | .hbm, ⟨69, _⟩ => ⟨S32x64x8x1, .f32⟩
  | .hbm, ⟨70, _⟩ => ⟨S32x64x8x1, .f32⟩
  | .hbm, ⟨71, _⟩ => ⟨S_, .f32⟩
  | .hbm, ⟨72, _⟩ => ⟨S32x64x8x1, .f32⟩
  | .hbm, ⟨73, _⟩ => ⟨S32x64x8x1, .f32⟩
  | .hbm, ⟨74, _⟩ => ⟨S32x64x8x1, .f32⟩
  | .hbm, ⟨75, _⟩ => ⟨S32x64x8x128, .f32⟩
  | .hbm, ⟨76, _⟩ => ⟨S32x64x8x128, .f32⟩
  | .hbm, ⟨77, _⟩ => ⟨S1x1x1x128, .f32⟩
  | .hbm, ⟨78, _⟩ => ⟨S32x64x8x128, .f32⟩
  | .hbm, ⟨79, _⟩ => ⟨S32x64x8x128, .f32⟩
  | .hbm, ⟨80, _⟩ => ⟨S_, .f32⟩
  | .hbm, ⟨81, _⟩ => ⟨S32x64x8x128, .f32⟩
  | .hbm, ⟨82, _⟩ => ⟨S32x64x8x128, .f32⟩
  | .hbm, ⟨83, _⟩ => ⟨S2048x1024, .f32⟩
  | .hbm, ⟨84, _⟩ => ⟨S2048x1024, .f32⟩
  | .hbm, ⟨85, _⟩ => ⟨S2048x1024, .bf16⟩
  | _, _ => ⟨S1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_6 : Ref sig .tc := ⟨.hbm, 65, rfl⟩
abbrev main_v50 : Ref sig .tc := ⟨.hbm, 66, rfl⟩
abbrev main_v51 : Ref sig .tc := ⟨.hbm, 67, rfl⟩
abbrev main_cst_7 : Ref sig .tc := ⟨.hbm, 68, rfl⟩
abbrev main_v52 : Ref sig .tc := ⟨.hbm, 69, rfl⟩
abbrev main_v53 : Ref sig .tc := ⟨.hbm, 70, rfl⟩
abbrev main_cst_8 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_9 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩

abbrev nD : Nat := 1
abbrev τ : Topo := Topo.v7x

variable {F : FTy → Type} [FloatOps F]
-- ==== Hgrn.lean ====
abbrev S2048x13312 : Shape := ⟨2, ![2048, 13312]⟩
abbrev S2048x1024 : Shape := ⟨2, ![2048, 1024]⟩
abbrev S1x32x8x128x128 : Shape := ⟨5, ![1, 32, 8, 128, 128]⟩
abbrev S1x128 : Shape := ⟨2, ![1, 128]⟩
abbrev S32x8x128x128 : Shape := ⟨4, ![32, 8, 128, 128]⟩
abbrev S128 : Shape := ⟨1, ![128]⟩
abbrev S64x1024 : Shape := ⟨2, ![64, 1024]⟩
abbrev S1x8x128x128 : Shape := ⟨4, ![1, 8, 128, 128]⟩
abbrev S8x128x128 : Shape := ⟨3, ![8, 128, 128]⟩
abbrev S64x64 : Shape := ⟨2, ![64, 64]⟩
abbrev S64x128 : Shape := ⟨2, ![64, 128]⟩
abbrev S1x1x128x128 : Shape := ⟨4, ![1, 1, 128, 128]⟩
abbrev S128x128 : Shape := ⟨2, ![128, 128]⟩
abbrev S1x128x128 : Shape := ⟨3, ![1, 128, 128]⟩
abbrev S128x1024 : Shape := ⟨2, ![128, 1024]⟩
abbrev S128x64 : Shape := ⟨2, ![128, 64]⟩
abbrev S128x192 : Shape := ⟨2, ![128, 192]⟩
abbrev S16x128 : Shape := ⟨2, ![16, 128]⟩
abbrev S16x64 : Shape := ⟨2, ![16, 64]⟩
abbrev S64x192 : Shape := ⟨2, ![64, 192]⟩
abbrev S64 : Shape := ⟨1, ![64]⟩
abbrev S64x1 : Shape := ⟨2, ![64, 1]⟩

abbrev nBuf : Space → Nat
  | .hbm => 9
  | .vmem => 18
  | .smem => 0
  | _ => 0

abbrev bufTy : (tb : Table) → Fin (tcTables nBuf tb) → BufTy
  | .hbm, ⟨0, _⟩ => ⟨S2048x13312, .bf16⟩
  | .hbm, ⟨1, _⟩ => ⟨S2048x1024, .f32⟩
  | .hbm, ⟨2, _⟩ => ⟨S1x32x8x128x128, .f32⟩
  | .hbm, ⟨3, _⟩ => ⟨S1x128, .f32⟩
  | .hbm, ⟨4, _⟩ => ⟨S32x8x128x128, .f32⟩
  | .hbm, ⟨5, _⟩ => ⟨S128, .f32⟩
  | .hbm, ⟨6, _⟩ => ⟨S1x128, .f32⟩
  | .hbm, ⟨7, _⟩ => ⟨S2048x1024, .bf16⟩
  | .hbm, ⟨8, _⟩ => ⟨S32x8x128x128, .f32⟩
  | .local _ .vmem, ⟨0, _⟩ => ⟨S64x1024, .bf16⟩
  | .local _ .vmem, ⟨1, _⟩ => ⟨S64x1024, .bf16⟩
  | .local _ .vmem, ⟨2, _⟩ => ⟨S64x1024, .bf16⟩
  | .local _ .vmem, ⟨3, _⟩ => ⟨S64x1024, .bf16⟩
  | .local _ .vmem, ⟨4, _⟩ => ⟨S64x1024, .bf16⟩
  | .local _ .vmem, ⟨5, _⟩ => ⟨S64x1024, .bf16⟩
  | .local _ .vmem, ⟨6, _⟩ => ⟨S64x1024, .bf16⟩
  | .local _ .vmem, ⟨7, _⟩ => ⟨S64x1024, .bf16⟩
  | .local _ .vmem, ⟨8, _⟩ => ⟨S64x1024, .f32⟩
  | .local _ .vmem, ⟨9, _⟩ => ⟨S64x1024, .f32⟩
  | .local _ .vmem, ⟨10, _⟩ => ⟨S1x8x128x128, .f32⟩
  | .local _ .vmem, ⟨11, _⟩ => ⟨S1x8x128x128, .f32⟩
  | .local _ .vmem, ⟨12, _⟩ => ⟨S1x128, .f32⟩
  | .local _ .vmem, ⟨13, _⟩ => ⟨S64x1024, .bf16⟩
  | .local _ .vmem, ⟨14, _⟩ => ⟨S64x1024, .bf16⟩
  | .local _ .vmem, ⟨15, _⟩ => ⟨S1x8x128x128, .f32⟩
  | .local _ .vmem, ⟨16, _⟩ => ⟨S1x8x128x128, .f32⟩
  | .local _ .vmem, ⟨17, _⟩ => ⟨S8x128x128, .f32⟩
  | _, _ => ⟨S2048x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![32, 1], ![false, false]⟩

def k0_mult1 : BitVec 32 :=
  let c0_i32_2 : BitVec 32 := 0#32
  let c1_i32 : BitVec 32 := 1#32
  let v12 : BitVec 32 := Scalar.muli c0_i32_2 c1_i32
  let c0_i32_3 : BitVec 32 := 0#32
  let v13 : BitVec 32 := Scalar.addi v12 c0_i32_3
  let c64_i32 : BitVec 32 := 64#32
  let v14 : BitVec 32 := Scalar.muli v13 c64_i32
  v14
def k0_off1 : Fin 2 → Nat :=
  let c0_i32_2 : BitVec 32 := 0#32
  let c1_i32 : BitVec 32 := 1#32
  let v12 : BitVec 32 := Scalar.muli c0_i32_2 c1_i32
  let c0_i32_3 : BitVec 32 := 0#32
  let v13 : BitVec 32 := Scalar.addi v12 c0_i32_3
  let c64_i32 : BitVec 32 := 64#32
  let v14 : BitVec 32 := Scalar.muli v13 c64_i32
  let v15 : BitVec 32 := v14
  let v16 : Index := Scalar.indexCast v15
  let c0 : Index := 0#32
  ![v16.toNat, 0]
def k0_off2 : Fin 2 → Nat :=
  let c0_i32_2 : BitVec 32 := 0#32
  let c1_i32 : BitVec 32 := 1#32
  let v12 : BitVec 32 := Scalar.muli c0_i32_2 c1_i32
  let c0_i32_3 : BitVec 32 := 0#32
  let v13 : BitVec 32 := Scalar.addi v12 c0_i32_3
  let c64_i32 : BitVec 32 := 64#32
  let v14 : BitVec 32 := Scalar.muli v13 c64_i32
  let v15 : BitVec 32 := v14
  let v32 : Index := Scalar.indexCast v15
  let c0_5 : Index := 0#32
  ![v32.toNat, 0]
def k0_off3 : Fin 2 → Nat :=
  let c0_i32_2 : BitVec 32 := 0#32
  let c1_i32 : BitVec 32 := 1#32
  let v12 : BitVec 32 := Scalar.muli c0_i32_2 c1_i32
  let c0_i32_3 : BitVec 32 := 0#32
  let v13 : BitVec 32 := Scalar.addi v12 c0_i32_3
  let c64_i32 : BitVec 32 := 64#32
  let v14 : BitVec 32 := Scalar.muli v13 c64_i32
  let v15 : BitVec 32 := v14
  let v35 : Index := Scalar.indexCast v15
  let c128 : Index := 128#32
  ![v35.toNat, 128]
def k0_off4 : Fin 2 → Nat :=
  let c0_i32_2 : BitVec 32 := 0#32
  let c1_i32 : BitVec 32 := 1#32
  let v12 : BitVec 32 := Scalar.muli c0_i32_2 c1_i32
  let c0_i32_3 : BitVec 32 := 0#32
  let v13 : BitVec 32 := Scalar.addi v12 c0_i32_3
  let c64_i32 : BitVec 32 := 64#32
  let v14 : BitVec 32 := Scalar.muli v13 c64_i32
  let v15 : BitVec 32 := v14
  let v38 : Index := Scalar.indexCast v15
  let c256 : Index := 256#32
  ![v38.toNat, 256]
def k0_off5 : Fin 2 → Nat :=
  let c0_i32_2 : BitVec 32 := 0#32
  let c1_i32 : BitVec 32 := 1#32
  let v12 : BitVec 32 := Scalar.muli c0_i32_2 c1_i32
  let c0_i32_3 : BitVec 32 := 0#32
  let v13 : BitVec 32 := Scalar.addi v12 c0_i32_3
  let c64_i32 : BitVec 32 := 64#32
  let v14 : BitVec 32 := Scalar.muli v13 c64_i32
  let v15 : BitVec 32 := v14
  let v41 : Index := Scalar.indexCast v15
  let c384 : Index := 384#32
  ![v41.toNat, 384]
def k0_off6 : Fin 2 → Nat :=
  let c0_i32_2 : BitVec 32 := 0#32
  let c1_i32 : BitVec 32 := 1#32
  let v12 : BitVec 32 := Scalar.muli c0_i32_2 c1_i32
  let c0_i32_3 : BitVec 32 := 0#32
  let v13 : BitVec 32 := Scalar.addi v12 c0_i32_3
  let c64_i32 : BitVec 32 := 64#32
  let v14 : BitVec 32 := Scalar.muli v13 c64_i32
  let v15 : BitVec 32 := v14
  let v44 : Index := Scalar.indexCast v15
  let c512 : Index := 512#32
  ![v44.toNat, 512]
def k0_off7 : Fin 2 → Nat :=
  let c0_i32_2 : BitVec 32 := 0#32
  let c1_i32 : BitVec 32 := 1#32
  let v12 : BitVec 32 := Scalar.muli c0_i32_2 c1_i32
  let c0_i32_3 : BitVec 32 := 0#32
  let v13 : BitVec 32 := Scalar.addi v12 c0_i32_3
  let c64_i32 : BitVec 32 := 64#32
  let v14 : BitVec 32 := Scalar.muli v13 c64_i32
  let v15 : BitVec 32 := v14
  let v47 : Index := Scalar.indexCast v15
  let c640 : Index := 640#32
  ![v47.toNat, 640]
def k0_off8 : Fin 2 → Nat :=
  let c0_i32_2 : BitVec 32 := 0#32
  let c1_i32 : BitVec 32 := 1#32
  let v12 : BitVec 32 := Scalar.muli c0_i32_2 c1_i32
  let c0_i32_3 : BitVec 32 := 0#32
  let v13 : BitVec 32 := Scalar.addi v12 c0_i32_3
  let c64_i32 : BitVec 32 := 64#32
  let v14 : BitVec 32 := Scalar.muli v13 c64_i32
  let v15 : BitVec 32 := v14
  let v50 : Index := Scalar.indexCast v15
  let c768 : Index := 768#32
  ![v50.toNat, 768]
def k0_off9 : Fin 2 → Nat :=
  let c0_i32_2 : BitVec 32 := 0#32
  let c1_i32 : BitVec 32 := 1#32
  let v12 : BitVec 32 := Scalar.muli c0_i32_2 c1_i32
  let c0_i32_3 : BitVec 32 := 0#32
  let v13 : BitVec 32 := Scalar.addi v12 c0_i32_3
  let c64_i32 : BitVec 32 := 64#32
  let v14 : BitVec 32 := Scalar.muli v13 c64_i32
  let v15 : BitVec 32 := v14
  let v53 : Index := Scalar.indexCast v15
  let c896 : Index := 896#32
  ![v53.toNat, 896]
def k0_cond2 (i : grid0.Coords) : BitVec 1 :=
  let arg1 : BitVec 32 := BitVec.ofNat 32 (i 1).val
  let c0_i32_245 : BitVec 32 := 0#32
  let v1080 : BitVec 1 := Scalar.cmpi .eq arg1 c0_i32_245
  let v1081 : BitVec 32 := Scalar.extui v1080
  let c0_i32_246 : BitVec 32 := 0#32
  let v1082 : BitVec 1 := Scalar.cmpi .ne v1081 c0_i32_246
  v1082

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  ![v1.toNat, c1_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c3_i32 : BitVec 32 := 3#32
  let c0_i32 : BitVec 32 := 0#32
  ![v1.toNat, c3_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== HgrnRefIdeal.lean ====
abbrev S2048x13312 : Shape := ⟨2, ![2048, 13312]⟩
abbrev S2048x1024 : Shape := ⟨2, ![2048, 1024]⟩
abbrev S1x32x8x128x128 : Shape := ⟨5, ![1, 32, 8, 128, 128]⟩
abbrev S1x128 : Shape := ⟨2, ![1, 128]⟩
abbrev S32x4x16x8x128 : Shape := ⟨5, ![32, 4, 16, 8, 128]⟩
abbrev S4x32x8x16x128 : Shape := ⟨5, ![4, 32, 8, 16, 128]⟩
abbrev S16 : Shape := ⟨1, ![16]⟩
abbrev S1x16 : Shape := ⟨2, ![1, 16]⟩
abbrev S16x1 : Shape := ⟨2, ![16, 1]⟩
abbrev S16x16 : Shape := ⟨2, ![16, 16]⟩
abbrev S32x8x128x128 : Shape := ⟨4, ![32, 8, 128, 128]⟩
abbrev S16x16x1 : Shape := ⟨3, ![16, 16, 1]⟩
abbrev S1x32x8x16x128 : Shape := ⟨5, ![1, 32, 8, 16, 128]⟩
abbrev S32x8x16x128 : Shape := ⟨4, ![32, 8, 16, 128]⟩
abbrev S32x8x1x16x128 : Shape := ⟨5, ![32, 8, 1, 16, 128]⟩
abbrev S_ : Shape := ⟨0, ![]⟩
abbrev S32x8x16x16x128 : Shape := ⟨5, ![32, 8, 16, 16, 128]⟩
abbrev S32x8x1x128 : Shape := ⟨4, ![32, 8, 1, 128]⟩
abbrev S32x8x128 : Shape := ⟨3, ![32, 8, 128]⟩
abbrev S32x8x128x1 : Shape := ⟨4, ![32, 8, 128, 1]⟩

abbrev nBuf : Space → Nat
  | .hbm => 133
  | .vmem => 0
  | .smem => 0
  | _ => 0

abbrev hbmTy0_0 (i : Nat) : BufTy := match i % 128 with
  | 0 => ⟨S2048x13312, .bf16⟩
  | 1 => ⟨S2048x1024, .f32⟩
  | 2 => ⟨S1x32x8x128x128, .f32⟩
  | 3 => ⟨S1x128, .f32⟩
  | 4 => ⟨S2048x13312, .f32⟩
  | 5 => ⟨S2048x1024, .f32⟩
  | 6 => ⟨S32x4x16x8x128, .f32⟩
  | 7 => ⟨S4x32x8x16x128, .f32⟩
  | 8 => ⟨S2048x1024, .f32⟩
  | 9 => ⟨S32x4x16x8x128, .f32⟩
  | 10 => ⟨S4x32x8x16x128, .f32⟩
  | 11 => ⟨S32x4x16x8x128, .f32⟩
  | 12 => ⟨S4x32x8x16x128, .f32⟩
  | 13 => ⟨S16, .i32⟩
  | 14 => ⟨S1x16, .i32⟩
  | 15 => ⟨S16, .i32⟩
  | 16 => ⟨S16x1, .i32⟩
  | 17 => ⟨S16x16, .i32⟩
  | 18 => ⟨S16x16, .i32⟩
  | 19 => ⟨S16x16, .i1⟩
  | 20 => ⟨S32x8x128x128, .f32⟩
  | 21 => ⟨S16x16x1, .i1⟩
  | 22 => ⟨S1x32x8x16x128, .f32⟩
  | 23 => ⟨S32x8x16x128, .f32⟩
  | 24 => ⟨S32x8x1x16x128, .f32⟩
  | 25 => ⟨S_, .f32⟩
  | 26 => ⟨S_, .f32⟩
  | 27 => ⟨S32x8x16x16x128, .i1⟩
  | 28 => ⟨S32x8x16x16x128, .f32⟩
  | 29 => ⟨S32x8x16x16x128, .f32⟩
  | 30 => ⟨S32x8x16x16x128, .f32⟩
  | 31 => ⟨S_, .f32⟩
  | 32 => ⟨S32x8x16x128, .f32⟩
  | 33 => ⟨S32x8x1x128, .f32⟩
  | 34 => ⟨S32x8x128, .f32⟩
  | 35 => ⟨S32x8x128, .f32⟩
  | 36 => ⟨S32x8x128x1, .f32⟩
  | 37 => ⟨S32x8x128x128, .f32⟩
  | 38 => ⟨S32x8x128x128, .f32⟩
  | 39 => ⟨S1x32x8x16x128, .f32⟩
  | 40 => ⟨S32x8x16x128, .f32⟩
  | 41 => ⟨S32x8x16x128, .f32⟩
  | 42 => ⟨S32x8x16x128, .f32⟩
  | 43 => ⟨S32x8x16x128, .f32⟩
  | 44 => ⟨S32x8x16x128, .f32⟩
  | 45 => ⟨S1x32x8x16x128, .f32⟩
  | 46 => ⟨S32x8x16x128, .f32⟩
  | 47 => ⟨S32x8x128x128, .f32⟩
  | 48 => ⟨S32x8x128x128, .f32⟩
  | 49 => ⟨S16x16x1, .i1⟩
  | 50 => ⟨S1x32x8x16x128, .f32⟩
  | 51 => ⟨S32x8x16x128, .f32⟩
  | 52 => ⟨S32x8x1x16x128, .f32⟩
  | 53 => ⟨S_, .f32⟩
  | 54 => ⟨S_, .f32⟩
  | 55 => ⟨S32x8x16x16x128, .i1⟩
  | 56 => ⟨S32x8x16x16x128, .f32⟩
  | 57 => ⟨S32x8x16x16x128, .f32⟩
  | 58 => ⟨S32x8x16x16x128, .f32⟩
  | 59 => ⟨S_, .f32⟩
  | 60 => ⟨S32x8x16x128, .f32⟩
  | 61 => ⟨S32x8x1x128, .f32⟩
  | 62 => ⟨S32x8x128, .f32⟩
  | 63 => ⟨S32x8x128, .f32⟩
  | 64 => ⟨S32x8x128x1, .f32⟩
  | 65 => ⟨S32x8x128x128, .f32⟩
  | 66 => ⟨S32x8x128x128, .f32⟩
  | 67 => ⟨S1x32x8x16x128, .f32⟩
  | 68 => ⟨S32x8x16x128, .f32⟩
  | 69 => ⟨S32x8x16x128, .f32⟩
  | 70 => ⟨S32x8x16x128, .f32⟩
  | 71 => ⟨S32x8x16x128, .f32⟩
  | 72 => ⟨S32x8x16x128, .f32⟩
  | 73 => ⟨S1x32x8x16x128, .f32⟩
  | 74 => ⟨S32x8x16x128, .f32⟩
  | 75 => ⟨S32x8x128x128, .f32⟩
  | 76 => ⟨S32x8x128x128, .f32⟩
  | 77 => ⟨S16x16x1, .i1⟩
  | 78 => ⟨S1x32x8x16x128, .f32⟩
  | 79 => ⟨S32x8x16x128, .f32⟩
  | 80 => ⟨S32x8x1x16x128, .f32⟩
  | 81 => ⟨S_, .f32⟩
  | 82 => ⟨S_, .f32⟩
  | 83 => ⟨S32x8x16x16x128, .i1⟩
  | 84 => ⟨S32x8x16x16x128, .f32⟩
  | 85 => ⟨S32x8x16x16x128, .f32⟩
  | 86 => ⟨S32x8x16x16x128, .f32⟩
  | 87 => ⟨S_, .f32⟩
  | 88 => ⟨S32x8x16x128, .f32⟩
  | 89 => ⟨S32x8x1x128, .f32⟩
  | 90 => ⟨S32x8x128, .f32⟩
  | 91 => ⟨S32x8x128, .f32⟩
  | 92 => ⟨S32x8x128x1, .f32⟩
  | 93 => ⟨S32x8x128x128, .f32⟩
  | 94 => ⟨S32x8x128x128, .f32⟩
  | 95 => ⟨S1x32x8x16x128, .f32⟩
  | 96 => ⟨S32x8x16x128, .f32⟩
  | 97 => ⟨S32x8x16x128, .f32⟩
  | 98 => ⟨S32x8x16x128, .f32⟩
  | 99 => ⟨S32x8x16x128, .f32⟩
  | 100 => ⟨S32x8x16x128, .f32⟩
  | 101 => ⟨S1x32x8x16x128, .f32⟩
  | 102 => ⟨S32x8x16x128, .f32⟩
  | 103 => ⟨S32x8x128x128, .f32⟩
  | 104 => ⟨S32x8x128x128, .f32⟩
  | 105 => ⟨S16x16x1, .i1⟩
  | 106 => ⟨S1x32x8x16x128, .f32⟩
  | 107 => ⟨S32x8x16x128, .f32⟩
  | 108 => ⟨S32x8x1x16x128, .f32⟩
  | 109 => ⟨S_, .f32⟩
  | 110 => ⟨S_, .f32⟩
  | 111 => ⟨S32x8x16x16x128, .i1⟩
  | 112 => ⟨S32x8x16x16x128, .f32⟩
  | 113 => ⟨S32x8x16x16x128, .f32⟩
  | 114 => ⟨S32x8x16x16x128, .f32⟩
  | 115 => ⟨S_, .f32⟩
  | 116 => ⟨S32x8x16x128, .f32⟩
  | 117 => ⟨S32x8x1x128, .f32⟩
  | 118 => ⟨S32x8x128, .f32⟩
  | 119 => ⟨S32x8x128, .f32⟩
  | 120 => ⟨S32x8x128x1, .f32⟩
  | 121 => ⟨S32x8x128x128, .f32⟩
  | 122 => ⟨S32x8x128x128, .f32⟩
  | 123 => ⟨S1x32x8x16x128, .f32⟩
  | 124 => ⟨S32x8x16x128, .f32⟩
  | 125 => ⟨S32x8x16x128, .f32⟩
  | 126 => ⟨S32x8x16x128, .f32⟩
  | 127 => ⟨S32x8x16x128, .f32⟩
  | _ => ⟨S2048x13312, .bf16⟩

abbrev hbmTy0_1 (i : Nat) : BufTy := match i % 128 with
  | 0 => ⟨S32x8x16x128, .f32⟩
  | 1 => ⟨S1x32x8x16x128, .f32⟩
  | 2 => ⟨S32x8x16x128, .f32⟩
  | 3 => ⟨S32x8x128x128, .f32⟩
  | 4 => ⟨S32x8x128x128, .f32⟩
  | _ => ⟨S2048x13312, .bf16⟩

abbrev hbmTy (i : Nat) : BufTy := match i / 128 with
  | 0 => hbmTy0_0 i
  | 1 => hbmTy0_1 i
  | _ => ⟨S2048x13312, .bf16⟩

abbrev bufTy : (tb : Table) → Fin (tcTables nBuf tb) → BufTy
  | .hbm, ⟨i, _⟩ => hbmTy i
  | _, _ => ⟨S2048x13312, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_1 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_v43 : Ref sig .tc := ⟨.hbm, 58, rfl⟩
abbrev main_cst_2 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_3 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_call2_v3 : Ref sig .tc := ⟨.hbm, 85, rfl⟩
abbrev main_v65 : Ref sig .tc := ⟨.hbm, 86, rfl⟩
abbrev main_cst_4 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_cst_5 : Ref sig .tc := ⟨.hbm, 109, rfl⟩
abbrev main_call3_v0 : Ref sig .tc := ⟨.hbm, 110, rfl⟩
abbrev main_call3_v1 : Ref sig .tc := ⟨.hbm, 111, rfl⟩
abbrev main_call3_v2 : Ref sig .tc := ⟨.hbm, 112, rfl⟩
abbrev main_call3_v3 : Ref sig .tc := ⟨.hbm, 113, rfl⟩
abbrev main_v87 : Ref sig .tc := ⟨.hbm, 114, rfl⟩
abbrev main_cst_6 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩

abbrev nD : Nat := 1
abbrev τ : Topo := Topo.v7x

variable {F : FTy → Type} [FloatOps F]
-- ==== InProj.lean ====
abbrev S65536x1024 : Shape := ⟨2, ![65536, 1024]⟩
abbrev S1x1024 : Shape := ⟨2, ![1, 1024]⟩
abbrev S1x1024x13312 : Shape := ⟨3, ![1, 1024, 13312]⟩
abbrev S2x1024 : Shape := ⟨2, ![2, 1024]⟩
abbrev S1x64 : Shape := ⟨2, ![1, 64]⟩
abbrev S1x256 : Shape := ⟨2, ![1, 256]⟩
abbrev S1024 : Shape := ⟨1, ![1024]⟩
abbrev S1024x13312 : Shape := ⟨2, ![1024, 13312]⟩
abbrev S64 : Shape := ⟨1, ![64]⟩
abbrev S256 : Shape := ⟨1, ![256]⟩
abbrev S16x64 : Shape := ⟨2, ![16, 64]⟩
abbrev S65536x13312 : Shape := ⟨2, ![65536, 13312]⟩
abbrev S32x1024x2048 : Shape := ⟨3, ![32, 1024, 2048]⟩
abbrev S256x1024 : Shape := ⟨2, ![256, 1024]⟩
abbrev S256x13312 : Shape := ⟨2, ![256, 13312]⟩
abbrev S1x1024x256 : Shape := ⟨3, ![1, 1024, 256]⟩
abbrev S256x1 : Shape := ⟨2, ![256, 1]⟩
abbrev S1024x1024 : Shape := ⟨2, ![1024, 1024]⟩
abbrev S1x128 : Shape := ⟨2, ![1, 128]⟩
abbrev S256x128 : Shape := ⟨2, ![256, 128]⟩
abbrev S128x256 : Shape := ⟨2, ![128, 256]⟩
abbrev S1x128x256 : Shape := ⟨3, ![1, 128, 256]⟩
abbrev S256x256 : Shape := ⟨2, ![256, 256]⟩

abbrev nBuf : Space → Nat
  | .hbm => 27
  | .vmem => 17
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1x1024x13312, .f32⟩
  | .hbm, ⟨3, _⟩ => ⟨S2x1024, .f32⟩
  | .hbm, ⟨4, _⟩ => ⟨S1x64, .f32⟩
  | .hbm, ⟨5, _⟩ => ⟨S1x64, .f32⟩
  | .hbm, ⟨6, _⟩ => ⟨S1x256, .f32⟩
  | .hbm, ⟨7, _⟩ => ⟨S1024, .f32⟩
  | .hbm, ⟨8, _⟩ => ⟨S1024x13312, .f32⟩
  | .hbm, ⟨9, _⟩ => ⟨S1024x13312, .bf16⟩
  | .hbm, ⟨10, _⟩ => ⟨S64, .f32⟩
  | .hbm, ⟨11, _⟩ => ⟨S64, .f32⟩
  | .hbm, ⟨12, _⟩ => ⟨S256, .f32⟩
  | .hbm, ⟨13, _⟩ => ⟨S1x1024, .f32⟩
  | .hbm, ⟨14, _⟩ => ⟨S1x64, .f32⟩
  | .hbm, ⟨15, _⟩ => ⟨S16x64, .f32⟩
  | .hbm, ⟨16, _⟩ => ⟨S1024, .f32⟩
  | .hbm, ⟨17, _⟩ => ⟨S1x1024, .f32⟩
  | .hbm, ⟨18, _⟩ => ⟨S1x64, .f32⟩
  | .hbm, ⟨19, _⟩ => ⟨S16x64, .f32⟩
  | .hbm, ⟨20, _⟩ => ⟨S1024, .f32⟩
  | .hbm, ⟨21, _⟩ => ⟨S1x1024, .f32⟩
  | .hbm, ⟨22, _⟩ => ⟨S1x256, .f32⟩
  | .hbm, ⟨23, _⟩ => ⟨S65536x13312, .bf16⟩
  | .hbm, ⟨24, _⟩ => ⟨S65536x1024, .f32⟩
  | .hbm, ⟨25, _⟩ => ⟨S32x1024x2048, .f32⟩
  | .hbm, ⟨26, _⟩ => ⟨S65536x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x13312, .bf16⟩
  | .local _ .vmem, ⟨4, _⟩ => ⟨S2x1024, .f32⟩
  | .local _ .vmem, ⟨5, _⟩ => ⟨S1x1024, .f32⟩
  | .local _ .vmem, ⟨6, _⟩ => ⟨S1x1024, .f32⟩
  | .local _ .vmem, ⟨7, _⟩ => ⟨S1x256, .f32⟩
  | .local _ .vmem, ⟨8, _⟩ => ⟨S256x13312, .bf16⟩
  | .local _ .vmem, ⟨9, _⟩ => ⟨S256x13312, .bf16⟩
  | .local _ .vmem, ⟨10, _⟩ => ⟨S256x1024, .f32⟩
  | .local _ .vmem, ⟨11, _⟩ => ⟨S256x1024, .f32⟩
  | .local _ .vmem, ⟨12, _⟩ => ⟨S1x1024x256, .f32⟩
  | .local _ .vmem, ⟨13, _⟩ => ⟨S1x1024x256, .f32⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_v16_2 : Ref sig .tc := ⟨.hbm, 25, rfl⟩
abbrev main_v16_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x13312 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x13312 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InProjRefIdeal.lean ====
abbrev S65536x1024 : Shape := ⟨2, ![65536, 1024]⟩
abbrev S1x1024 : Shape := ⟨2, ![1, 1024]⟩
abbrev S1x1024x13312 : Shape := ⟨3, ![1, 1024, 13312]⟩
abbrev S2x1024 : Shape := ⟨2, ![2, 1024]⟩
abbrev S1x64 : Shape := ⟨2, ![1, 64]⟩
abbrev S1x256 : Shape := ⟨2, ![1, 256]⟩
abbrev S_ : Shape := ⟨0, ![]⟩
abbrev S1024 : Shape := ⟨1, ![1024]⟩
abbrev S65536 : Shape := ⟨1, ![65536]⟩
abbrev S65536x1 : Shape := ⟨2, ![65536, 1]⟩
abbrev S1024x13312 : Shape := ⟨2, ![1024, 13312]⟩
abbrev S65536x13312 : Shape := ⟨2, ![65536, 13312]⟩
abbrev S65536x3072 : Shape := ⟨2, ![65536, 3072]⟩
abbrev S65536x8x2x64 : Shape := ⟨4, ![65536, 8, 2, 64]⟩
abbrev S64 : Shape := ⟨1, ![64]⟩
abbrev S65536x8x2 : Shape := ⟨3, ![65536, 8, 2]⟩
abbrev S65536x8x2x1 : Shape := ⟨4, ![65536, 8, 2, 1]⟩
abbrev S1x1x1x64 : Shape := ⟨4, ![1, 1, 1, 64]⟩
abbrev S65536x4x256 : Shape := ⟨3, ![65536, 4, 256]⟩
abbrev S256 : Shape := ⟨1, ![256]⟩
abbrev S65536x4 : Shape := ⟨2, ![65536, 4]⟩
abbrev S65536x4x1 : Shape := ⟨3, ![65536, 4, 1]⟩
abbrev S1x1x256 : Shape := ⟨3, ![1, 1, 256]⟩
abbrev S32x2048x1024 : Shape := ⟨3, ![32, 2048, 1024]⟩
abbrev S32x1024x2048 : Shape := ⟨3, ![32, 1024, 2048]⟩

abbrev nBuf : Space → Nat
  | .hbm => 191
  | .vmem => 0
  | .smem => 0
  | _ => 0

abbrev hbmTy0_0 (i : Nat) : BufTy := match i % 128 with
  | 0 => ⟨S65536x1024, .f32⟩
  | 1 => ⟨S1x1024, .f32⟩
  | 2 => ⟨S1x1024x13312, .f32⟩
  | 3 => ⟨S2x1024, .f32⟩
  | 4 => ⟨S1x64, .f32⟩
  | 5 => ⟨S1x64, .f32⟩
  | 6 => ⟨S1x256, .f32⟩
  | 7 => ⟨S_, .f32⟩
  | 8 => ⟨S1024, .f32⟩
  | 9 => ⟨S_, .f32⟩
  | 10 => ⟨S1024, .f32⟩
  | 11 => ⟨S1024, .f32⟩
  | 12 => ⟨S1x1024, .f32⟩
  | 13 => ⟨S2x1024, .f32⟩
  | 14 => ⟨S2x1024, .f32⟩
  | 15 => ⟨S2x1024, .f32⟩
  | 16 => ⟨S_, .f32⟩
  | 17 => ⟨S1024, .f32⟩
  | 18 => ⟨S1x1024, .f32⟩
  | 19 => ⟨S2x1024, .f32⟩
  | 20 => ⟨S2x1024, .f32⟩
  | 21 => ⟨S_, .f32⟩
  | 22 => ⟨S_, .f32⟩
  | 23 => ⟨S2x1024, .f32⟩
  | 24 => ⟨S1x1024, .f32⟩
  | 25 => ⟨S1024, .f32⟩
  | 26 => ⟨S1024, .f32⟩
  | 27 => ⟨S65536x1024, .f32⟩
  | 28 => ⟨S_, .f32⟩
  | 29 => ⟨S65536, .f32⟩
  | 30 => ⟨S65536x1, .f32⟩
  | 31 => ⟨S_, .f32⟩
  | 32 => ⟨S65536x1, .f32⟩
  | 33 => ⟨S65536x1, .f32⟩
  | 34 => ⟨S_, .f32⟩
  | 35 => ⟨S65536x1, .f32⟩
  | 36 => ⟨S65536x1, .f32⟩
  | 37 => ⟨S65536x1, .f32⟩
  | 38 => ⟨S65536x1024, .f32⟩
  | 39 => ⟨S65536x1024, .f32⟩
  | 40 => ⟨S1x1024, .f32⟩
  | 41 => ⟨S65536x1024, .f32⟩
  | 42 => ⟨S65536x1024, .f32⟩
  | 43 => ⟨S1024x13312, .f32⟩
  | 44 => ⟨S65536x13312, .f32⟩
  | 45 => ⟨S65536x1024, .f32⟩
  | 46 => ⟨S65536x1024, .f32⟩
  | 47 => ⟨S65536x1024, .f32⟩
  | 48 => ⟨S65536x1024, .f32⟩
  | 49 => ⟨S65536x1024, .f32⟩
  | 50 => ⟨S65536x1024, .f32⟩
  | 51 => ⟨S65536x1024, .f32⟩
  | 52 => ⟨S65536x1024, .f32⟩
  | 53 => ⟨S65536x1024, .f32⟩
  | 54 => ⟨S65536x1024, .f32⟩
  | 55 => ⟨S65536x3072, .f32⟩
  | 56 => ⟨S_, .f32⟩
  | 57 => ⟨S1024, .f32⟩
  | 58 => ⟨S1024, .f32⟩
  | 59 => ⟨S65536x1024, .f32⟩
  | 60 => ⟨S65536x1024, .f32⟩
  | 61 => ⟨S_, .f32⟩
  | 62 => ⟨S65536x1024, .f32⟩
  | 63 => ⟨S65536x1024, .f32⟩
  | 64 => ⟨S_, .f32⟩
  | 65 => ⟨S65536x1024, .f32⟩
  | 66 => ⟨S65536x1024, .f32⟩
  | 67 => ⟨S1x1024, .f32⟩
  | 68 => ⟨S65536x1024, .f32⟩
  | 69 => ⟨S65536x1024, .f32⟩
  | 70 => ⟨S1x1024, .f32⟩
  | 71 => ⟨S65536x1024, .f32⟩
  | 72 => ⟨S65536x1024, .f32⟩
  | 73 => ⟨S65536x1024, .f32⟩
  | 74 => ⟨S_, .f32⟩
  | 75 => ⟨S1024, .f32⟩
  | 76 => ⟨S1024, .f32⟩
  | 77 => ⟨S65536x1024, .f32⟩
  | 78 => ⟨S65536x1024, .f32⟩
  | 79 => ⟨S65536x1024, .f32⟩
  | 80 => ⟨S_, .f32⟩
  | 81 => ⟨S65536x1024, .f32⟩
  | 82 => ⟨S65536x1024, .f32⟩
  | 83 => ⟨S_, .f32⟩
  | 84 => ⟨S65536x1024, .f32⟩
  | 85 => ⟨S65536x1024, .f32⟩
  | 86 => ⟨S1x1024, .f32⟩
  | 87 => ⟨S65536x1024, .f32⟩
  | 88 => ⟨S65536x1024, .f32⟩
  | 89 => ⟨S65536x8x2x64, .f32⟩
  | 90 => ⟨S64, .f32⟩
  | 91 => ⟨S65536x8x2x64, .f32⟩
  | 92 => ⟨S_, .f32⟩
  | 93 => ⟨S65536x8x2, .f32⟩
  | 94 => ⟨S65536x8x2x1, .f32⟩
  | 95 => ⟨S_, .f32⟩
  | 96 => ⟨S65536x8x2x1, .f32⟩
  | 97 => ⟨S65536x8x2x1, .f32⟩
  | 98 => ⟨S_, .f32⟩
  | 99 => ⟨S65536x8x2x1, .f32⟩
  | 100 => ⟨S65536x8x2x1, .f32⟩
  | 101 => ⟨S65536x8x2x1, .f32⟩
  | 102 => ⟨S65536x8x2x64, .f32⟩
  | 103 => ⟨S65536x8x2x64, .f32⟩
  | 104 => ⟨S1x1x1x64, .f32⟩
  | 105 => ⟨S65536x8x2x64, .f32⟩
  | 106 => ⟨S65536x8x2x64, .f32⟩
  | 107 => ⟨S_, .f32⟩
  | 108 => ⟨S65536x8x2x64, .f32⟩
  | 109 => ⟨S65536x8x2x64, .f32⟩
  | 110 => ⟨S65536x8x2x64, .f32⟩
  | 111 => ⟨S64, .f32⟩
  | 112 => ⟨S65536x8x2x64, .f32⟩
  | 113 => ⟨S_, .f32⟩
  | 114 => ⟨S65536x8x2, .f32⟩
  | 115 => ⟨S65536x8x2x1, .f32⟩
  | 116 => ⟨S_, .f32⟩
  | 117 => ⟨S65536x8x2x1, .f32⟩
  | 118 => ⟨S65536x8x2x1, .f32⟩
  | 119 => ⟨S_, .f32⟩
  | 120 => ⟨S65536x8x2x1, .f32⟩
  | 121 => ⟨S65536x8x2x1, .f32⟩
  | 122 => ⟨S65536x8x2x1, .f32⟩
  | 123 => ⟨S65536x8x2x64, .f32⟩
  | 124 => ⟨S65536x8x2x64, .f32⟩
  | 125 => ⟨S1x1x1x64, .f32⟩
  | 126 => ⟨S65536x8x2x64, .f32⟩
  | 127 => ⟨S65536x8x2x64, .f32⟩
  | _ => ⟨S65536x1024, .f32⟩

abbrev hbmTy0_1 (i : Nat) : BufTy := match i % 128 with
  | 0 => ⟨S65536x1024, .f32⟩
  | 1 => ⟨S65536x4x256, .f32⟩
  | 2 => ⟨S256, .f32⟩
  | 3 => ⟨S65536x4x256, .f32⟩
  | 4 => ⟨S_, .f32⟩
  | 5 => ⟨S65536x4, .f32⟩
  | 6 => ⟨S65536x4x1, .f32⟩
  | 7 => ⟨S_, .f32⟩
  | 8 => ⟨S65536x4x1, .f32⟩
  | 9 => ⟨S65536x4x1, .f32⟩
  | 10 => ⟨S_, .f32⟩
  | 11 => ⟨S65536x4x1, .f32⟩
  | 12 => ⟨S65536x4x1, .f32⟩
  | 13 => ⟨S65536x4x1, .f32⟩
  | 14 => ⟨S65536x4x256, .f32⟩
  | 15 => ⟨S65536x4x256, .f32⟩
  | 16 => ⟨S1x1x256, .f32⟩
  | 17 => ⟨S65536x4x256, .f32⟩
  | 18 => ⟨S65536x4x256, .f32⟩
  | 19 => ⟨S_, .f32⟩
  | 20 => ⟨S65536x4x256, .f32⟩
  | 21 => ⟨S65536x4x256, .f32⟩
  | 22 => ⟨S65536x1024, .f32⟩
  | 23 => ⟨S65536x1024, .f32⟩
  | 24 => ⟨S_, .f32⟩
  | 25 => ⟨S65536x1024, .f32⟩
  | 26 => ⟨S65536x1024, .f32⟩
  | 27 => ⟨S_, .f32⟩
  | 28 => ⟨S65536x1024, .f32⟩
  | 29 => ⟨S65536x1024, .f32⟩
  | 30 => ⟨S65536x1024, .f32⟩
  | 31 => ⟨S65536x1024, .f32⟩
  | 32 => ⟨S65536x1024, .f32⟩
  | 33 => ⟨S65536x1024, .f32⟩
  | 34 => ⟨S_, .f32⟩
  | 35 => ⟨S65536x1024, .f32⟩
  | 36 => ⟨S65536x1024, .f32⟩
  | 37 => ⟨S_, .f32⟩
  | 38 => ⟨S65536x1024, .f32⟩
  | 39 => ⟨S65536x1024, .f32⟩
  | 40 => ⟨S65536x1024, .f32⟩
  | 41 => ⟨S65536x1024, .f32⟩
  | 42 => ⟨S65536x1024, .f32⟩
  | 43 => ⟨S65536x1024, .f32⟩
  | 44 => ⟨S_, .f32⟩
  | 45 => ⟨S65536x1024, .f32⟩
  | 46 => ⟨S65536x1024, .f32⟩
  | 47 => ⟨S_, .f32⟩
  | 48 => ⟨S65536x1024, .f32⟩
  | 49 => ⟨S65536x1024, .f32⟩
  | 50 => ⟨S65536x1024, .f32⟩
  | 51 => ⟨S65536x3072, .f32⟩
  | 52 => ⟨S65536x3072, .f32⟩
  | 53 => ⟨S_, .f32⟩
  | 54 => ⟨S65536x3072, .f32⟩
  | 55 => ⟨S65536x3072, .f32⟩
  | 56 => ⟨S_, .f32⟩
  | 57 => ⟨S65536x3072, .f32⟩
  | 58 => ⟨S65536x3072, .f32⟩
  | 59 => ⟨S65536x13312, .f32⟩
  | 60 => ⟨S32x2048x1024, .f32⟩
  | 61 => ⟨S32x1024x2048, .f32⟩
  | 62 => ⟨S65536x13312, .bf16⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_call0_cst : Ref sig .tc := ⟨.hbm, 21, rfl⟩
abbrev main_call0_call0_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_6 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_8 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_9 : Ref sig .tc := ⟨.hbm, 80, rfl⟩
abbrev main_v61 : Ref sig .tc := ⟨.hbm, 81, rfl⟩
abbrev main_v62 : Ref sig .tc := ⟨.hbm, 82, rfl⟩
abbrev main_cst_10 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_11 : Ref sig .tc := ⟨.hbm, 92, rfl⟩
abbrev main_v71 : Ref sig .tc := ⟨.hbm, 93, rfl⟩
abbrev main_v72 : Ref sig .tc := ⟨.hbm, 94, rfl⟩
abbrev main_cst_12 : Ref sig .tc := ⟨.hbm, 95, rfl⟩
abbrev main_v73 : Ref sig .tc := ⟨.hbm, 96, rfl⟩
abbrev main_v74 : Ref sig .tc := ⟨.hbm, 97, rfl⟩
abbrev main_cst_13 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_14 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_15 : Ref sig .tc := ⟨.hbm, 113, rfl⟩
abbrev main_v88 : Ref sig .tc := ⟨.hbm, 114, rfl⟩
abbrev main_v89 : Ref sig .tc := ⟨.hbm, 115, rfl⟩
abbrev main_cst_16 : Ref sig .tc := ⟨.hbm, 116, rfl⟩
abbrev main_v90 : Ref sig .tc := ⟨.hbm, 117, rfl⟩
abbrev main_v91 : Ref sig .tc := ⟨.hbm, 118, rfl⟩
abbrev main_cst_17 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_cst_18 : Ref sig .tc := ⟨.hbm, 132, rfl⟩
abbrev main_v104 : Ref sig .tc := ⟨.hbm, 133, rfl⟩
abbrev main_v105 : Ref sig .tc := ⟨.hbm, 134, rfl⟩
abbrev main_cst_19 : Ref sig .tc := ⟨.hbm, 135, rfl⟩
abbrev main_v106 : Ref sig .tc := ⟨.hbm, 136, rfl⟩
abbrev main_v107 : Ref sig .tc := ⟨.hbm, 137, rfl⟩
abbrev main_cst_20 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_cst_21 : Ref sig .tc := ⟨.hbm, 147, rfl⟩
abbrev main_v116 : Ref sig .tc := ⟨.hbm, 148, rfl⟩
abbrev main_v117 : Ref sig .tc := ⟨.hbm, 149, rfl⟩
abbrev main_call1_v0 : Ref sig .tc := ⟨.hbm, 150, rfl⟩
abbrev main_call1_v1 : Ref sig .tc := ⟨.hbm, 151, rfl⟩
abbrev main_call1_cst : Ref sig .tc := ⟨.hbm, 152, rfl⟩
abbrev main_call1_v2 : Ref sig .tc := ⟨.hbm, 153, rfl⟩
abbrev main_call1_v3 : Ref sig .tc := ⟨.hbm, 154, rfl⟩
abbrev main_call1_cst_0 : Ref sig .tc := ⟨.hbm, 155, rfl⟩
abbrev main_call1_v4 : Ref sig .tc := ⟨.hbm, 156, rfl⟩
abbrev main_call1_v5 : Ref sig .tc := ⟨.hbm, 157, rfl⟩
abbrev main_v118 : Ref sig .tc := ⟨.hbm, 158, rfl⟩
abbrev main_v119 : Ref sig .tc := ⟨.hbm, 159, rfl⟩
abbrev main_call2_v0 : Ref sig .tc := ⟨.hbm, 160, rfl⟩
abbrev main_call2_v1 : Ref sig .tc := ⟨.hbm, 161, rfl⟩
abbrev main_call2_cst : Ref sig .tc := ⟨.hbm, 162, rfl⟩
abbrev main_call2_v2 : Ref sig .tc := ⟨.hbm, 163, rfl⟩
abbrev main_call2_v3 : Ref sig .tc := ⟨.hbm, 164, rfl⟩
abbrev main_call2_cst_0 : Ref sig .tc := ⟨.hbm, 165, rfl⟩
abbrev main_call2_v4 : Ref sig .tc := ⟨.hbm, 166, rfl⟩
abbrev main_call2_v5 : Ref sig .tc := ⟨.hbm, 167, rfl⟩
abbrev main_v120 : Ref sig .tc := ⟨.hbm, 168, rfl⟩
abbrev main_v121 : Ref sig .tc := ⟨.hbm, 169, rfl⟩
abbrev main_call3_v0 : Ref sig .tc := ⟨.hbm, 170, rfl⟩
abbrev main_call3_v1 : Ref sig .tc := ⟨.hbm, 171, rfl⟩
abbrev main_call3_cst : Ref sig .tc := ⟨.hbm, 172, rfl⟩
abbrev main_call3_v2 : Ref sig .tc := ⟨.hbm, 173, rfl⟩
abbrev main_call3_v3 : Ref sig .tc := ⟨.hbm, 174, rfl⟩
abbrev main_call3_cst_0 : Ref sig .tc := ⟨.hbm, 175, rfl⟩
abbrev main_call3_v4 : Ref sig .tc := ⟨.hbm, 176, rfl⟩
abbrev main_call3_v5 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_cst_22 : Ref sig .tc := ⟨.hbm, 181, rfl⟩
abbrev main_v125 : Ref sig .tc := ⟨.hbm, 182, rfl⟩
abbrev main_v126 : Ref sig .tc := ⟨.hbm, 183, rfl⟩
abbrev main_cst_23 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩

abbrev nD : Nat := 1
abbrev τ : Topo := Topo.v7x

variable {F : FTy → Type} [FloatOps F]
-- ==== InProjS.lean ====
abbrev S2048x1024 : Shape := ⟨2, ![2048, 1024]⟩
abbrev S1x1024 : Shape := ⟨2, ![1, 1024]⟩
abbrev S1x1024x13312 : Shape := ⟨3, ![1, 1024, 13312]⟩
abbrev S2x1024 : Shape := ⟨2, ![2, 1024]⟩
abbrev S1x64 : Shape := ⟨2, ![1, 64]⟩
abbrev S1x256 : Shape := ⟨2, ![1, 256]⟩
abbrev S1024 : Shape := ⟨1, ![1024]⟩
abbrev S1024x13312 : Shape := ⟨2, ![1024, 13312]⟩
abbrev S64 : Shape := ⟨1, ![64]⟩
abbrev S256 : Shape := ⟨1, ![256]⟩
abbrev S16x64 : Shape := ⟨2, ![16, 64]⟩
abbrev S2048x13312 : Shape := ⟨2, ![2048, 13312]⟩
abbrev S256x1024 : Shape := ⟨2, ![256, 1024]⟩
abbrev S256x13312 : Shape := ⟨2, ![256, 13312]⟩
abbrev S256x1 : Shape := ⟨2, ![256, 1]⟩
abbrev S1024x1024 : Shape := ⟨2, ![1024, 1024]⟩
abbrev S1x128 : Shape := ⟨2, ![1, 128]⟩
abbrev S256x128 : Shape := ⟨2, ![256, 128]⟩
abbrev S256x256 : Shape := ⟨2, ![256, 256]⟩

abbrev nBuf : Space → Nat
  | .hbm => 27
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024x13312, .f32⟩
  | .hbm, ⟨3, _⟩ => ⟨S2x1024, .f32⟩
  | .hbm, ⟨4, _⟩ => ⟨S1x64, .f32⟩
  | .hbm, ⟨5, _⟩ => ⟨S1x64, .f32⟩
  | .hbm, ⟨6, _⟩ => ⟨S1x256, .f32⟩
  | .hbm, ⟨7, _⟩ => ⟨S1024, .f32⟩
  | .hbm, ⟨8, _⟩ => ⟨S1024x13312, .f32⟩
  | .hbm, ⟨9, _⟩ => ⟨S1024x13312, .bf16⟩
  | .hbm, ⟨10, _⟩ => ⟨S64, .f32⟩
  | .hbm, ⟨11, _⟩ => ⟨S64, .f32⟩
  | .hbm, ⟨12, _⟩ => ⟨S256, .f32⟩
  | .hbm, ⟨13, _⟩ => ⟨S1x1024, .f32⟩
  | .hbm, ⟨14, _⟩ => ⟨S1x64, .f32⟩
  | .hbm, ⟨15, _⟩ => ⟨S16x64, .f32⟩
  | .hbm, ⟨16, _⟩ => ⟨S1024, .f32⟩
  | .hbm, ⟨17, _⟩ => ⟨S1x1024, .f32⟩
  | .hbm, ⟨18, _⟩ => ⟨S1x64, .f32⟩
  | .hbm, ⟨19, _⟩ => ⟨S16x64, .f32⟩
  | .hbm, ⟨20, _⟩ => ⟨S1024, .f32⟩
  | .hbm, ⟨21, _⟩ => ⟨S1x1024, .f32⟩
  | .hbm, ⟨22, _⟩ => ⟨S1x256, .f32⟩
  | .hbm, ⟨23, _⟩ => ⟨S2048x13312, .bf16⟩
  | .hbm, ⟨24, _⟩ => ⟨S2048x1024, .f32⟩
  | .hbm, ⟨25, _⟩ => ⟨S2048x1024, .f32⟩
  | .hbm, ⟨26, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x13312, .bf16⟩
  | .local _ .vmem, ⟨4, _⟩ => ⟨S2x1024, .f32⟩
  | .local _ .vmem, ⟨5, _⟩ => ⟨S1x1024, .f32⟩
  | .local _ .vmem, ⟨6, _⟩ => ⟨S1x1024, .f32⟩
  | .local _ .vmem, ⟨7, _⟩ => ⟨S1x256, .f32⟩
  | .local _ .vmem, ⟨8, _⟩ => ⟨S256x13312, .bf16⟩
  | .local _ .vmem, ⟨9, _⟩ => ⟨S256x13312, .bf16⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_v16_2 : Ref sig .tc := ⟨.hbm, 25, rfl⟩
abbrev main_v16_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x13312 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x13312 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InProjSRefIdeal.lean ====
abbrev S2048x1024 : Shape := ⟨2, ![2048, 1024]⟩
abbrev S1x1024 : Shape := ⟨2, ![1, 1024]⟩
abbrev S1x1024x13312 : Shape := ⟨3, ![1, 1024, 13312]⟩
abbrev S2x1024 : Shape := ⟨2, ![2, 1024]⟩
abbrev S1x64 : Shape := ⟨2, ![1, 64]⟩
abbrev S1x256 : Shape := ⟨2, ![1, 256]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1024x13312 : Shape := ⟨2, ![1024, 13312]⟩
abbrev S2048x13312 : Shape := ⟨2, ![2048, 13312]⟩
abbrev S2048x8x2x64 : Shape := ⟨4, ![2048, 8, 2, 64]⟩
abbrev S64 : Shape := ⟨1, ![64]⟩
abbrev S2048x8x2 : Shape := ⟨3, ![2048, 8, 2]⟩
abbrev S2048x8x2x1 : Shape := ⟨4, ![2048, 8, 2, 1]⟩
abbrev S1x1x1x64 : Shape := ⟨4, ![1, 1, 1, 64]⟩

abbrev nBuf : Space → Nat
  | .hbm => 47
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024x13312, .f32⟩
  | .hbm, ⟨3, _⟩ => ⟨S2x1024, .f32⟩
  | .hbm, ⟨4, _⟩ => ⟨S1x64, .f32⟩
  | .hbm, ⟨5, _⟩ => ⟨S1x64, .f32⟩
  | .hbm, ⟨6, _⟩ => ⟨S1x256, .f32⟩
  | .hbm, ⟨7, _⟩ => ⟨S1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S1024x13312, .f32⟩
  | .hbm, ⟨25, _⟩ => ⟨S2048x13312, .f32⟩
  | .hbm, ⟨26, _⟩ => ⟨S2048x1024, .f32⟩
  | .hbm, ⟨27, _⟩ => ⟨S2048x8x2x64, .f32⟩
  | .hbm, ⟨28, _⟩ => ⟨S64, .f32⟩
  | .hbm, ⟨29, _⟩ => ⟨S2048x8x2x64, .f32⟩
  | .hbm, ⟨30, _⟩ => ⟨S_, .f32⟩
  | .hbm, ⟨31, _⟩ => ⟨S2048x8x2, .f32⟩
  | .hbm, ⟨32, _⟩ => ⟨S2048x8x2x1, .f32⟩
  | .hbm, ⟨33, _⟩ => ⟨S_, .f32⟩
  | .hbm, ⟨34, _⟩ => ⟨S2048x8x2x1, .f32⟩
  | .hbm, ⟨35, _⟩ => ⟨S2048x8x2x1, .f32⟩
  | .hbm, ⟨36, _⟩ => ⟨S_, .f32⟩
  | .hbm, ⟨37, _⟩ => ⟨S2048x8x2x1, .f32⟩
  | .hbm, ⟨38, _⟩ => ⟨S2048x8x2x1, .f32⟩
  | .hbm, ⟨39, _⟩ => ⟨S2048x8x2x1, .f32⟩
  | .hbm, ⟨40, _⟩ => ⟨S2048x8x2x64, .f32⟩
  | .hbm, ⟨41, _⟩ => ⟨S2048x8x2x64, .f32⟩
  | .hbm, ⟨42, _⟩ => ⟨S1x1x1x64, .f32⟩
  | .hbm, ⟨43, _⟩ => ⟨S2048x8x2x64, .f32⟩
  | .hbm, ⟨44, _⟩ => ⟨S2048x8x2x64, .f32⟩
  | .hbm, ⟨45, _⟩ => ⟨S2048x1024, .f32⟩
  | .hbm, ⟨46, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== MemKv.lean ====
abbrev S32x256x1024 : Shape := ⟨3, ![32, 256, 1024]⟩
abbrev S1x1024 : Shape := ⟨2, ![1, 1024]⟩
abbrev S1x1024x2048 : Shape := ⟨3, ![1, 1024, 2048]⟩
abbrev S1x256 : Shape := ⟨2, ![1, 256]⟩
abbrev S8192x1024 : Shape := ⟨2, ![8192, 1024]⟩
abbrev S1024 : Shape := ⟨1, ![1024]⟩
abbrev S1024x2048 : Shape := ⟨2, ![1024, 2048]⟩
abbrev S256 : Shape := ⟨1, ![256]⟩
abbrev S32x256x4x256 : Shape := ⟨4, ![32, 256, 4, 256]⟩
abbrev S256x1024 : Shape := ⟨2, ![256, 1024]⟩
abbrev S1x256x4x256 : Shape := ⟨4, ![1, 256, 4, 256]⟩
abbrev S256x1 : Shape := ⟨2, ![256, 1]⟩
abbrev S256x2048 : Shape := ⟨2, ![256, 2048]⟩
abbrev S256x256 : Shape := ⟨2, ![256, 256]⟩
abbrev S1x256x1x256 : Shape := ⟨4, ![1, 256, 1, 256]⟩

abbrev nBuf : Space → Nat
  | .hbm => 15
  | .vmem => 13
  | .smem => 0
  | _ => 0

abbrev bufTy : (tb : Table) → Fin (tcTables nBuf tb) → BufTy
  | .hbm, ⟨0, _⟩ => ⟨S32x256x1024, .f32⟩
  | .hbm, ⟨1, _⟩ => ⟨S1x1024, .f32⟩
  | .hbm, ⟨2, _⟩ => ⟨S1x1024x2048, .f32⟩
  | .hbm, ⟨3, _⟩ => ⟨S1x256, .f32⟩
  | .hbm, ⟨4, _⟩ => ⟨S8192x1024, .f32⟩
  | .hbm, ⟨5, _⟩ => ⟨S1024, .f32⟩
  | .hbm, ⟨6, _⟩ => ⟨S1024x2048, .f32⟩
  | .hbm, ⟨7, _⟩ => ⟨S256, .f32⟩
  | .hbm, ⟨8, _⟩ => ⟨S1x1024, .f32⟩
  | .hbm, ⟨9, _⟩ => ⟨S1024x2048, .bf16⟩
  | .hbm, ⟨10, _⟩ => ⟨S1x256, .f32⟩
  | .hbm, ⟨11, _⟩ => ⟨S32x256x4x256, .f32⟩
  | .hbm, ⟨12, _⟩ => ⟨S32x256x4x256, .f32⟩
  | .hbm, ⟨13, _⟩ => ⟨S8192x1024, .bf16⟩
  | .hbm, ⟨14, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2048, .bf16⟩
  | .local _ .vmem, ⟨4, _⟩ => ⟨S1x256, .f32⟩
  | .local _ .vmem, ⟨5, _⟩ => ⟨S1x256x4x256, .f32⟩
  | .local _ .vmem, ⟨6, _⟩ => ⟨S1x256x4x256, .f32⟩
  | .local _ .vmem, ⟨7, _⟩ => ⟨S1x256x4x256, .f32⟩
  | .local _ .vmem, ⟨8, _⟩ => ⟨S1x256x4x256, .f32⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MemKvRefIdeal.lean ====
abbrev S32x256x1024 : Shape := ⟨3, ![32, 256, 1024]⟩
abbrev S1x1024 : Shape := ⟨2, ![1, 1024]⟩
abbrev S1x1024x2048 : Shape := ⟨3, ![1, 1024, 2048]⟩
abbrev S1x256 : Shape := ⟨2, ![1, 256]⟩
abbrev S1024 : Shape := ⟨1, ![1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S1024x2048 : Shape := ⟨2, ![1024, 2048]⟩
abbrev S32x256x2048 : Shape := ⟨3, ![32, 256, 2048]⟩
abbrev S32x256x4x256 : Shape := ⟨4, ![32, 256, 4, 256]⟩
abbrev S256 : Shape := ⟨1, ![256]⟩
abbrev S32x256x4 : Shape := ⟨3, ![32, 256, 4]⟩
abbrev S32x256x4x1 : Shape := ⟨4, ![32, 256, 4, 1]⟩
abbrev S1x1x1x256 : Shape := ⟨4, ![1, 1, 1, 256]⟩
abbrev S8192x1024 : Shape := ⟨2, ![8192, 1024]⟩

abbrev nBuf : Space → Nat
  | .hbm => 48
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S1x1024, .f32⟩
  | .hbm, ⟨2, _⟩ => ⟨S1x1024x2048, .f32⟩
  | .hbm, ⟨3, _⟩ => ⟨S1x256, .f32⟩
  | .hbm, ⟨4, _⟩ => ⟨S1024, .f32⟩
  | .hbm, ⟨5, _⟩ => ⟨S32x256x1024, .f32⟩
  | .hbm, ⟨6, _⟩ => ⟨S_, .f32⟩
  | .hbm, ⟨7, _⟩ => ⟨S32x256, .f32⟩
  | .hbm, ⟨8, _⟩ => ⟨S32x256x1, .f32⟩
  | .hbm, ⟨9, _⟩ => ⟨S_, .f32⟩
  | .hbm, ⟨10, _⟩ => ⟨S32x256x1, .f32⟩
  | .hbm, ⟨11, _⟩ => ⟨S32x256x1, .f32⟩
  | .hbm, ⟨12, _⟩ => ⟨S_, .f32⟩
  | .hbm, ⟨13, _⟩ => ⟨S32x256x1, .f32⟩
  | .hbm, ⟨14, _⟩ => ⟨S32x256x1, .f32⟩
  | .hbm, ⟨15, _⟩ => ⟨S32x256x1, .f32⟩
  | .hbm, ⟨16, _⟩ => ⟨S32x256x1024, .f32⟩
  | .hbm, ⟨17, _⟩ => ⟨S32x256x1024, .f32⟩
  | .hbm, ⟨18, _⟩ => ⟨S1x1x1024, .f32⟩
  | .hbm, ⟨19, _⟩ => ⟨S32x256x1024, .f32⟩
  | .hbm, ⟨20, _⟩ => ⟨S32x256x1024, .f32⟩
  | .hbm, ⟨21, _⟩ => ⟨S1024x2048, .f32⟩
  | .hbm, ⟨22, _⟩ => ⟨S32x256x2048, .f32⟩
  | .hbm, ⟨23, _⟩ => ⟨S32x256x1024, .f32⟩
  | .hbm, ⟨24, _⟩ => ⟨S32x256x1024, .f32⟩
  | .hbm, ⟨25, _⟩ => ⟨S32x256x4x256, .f32⟩
  | .hbm, ⟨26, _⟩ => ⟨S256, .f32⟩
  | .hbm, ⟨27, _⟩ => ⟨S32x256x4x256, .f32⟩
  | .hbm, ⟨28, _⟩ => ⟨S_, .f32⟩
  | .hbm, ⟨29, _⟩ => ⟨S32x256x4, .f32⟩
  | .hbm, ⟨30, _⟩ => ⟨S32x256x4x1, .f32⟩
  | .hbm, ⟨31, _⟩ => ⟨S_, .f32⟩
  | .hbm, ⟨32, _⟩ => ⟨S32x256x4x1, .f32⟩
  | .hbm, ⟨33, _⟩ => ⟨S32x256x4x1, .f32⟩
  | .hbm, ⟨34, _⟩ => ⟨S_, .f32⟩
  | .hbm, ⟨35, _⟩ => ⟨S32x256x4x1, .f32⟩
  | .hbm, ⟨36, _⟩ => ⟨S32x256x4x1, .f32⟩
  | .hbm, ⟨37, _⟩ => ⟨S32x256x4x1, .f32⟩
  | .hbm, ⟨38, _⟩ => ⟨S32x256x4x256, .f32⟩
  | .hbm, ⟨39, _⟩ => ⟨S32x256x4x256, .f32⟩
  | .hbm, ⟨40, _⟩ => ⟨S1x1x1x256, .f32⟩
  | .hbm, ⟨41, _⟩ => ⟨S32x256x4x256, .f32⟩
  | .hbm, ⟨42, _⟩ => ⟨S32x256x4x256, .f32⟩
  | .hbm, ⟨43, _⟩ => ⟨S32x256x4x256, .f32⟩
  | .hbm, ⟨44, _⟩ => ⟨S8192x1024, .f32⟩
  | .hbm, ⟨45, _⟩ => ⟨S8192x1024, .bf16⟩
  | .hbm, ⟨46, _⟩ => ⟨S8192x1024, .f32⟩
  | .hbm, ⟨47, _⟩ => ⟨S8192x1024, .bf16⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== Merge.lean ====
abbrev S32x2048x1024 : Shape := ⟨3, ![32, 2048, 1024]⟩
abbrev S65536x1024 : Shape := ⟨2, ![65536, 1024]⟩
abbrev S65536x13312 : Shape := ⟨2, ![65536, 13312]⟩
abbrev S8192x1024 : Shape := ⟨2, ![8192, 1024]⟩
abbrev S1x3x1024x1024 : Shape := ⟨4, ![1, 3, 1024, 1024]⟩
abbrev S1x1024x1024 : Shape := ⟨3, ![1, 1024, 1024]⟩
abbrev S3x1024x1024 : Shape := ⟨3, ![3, 1024, 1024]⟩
abbrev S1024x1024 : Shape := ⟨2, ![1024, 1024]⟩
abbrev S512x1024 : Shape := ⟨2, ![512, 1024]⟩
abbrev S256x1024 : Shape := ⟨2, ![256, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 14
  | .vmem => 24
  | .smem => 0
  | _ => 0

abbrev bufTy : (tb : Table) → Fin (tcTables nBuf tb) → BufTy
  | .hbm, ⟨0, _⟩ => ⟨S32x2048x1024, .f32⟩
  | .hbm, ⟨1, _⟩ => ⟨S65536x1024, .bf16⟩
  | .hbm, ⟨2, _⟩ => ⟨S65536x1024, .bf16⟩
  | .hbm, ⟨3, _⟩ => ⟨S65536x13312, .bf16⟩
  | .hbm, ⟨4, _⟩ => ⟨S8192x1024, .bf16⟩
  | .hbm, ⟨5, _⟩ => ⟨S8192x1024, .bf16⟩
  | .hbm, ⟨6, _⟩ => ⟨S1x3x1024x1024, .f32⟩
  | .hbm, ⟨7, _⟩ => ⟨S1x1024x1024, .f32⟩
  | .hbm, ⟨8, _⟩ => ⟨S65536x1024, .f32⟩
  | .hbm, ⟨9, _⟩ => ⟨S3x1024x1024, .f32⟩
  | .hbm, ⟨10, _⟩ => ⟨S3x1024x1024, .bf16⟩
  | .hbm, ⟨11, _⟩ => ⟨S1024x1024, .f32⟩
  | .hbm, ⟨12, _⟩ => ⟨S1024x1024, .bf16⟩
  | .hbm, ⟨13, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S3x1024x1024, .bf16⟩
  | .local _ .vmem, ⟨21, _⟩ => ⟨S1024x1024, .bf16⟩
  | .local _ .vmem, ⟨22, _⟩ => ⟨S512x1024, .f32⟩
  | .local _ .vmem, ⟨23, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_5 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_6 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_7 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_8 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_9 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeRefIdeal.lean ====
abbrev S32x2048x1024 : Shape := ⟨3, ![32, 2048, 1024]⟩
abbrev S65536x1024 : Shape := ⟨2, ![65536, 1024]⟩
abbrev S65536x13312 : Shape := ⟨2, ![65536, 13312]⟩
abbrev S8192x1024 : Shape := ⟨2, ![8192, 1024]⟩
abbrev S1x3x1024x1024 : Shape := ⟨4, ![1, 3, 1024, 1024]⟩
abbrev S1x1024x1024 : Shape := ⟨3, ![1, 1024, 1024]⟩
abbrev S32x2048x4x256 : Shape := ⟨4, ![32, 2048, 4, 256]⟩
abbrev S65536x3072 : Shape := ⟨2, ![65536, 3072]⟩
abbrev S32x2048x3x1024 : Shape := ⟨4, ![32, 2048, 3, 1024]⟩
abbrev S32x256x4x256 : Shape := ⟨4, ![32, 256, 4, 256]⟩
abbrev S32x4x2048x256 : Shape := ⟨4, ![32, 4, 2048, 256]⟩
abbrev S_ : Shape := ⟨0, ![]⟩
abbrev S32x4x2048 : Shape := ⟨3, ![32, 4, 2048]⟩
abbrev S32x4x2048x1 : Shape := ⟨4, ![32, 4, 2048, 1]⟩
abbrev S32x4x256x2048 : Shape := ⟨4, ![32, 4, 256, 2048]⟩
abbrev S32x2048x1x1024 : Shape := ⟨4, ![32, 2048, 1, 1024]⟩
abbrev S1x1x1024x1024 : Shape := ⟨4, ![1, 1, 1024, 1024]⟩
abbrev S1024x1024 : Shape := ⟨2, ![1024, 1024]⟩

abbrev nBuf : Space → Nat
  | .hbm => 70
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S65536x1024, .bf16⟩
  | .hbm, ⟨2, _⟩ => ⟨S65536x1024, .bf16⟩
  | .hbm, ⟨3, _⟩ => ⟨S65536x13312, .bf16⟩
  | .hbm, ⟨4, _⟩ => ⟨S8192x1024, .bf16⟩
  | .hbm, ⟨5, _⟩ => ⟨S8192x1024, .bf16⟩
  | .hbm, ⟨6, _⟩ => ⟨S1x3x1024x1024, .f32⟩
  | .hbm, ⟨7, _⟩ => ⟨S1x1024x1024, .f32⟩
  | .hbm, ⟨8, _⟩ => ⟨S65536x13312, .f32⟩
  | .hbm, ⟨9, _⟩ => ⟨S65536x1024, .f32⟩
  | .hbm, ⟨10, _⟩ => ⟨S32x2048x4x256, .f32⟩
  | .hbm, ⟨11, _⟩ => ⟨S65536x1024, .f32⟩
  | .hbm, ⟨12, _⟩ => ⟨S32x2048x1024, .f32⟩
  | .hbm, ⟨13, _⟩ => ⟨S65536x3072, .f32⟩
  | .hbm, ⟨14, _⟩ => ⟨S32x2048x3x1024, .f32⟩
  | .hbm, ⟨15, _⟩ => ⟨S8192x1024, .f32⟩
  | .hbm, ⟨16, _⟩ => ⟨S32x256x4x256, .f32⟩
  | .hbm, ⟨17, _⟩ => ⟨S8192x1024, .f32⟩
  | .hbm, ⟨18, _⟩ => ⟨S32x256x4x256, .f32⟩
  | .hbm, ⟨19, _⟩ => ⟨S32x4x2048x256, .f32⟩
  | .hbm, ⟨20, _⟩ => ⟨S_, .f32⟩
  | .hbm, ⟨21, _⟩ => ⟨S_, .f32⟩
  | .hbm, ⟨22, _⟩ => ⟨S32x4x2048x256, .f32⟩
  | .hbm, ⟨23, _⟩ => ⟨S32x4x2048x256, .f32⟩
  | .hbm, ⟨24, _⟩ => ⟨S_, .f32⟩
  | .hbm, ⟨25, _⟩ => ⟨S32x4x2048, .f32⟩
  | .hbm, ⟨26, _⟩ => ⟨S_, .f32⟩
  | .hbm, ⟨27, _⟩ => ⟨S32x4x2048, .f32⟩
  | .hbm, ⟨28, _⟩ => ⟨S32x4x2048, .f32⟩
  | .hbm, ⟨29, _⟩ => ⟨S32x4x2048x1, .f32⟩
  | .hbm, ⟨30, _⟩ => ⟨S32x4x2048x256, .f32⟩
  | .hbm, ⟨31, _⟩ => ⟨S32x4x2048x256, .f32⟩
  | .hbm, ⟨32, _⟩ => ⟨S32x4x2048x256, .f32⟩
  | .hbm, ⟨33, _⟩ => ⟨S_, .f32⟩
  | .hbm, ⟨34, _⟩ => ⟨S32x4x2048, .f32⟩
  | .hbm, ⟨35, _⟩ => ⟨S32x4x2048x1, .f32⟩
  | .hbm, ⟨36, _⟩ => ⟨S32x4x2048x256, .f32⟩
  | .hbm, ⟨37, _⟩ => ⟨S32x4x2048x256, .f32⟩
  | .hbm, ⟨38, _⟩ => ⟨S32x4x256x2048, .f32⟩
  | .hbm, ⟨39, _⟩ => ⟨S32x2048x4x256, .f32⟩
  | .hbm, ⟨40, _⟩ => ⟨S32x2048x1024, .f32⟩
  | .hbm, ⟨41, _⟩ => ⟨S32x2048x1x1024, .f32⟩
  | .hbm, ⟨42, _⟩ => ⟨S32x2048x1024, .f32⟩
  | .hbm, ⟨43, _⟩ => ⟨S65536x1024, .f32⟩
  | .hbm, ⟨44, _⟩ => ⟨S32x2048x1024, .f32⟩
  | .hbm, ⟨45, _⟩ => ⟨S1x1x1024x1024, .f32⟩
  | .hbm, ⟨46, _⟩ => ⟨S1024x1024, .f32⟩
  | .hbm, ⟨47, _⟩ => ⟨S32x2048x1024, .f32⟩
  | .hbm, ⟨48, _⟩ => ⟨S32x2048x1024, .f32⟩
  | .hbm, ⟨49, _⟩ => ⟨S32x2048x1x1024, .f32⟩
  | .hbm, ⟨50, _⟩ => ⟨S32x2048x1024, .f32⟩
  | .hbm, ⟨51, _⟩ => ⟨S65536x1024, .f32⟩
  | .hbm, ⟨52, _⟩ => ⟨S32x2048x1024, .f32⟩
  | .hbm, ⟨53, _⟩ => ⟨S1x1x1024x1024, .f32⟩
  | .hbm, ⟨54, _⟩ => ⟨S1024x1024, .f32⟩
  | .hbm, ⟨55, _⟩ => ⟨S32x2048x1024, .f32⟩
  | .hbm, ⟨56, _⟩ => ⟨S32x2048x1024, .f32⟩
  | .hbm, ⟨57, _⟩ => ⟨S32x2048x1024, .f32⟩
  | .hbm, ⟨58, _⟩ => ⟨S32x2048x1x1024, .f32⟩
  | .hbm, ⟨59, _⟩ => ⟨S32x2048x1024, .f32⟩
  | .hbm, ⟨60, _⟩ => ⟨S32x2048x1024, .f32⟩
  | .hbm, ⟨61, _⟩ => ⟨S1x1x1024x1024, .f32⟩
  | .hbm, ⟨62, _⟩ => ⟨S1024x1024, .f32⟩
  | .hbm, ⟨63, _⟩ => ⟨S32x2048x1024, .f32⟩
  | .hbm, ⟨64, _⟩ => ⟨S32x2048x1024, .f32⟩
  | .hbm, ⟨65, _⟩ => ⟨S32x2048x1024, .f32⟩
  | .hbm, ⟨66, _⟩ => ⟨S1024x1024, .f32⟩
  | .hbm, ⟨67, _⟩ => ⟨S32x2048x1024, .f32⟩
  | .hbm, ⟨68, _⟩ => ⟨S32x2048x1024, .f32⟩
  | .hbm, ⟨69, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩

abbrev nD : Nat := 1
abbrev τ : Topo := Topo.v7x

variable {F : FTy → Type} [FloatOps F]
-- ==== MergeS.lean ====
abbrev S32x64x1024 : Shape := ⟨3, ![32, 64, 1024]⟩
abbrev S2048x1024 : Shape := ⟨2, ![2048, 1024]⟩
abbrev S2048x13312 : Shape := ⟨2, ![2048, 13312]⟩
abbrev S1x32x256x4x256 : Shape := ⟨5, ![1, 32, 256, 4, 256]⟩
abbrev S1x3x1024x1024 : Shape := ⟨4, ![1, 3, 1024, 1024]⟩
abbrev S1x1024x1024 : Shape := ⟨3, ![1, 1024, 1024]⟩
abbrev S32x256x4x256 : Shape := ⟨4, ![32, 256, 4, 256]⟩
abbrev S8192x1024 : Shape := ⟨2, ![8192, 1024]⟩
abbrev S3x1024x1024 : Shape := ⟨3, ![3, 1024, 1024]⟩
abbrev S1024x1024 : Shape := ⟨2, ![1024, 1024]⟩
abbrev S512x1024 : Shape := ⟨2, ![512, 1024]⟩
abbrev S64x256 : Shape := ⟨2, ![64, 256]⟩
abbrev S256x256 : Shape := ⟨2, ![256, 256]⟩
abbrev S64 : Shape := ⟨1, ![64]⟩
abbrev S64x1 : Shape := ⟨2, ![64, 1]⟩
abbrev S64x1024 : Shape := ⟨2, ![64, 1024]⟩

abbrev nBuf : Space → Nat
  | .hbm => 20
  | .vmem => 24
  | .smem => 0
  | _ => 0

abbrev bufTy : (tb : Table) → Fin (tcTables nBuf tb) → BufTy
  | .hbm, ⟨0, _⟩ => ⟨S32x64x1024, .f32⟩
  | .hbm, ⟨1, _⟩ => ⟨S2048x1024, .bf16⟩
  | .hbm, ⟨2, _⟩ => ⟨S2048x1024, .bf16⟩
  | .hbm, ⟨3, _⟩ => ⟨S2048x13312, .bf16⟩
  | .hbm, ⟨4, _⟩ => ⟨S1x32x256x4x256, .f32⟩
  | .hbm, ⟨5, _⟩ => ⟨S1x32x256x4x256, .f32⟩
  | .hbm, ⟨6, _⟩ => ⟨S1x3x1024x1024, .f32⟩
  | .hbm, ⟨7, _⟩ => ⟨S1x1024x1024, .f32⟩
  | .hbm, ⟨8, _⟩ => ⟨S32x256x4x256, .f32⟩
  | .hbm, ⟨9, _⟩ => ⟨S8192x1024, .f32⟩
  | .hbm, ⟨10, _⟩ => ⟨S8192x1024, .bf16⟩
  | .hbm, ⟨11, _⟩ => ⟨S32x256x4x256, .f32⟩
  | .hbm, ⟨12, _⟩ => ⟨S8192x1024, .f32⟩
  | .hbm, ⟨13, _⟩ => ⟨S8192x1024, .bf16⟩
  | .hbm, ⟨14, _⟩ => ⟨S2048x1024, .f32⟩
  | .hbm, ⟨15, _⟩ => ⟨S3x1024x1024, .f32⟩
  | .hbm, ⟨16, _⟩ => ⟨S3x1024x1024, .bf16⟩
  | .hbm, ⟨17, _⟩ => ⟨S1024x1024, .f32⟩
  | .hbm, ⟨18, _⟩ => ⟨S1024x1024, .bf16⟩
  | .hbm, ⟨19, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S2048x1024, .bf16⟩
  | .local _ .vmem, ⟨17, _⟩ => ⟨S2048x1024, .bf16⟩
  | .local _ .vmem, ⟨18, _⟩ => ⟨S2048x1024, .bf16⟩
  | .local _ .vmem, ⟨19, _⟩ => ⟨S2048x1024, .bf16⟩
  | .local _ .vmem, ⟨20, _⟩ => ⟨S3x1024x1024, .bf16⟩
  | .local _ .vmem, ⟨21, _⟩ => ⟨S1024x1024, .bf16⟩
  | .local _ .vmem, ⟨22, _⟩ => ⟨S512x1024, .f32⟩
  | .local _ .vmem, ⟨23, _⟩ => ⟨S512x1024, .f32⟩
  | _, _ => ⟨S32x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_5 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_6 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_7 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_8 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_9 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeSRefIdeal.lean ====
abbrev S32x64x1024 : Shape := ⟨3, ![32, 64, 1024]⟩
abbrev S2048x1024 : Shape := ⟨2, ![2048, 1024]⟩
abbrev S2048x13312 : Shape := ⟨2, ![2048, 13312]⟩
abbrev S1x32x256x4x256 : Shape := ⟨5, ![1, 32, 256, 4, 256]⟩
abbrev S1x3x1024x1024 : Shape := ⟨4, ![1, 3, 1024, 1024]⟩
abbrev S1x1024x1024 : Shape := ⟨3, ![1, 1024, 1024]⟩
abbrev S32x64x4x256 : Shape := ⟨4, ![32, 64, 4, 256]⟩
abbrev S2048x3072 : Shape := ⟨2, ![2048, 3072]⟩
abbrev S32x64x3x1024 : Shape := ⟨4, ![32, 64, 3, 1024]⟩
abbrev S32x256x4x256 : Shape := ⟨4, ![32, 256, 4, 256]⟩
abbrev S32x4x64x256 : Shape := ⟨4, ![32, 4, 64, 256]⟩
abbrev S_ : Shape := ⟨0, ![]⟩
abbrev S32x4x64 : Shape := ⟨3, ![32, 4, 64]⟩
abbrev S32x4x64x1 : Shape := ⟨4, ![32, 4, 64, 1]⟩
abbrev S32x4x256x64 : Shape := ⟨4, ![32, 4, 256, 64]⟩
abbrev S32x64x1x1024 : Shape := ⟨4, ![32, 64, 1, 1024]⟩
abbrev S1x1x1024x1024 : Shape := ⟨4, ![1, 1, 1024, 1024]⟩
abbrev S1024x1024 : Shape := ⟨2, ![1024, 1024]⟩

abbrev nBuf : Space → Nat
  | .hbm => 68
  | .vmem => 0
  | .smem => 0
  | _ => 0

abbrev bufTy : (tb : Table) → Fin (tcTables nBuf tb) → BufTy
  | .hbm, ⟨0, _⟩ => ⟨S32x64x1024, .f32⟩
  | .hbm, ⟨1, _⟩ => ⟨S2048x1024, .bf16⟩
  | .hbm, ⟨2, _⟩ => ⟨S2048x1024, .bf16⟩
  | .hbm, ⟨3, _⟩ => ⟨S2048x13312, .bf16⟩
  | .hbm, ⟨4, _⟩ => ⟨S1x32x256x4x256, .f32⟩
  | .hbm, ⟨5, _⟩ => ⟨S1x32x256x4x256, .f32⟩
  | .hbm, ⟨6, _⟩ => ⟨S1x3x1024x1024, .f32⟩
  | .hbm, ⟨7, _⟩ => ⟨S1x1024x1024, .f32⟩
  | .hbm, ⟨8, _⟩ => ⟨S2048x13312, .f32⟩
  | .hbm, ⟨9, _⟩ => ⟨S2048x1024, .f32⟩
  | .hbm, ⟨10, _⟩ => ⟨S32x64x4x256, .f32⟩
  | .hbm, ⟨11, _⟩ => ⟨S2048x1024, .f32⟩
  | .hbm, ⟨12, _⟩ => ⟨S32x64x1024, .f32⟩
  | .hbm, ⟨13, _⟩ => ⟨S2048x3072, .f32⟩
  | .hbm, ⟨14, _⟩ => ⟨S32x64x3x1024, .f32⟩
  | .hbm, ⟨15, _⟩ => ⟨S32x256x4x256, .f32⟩
  | .hbm, ⟨16, _⟩ => ⟨S32x4x64x256, .f32⟩
  | .hbm, ⟨17, _⟩ => ⟨S_, .f32⟩
  | .hbm, ⟨18, _⟩ => ⟨S_, .f32⟩
  | .hbm, ⟨19, _⟩ => ⟨S32x4x64x256, .f32⟩
  | .hbm, ⟨20, _⟩ => ⟨S32x4x64x256, .f32⟩
  | .hbm, ⟨21, _⟩ => ⟨S_, .f32⟩
  | .hbm, ⟨22, _⟩ => ⟨S32x4x64, .f32⟩
  | .hbm, ⟨23, _⟩ => ⟨S_, .f32⟩
  | .hbm, ⟨24, _⟩ => ⟨S32x4x64, .f32⟩
  | .hbm, ⟨25, _⟩ => ⟨S32x4x64, .f32⟩
  | .hbm, ⟨26, _⟩ => ⟨S32x4x64x1, .f32⟩
  | .hbm, ⟨27, _⟩ => ⟨S32x4x64x256, .f32⟩
  | .hbm, ⟨28, _⟩ => ⟨S32x4x64x256, .f32⟩
  | .hbm, ⟨29, _⟩ => ⟨S32x4x64x256, .f32⟩
  | .hbm, ⟨30, _⟩ => ⟨S_, .f32⟩
  | .hbm, ⟨31, _⟩ => ⟨S32x4x64, .f32⟩
  | .hbm, ⟨32, _⟩ => ⟨S32x4x64x1, .f32⟩
  | .hbm, ⟨33, _⟩ => ⟨S32x4x64x256, .f32⟩
  | .hbm, ⟨34, _⟩ => ⟨S32x4x64x256, .f32⟩
  | .hbm, ⟨35, _⟩ => ⟨S32x256x4x256, .f32⟩
  | .hbm, ⟨36, _⟩ => ⟨S32x4x256x64, .f32⟩
  | .hbm, ⟨37, _⟩ => ⟨S32x64x4x256, .f32⟩
  | .hbm, ⟨38, _⟩ => ⟨S32x64x1024, .f32⟩
  | .hbm, ⟨39, _⟩ => ⟨S32x64x1x1024, .f32⟩
  | .hbm, ⟨40, _⟩ => ⟨S32x64x1024, .f32⟩
  | .hbm, ⟨41, _⟩ => ⟨S2048x1024, .f32⟩
  | .hbm, ⟨42, _⟩ => ⟨S32x64x1024, .f32⟩
  | .hbm, ⟨43, _⟩ => ⟨S1x1x1024x1024, .f32⟩
  | .hbm, ⟨44, _⟩ => ⟨S1024x1024, .f32⟩
  | .hbm, ⟨45, _⟩ => ⟨S32x64x1024, .f32⟩
  | .hbm, ⟨46, _⟩ => ⟨S32x64x1024, .f32⟩
  | .hbm, ⟨47, _⟩ => ⟨S32x64x1x1024, .f32⟩
  | .hbm, ⟨48, _⟩ => ⟨S32x64x1024, .f32⟩
  | .hbm, ⟨49, _⟩ => ⟨S2048x1024, .f32⟩
  | .hbm, ⟨50, _⟩ => ⟨S32x64x1024, .f32⟩
  | .hbm, ⟨51, _⟩ => ⟨S1x1x1024x1024, .f32⟩
  | .hbm, ⟨52, _⟩ => ⟨S1024x1024, .f32⟩
  | .hbm, ⟨53, _⟩ => ⟨S32x64x1024, .f32⟩
  | .hbm, ⟨54, _⟩ => ⟨S32x64x1024, .f32⟩
  | .hbm, ⟨55, _⟩ => ⟨S32x64x1024, .f32⟩
  | .hbm, ⟨56, _⟩ => ⟨S32x64x1x1024, .f32⟩
  | .hbm, ⟨57, _⟩ => ⟨S32x64x1024, .f32⟩
  | .hbm, ⟨58, _⟩ => ⟨S32x64x1024, .f32⟩
  | .hbm, ⟨59, _⟩ => ⟨S1x1x1024x1024, .f32⟩
  | .hbm, ⟨60, _⟩ => ⟨S1024x1024, .f32⟩
  | .hbm, ⟨61, _⟩ => ⟨S32x64x1024, .f32⟩
  | .hbm, ⟨62, _⟩ => ⟨S32x64x1024, .f32⟩
  | .hbm, ⟨63, _⟩ => ⟨S32x64x1024, .f32⟩
  | .hbm, ⟨64, _⟩ => ⟨S1024x1024, .f32⟩
  | .hbm, ⟨65, _⟩ => ⟨S32x64x1024, .f32⟩
  | .hbm, ⟨66, _⟩ => ⟨S32x64x1024, .f32⟩
  | .hbm, ⟨67, _⟩ => ⟨S2048x1024, .f32⟩
  | _, _ => ⟨S32x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩

abbrev nD : Nat := 1
abbrev τ : Topo := Topo.v7x

variable {F : FTy → Type} [FloatOps F]
-- ==== HgrnO.lean ====
abbrev S2048x13312 : Shape := ⟨2, ![2048, 13312]⟩
abbrev S2048x1024 : Shape := ⟨2, ![2048, 1024]⟩
abbrev S1x32x8x128x128 : Shape := ⟨5, ![1, 32, 8, 128, 128]⟩
abbrev S1x128 : Shape := ⟨2, ![1, 128]⟩
abbrev S32x8x128x128 : Shape := ⟨4, ![32, 8, 128, 128]⟩
abbrev S128 : Shape := ⟨1, ![128]⟩
abbrev S64x1024 : Shape := ⟨2, ![64, 1024]⟩
abbrev S1x8x128x128 : Shape := ⟨4, ![1, 8, 128, 128]⟩
abbrev S8x128x128 : Shape := ⟨3, ![8, 128, 128]⟩
abbrev S64x64 : Shape := ⟨2, ![64, 64]⟩
abbrev S64x128 : Shape := ⟨2, ![64, 128]⟩
abbrev S1x1x128x128 : Shape := ⟨4, ![1, 1, 128, 128]⟩
abbrev S128x128 : Shape := ⟨2, ![128, 128]⟩
abbrev S1x128x128 : Shape := ⟨3, ![1, 128, 128]⟩
abbrev S128x1024 : Shape := ⟨2, ![128, 1024]⟩
abbrev S128x64 : Shape := ⟨2, ![128, 64]⟩
abbrev S128x192 : Shape := ⟨2, ![128, 192]⟩
abbrev S16x128 : Shape := ⟨2, ![16, 128]⟩
abbrev S16x64 : Shape := ⟨2, ![16, 64]⟩
abbrev S64x192 : Shape := ⟨2, ![64, 192]⟩
abbrev S64 : Shape := ⟨1, ![64]⟩
abbrev S64x1 : Shape := ⟨2, ![64, 1]⟩

abbrev nBuf : Space → Nat
  | .hbm => 9
  | .vmem => 18
  | .smem => 0
  | _ => 0

abbrev bufTy : (tb : Table) → Fin (tcTables nBuf tb) → BufTy
  | .hbm, ⟨0, _⟩ => ⟨S2048x13312, .bf16⟩
  | .hbm, ⟨1, _⟩ => ⟨S2048x1024, .f32⟩
  | .hbm, ⟨2, _⟩ => ⟨S1x32x8x128x128, .f32⟩
  | .hbm, ⟨3, _⟩ => ⟨S1x128, .f32⟩
  | .hbm, ⟨4, _⟩ => ⟨S32x8x128x128, .f32⟩
  | .hbm, ⟨5, _⟩ => ⟨S128, .f32⟩
  | .hbm, ⟨6, _⟩ => ⟨S1x128, .f32⟩
  | .hbm, ⟨7, _⟩ => ⟨S2048x1024, .bf16⟩
  | .hbm, ⟨8, _⟩ => ⟨S32x8x128x128, .f32⟩
  | .local _ .vmem, ⟨0, _⟩ => ⟨S64x1024, .bf16⟩
  | .local _ .vmem, ⟨1, _⟩ => ⟨S64x1024, .bf16⟩
  | .local _ .vmem, ⟨2, _⟩ => ⟨S64x1024, .bf16⟩
  | .local _ .vmem, ⟨3, _⟩ => ⟨S64x1024, .bf16⟩
  | .local _ .vmem, ⟨4, _⟩ => ⟨S64x1024, .bf16⟩
  | .local _ .vmem, ⟨5, _⟩ => ⟨S64x1024, .bf16⟩
  | .local _ .vmem, ⟨6, _⟩ => ⟨S64x1024, .bf16⟩
  | .local _ .vmem, ⟨7, _⟩ => ⟨S64x1024, .bf16⟩
  | .local _ .vmem, ⟨8, _⟩ => ⟨S64x1024, .f32⟩
  | .local _ .vmem, ⟨9, _⟩ => ⟨S64x1024, .f32⟩
  | .local _ .vmem, ⟨10, _⟩ => ⟨S1x8x128x128, .f32⟩
  | .local _ .vmem, ⟨11, _⟩ => ⟨S1x8x128x128, .f32⟩
  | .local _ .vmem, ⟨12, _⟩ => ⟨S1x128, .f32⟩
  | .local _ .vmem, ⟨13, _⟩ => ⟨S64x1024, .bf16⟩
  | .local _ .vmem, ⟨14, _⟩ => ⟨S64x1024, .bf16⟩
  | .local _ .vmem, ⟨15, _⟩ => ⟨S1x8x128x128, .f32⟩
  | .local _ .vmem, ⟨16, _⟩ => ⟨S1x8x128x128, .f32⟩
  | .local _ .vmem, ⟨17, _⟩ => ⟨S8x128x128, .f32⟩
  | _, _ => ⟨S2048x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![32, 1], ![false, false]⟩

def k0_mult1 : BitVec 32 :=
  let c0_i32_2 : BitVec 32 := 0#32
  let c1_i32 : BitVec 32 := 1#32
  let v12 : BitVec 32 := Scalar.muli c0_i32_2 c1_i32
  let c0_i32_3 : BitVec 32 := 0#32
  let v13 : BitVec 32 := Scalar.addi v12 c0_i32_3
  let c64_i32 : BitVec 32 := 64#32
  let v14 : BitVec 32 := Scalar.muli v13 c64_i32
  v14
def k0_off1 : Fin 2 → Nat :=
  let c0_i32_2 : BitVec 32 := 0#32
  let c1_i32 : BitVec 32 := 1#32
  let v12 : BitVec 32 := Scalar.muli c0_i32_2 c1_i32
  let c0_i32_3 : BitVec 32 := 0#32
  let v13 : BitVec 32 := Scalar.addi v12 c0_i32_3
  let c64_i32 : BitVec 32 := 64#32
  let v14 : BitVec 32 := Scalar.muli v13 c64_i32
  let v15 : BitVec 32 := v14
  let v16 : Index := Scalar.indexCast v15
  let c0 : Index := 0#32
  ![v16.toNat, 0]
def k0_off2 : Fin 2 → Nat :=
  let c0_i32_2 : BitVec 32 := 0#32
  let c1_i32 : BitVec 32 := 1#32
  let v12 : BitVec 32 := Scalar.muli c0_i32_2 c1_i32
  let c0_i32_3 : BitVec 32 := 0#32
  let v13 : BitVec 32 := Scalar.addi v12 c0_i32_3
  let c64_i32 : BitVec 32 := 64#32
  let v14 : BitVec 32 := Scalar.muli v13 c64_i32
  let v15 : BitVec 32 := v14
  let v32 : Index := Scalar.indexCast v15
  let c0_5 : Index := 0#32
  ![v32.toNat, 0]
def k0_off3 : Fin 2 → Nat :=
  let c0_i32_2 : BitVec 32 := 0#32
  let c1_i32 : BitVec 32 := 1#32
  let v12 : BitVec 32 := Scalar.muli c0_i32_2 c1_i32
  let c0_i32_3 : BitVec 32 := 0#32
  let v13 : BitVec 32 := Scalar.addi v12 c0_i32_3
  let c64_i32 : BitVec 32 := 64#32
  let v14 : BitVec 32 := Scalar.muli v13 c64_i32
  let v15 : BitVec 32 := v14
  let v35 : Index := Scalar.indexCast v15
  let c128 : Index := 128#32
  ![v35.toNat, 128]
def k0_off4 : Fin 2 → Nat :=
  let c0_i32_2 : BitVec 32 := 0#32
  let c1_i32 : BitVec 32 := 1#32
  let v12 : BitVec 32 := Scalar.muli c0_i32_2 c1_i32
  let c0_i32_3 : BitVec 32 := 0#32
  let v13 : BitVec 32 := Scalar.addi v12 c0_i32_3
  let c64_i32 : BitVec 32 := 64#32
  let v14 : BitVec 32 := Scalar.muli v13 c64_i32
  let v15 : BitVec 32 := v14
  let v38 : Index := Scalar.indexCast v15
  let c256 : Index := 256#32
  ![v38.toNat, 256]
def k0_off5 : Fin 2 → Nat :=
  let c0_i32_2 : BitVec 32 := 0#32
  let c1_i32 : BitVec 32 := 1#32
  let v12 : BitVec 32 := Scalar.muli c0_i32_2 c1_i32
  let c0_i32_3 : BitVec 32 := 0#32
  let v13 : BitVec 32 := Scalar.addi v12 c0_i32_3
  let c64_i32 : BitVec 32 := 64#32
  let v14 : BitVec 32 := Scalar.muli v13 c64_i32
  let v15 : BitVec 32 := v14
  let v41 : Index := Scalar.indexCast v15
  let c384 : Index := 384#32
  ![v41.toNat, 384]
def k0_off6 : Fin 2 → Nat :=
  let c0_i32_2 : BitVec 32 := 0#32
  let c1_i32 : BitVec 32 := 1#32
  let v12 : BitVec 32 := Scalar.muli c0_i32_2 c1_i32
  let c0_i32_3 : BitVec 32 := 0#32
  let v13 : BitVec 32 := Scalar.addi v12 c0_i32_3
  let c64_i32 : BitVec 32 := 64#32
  let v14 : BitVec 32 := Scalar.muli v13 c64_i32
  let v15 : BitVec 32 := v14
  let v44 : Index := Scalar.indexCast v15
  let c512 : Index := 512#32
  ![v44.toNat, 512]
def k0_off7 : Fin 2 → Nat :=
  let c0_i32_2 : BitVec 32 := 0#32
  let c1_i32 : BitVec 32 := 1#32
  let v12 : BitVec 32 := Scalar.muli c0_i32_2 c1_i32
  let c0_i32_3 : BitVec 32 := 0#32
  let v13 : BitVec 32 := Scalar.addi v12 c0_i32_3
  let c64_i32 : BitVec 32 := 64#32
  let v14 : BitVec 32 := Scalar.muli v13 c64_i32
  let v15 : BitVec 32 := v14
  let v47 : Index := Scalar.indexCast v15
  let c640 : Index := 640#32
  ![v47.toNat, 640]
def k0_off8 : Fin 2 → Nat :=
  let c0_i32_2 : BitVec 32 := 0#32
  let c1_i32 : BitVec 32 := 1#32
  let v12 : BitVec 32 := Scalar.muli c0_i32_2 c1_i32
  let c0_i32_3 : BitVec 32 := 0#32
  let v13 : BitVec 32 := Scalar.addi v12 c0_i32_3
  let c64_i32 : BitVec 32 := 64#32
  let v14 : BitVec 32 := Scalar.muli v13 c64_i32
  let v15 : BitVec 32 := v14
  let v50 : Index := Scalar.indexCast v15
  let c768 : Index := 768#32
  ![v50.toNat, 768]
def k0_off9 : Fin 2 → Nat :=
  let c0_i32_2 : BitVec 32 := 0#32
  let c1_i32 : BitVec 32 := 1#32
  let v12 : BitVec 32 := Scalar.muli c0_i32_2 c1_i32
  let c0_i32_3 : BitVec 32 := 0#32
  let v13 : BitVec 32 := Scalar.addi v12 c0_i32_3
  let c64_i32 : BitVec 32 := 64#32
  let v14 : BitVec 32 := Scalar.muli v13 c64_i32
  let v15 : BitVec 32 := v14
  let v53 : Index := Scalar.indexCast v15
  let c896 : Index := 896#32
  ![v53.toNat, 896]
def k0_cond2 (i : grid0.Coords) : BitVec 1 :=
  let arg1 : BitVec 32 := BitVec.ofNat 32 (i 1).val
  let c0_i32_245 : BitVec 32 := 0#32
  let v1080 : BitVec 1 := Scalar.cmpi .eq arg1 c0_i32_245
  let v1081 : BitVec 32 := Scalar.extui v1080
  let c0_i32_246 : BitVec 32 := 0#32
  let v1082 : BitVec 1 := Scalar.cmpi .ne v1081 c0_i32_246
  v1082

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  ![v1.toNat, c1_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c3_i32 : BitVec 32 := 3#32
  let c0_i32 : BitVec 32 := 0#32
  ![v1.toNat, c3_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== HgrnORefIdeal.lean ====
abbrev S2048x13312 : Shape := ⟨2, ![2048, 13312]⟩
abbrev S2048x1024 : Shape := ⟨2, ![2048, 1024]⟩
abbrev S1x32x8x128x128 : Shape := ⟨5, ![1, 32, 8, 128, 128]⟩
abbrev S1x128 : Shape := ⟨2, ![1, 128]⟩
abbrev S32x4x16x8x128 : Shape := ⟨5, ![32, 4, 16, 8, 128]⟩
abbrev S4x32x8x16x128 : Shape := ⟨5, ![4, 32, 8, 16, 128]⟩
abbrev S16 : Shape := ⟨1, ![16]⟩
abbrev S1x16 : Shape := ⟨2, ![1, 16]⟩
abbrev S16x1 : Shape := ⟨2, ![16, 1]⟩
abbrev S16x16 : Shape := ⟨2, ![16, 16]⟩
abbrev S32x8x128x128 : Shape := ⟨4, ![32, 8, 128, 128]⟩
abbrev S16x16x1 : Shape := ⟨3, ![16, 16, 1]⟩
abbrev S1x32x8x16x128 : Shape := ⟨5, ![1, 32, 8, 16, 128]⟩
abbrev S32x8x16x128 : Shape := ⟨4, ![32, 8, 16, 128]⟩
abbrev S32x8x1x16x128 : Shape := ⟨5, ![32, 8, 1, 16, 128]⟩
abbrev S_ : Shape := ⟨0, ![]⟩
abbrev S32x8x16x16x128 : Shape := ⟨5, ![32, 8, 16, 16, 128]⟩
abbrev S32x8x1x128 : Shape := ⟨4, ![32, 8, 1, 128]⟩
abbrev S32x8x16x16 : Shape := ⟨4, ![32, 8, 16, 16]⟩
abbrev S32x8x128 : Shape := ⟨3, ![32, 8, 128]⟩
abbrev S32x8x128x1 : Shape := ⟨4, ![32, 8, 128, 1]⟩
abbrev S128 : Shape := ⟨1, ![128]⟩
abbrev S32x4x16x8 : Shape := ⟨4, ![32, 4, 16, 8]⟩
abbrev S32x4x16x8x1 : Shape := ⟨5, ![32, 4, 16, 8, 1]⟩
abbrev S1x1x1x1x128 : Shape := ⟨5, ![1, 1, 1, 1, 128]⟩

abbrev nBuf : Space → Nat
  | .hbm => 243
  | .vmem => 0
  | .smem => 0
  | _ => 0

abbrev hbmTy0_0 (i : Nat) : BufTy := match i % 128 with
  | 0 => ⟨S2048x13312, .bf16⟩
  | 1 => ⟨S2048x1024, .f32⟩
  | 2 => ⟨S1x32x8x128x128, .f32⟩
  | 3 => ⟨S1x128, .f32⟩
  | 4 => ⟨S2048x13312, .f32⟩
  | 5 => ⟨S2048x1024, .f32⟩
  | 6 => ⟨S32x4x16x8x128, .f32⟩
  | 7 => ⟨S4x32x8x16x128, .f32⟩
  | 8 => ⟨S2048x1024, .f32⟩
  | 9 => ⟨S32x4x16x8x128, .f32⟩
  | 10 => ⟨S4x32x8x16x128, .f32⟩
  | 11 => ⟨S2048x1024, .f32⟩
  | 12 => ⟨S32x4x16x8x128, .f32⟩
  | 13 => ⟨S4x32x8x16x128, .f32⟩
  | 14 => ⟨S32x4x16x8x128, .f32⟩
  | 15 => ⟨S4x32x8x16x128, .f32⟩
  | 16 => ⟨S16, .i32⟩
  | 17 => ⟨S1x16, .i32⟩
  | 18 => ⟨S16, .i32⟩
  | 19 => ⟨S16x1, .i32⟩
  | 20 => ⟨S16x16, .i32⟩
  | 21 => ⟨S16x16, .i32⟩
  | 22 => ⟨S16x16, .i1⟩
  | 23 => ⟨S32x8x128x128, .f32⟩
  | 24 => ⟨S16x16x1, .i1⟩
  | 25 => ⟨S1x32x8x16x128, .f32⟩
  | 26 => ⟨S32x8x16x128, .f32⟩
  | 27 => ⟨S32x8x1x16x128, .f32⟩
  | 28 => ⟨S_, .f32⟩
  | 29 => ⟨S_, .f32⟩
  | 30 => ⟨S32x8x16x16x128, .i1⟩
  | 31 => ⟨S32x8x16x16x128, .f32⟩
  | 32 => ⟨S32x8x16x16x128, .f32⟩
  | 33 => ⟨S32x8x16x16x128, .f32⟩
  | 34 => ⟨S_, .f32⟩
  | 35 => ⟨S32x8x16x128, .f32⟩
  | 36 => ⟨S32x8x1x128, .f32⟩
  | 37 => ⟨S1x32x8x16x128, .f32⟩
  | 38 => ⟨S32x8x16x128, .f32⟩
  | 39 => ⟨S32x8x16x128, .f32⟩
  | 40 => ⟨S32x8x16x128, .f32⟩
  | 41 => ⟨S1x32x8x16x128, .f32⟩
  | 42 => ⟨S32x8x16x128, .f32⟩
  | 43 => ⟨S32x8x16x128, .f32⟩
  | 44 => ⟨S32x8x16x128, .f32⟩
  | 45 => ⟨S32x8x16x128, .f32⟩
  | 46 => ⟨S32x8x16x16, .f32⟩
  | 47 => ⟨S_, .f32⟩
  | 48 => ⟨S_, .f32⟩
  | 49 => ⟨S32x8x16x16, .i1⟩
  | 50 => ⟨S32x8x16x16, .f32⟩
  | 51 => ⟨S32x8x16x16, .f32⟩
  | 52 => ⟨S1x32x8x16x128, .f32⟩
  | 53 => ⟨S32x8x16x128, .f32⟩
  | 54 => ⟨S32x8x16x128, .f32⟩
  | 55 => ⟨S32x8x16x128, .f32⟩
  | 56 => ⟨S32x8x16x128, .f32⟩
  | 57 => ⟨S32x8x128, .f32⟩
  | 58 => ⟨S32x8x128, .f32⟩
  | 59 => ⟨S32x8x128x1, .f32⟩
  | 60 => ⟨S32x8x128x128, .f32⟩
  | 61 => ⟨S32x8x128x128, .f32⟩
  | 62 => ⟨S1x32x8x16x128, .f32⟩
  | 63 => ⟨S32x8x16x128, .f32⟩
  | 64 => ⟨S32x8x16x128, .f32⟩
  | 65 => ⟨S32x8x16x128, .f32⟩
  | 66 => ⟨S32x8x16x128, .f32⟩
  | 67 => ⟨S32x8x16x128, .f32⟩
  | 68 => ⟨S1x32x8x16x128, .f32⟩
  | 69 => ⟨S32x8x16x128, .f32⟩
  | 70 => ⟨S32x8x128x128, .f32⟩
  | 71 => ⟨S32x8x128x128, .f32⟩
  | 72 => ⟨S16x16x1, .i1⟩
  | 73 => ⟨S1x32x8x16x128, .f32⟩
  | 74 => ⟨S32x8x16x128, .f32⟩
  | 75 => ⟨S32x8x1x16x128, .f32⟩
  | 76 => ⟨S_, .f32⟩
  | 77 => ⟨S_, .f32⟩
  | 78 => ⟨S32x8x16x16x128, .i1⟩
  | 79 => ⟨S32x8x16x16x128, .f32⟩
  | 80 => ⟨S32x8x16x16x128, .f32⟩
  | 81 => ⟨S32x8x16x16x128, .f32⟩
  | 82 => ⟨S_, .f32⟩
  | 83 => ⟨S32x8x16x128, .f32⟩
  | 84 => ⟨S32x8x1x128, .f32⟩
  | 85 => ⟨S1x32x8x16x128, .f32⟩
  | 86 => ⟨S32x8x16x128, .f32⟩
  | 87 => ⟨S32x8x16x128, .f32⟩
  | 88 => ⟨S32x8x16x128, .f32⟩
  | 89 => ⟨S1x32x8x16x128, .f32⟩
  | 90 => ⟨S32x8x16x128, .f32⟩
  | 91 => ⟨S32x8x16x128, .f32⟩
  | 92 => ⟨S32x8x16x128, .f32⟩
  | 93 => ⟨S32x8x16x128, .f32⟩
  | 94 => ⟨S32x8x16x16, .f32⟩
  | 95 => ⟨S_, .f32⟩
  | 96 => ⟨S_, .f32⟩
  | 97 => ⟨S32x8x16x16, .i1⟩
  | 98 => ⟨S32x8x16x16, .f32⟩
  | 99 => ⟨S32x8x16x16, .f32⟩
  | 100 => ⟨S1x32x8x16x128, .f32⟩
  | 101 => ⟨S32x8x16x128, .f32⟩
  | 102 => ⟨S32x8x16x128, .f32⟩
  | 103 => ⟨S32x8x16x128, .f32⟩
  | 104 => ⟨S32x8x16x128, .f32⟩
  | 105 => ⟨S32x8x128, .f32⟩
  | 106 => ⟨S32x8x128, .f32⟩
  | 107 => ⟨S32x8x128x1, .f32⟩
  | 108 => ⟨S32x8x128x128, .f32⟩
  | 109 => ⟨S32x8x128x128, .f32⟩
  | 110 => ⟨S1x32x8x16x128, .f32⟩
  | 111 => ⟨S32x8x16x128, .f32⟩
  | 112 => ⟨S32x8x16x128, .f32⟩
  | 113 => ⟨S32x8x16x128, .f32⟩
  | 114 => ⟨S32x8x16x128, .f32⟩
  | 115 => ⟨S32x8x16x128, .f32⟩
  | 116 => ⟨S1x32x8x16x128, .f32⟩
  | 117 => ⟨S32x8x16x128, .f32⟩
  | 118 => ⟨S32x8x128x128, .f32⟩
  | 119 => ⟨S32x8x128x128, .f32⟩
  | 120 => ⟨S16x16x1, .i1⟩
  | 121 => ⟨S1x32x8x16x128, .f32⟩
  | 122 => ⟨S32x8x16x128, .f32⟩
  | 123 => ⟨S32x8x1x16x128, .f32⟩
  | 124 => ⟨S_, .f32⟩
  | 125 => ⟨S_, .f32⟩
  | 126 => ⟨S32x8x16x16x128, .i1⟩
  | 127 => ⟨S32x8x16x16x128, .f32⟩
  | _ => ⟨S2048x13312, .bf16⟩

abbrev hbmTy0_1 (i : Nat) : BufTy := match i % 128 with
  | 0 => ⟨S32x8x16x16x128, .f32⟩
  | 1 => ⟨S32x8x16x16x128, .f32⟩
  | 2 => ⟨S_, .f32⟩
  | 3 => ⟨S32x8x16x128, .f32⟩
  | 4 => ⟨S32x8x1x128, .f32⟩
  | 5 => ⟨S1x32x8x16x128, .f32⟩
  | 6 => ⟨S32x8x16x128, .f32⟩
  | 7 => ⟨S32x8x16x128, .f32⟩
  | 8 => ⟨S32x8x16x128, .f32⟩
  | 9 => ⟨S1x32x8x16x128, .f32⟩
  | 10 => ⟨S32x8x16x128, .f32⟩
  | 11 => ⟨S32x8x16x128, .f32⟩
  | 12 => ⟨S32x8x16x128, .f32⟩
  | 13 => ⟨S32x8x16x128, .f32⟩
  | 14 => ⟨S32x8x16x16, .f32⟩
  | 15 => ⟨S_, .f32⟩
  | 16 => ⟨S_, .f32⟩
  | 17 => ⟨S32x8x16x16, .i1⟩
  | 18 => ⟨S32x8x16x16, .f32⟩
  | 19 => ⟨S32x8x16x16, .f32⟩
  | 20 => ⟨S1x32x8x16x128, .f32⟩
  | 21 => ⟨S32x8x16x128, .f32⟩
  | 22 => ⟨S32x8x16x128, .f32⟩
  | 23 => ⟨S32x8x16x128, .f32⟩
  | 24 => ⟨S32x8x16x128, .f32⟩
  | 25 => ⟨S32x8x128, .f32⟩
  | 26 => ⟨S32x8x128, .f32⟩
  | 27 => ⟨S32x8x128x1, .f32⟩
  | 28 => ⟨S32x8x128x128, .f32⟩
  | 29 => ⟨S32x8x128x128, .f32⟩
  | 30 => ⟨S1x32x8x16x128, .f32⟩
  | 31 => ⟨S32x8x16x128, .f32⟩
  | 32 => ⟨S32x8x16x128, .f32⟩
  | 33 => ⟨S32x8x16x128, .f32⟩
  | 34 => ⟨S32x8x16x128, .f32⟩
  | 35 => ⟨S32x8x16x128, .f32⟩
  | 36 => ⟨S1x32x8x16x128, .f32⟩
  | 37 => ⟨S32x8x16x128, .f32⟩
  | 38 => ⟨S32x8x128x128, .f32⟩
  | 39 => ⟨S32x8x128x128, .f32⟩
  | 40 => ⟨S16x16x1, .i1⟩
  | 41 => ⟨S1x32x8x16x128, .f32⟩
  | 42 => ⟨S32x8x16x128, .f32⟩
  | 43 => ⟨S32x8x1x16x128, .f32⟩
  | 44 => ⟨S_, .f32⟩
  | 45 => ⟨S_, .f32⟩
  | 46 => ⟨S32x8x16x16x128, .i1⟩
  | 47 => ⟨S32x8x16x16x128, .f32⟩
  | 48 => ⟨S32x8x16x16x128, .f32⟩
  | 49 => ⟨S32x8x16x16x128, .f32⟩
  | 50 => ⟨S_, .f32⟩
  | 51 => ⟨S32x8x16x128, .f32⟩
  | 52 => ⟨S32x8x1x128, .f32⟩
  | 53 => ⟨S1x32x8x16x128, .f32⟩
  | 54 => ⟨S32x8x16x128, .f32⟩
  | 55 => ⟨S32x8x16x128, .f32⟩
  | 56 => ⟨S32x8x16x128, .f32⟩
  | 57 => ⟨S1x32x8x16x128, .f32⟩
  | 58 => ⟨S32x8x16x128, .f32⟩
  | 59 => ⟨S32x8x16x128, .f32⟩
  | 60 => ⟨S32x8x16x128, .f32⟩
  | 61 => ⟨S32x8x16x128, .f32⟩
  | 62 => ⟨S32x8x16x16, .f32⟩
  | 63 => ⟨S_, .f32⟩
  | 64 => ⟨S_, .f32⟩
  | 65 => ⟨S32x8x16x16, .i1⟩
  | 66 => ⟨S32x8x16x16, .f32⟩
  | 67 => ⟨S32x8x16x16, .f32⟩
  | 68 => ⟨S1x32x8x16x128, .f32⟩
  | 69 => ⟨S32x8x16x128, .f32⟩
  | 70 => ⟨S32x8x16x128, .f32⟩
  | 71 => ⟨S32x8x16x128, .f32⟩
  | 72 => ⟨S32x8x16x128, .f32⟩
  | 73 => ⟨S32x8x128, .f32⟩
  | 74 => ⟨S32x8x128, .f32⟩
  | 75 => ⟨S32x8x128x1, .f32⟩
  | 76 => ⟨S32x8x128x128, .f32⟩
  | 77 => ⟨S32x8x128x128, .f32⟩
  | 78 => ⟨S1x32x8x16x128, .f32⟩
  | 79 => ⟨S32x8x16x128, .f32⟩
  | 80 => ⟨S32x8x16x128, .f32⟩
  | 81 => ⟨S32x8x16x128, .f32⟩
  | 82 => ⟨S32x8x16x128, .f32⟩
  | 83 => ⟨S32x8x16x128, .f32⟩
  | 84 => ⟨S1x32x8x16x128, .f32⟩
  | 85 => ⟨S32x8x16x128, .f32⟩
  | 86 => ⟨S32x8x128x128, .f32⟩
  | 87 => ⟨S32x8x128x128, .f32⟩
  | 88 => ⟨S1x32x8x16x128, .f32⟩
  | 89 => ⟨S1x32x8x16x128, .f32⟩
  | 90 => ⟨S1x32x8x16x128, .f32⟩
  | 91 => ⟨S1x32x8x16x128, .f32⟩
  | 92 => ⟨S4x32x8x16x128, .f32⟩
  | 93 => ⟨S32x4x16x8x128, .f32⟩
  | 94 => ⟨S128, .f32⟩
  | 95 => ⟨S32x4x16x8x128, .f32⟩
  | 96 => ⟨S_, .f32⟩
  | 97 => ⟨S32x4x16x8, .f32⟩
  | 98 => ⟨S32x4x16x8x1, .f32⟩
  | 99 => ⟨S_, .f32⟩
  | 100 => ⟨S32x4x16x8x1, .f32⟩
  | 101 => ⟨S32x4x16x8x1, .f32⟩
  | 102 => ⟨S_, .f32⟩
  | 103 => ⟨S32x4x16x8x1, .f32⟩
  | 104 => ⟨S32x4x16x8x1, .f32⟩
  | 105 => ⟨S32x4x16x8x1, .f32⟩
  | 106 => ⟨S32x4x16x8x128, .f32⟩
  | 107 => ⟨S32x4x16x8x128, .f32⟩
  | 108 => ⟨S1x1x1x1x128, .f32⟩
  | 109 => ⟨S32x4x16x8x128, .f32⟩
  | 110 => ⟨S32x4x16x8x128, .f32⟩
  | 111 => ⟨S2048x1024, .f32⟩
  | 112 => ⟨S2048x1024, .f32⟩
  | 113 => ⟨S2048x1024, .f32⟩
  | 114 => ⟨S2048x1024, .bf16⟩
  | _ => ⟨S2048x13312, .bf16⟩

abbrev hbmTy (i : Nat) : BufTy := match i / 128 with
  | 0 => hbmTy0_0 i
  | 1 => hbmTy0_1 i
  | _ => ⟨S2048x13312, .bf16⟩

abbrev bufTy : (tb : Table) → Fin (tcTables nBuf tb) → BufTy
  | .hbm, ⟨i, _⟩ => hbmTy i
  | _, _ => ⟨S2048x13312, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_v24 : Ref sig .tc := ⟨.hbm, 33, rfl⟩
abbrev main_cst_0 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_1 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_2 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_call2_v3 : Ref sig .tc := ⟨.hbm, 80, rfl⟩
abbrev main_v62 : Ref sig .tc := ⟨.hbm, 81, rfl⟩
abbrev main_cst_3 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_4 : Ref sig .tc := ⟨.hbm, 95, rfl⟩
abbrev main_call3_v0 : Ref sig .tc := ⟨.hbm, 96, rfl⟩
abbrev main_call3_v1 : Ref sig .tc := ⟨.hbm, 97, rfl⟩
abbrev main_call3_v2 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_cst_5 : Ref sig .tc := ⟨.hbm, 124, rfl⟩
abbrev main_call4_v0 : Ref sig .tc := ⟨.hbm, 125, rfl⟩
abbrev main_call4_v1 : Ref sig .tc := ⟨.hbm, 126, rfl⟩
abbrev main_call4_v2 : Ref sig .tc := ⟨.hbm, 127, rfl⟩
abbrev main_call4_v3 : Ref sig .tc := ⟨.hbm, 128, rfl⟩
abbrev main_v100 : Ref sig .tc := ⟨.hbm, 129, rfl⟩
abbrev main_cst_6 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_cst_7 : Ref sig .tc := ⟨.hbm, 143, rfl⟩
abbrev main_call5_v0 : Ref sig .tc := ⟨.hbm, 144, rfl⟩
abbrev main_call5_v1 : Ref sig .tc := ⟨.hbm, 145, rfl⟩
abbrev main_call5_v2 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_cst_8 : Ref sig .tc := ⟨.hbm, 172, rfl⟩
abbrev main_call6_v0 : Ref sig .tc := ⟨.hbm, 173, rfl⟩
abbrev main_call6_v1 : Ref sig .tc := ⟨.hbm, 174, rfl⟩
abbrev main_call6_v2 : Ref sig .tc := ⟨.hbm, 175, rfl⟩
abbrev main_call6_v3 : Ref sig .tc := ⟨.hbm, 176, rfl⟩
abbrev main_v138 : Ref sig .tc := ⟨.hbm, 177, rfl⟩
abbrev main_cst_9 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_cst_10 : Ref sig .tc := ⟨.hbm, 191, rfl⟩
abbrev main_call7_v0 : Ref sig .tc := ⟨.hbm, 192, rfl⟩
abbrev main_call7_v1 : Ref sig .tc := ⟨.hbm, 193, rfl⟩
abbrev main_call7_v2 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_cst_11 : Ref sig .tc := ⟨.hbm, 224, rfl⟩
abbrev main_v180 : Ref sig .tc := ⟨.hbm, 225, rfl⟩
abbrev main_v181 : Ref sig .tc := ⟨.hbm, 226, rfl⟩
abbrev main_cst_12 : Ref sig .tc := ⟨.hbm, 227, rfl⟩
abbrev main_v182 : Ref sig .tc := ⟨.hbm, 228, rfl⟩
abbrev main_v183 : Ref sig .tc := ⟨.hbm, 229, rfl⟩
abbrev main_cst_13 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩

abbrev nD : Nat := 1
abbrev τ : Topo := Topo.v7x

variable {F : FTy → Type} [FloatOps F]
-- ==== Proof.AttnBlock.lean ====
/-
  What the attention kernel's body leaves in its output block: eight heads' values side by side, each the same function of
  that head's slices of the staged blocks.
-/
module

public import proofs.«01_k».proof.Proof.Gen.AttnIdeal.Value

@[expose] public section

set_option maxRecDepth 16384

noncomputable section

namespace Cert.AttnHand

open Cert.AttnIdeal Cert.AttnIdeal.Gen Idealize.ShloMosaic Idealize.ShloMosaic.TcCoe Idealize.ShloMosaic.Tactic Idealize.SL.Sem

variable {F : FTy → Type} [FloatOps F]
variable (m : (ℓ : Loc nD τ sig) → Buf (Elt F) ℓ)

/-- ONE HEAD of one sequence, from its slices of the staged blocks: the two maps' scores against the cached keys and the
    new ones, the two softmaxes over both, their difference weighted by `lam`, its product with the values, the RMS
    normalisation with gain `g`, and the gate `zb`. -/
def headOut (lam : FVec F S1x1 .f32) (qb : Vec F S64x128 .bf16) (kt : Vec F S1x128x1024 .f32) (kn : Vec F S64x128 .bf16)
    (vc : Vec F S1x1024x128 .f32) (vn : Vec F S64x128 .bf16) (g : Vec F S1x128 .f32) (zb : Vec F S64x128 .bf16) :
    FVec F S64x128 .bf16 :=
  k0_pay36 (k0_pay29 (k0_pay4 qb kt) (k0_pay5 qb kn)) (k0_pay30 (k0_pay4 qb kt) (k0_pay5 qb kn))
    (k0_pay32 (k0_pay4 qb kt) (k0_pay5 qb kn)) (k0_pay33 lam (k0_pay4 qb kt) (k0_pay5 qb kn))
    (k0_pay34 (k0_pay4 qb kt) (k0_pay5 qb kn)) (k0_pay35 (k0_pay4 qb kt) (k0_pay5 qb kn)) vc vn g zb

/-- Head `h`'s 128 columns of a block of 1024. -/
theorem inb_cols (h : Fin 8) : ∀ a : Fin 2, (![0, 128 * h.val] : Fin 2 → ℕ) a + S64x128.size a ≤ S64x1024.size a := by
  revert h; decide
theorem inb_rows (h : Fin 8) : ∀ a : Fin 3, (![0, 128 * h.val, 0] : Fin 3 → ℕ) a + S1x128x1024.size a ≤ S1x1024x1024.size a := by
  revert h; decide
theorem inb_stride (h : Fin 8) : ∀ a : Fin 3, S1x1024x128.size a = 0 ∨
    (![0, h.val, 0] : Fin 3 → ℕ) a + (![1, 8, 1] : Fin 3 → ℕ) a * (S1x1024x128.size a - 1) < S1x8192x128.size a := by
  revert h; decide

/-- Head `h`'s columns of a block of sixty-four rows, -/
abbrev cols (h : Fin 8) : Rect S64x1024 := Rect.unit (s := S64x1024) ![0, 128 * h.val] S64x128.size (inb_cols h)
/-- head `h`'s rows of the transposed cached keys, -/
abbrev rows (h : Fin 8) : Rect S1x1024x1024 := Rect.unit (s := S1x1024x1024) ![0, 128 * h.val, 0] S1x128x1024.size (inb_rows h)
/-- and head `h`'s rows of the cached values: every eighth, from row `h`. -/
abbrev eighth (h : Fin 8) : LoadRect S1x8192x128 := ⟨![0, h.val, 0], S1x1024x128.size, ![1, 8, 1], inb_stride h⟩

/-- Head `h`'s value from the staged blocks. -/
def headAt (h : Fin 8) (x0 : Vec F S4x64 .f32) (x1 x2 x3 x4 : Vec F S64x1024 .bf16) (x5 : Vec F S1x128 .f32)
    (x6 : Vec F S1x1024x1024 .f32) (x7 : Vec F S1x8192x128 .f32) : FVec F S64x128 .bf16 :=
  headOut (k0_pay2 (View.ld x0 (Rect.unit (s := S4x64) ![0, 0] S4x64.size inb_S4x64_S4x64_0_0))) (View.ld x1 (cols h)) (View.ld x6 (rows h)) (View.ld x2 (cols h))
    (fun j => x7 ((eighth h).idx j)) (View.ld x3 (cols h))
    (View.ld x5 (Rect.unit (s := S1x128) ![0, 0] S1x128.size inb_S1x128_S1x128_0_0)) (View.ld x4 (cols h))

/-- The eight stores of the body, last first. -/
def pieces (x0 : Vec F S4x64 .f32) (x1 x2 x3 x4 : Vec F S64x1024 .bf16) (x5 : Vec F S1x128 .f32)
    (x6 : Vec F S1x1024x1024 .f32) (x7 : Vec F S1x8192x128 .f32) : List (View.Piece (Elt F) S64x1024 .bf16) :=
  [⟨cols 7, headAt 7 x0 x1 x2 x3 x4 x5 x6 x7⟩, ⟨cols 6, headAt 6 x0 x1 x2 x3 x4 x5 x6 x7⟩,
   ⟨cols 5, headAt 5 x0 x1 x2 x3 x4 x5 x6 x7⟩, ⟨cols 4, headAt 4 x0 x1 x2 x3 x4 x5 x6 x7⟩,
   ⟨cols 3, headAt 3 x0 x1 x2 x3 x4 x5 x6 x7⟩, ⟨cols 2, headAt 2 x0 x1 x2 x3 x4 x5 x6 x7⟩,
   ⟨cols 1, headAt 1 x0 x1 x2 x3 x4 x5 x6 x7⟩, ⟨cols 0, headAt 0 x0 x1 x2 x3 x4 x5 x6 x7⟩]

/-- A load of a whole memref's known contents at a rectangle, strided or not, reads them at the rectangle's places. -/
theorem readAt_unread {s : Shape} {e : EltTy} {b : Memref sig .tc .vmem s e} (h : b.IsWhole) (r : LoadRect s) (X : s.Idx → Elt F e) :
    b.view.readAt (Elt F) r (h.unread X) = fun j => X (r.idx j) := by
  show (fun j => b.view.read (Elt F) (h.unread X) (r.idx j)) = _
  rw [h.read_unread]

/-- After point `t` the output's staging buffer holds the eight heads' values of the point's blocks. -/
theorem outsAt_eq (c : Dev nD) (t : Fin cfg0.N) :
    outsAt0 m c t = View.canon (pieces (iblk m c 0 t) (iblk m c 1 t) (iblk m c 2 t) (iblk m c 3 t) (iblk m c 4 t)
      (iblk m c 5 t) (iblk m c 6 t) (iblk m c 7 t)) := by
  unfold outsAt0 out0_A_8
  rw [View.read_writes_eq_canon _ _ _ (cover0_A_8 c _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread]
  simp only [readAt_unread]
  rfl

end Cert.AttnHand

end
-- ==== Proof.AttnSpec.lean ====
/-
  The mathematics of one head of differential attention, for the two ways of writing it: softmaxes of scores in base two over
  two runs of keys, and softmaxes of scores in base e over the keys joined. No program is named here.
-/
module

public import Idealize.ShloMosaic.Lib.Pointwise
public import Idealize.ShloMosaic.Lib.IdealHost

@[expose] public section

noncomputable section

namespace Cert.AttnSpec

open Idealize.ShloMosaic

/-- The greatest of finitely many extended reals, from bottom. -/
def top {n : ℕ} (f : Fin n → EReal) : EReal := Finset.univ.fold max ⊥ f

theorem top_eq_sup {n : ℕ} (f : Fin n → EReal) : top f = Finset.univ.sup f := rfl

/-- The greatest over a run of positions and the run after it is the greatest over both. -/
theorem top_two_halves {n : ℕ} (a b : ℕ) (hn : a + b = n) (f : Fin n → EReal) :
    max (top fun k : Fin a => f ⟨k.val, by have := k.isLt; omega⟩) (top fun k : Fin b => f ⟨a + k.val, by have := k.isLt; omega⟩)
      = top f := by
  simp only [top_eq_sup]
  apply le_antisymm
  · refine max_le (Finset.sup_le fun k _ => ?_) (Finset.sup_le fun k _ => ?_) <;> exact Finset.le_sup (f := f) (Finset.mem_univ _)
  · refine Finset.sup_le fun k _ => ?_
    by_cases hk : k.val < a
    · exact le_max_of_le_left (Finset.le_sup (f := fun k : Fin a => f ⟨k.val, by have := k.isLt; omega⟩) (Finset.mem_univ ⟨k.val, hk⟩))
    · refine le_max_of_le_right (le_trans (le_of_eq ?_) (Finset.le_sup (f := fun k : Fin b => f ⟨a + k.val, by have := k.isLt; omega⟩)
        (Finset.mem_univ ⟨k.val - a, by have := k.isLt; omega⟩)))
      exact congrArg f (Fin.ext (by simp; omega))

/-- A positive real factor goes through the greatest of a family. -/
theorem top_mul {n : ℕ} (f : Fin n → EReal) (r : ℝ) (hr : 0 < r) : (top fun k => f k * (r : EReal)) = top f * (r : EReal) := by
  simp only [top_eq_sup]
  refine (Finset.comp_sup_eq_sup_comp_of_is_total (g := fun x : EReal => x * (r : EReal)) ?_ ?_).symm
  · intro x y h; exact mul_le_mul_of_nonneg_right h (by exact_mod_cast hr.le)
  · exact EReal.bot_mul_coe_of_pos hr

/-- The greatest of finitely many reals, at least one, is one of them. -/
theorem top_coe {n : ℕ} (f : Fin (n + 1) → ℝ) : ∃ i, (top fun k => (f k : EReal)) = (f i : EReal) := by
  obtain ⟨i, -, hi⟩ := Finset.exists_mem_eq_sup Finset.univ Finset.univ_nonempty (fun k => (f k : EReal))
  exact ⟨i, hi⟩

theorem exp2_coe_eq (x : ℝ) : Ideal.exp2 (x : EReal) = ((Real.exp (x * Real.log 2) : ℝ) : EReal) := by
  rw [Ideal.exp2_coe, EReal.coe_eq_coe_iff]
  show (2 : ℝ) ^ x = _
  rw [Real.rpow_def_of_pos (by norm_num), mul_comm]

/-- The base-two softmax of real scores over two runs of keys, with the reciprocal of the sum. -/
def softK (P : Fin 1088 → EReal) (s : Fin 1088) : EReal :=
  let m := max (top fun k : Fin 1024 => P ⟨k.val, by have := k.isLt; omega⟩) (top fun k : Fin 64 => P ⟨1024 + k.val, by have := k.isLt; omega⟩)
  Ideal.exp2 (P s - m) * Ideal.div 1 ((∑ k : Fin 1024, Ideal.exp2 (P ⟨k.val, by have := k.isLt; omega⟩ - m))
    + ∑ k : Fin 64, Ideal.exp2 (P ⟨1024 + k.val, by have := k.isLt; omega⟩ - m))

/-- The softmax of the scores times the logarithm of two, over all the keys. -/
def softR (P : Fin 1088 → EReal) (s : Fin 1088) : EReal :=
  let m := top fun k => P k * (Real.log 2 : EReal)
  Ideal.div (Ideal.exp (P s * (Real.log 2 : EReal) - m)) (∑ k : Fin 1088, Ideal.exp (P k * (Real.log 2 : EReal) - m))

theorem soft_eq (P : Fin 1088 → EReal) (hP : ∀ s, P s ≠ ⊤ ∧ P s ≠ ⊥) (s : Fin 1088) : softK P s = softR P s := by
  obtain ⟨p, rfl⟩ : ∃ p : Fin 1088 → ℝ, P = fun s => (p s : EReal) :=
    ⟨fun s => (P s).toReal, funext fun s => (EReal.coe_toReal (hP s).1 (hP s).2).symm⟩
  have hl : 0 < Real.log 2 := Real.log_pos (by norm_num)
  unfold softK softR
  simp only
  rw [top_two_halves 1024 64 rfl (fun k => (p k : EReal)), top_mul _ _ hl]
  obtain ⟨i, hi⟩ := top_coe p
  rw [hi]
  have he : ∀ k, Ideal.exp2 ((p k : EReal) - (p i : EReal)) = Ideal.exp ((p k : EReal) * (Real.log 2 : EReal) - (p i : EReal) * (Real.log 2 : EReal)) := by
    intro k
    rw [← EReal.coe_sub, exp2_coe_eq, ← EReal.coe_mul, ← EReal.coe_mul, ← EReal.coe_sub, Ideal.exp_coe, sub_mul]
  simp only [he]
  rw [← Fin.sum_univ_two_halves 1024 64 rfl (fun k => Ideal.exp ((p k : EReal) * (Real.log 2 : EReal) - (p i : EReal) * (Real.log 2 : EReal)))]
  refine Ideal.mul_one_div ?_
  have hc : ∀ k, Ideal.exp ((p k : EReal) * (Real.log 2 : EReal) - (p i : EReal) * (Real.log 2 : EReal))
      = ((Real.exp (p k * Real.log 2 - p i * Real.log 2) : ℝ) : EReal) := by
    intro k
    rw [← EReal.coe_mul, ← EReal.coe_mul, ← EReal.coe_sub, Ideal.exp_coe]
  refine (lt_of_lt_of_le ?_ (Finset.single_le_sum (f := fun k => Ideal.exp ((p k : EReal) * (Real.log 2 : EReal) - (p i : EReal) * (Real.log 2 : EReal)))
    (fun k _ => ?_) (Finset.mem_univ i))).ne'
  · simp only [hc]; exact_mod_cast Real.exp_pos _
  · simp only [hc]; exact_mod_cast (Real.exp_pos _).le

/-- A sum of products of reals is real. -/
theorem sum_mul_real {n : ℕ} (f g : Fin n → EReal) (hf : ∀ k, f k ≠ ⊤ ∧ f k ≠ ⊥) (hg : ∀ k, g k ≠ ⊤ ∧ g k ≠ ⊥) :
    (∑ k, f k * g k) ≠ ⊤ ∧ (∑ k, f k * g k) ≠ ⊥ := by
  have h : ∀ k, f k * g k = (((f k).toReal * (g k).toReal : ℝ) : EReal) := fun k => by
    rw [EReal.coe_mul, EReal.coe_toReal (hf k).1 (hf k).2, EReal.coe_toReal (hg k).1 (hg k).2]
  have h' : (∑ k, f k * g k) = ((∑ k, (f k).toReal * (g k).toReal : ℝ) : EReal) := by
    simp only [h]
    exact (map_sum (⟨⟨Real.toEReal, EReal.coe_zero⟩, EReal.coe_add⟩ : ℝ →+ EReal) _ _).symm
  rw [h']
  exact ⟨EReal.coe_ne_top _, EReal.coe_ne_bot _⟩

/-- The RMS normalisation over 128 entries with gain `g`. -/
def rms (o g : Fin 128 → EReal) (v : Fin 128) : EReal :=
  o v * Ideal.rsqrt (Ideal.div (∑ k, o k * o k) (Ideal.ofBits .f32 0x43000000#32) + Ideal.ofBits .f32 0x358637BD#32) * g v

/-- The head's value before normalisation: the keys' two softmaxes, the second times `lam` taken from the first, against the
    values of the two runs of keys. -/
def attK (lam : EReal) (P : Fin 2 → Fin 1088 → EReal) (vc : Fin 1024 → Fin 128 → EReal) (vn : Fin 64 → Fin 128 → EReal) (v : Fin 128) : EReal :=
  (∑ k : Fin 1024, (softK (P 0) ⟨k.val, by have := k.isLt; omega⟩ - lam * softK (P 1) ⟨k.val, by have := k.isLt; omega⟩) * vc k v)
    + ∑ k : Fin 64, (softK (P 0) ⟨1024 + k.val, by have := k.isLt; omega⟩ - lam * softK (P 1) ⟨1024 + k.val, by have := k.isLt; omega⟩) * vn k v

/-- Two runs of values joined. -/
def join (vc : Fin 1024 → EReal) (vn : Fin 64 → EReal) (k : Fin 1088) : EReal :=
  if h : k.val < 1024 then vc ⟨k.val, h⟩ else vn ⟨k.val - 1024, by have := k.isLt; omega⟩

/-- The same over the keys joined. -/
def attR (lam : EReal) (P : Fin 2 → Fin 1088 → EReal) (vc : Fin 1024 → Fin 128 → EReal) (vn : Fin 64 → Fin 128 → EReal) (v : Fin 128) : EReal :=
  ∑ k : Fin 1088, (softR (P 0) k - lam * softR (P 1) k) * join (fun s => vc s v) (fun s => vn s v) k

theorem att_eq (lam : EReal) (P : Fin 2 → Fin 1088 → EReal) (hP : ∀ c s, P c s ≠ ⊤ ∧ P c s ≠ ⊥)
    (vc : Fin 1024 → Fin 128 → EReal) (vn : Fin 64 → Fin 128 → EReal) (v : Fin 128) : attK lam P vc vn v = attR lam P vc vn v := by
  unfold attK attR
  rw [Fin.sum_univ_two_halves 1024 64 rfl]
  simp only [soft_eq _ (hP 0), soft_eq _ (hP 1)]
  refine congrArg₂ (· + ·) (Finset.sum_congr rfl fun k _ => ?_) (Finset.sum_congr rfl fun k _ => ?_)
  · rw [join, dif_pos k.isLt]
  · rw [join, dif_neg (by simp)]
    simp only [Nat.add_sub_cancel_left]

/-- The scores of one query, map by map, against the two runs of keys joined. -/
def score (q : Fin 2 → Fin 64 → EReal) (kc : Fin 2 → Fin 64 → Fin 1024 → EReal) (kn : Fin 2 → Fin 64 → Fin 64 → EReal)
    (c : Fin 2) (s : Fin 1088) : EReal := ∑ d, q c d * join (kc c d) (kn c d) s

/-- Real queries and keys have real scores. -/
theorem score_real (q : Fin 2 → Fin 64 → EReal) (kc : Fin 2 → Fin 64 → Fin 1024 → EReal) (kn : Fin 2 → Fin 64 → Fin 64 → EReal)
    (hq : ∀ c d, q c d ≠ ⊤ ∧ q c d ≠ ⊥) (hc : ∀ c d s, kc c d s ≠ ⊤ ∧ kc c d s ≠ ⊥) (hn : ∀ c d s, kn c d s ≠ ⊤ ∧ kn c d s ≠ ⊥)
    (c : Fin 2) (s : Fin 1088) : score q kc kn c s ≠ ⊤ ∧ score q kc kn c s ≠ ⊥ := by
  refine sum_mul_real _ _ (hq c) fun d => ?_
  unfold join
  split
  · exact hc _ _ _
  · exact hn _ _ _

/-- One head of one query as the kernel writes it, -/
def headK (lam : EReal) (q : Fin 2 → Fin 64 → EReal) (kc : Fin 2 → Fin 64 → Fin 1024 → EReal) (kn : Fin 2 → Fin 64 → Fin 64 → EReal)
    (vc : Fin 1024 → Fin 128 → EReal) (vn : Fin 64 → Fin 128 → EReal) (g z : Fin 128 → EReal) (v : Fin 128) : EReal :=
  rms (attK lam (score q kc kn) vc vn) g v * Ideal.ofBits .f32 0x3F4CCCCD#32 * z v

/-- and as the reference does. -/
def headR (lam : EReal) (q : Fin 2 → Fin 64 → EReal) (kc : Fin 2 → Fin 64 → Fin 1024 → EReal) (kn : Fin 2 → Fin 64 → Fin 64 → EReal)
    (vc : Fin 1024 → Fin 128 → EReal) (vn : Fin 64 → Fin 128 → EReal) (g z : Fin 128 → EReal) (v : Fin 128) : EReal :=
  rms (attR lam (score q kc kn) vc vn) g v * Ideal.ofBits .f32 0x3F4CCCCD#32 * z v

/-- They are one function of real queries and keys. -/
theorem head_eq (lam : EReal) (q : Fin 2 → Fin 64 → EReal) (kc : Fin 2 → Fin 64 → Fin 1024 → EReal) (kn : Fin 2 → Fin 64 → Fin 64 → EReal)
    (hq : ∀ c d, q c d ≠ ⊤ ∧ q c d ≠ ⊥) (hc : ∀ c d s, kc c d s ≠ ⊤ ∧ kc c d s ≠ ⊥) (hn : ∀ c d s, kn c d s ≠ ⊤ ∧ kn c d s ≠ ⊥)
    (vc : Fin 1024 → Fin 128 → EReal) (vn : Fin 64 → Fin 128 → EReal) (g z : Fin 128 → EReal) (v : Fin 128) :
    headK lam q kc kn vc vn g z v = headR lam q kc kn vc vn g z v := by
  unfold headK headR
  rw [show attK lam (score q kc kn) vc vn = attR lam (score q kc kn) vc vn from
    funext fun v => att_eq lam _ (score_real q kc kn hq hc hn) vc vn v]

/-- The second map's weight, from the four vectors. -/
def lam (a b a' b' : Fin 64 → EReal) : EReal :=
  Ideal.exp (∑ l, a l * b l) - Ideal.exp (∑ l, a' l * b' l) + Ideal.ofBits .f32 0x3E4CCCCD#32

/-- The row of sequence `b`'s token `s`, -/
abbrev tok (b : Fin 32) (s : Fin 64) : Fin 2048 := ⟨64 * b.val + s.val, by omega⟩
/-- and the columns of the projected row that hold head `h`'s queries, -/
abbrev at4 (h : Fin 8) (c : Fin 2) (d : Fin 64) : Fin 13312 := ⟨4096 + (128 * h.val + 64 * c.val + d.val), by omega⟩
/-- keys, -/
abbrev at5 (h : Fin 8) (c : Fin 2) (d : Fin 64) : Fin 13312 := ⟨5120 + (128 * h.val + 64 * c.val + d.val), by omega⟩
/-- values -/
abbrev at6 (h : Fin 8) (v : Fin 128) : Fin 13312 := ⟨6144 + (128 * h.val + v.val), by omega⟩
/-- and gates. -/
abbrev at7 (h : Fin 8) (v : Fin 128) : Fin 13312 := ⟨7168 + (128 * h.val + v.val), by omega⟩

/-- Two-coordinate indices agree when their coordinates do. -/
theorem ix2_congr {n k : ℕ} {a a' : Fin n} {b b' : Fin k} (h₁ : a.val = a'.val) (h₂ : b.val = b'.val) : ix2 a b = ix2 a' b' := by
  rw [Fin.ext h₁, Fin.ext h₂]

end Cert.AttnSpec

end
-- ==== Proof.AttnHead.lean ====
/-
  One head of the attention kernel read at an index.
-/
module

public import proofs.«01_k».proof.Proof.AttnBlock
public import proofs.«01_k».proof.Proof.AttnSpec

@[expose] public section

set_option maxRecDepth 16384

noncomputable section

namespace Cert.AttnHand

open Cert.AttnIdeal Cert.AttnIdeal.Gen Idealize.ShloMosaic Idealize.ShloMosaic.TcCoe Idealize.ShloMosaic.Tactic Idealize.SL.Sem
open Cert.AttnSpec (top join score softK attK rms headK)

theorem negInf : Ideal.ofBits .f32 0xFF800000#32 = ⊥ := by simp [Ideal.ofBits, Ideal.ieee]

theorem lane_lt (l : Fin 128) : IntOp.cmpi CmpIPredicate.slt (BitVec.ofNat 32 l.val) 64#32 = if l.val < 64 then 1#1 else 0#1 := by
  revert l; decide

/-- The stacked queries: rows 0–63 keep the first map's lanes and zero the rest, rows 64–127 the second map's. -/
theorem pay3_apply (qb : Vec Ideal S64x128 .bf16) (c : Fin 2) (q : Fin 64) (l : Fin 128) :
    k0_pay3 qb (ix2 (⟨64 * c.val + q.val, by omega⟩ : Fin 128) l) = if l.val / 64 = c.val then qb (ix2 q l) else 0 := by
  unfold k0_pay3
  pointwise
  rw [lane_lt]
  fin_cases c
  · have h0 : l.val / 64 = 0 ↔ l.val < 64 := by omega
    simp only [Fin.zero_eta, Fin.isValue, Fin.coe_ofNat_eq_mod, Nat.zero_mod, Nat.mul_zero, Nat.zero_add, q.isLt, ↓reduceDIte, h0]
    split <;> simp [Scalar.select]
  · have h0 : l.val / 64 = 1 ↔ ¬ l.val < 64 := by omega
    simp only [Fin.mk_one, Fin.isValue, Fin.coe_ofNat_eq_mod, Nat.mod_succ, Nat.mul_one, show ¬ (64 + q.val < 64) from by omega, ↓reduceDIte, h0, Nat.add_sub_cancel_left]
    split <;> simp [Scalar.select]

/-- A sum over the lanes of one map is a sum over that map's 64 lanes. -/
theorem sum_map (f g : Fin 128 → EReal) (c : Fin 2) :
    (∑ l : Fin 128, (if l.val / 64 = c.val then f l else 0) * g l)
      = ∑ d : Fin 64, f ⟨64 * c.val + d.val, by omega⟩ * g ⟨64 * c.val + d.val, by omega⟩ := by
  rw [Fin.sum_univ_two_halves 64 64 rfl]
  fin_cases c
  · rw [Finset.sum_eq_zero (s := Finset.univ) (f := fun k : Fin 64 => _ * g ⟨64 + k.val, _⟩), add_zero]
    · refine Finset.sum_congr rfl fun d _ => ?_
      rw [if_pos (by show d.val / 64 = 0; omega)]
      simp
    · intro d _
      rw [if_neg (by show ¬ ((64 + d.val) / 64 = 0); omega), zero_mul]
  · rw [Finset.sum_eq_zero (s := Finset.univ) (f := fun k : Fin 64 => _ * g ⟨k.val, _⟩), zero_add]
    · refine Finset.sum_congr rfl fun d _ => ?_
      rw [if_pos (by show (64 + d.val) / 64 = 1; omega)]
      simp
    · intro d _
      rw [if_neg (by show ¬ (d.val / 64 = 1); omega), zero_mul]

section Head
variable (lam : FVec Ideal S1x1 .f32) (qb : Vec Ideal S64x128 .bf16) (kt : Vec Ideal S1x128x1024 .f32) (kn : Vec Ideal S64x128 .bf16)
  (vc : Vec Ideal S1x1024x128 .f32) (vn : Vec Ideal S64x128 .bf16) (g : Vec Ideal S1x128 .f32) (zb : Vec Ideal S64x128 .bf16)

/-- Row `q` of the queries, map by map, -/
def qRow (q : Fin 64) (c : Fin 2) (d : Fin 64) : EReal := qb (ix2 q (⟨64 * c.val + d.val, by omega⟩ : Fin 128))
/-- the cached keys (stored transposed), map by map, -/
def kcRow (c : Fin 2) (d : Fin 64) (s : Fin 1024) : EReal := kt (ix3 (0 : Fin 1) (⟨64 * c.val + d.val, by omega⟩ : Fin 128) s)
/-- and the new keys, map by map. -/
def knRow (c : Fin 2) (d : Fin 64) (s : Fin 64) : EReal := kn (ix2 s (⟨64 * c.val + d.val, by omega⟩ : Fin 128))

/-- The scores of query `q` by map and key. -/
abbrev P (q : Fin 64) : Fin 2 → Fin 1088 → EReal := score (qRow qb q) (kcRow kt) (knRow kn)

theorem pay4_apply (c : Fin 2) (q : Fin 64) (s : Fin 1024) :
    k0_pay4 qb kt (ix2 (⟨64 * c.val + q.val, by omega⟩ : Fin 128) s) = P qb kt kn q c ⟨s.val, by omega⟩ := by
  unfold k0_pay4
  pointwise
  simp only [pay3_apply]
  refine (sum_map (fun l => qb (ix2 q l)) (fun l => kt (ix3 (0 : Fin 1) l s)) c).trans ?_
  refine Finset.sum_congr rfl fun d _ => ?_
  rw [join, dif_pos s.isLt]
  rfl

theorem pay5_apply (c : Fin 2) (q : Fin 64) (s : Fin 64) :
    k0_pay5 qb kn (ix2 (⟨64 * c.val + q.val, by omega⟩ : Fin 128) s) = P qb kt kn q c ⟨1024 + s.val, by omega⟩ := by
  unfold k0_pay5
  pointwise
  simp only [pay3_apply]
  refine (sum_map (fun l => qb (ix2 q l)) (fun l => kn (ix2 s l)) c).trans ?_
  refine Finset.sum_congr rfl fun d _ => ?_
  rw [join, dif_neg (by simp)]
  simp only [Nat.add_sub_cancel_left]
  rfl

/-- The greatest score of query `q` in map `c`. -/
def mx (q : Fin 64) (c : Fin 2) : EReal :=
  max (top fun k : Fin 1024 => P qb kt kn q c ⟨k.val, by omega⟩) (top fun k : Fin 64 => P qb kt kn q c ⟨1024 + k.val, by omega⟩)

theorem pay28_apply (c : Fin 2) (q : Fin 64) (u : Fin 1) :
    k0_pay28 (k0_pay4 qb kt) (k0_pay5 qb kn) (ix2 (⟨64 * c.val + q.val, by omega⟩ : Fin 128) u) = mx qb kt kn q c := by
  unfold k0_pay28
  pointwise
  rw [negInf]
  simp only [pay4_apply qb kt kn, pay5_apply qb kt kn]
  rfl

theorem pay29_apply (c : Fin 2) (q : Fin 64) (s : Fin 1024) :
    k0_pay29 (k0_pay4 qb kt) (k0_pay5 qb kn) (ix2 (⟨64 * c.val + q.val, by omega⟩ : Fin 128) s)
      = Ideal.exp2 (P qb kt kn q c ⟨s.val, by omega⟩ - mx qb kt kn q c) := by
  unfold k0_pay29
  pointwise
  rw [pay28_apply, pay4_apply qb kt kn]
  rfl

theorem pay30_apply (c : Fin 2) (q : Fin 64) (s : Fin 64) :
    k0_pay30 (k0_pay4 qb kt) (k0_pay5 qb kn) (ix2 (⟨64 * c.val + q.val, by omega⟩ : Fin 128) s)
      = Ideal.exp2 (P qb kt kn q c ⟨1024 + s.val, by omega⟩ - mx qb kt kn q c) := by
  unfold k0_pay30
  pointwise
  rw [pay28_apply, pay5_apply qb kt kn]
  rfl

/-- The reciprocal of the sum of query `q`'s exponentials in map `c`. -/
def rinv (q : Fin 64) (c : Fin 2) : EReal :=
  Ideal.div 1 ((∑ k : Fin 1024, Ideal.exp2 (P qb kt kn q c ⟨k.val, by omega⟩ - mx qb kt kn q c))
    + ∑ k : Fin 64, Ideal.exp2 (P qb kt kn q c ⟨1024 + k.val, by omega⟩ - mx qb kt kn q c))

theorem pay31_apply (c : Fin 2) (q : Fin 64) (u : Fin 1) :
    k0_pay31 (k0_pay4 qb kt) (k0_pay5 qb kn) (ix2 (⟨64 * c.val + q.val, by omega⟩ : Fin 128) u) = rinv qb kt kn q c := by
  unfold k0_pay31
  pointwise
  simp only [pay29_apply, pay30_apply]
  rfl

theorem softK_eq (q : Fin 64) (c : Fin 2) (s : Fin 1088) :
    softK (P qb kt kn q c) s = Ideal.exp2 (P qb kt kn q c s - mx qb kt kn q c) * rinv qb kt kn q c := rfl

/-- ONE HEAD AT AN INDEX: query `q`'s entry `v` is the head's mathematics of the query's row and the head's keys and values. -/
theorem headOut_apply (q : Fin 64) (v : Fin 128) :
    headOut lam qb kt kn vc vn g zb (ix2 q v)
      = headK (lam (ix2 0 0)) (qRow qb q) (kcRow kt) (knRow kn) (fun s v => vc (ix3 0 s v)) (fun s v => vn (ix2 s v))
          (fun v => g (ix2 0 v)) (fun v => zb (ix2 q v)) v := by
  unfold headOut k0_pay36 k0_pay34 k0_pay35 k0_pay32 k0_pay33
  pointwise
  have e0 : ∀ h, (⟨q.val, h⟩ : Fin 128) = ⟨64 * (0 : Fin 2).val + q.val, by omega⟩ := fun h => Fin.ext (by simp)
  have e1 : ∀ h, (⟨64 + q.val, h⟩ : Fin 128) = ⟨64 * (1 : Fin 2).val + q.val, by omega⟩ := fun h => Fin.ext (by simp)
  simp only [e0, e1, pay29_apply, pay30_apply, pay31_apply]
  have hr : ∀ x l : EReal, x * (rinv qb kt kn q 1 * l) = l * (x * rinv qb kt kn q 1) := fun x l => by rw [← mul_assoc, mul_comm]
  simp only [hr]
  rfl

end Head

end Cert.AttnHand

end
-- ==== Proof.AttnArray.lean ====
/-
  The array the attention kernel writes, at an index, from the argument arrays.
-/
module

public import proofs.«01_k».proof.Proof.AttnHead
public import Idealize.ShloMosaic.Lib.Pipeline.ValueKit
public import Idealize.ShloMosaic.Lib.Claim
public import Idealize.ShloMosaic.Lib.ValueIdxRank6

@[expose] public section

set_option maxRecDepth 16384

noncomputable section

namespace Cert.AttnHand

open Cert.AttnIdeal Cert.AttnIdeal.Gen Cert.AttnIdeal.Value Idealize.ShloMosaic Idealize.ShloMosaic.TcCoe Idealize.ShloMosaic.Tactic Idealize.SL.Sem
open Cert.AttnSpec (top join score softK attK rms headK)

variable (m : (ℓ : Loc nD τ sig) → Buf (Elt Ideal) ℓ)

/-- Where each window's block sits at point `t`: sequence `t`'s, or the whole array. -/
theorem ix_0 : ∀ t : Fin cfg0.N, win0_0.index t = ![0, 0] := (by decide +kernel : ∀ t : Fin grid0.N, _)
theorem ix_1 : ∀ t : Fin cfg0.N, win0_1.index t = ![t.val, 4] := (by decide +kernel : ∀ t : Fin grid0.N, _)
theorem ix_2 : ∀ t : Fin cfg0.N, win0_2.index t = ![t.val, 5] := (by decide +kernel : ∀ t : Fin grid0.N, _)
theorem ix_3 : ∀ t : Fin cfg0.N, win0_3.index t = ![t.val, 6] := (by decide +kernel : ∀ t : Fin grid0.N, _)
theorem ix_4 : ∀ t : Fin cfg0.N, win0_4.index t = ![t.val, 7] := (by decide +kernel : ∀ t : Fin grid0.N, _)
theorem ix_5 : ∀ t : Fin cfg0.N, win0_5.index t = ![0, 0] := (by decide +kernel : ∀ t : Fin grid0.N, _)
theorem ix_6 : ∀ t : Fin cfg0.N, win0_6.index t = ![t.val, 0, 0] := (by decide +kernel : ∀ t : Fin grid0.N, _)
theorem ix_7 : ∀ t : Fin cfg0.N, win0_7.index t = ![t.val, 0, 0] := (by decide +kernel : ∀ t : Fin grid0.N, _)
theorem ix_8 : ∀ t : Fin cfg0.N, win0_8.index t = ![t.val, 0] := (by decide +kernel : ∀ t : Fin grid0.N, _)

theorem t_lt (t : Fin cfg0.N) : t.val < 32 := lt_of_lt_of_eq t.isLt N_0

/-- The blocks of the projected rows: sequence `t`'s rows at the block's columns. -/
theorem iblk_1 (c : Dev nD) (t : Fin cfg0.N) (q : Fin 64) (l : Fin 1024) :
    iblk m c 1 t (ix2 q l) = m ((c : Thread nD τ).loc main_arg4) (ix2 ⟨t.val * 64 + q.val, by have := t_lt t; omega⟩ ⟨4 * 1024 + l.val, by omega⟩) := by
  rw [← V_main_arg4 m c]
  blk_simp [iblk]
  refine congrArg _ ?_
  blk_ext [ix_1]

theorem iblk_6 (c : Dev nD) (t : Fin cfg0.N) (l : Fin 1024) (s : Fin 1024) :
    iblk m c 6 t (ix3 0 l s) = V m c main_v11 (ix3 ⟨t.val, t_lt t⟩ l s) := by
  blk_simp [iblk]
  refine congrArg _ ?_
  blk_ext [ix_6]

theorem iblk_2 (c : Dev nD) (t : Fin cfg0.N) (q : Fin 64) (l : Fin 1024) :
    iblk m c 2 t (ix2 q l) = m ((c : Thread nD τ).loc main_arg4) (ix2 ⟨t.val * 64 + q.val, by have := t_lt t; omega⟩ ⟨5 * 1024 + l.val, by omega⟩) := by
  rw [← V_main_arg4 m c]
  blk_simp [iblk]
  refine congrArg _ ?_
  blk_ext [ix_2]

theorem iblk_3 (c : Dev nD) (t : Fin cfg0.N) (q : Fin 64) (l : Fin 1024) :
    iblk m c 3 t (ix2 q l) = m ((c : Thread nD τ).loc main_arg4) (ix2 ⟨t.val * 64 + q.val, by have := t_lt t; omega⟩ ⟨6 * 1024 + l.val, by omega⟩) := by
  rw [← V_main_arg4 m c]
  blk_simp [iblk]
  refine congrArg _ ?_
  blk_ext [ix_3]

theorem iblk_4 (c : Dev nD) (t : Fin cfg0.N) (q : Fin 64) (l : Fin 1024) :
    iblk m c 4 t (ix2 q l) = m ((c : Thread nD τ).loc main_arg4) (ix2 ⟨t.val * 64 + q.val, by have := t_lt t; omega⟩ ⟨7 * 1024 + l.val, by omega⟩) := by
  rw [← V_main_arg4 m c]
  blk_simp [iblk]
  refine congrArg _ ?_
  blk_ext [ix_4]

theorem iblk_0 (c : Dev nD) (t : Fin cfg0.N) (i : Fin 4) (l : Fin 64) : iblk m c 0 t (ix2 i l) = V m c main_v8 (ix2 i l) := by
  blk_simp [iblk]
  refine congrArg _ ?_
  blk_ext [ix_0]

theorem iblk_5 (c : Dev nD) (t : Fin cfg0.N) (l : Fin 128) : iblk m c 5 t (ix2 0 l) = V m c main_v14 (ix2 0 l) := by
  blk_simp [iblk]
  refine congrArg _ ?_
  blk_ext [ix_5]

theorem iblk_7 (c : Dev nD) (t : Fin cfg0.N) (r : Fin 8192) (l : Fin 128) :
    iblk m c 7 t (ix3 0 r l) = V m c main_v15 (ix3 ⟨t.val, t_lt t⟩ r l) := by
  blk_simp [iblk]
  refine congrArg _ ?_
  blk_ext [ix_7]

/-- The host's transposition of the cached keys, read at an index. -/
theorem keys_apply {α : Type} (x : S1x32x1024x8x2x64.Idx → α) (h₁ : S1x32x1024x8x2x64.ShapeCasts S32x1024x8x2x64)
    (h₂ : S32x1024x8x2x64.Transposes [0, 2, 3, 4, 1] S32x8x2x64x1024) (h₃ : S32x8x2x64x1024.ShapeCasts S32x1024x1024)
    (b : Fin 32) (l s : Fin 1024) :
    shapeCast S32x1024x1024 (transpose S32x8x2x64x1024 [0, 2, 3, 4, 1] (shapeCast S32x1024x8x2x64 x h₁) h₂) h₃ (ix3 b l s)
      = x (ix6 0 b s ⟨l.val / 128, by omega⟩ ⟨l.val / 64 % 2, by omega⟩ ⟨l.val % 64, by omega⟩) := by
  refine (shapeCast_apply _ h₃ (ix3 b l s) (ix5 b ⟨l.val / 128, by omega⟩ ⟨l.val / 64 % 2, by omega⟩ ⟨l.val % 64, by omega⟩ s) ?_).trans ?_
  · rw [Shape.rowMajor_val_five, Shape.rowMajor_val_three]
    simp
    omega
  · generalize hy : shapeCast S32x1024x8x2x64 x h₁ = y
    have e : transpose S32x8x2x64x1024 [0, 2, 3, 4, 1] y h₂ (ix5 b ⟨l.val / 128, by omega⟩ ⟨l.val / 64 % 2, by omega⟩ ⟨l.val % 64, by omega⟩ s)
        = y (ix5 b s ⟨l.val / 128, by omega⟩ ⟨l.val / 64 % 2, by omega⟩ ⟨l.val % 64, by omega⟩) := by pointwise
    rw [e, ← hy]
    refine (shapeCast_dropUnit_apply ![32, 1024, 8, 2, 64] x h₁ _).trans (congrArg x ?_)
    funext a
    fin_cases a <;> rfl

theorem V_11 (c : Dev nD) (b : Fin 32) (l s : Fin 1024) : V m c main_v11 (ix3 b l s)
    = m ((c : Thread nD τ).loc main_arg6) (ix6 0 b s ⟨l.val / 128, by omega⟩ ⟨l.val / 64 % 2, by omega⟩ ⟨l.val % 64, by omega⟩) := by
  dsimp only [V, hostOps0]
  after_results
  exact keys_apply _ _ _ _ b l s

theorem V_8 (c : Dev nD) (i : Fin 4) (l : Fin 64) : V m c main_v8 (ix2 i l)
    = if i.val = 0 then m ((c : Thread nD τ).loc main_arg0) (ix2 0 l) else if i.val = 1 then m ((c : Thread nD τ).loc main_arg1) (ix2 0 l)
      else if i.val = 2 then m ((c : Thread nD τ).loc main_arg2) (ix2 0 l) else m ((c : Thread nD τ).loc main_arg3) (ix2 0 l) := by
  dsimp only [V, hostOps0]
  after_results
  pointwise
  fin_cases i <;> simp only [] <;> simp <;>
    (repeat (first
      | rw [StableHlo.unary_result] | rw [StableHlo.reshape_result]
      | (rw [StableHlo.unary_result_ne]; rotate_left; decide)
      | (rw [StableHlo.reshape_result_ne]; rotate_left; decide))) <;>
    pointwise <;> rfl

theorem V_14 (c : Dev nD) (i : Fin 1) (l : Fin 128) : V m c main_v14 (ix2 i l) = m ((c : Thread nD τ).loc main_arg5) (ix2 0 l) := by
  dsimp only [V, hostOps0]
  after_results
  pointwise

theorem V_15 (c : Dev nD) (b : Fin 32) (r : Fin 8192) (l : Fin 128) : V m c main_v15 (ix3 b r l)
    = m ((c : Thread nD τ).loc main_arg7) (ix5 0 b ⟨r.val / 8, by omega⟩ ⟨r.val % 8, by omega⟩ l) := by
  dsimp only [V, hostOps0]
  after_results
  pointwise

end Cert.AttnHand

end
-- ==== Proof.AttnWhole.lean ====
/-
  The attention kernel's output array: the blocks of all sequences and heads together.
-/
module

public import proofs.«01_k».proof.Proof.AttnArray

@[expose] public section

set_option maxRecDepth 16384

noncomputable section

namespace Cert.AttnHand

open Cert.AttnIdeal Cert.AttnIdeal.Gen Cert.AttnIdeal.Value Idealize.ShloMosaic Idealize.ShloMosaic.TcCoe Idealize.ShloMosaic.Tactic Idealize.SL.Sem
open Cert.AttnSpec (top join score softK attK rms headK tok at4 at5 at6 at7 ix2_congr)

variable (m : (ℓ : Loc nD τ sig) → Buf (Elt Ideal) ℓ)

/-- The weight of the second map, from the four vectors. -/
def lamOf (w : Fin 4 → Fin 64 → EReal) : EReal :=
  Ideal.exp (∑ l, w 0 l * w 1 l) - Ideal.exp (∑ l, w 2 l * w 3 l) + Ideal.ofBits .f32 0x3E4CCCCD#32

theorem pay2_apply (x : Vec Ideal S4x64 .f32) : k0_pay2 x (ix2 0 0) = lamOf fun i l => x (ix2 i l) := by
  unfold k0_pay2
  pointwise
  rfl

/-- Column `64 c + d` of head `h`, -/
abbrev hcd (h : Fin 8) (c : Fin 2) (d : Fin 64) : Fin 1024 := ⟨128 * h.val + 64 * c.val + d.val, by omega⟩
/-- and its column `v` of the values. -/
abbrev hv (h : Fin 8) (v : Fin 128) : Fin 1024 := ⟨128 * h.val + v.val, by omega⟩

theorem headK_congr {l l' : EReal} {q q' : Fin 2 → Fin 64 → EReal} {kc kc' : Fin 2 → Fin 64 → Fin 1024 → EReal}
    {kn kn' : Fin 2 → Fin 64 → Fin 64 → EReal} {vc vc' : Fin 1024 → Fin 128 → EReal} {vn vn' : Fin 64 → Fin 128 → EReal}
    {g g' z z' : Fin 128 → EReal} (e₁ : l = l') (e₂ : q = q') (e₃ : kc = kc') (e₄ : kn = kn') (e₅ : vc = vc') (e₆ : vn = vn')
    (e₇ : g = g') (e₈ : z = z') (v : Fin 128) : headK l q kc kn vc vn g z v = headK l' q' kc' kn' vc' vn' g' z' v := by
  subst e₁ e₂ e₃ e₄ e₅ e₆ e₇ e₈
  rfl

/-- Head `h`'s value at an index, from the blocks' entries. -/
theorem headAt_apply (h : Fin 8) (x0 : Vec Ideal S4x64 .f32) (x1 x2 x3 x4 : Vec Ideal S64x1024 .bf16) (x5 : Vec Ideal S1x128 .f32)
    (x6 : Vec Ideal S1x1024x1024 .f32) (x7 : Vec Ideal S1x8192x128 .f32) (q : Fin 64) (v : Fin 128) :
    headAt h x0 x1 x2 x3 x4 x5 x6 x7 (ix2 q v)
      = headK (lamOf fun i l => x0 (ix2 i l)) (fun c d => x1 (ix2 q (hcd h c d))) (fun c d s => x6 (ix3 0 (hcd h c d) s))
          (fun c d s => x2 (ix2 s (hcd h c d))) (fun s v => x7 (ix3 0 ⟨8 * s.val + h.val, by omega⟩ v))
          (fun s v => x3 (ix2 s (hv h v))) (fun v => x5 (ix2 0 v)) (fun v => x4 (ix2 q (hv h v))) v := by
  unfold headAt
  rw [headOut_apply, pay2_apply]
  have e2 : ∀ (X : Vec Ideal S64x1024 .bf16) (r : Fin 64) (v : Fin 128), View.ld X (cols h) (ix2 r v) = X (ix2 r (hv h v)) := by
    intro X r v
    refine congrArg X ?_
    funext a
    fin_cases a <;> apply Fin.ext <;> simp [LoadRect.idx]
  have e6 : ∀ (l : Fin 128) (s : Fin 1024), View.ld x6 (rows h) (ix3 0 l s) = x6 (ix3 0 (hv h l) s) := by
    intro l s
    refine congrArg x6 ?_
    funext a
    fin_cases a <;> apply Fin.ext <;> simp [LoadRect.idx]
  have e7 : ∀ (l : Fin 1024) (s : Fin 128), x7 ((eighth h).idx (ix3 0 l s)) = x7 (ix3 0 ⟨8 * l.val + h.val, by omega⟩ s) := by
    intro l s
    refine congrArg x7 ?_
    funext a
    fin_cases a <;> apply Fin.ext <;> simp [LoadRect.idx]
    omega
  have e0 : View.ld x0 (Rect.unit (s := S4x64) ![0, 0] S4x64.size inb_S4x64_S4x64_0_0) = x0 := View.ld_unit_lit _ x0 (by decide)
  have e5 : View.ld x5 (Rect.unit (s := S1x128) ![0, 0] S1x128.size inb_S1x128_S1x128_0_0) = x5 := View.ld_unit_lit _ x5 (by decide)
  have hcd_eq : ∀ (c : Fin 2) (d : Fin 64), hv h ⟨64 * c.val + d.val, by omega⟩ = hcd h c d := fun c d => Fin.ext (by simp; omega)
  have f1 : ∀ X : Vec Ideal S64x1024 .bf16, (fun (r : Fin 64) (c : Fin 2) (d : Fin 64) => View.ld X (cols h) (ix2 r ⟨64 * c.val + d.val, by omega⟩))
      = fun r c d => X (ix2 r (hcd h c d)) := fun X => funext fun r => funext fun c => funext fun d => (e2 X r _).trans (by rw [hcd_eq])
  have f6 : (fun (c : Fin 2) (d : Fin 64) (s : Fin 1024) => View.ld x6 (rows h) (ix3 0 ⟨64 * c.val + d.val, by omega⟩ s))
      = fun c d s => x6 (ix3 0 (hcd h c d) s) := funext fun c => funext fun d => funext fun s => (e6 _ s).trans (by rw [hcd_eq])
  refine headK_congr ?_ (congrFun (f1 x1) q) f6 ?_ (funext fun s => funext fun v => e7 s v) (funext fun s => funext fun v => e2 x3 s v)
    (funext fun v => congrFun e5 (ix2 0 v)) (funext fun v => e2 x4 q v) v
  · exact congrArg lamOf (funext fun i => funext fun l => congrFun e0 (ix2 i l))
  · exact funext fun c => funext fun d => funext fun s => congrFun (congrFun (congrFun (f1 x2) s) c) d

/-- The block's entries, from the staged blocks. -/
def blockOf (x0 : Vec Ideal S4x64 .f32) (x1 x2 x3 x4 : Vec Ideal S64x1024 .bf16) (x5 : Vec Ideal S1x128 .f32)
    (x6 : Vec Ideal S1x1024x1024 .f32) (x7 : Vec Ideal S1x8192x128 .f32) : S64x1024.Idx → EReal := fun y =>
  headAt ⟨(y 1).val / 128, by have h := (y 1).isLt; change (y 1).val < 1024 at h; omega⟩ x0 x1 x2 x3 x4 x5 x6 x7
    (ix2 (y 0) ⟨(y 1).val % 128, by omega⟩)

theorem blockOf_eq (x0 : Vec Ideal S4x64 .f32) (x1 x2 x3 x4 : Vec Ideal S64x1024 .bf16) (x5 : Vec Ideal S1x128 .f32)
    (x6 : Vec Ideal S1x1024x1024 .f32) (x7 : Vec Ideal S1x8192x128 .f32) (y : S64x1024.Idx) :
    View.canon (pieces x0 x1 x2 x3 x4 x5 x6 x7) y = blockOf x0 x1 x2 x3 x4 x5 x6 x7 y := by
  have hp : ∀ (h : Fin 8) (x : (cols h).shape.Idx), headAt h x0 x1 x2 x3 x4 x5 x6 x7 x
      = blockOf x0 x1 x2 x3 x4 x5 x6 x7 ((cols h).emb x) := by
    intro h x
    have h1 : (x 1).val < 128 := (x 1).isLt
    have e1 : (((cols h).emb x) 1).val = 128 * h.val + (x 1).val := Rect.idx_unit_val _ _ _ x 1
    have e0 : (((cols h).emb x) 0).val = (x 0).val := (Rect.idx_unit_val _ _ _ x 0).trans (Nat.zero_add _)
    unfold blockOf
    have key : ∀ (h' : Fin 8) (i : Fin 64) (v : Fin 128), h'.val = h.val → i.val = (x 0).val → v.val = (x 1).val →
        headAt h x0 x1 x2 x3 x4 x5 x6 x7 x = headAt h' x0 x1 x2 x3 x4 x5 x6 x7 (ix2 i v) := by
      intro h' i v a b d
      obtain rfl : h' = h := Fin.ext a
      refine congrArg (headAt h' x0 x1 x2 x3 x4 x5 x6 x7) ?_
      funext k
      fin_cases k
      · exact Fin.ext b.symm
      · exact Fin.ext d.symm
    refine key _ _ _ ?_ e0 ?_
    · show (((cols h).emb x) 1).val / 128 = h.val
      omega
    · show (((cols h).emb x) 1).val % 128 = (x 1).val
      omega
  refine View.canon_apply_of_pieces (Val := Elt Ideal) (S := S64x1024) (e := .bf16) (blockOf x0 x1 x2 x3 x4 x5 x6 x7) _ ?_ y ?_
  · intro p hpm
    unfold pieces at hpm
    simp only [List.mem_cons, List.not_mem_nil, or_false] at hpm
    rcases hpm with rfl | rfl | rfl | rfl | rfl | rfl | rfl | rfl <;> exact hp _
  · exact View.cover_of_tiledL (s := S64x1024) (pieces x0 x1 x2 x3 x4 x5 x6 x7) ![64, 128] (by unfold pieces; rfl) y

/-- The kernel's value at sequence `b`, row `q`, head `h`, column `v`, from its arguments. -/
def attnK (a0 a1 a2 a3 : Vec Ideal S1x64 .f32) (p : Vec Ideal S2048x13312 .bf16) (g : Vec Ideal S1x128 .f32)
    (ck : Vec Ideal S1x32x1024x8x2x64 .f32) (cv : Vec Ideal S1x32x1024x8x128 .f32) (b : Fin 32) (q : Fin 64) (h : Fin 8) (v : Fin 128) : EReal :=
  headK (Cert.AttnSpec.lam (fun l => a0 (ix2 0 l)) (fun l => a1 (ix2 0 l)) (fun l => a2 (ix2 0 l)) (fun l => a3 (ix2 0 l)))
    (fun c d => p (ix2 (tok b q) (at4 h c d))) (fun c d s => ck (ix6 0 b s h c d))
    (fun c d s => p (ix2 (tok b s) (at5 h c d))) (fun s v => cv (ix5 0 b s h v)) (fun s v => p (ix2 (tok b s) (at6 h v)))
    (fun v => g (ix2 0 v)) (fun v => p (ix2 (tok b q) (at7 h v))) v

theorem point (c : Dev nD) (t : Fin cfg0.N) (h : Fin 8) (q : Fin 64) (v : Fin 128) :
    headAt h (iblk m c 0 t) (iblk m c 1 t) (iblk m c 2 t) (iblk m c 3 t) (iblk m c 4 t) (iblk m c 5 t) (iblk m c 6 t) (iblk m c 7 t) (ix2 q v)
      = attnK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) ⟨t.val, t_lt t⟩ q h v := by
  rw [headAt_apply]
  refine headK_congr ?_ ?_ ?_ ?_ ?_ ?_ ?_ ?_ v
  · have e : ∀ i l, iblk m c 0 t (ix2 i l) = _ := fun i l => (iblk_0 m c t i l).trans (V_8 m c i l)
    unfold lamOf Cert.AttnSpec.lam
    simp only [e]
    rfl
  · exact funext fun i => funext fun d => (iblk_1 m c t q _).trans (congrArg _ (ix2_congr (by simp [tok]; omega) (by simp)))
  · refine funext fun i => funext fun d => funext fun s => ((iblk_6 m c t _ s).trans (V_11 m c _ _ s)).trans (congrArg _ ?_)
    have h1 : (⟨(hcd h i d).val / 128, by omega⟩ : Fin 8) = h := Fin.ext (by simp; omega)
    have h2 : (⟨(hcd h i d).val / 64 % 2, by omega⟩ : Fin 2) = i := Fin.ext (by simp; omega)
    have h3 : (⟨(hcd h i d).val % 64, by omega⟩ : Fin 64) = d := Fin.ext (by simp; omega)
    rw [h1, h2, h3]
  · exact funext fun i => funext fun d => funext fun s => (iblk_2 m c t s _).trans (congrArg _ (ix2_congr (by simp [tok]; omega) (by simp)))
  · refine funext fun s => funext fun v => ((iblk_7 m c t _ v).trans (V_15 m c _ _ v)).trans (congrArg _ ?_)
    have h1 : (⟨(8 * s.val + h.val) / 8, by omega⟩ : Fin 1024) = s := Fin.ext (by simp; omega)
    have h2 : (⟨(8 * s.val + h.val) % 8, by omega⟩ : Fin 8) = h := Fin.ext (by simp)
    exact congrArg₂ (fun (x : Fin 1024) (y : Fin 8) => ix5 (0 : Fin 1) (⟨t.val, t_lt t⟩ : Fin 32) x y v) h1 h2
  · exact funext fun s => funext fun v => (iblk_3 m c t s _).trans (congrArg _ (ix2_congr (by simp [tok]; omega) (by simp)))
  · exact funext fun v => (iblk_5 m c t v).trans (V_14 m c 0 v)
  · exact funext fun v => (iblk_4 m c t q _).trans (congrArg _ (ix2_congr (by simp [tok]; omega) (by simp)))

/-- The array the kernel writes, as a function of the arguments. -/
def arrayK (a0 a1 a2 a3 : Vec Ideal S1x64 .f32) (p : Vec Ideal S2048x13312 .bf16) (g : Vec Ideal S1x128 .f32)
    (ck : Vec Ideal S1x32x1024x8x2x64 .f32) (cv : Vec Ideal S1x32x1024x8x128 .f32) : S2048x1024.Idx → EReal := fun i =>
  attnK a0 a1 a2 a3 p g ck cv ⟨(i 0).val / 64, by have h : (i 0).val < 2048 := (i 0).isLt; omega⟩ ⟨(i 0).val % 64, by omega⟩
    ⟨(i 1).val / 128, by have h : (i 1).val < 1024 := (i 1).isLt; omega⟩ ⟨(i 1).val % 128, by omega⟩

/-- The kernel's result holds `arrayK` of its arguments. -/
theorem final (c : Dev nD) : (dats m 0 c).arrAt 8 cfg0.N
      = arrayK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (dats m 0 c).arrAt_eq_of_covers 8 _ (by decide +kernel) fun t hf y => ?_
  blk_simp
  rw [after0_8, outsAt_eq]
  have hy0 : (y 0).val < 64 := (y 0).isLt
  have hy1 : (y 1).val < 1024 := (y 1).isLt
  refine (blockOf_eq _ _ _ _ _ _ _ _ y).trans ((point m c t _ _ _).trans ?_)
  have ht := t_lt t
  have e0 : (((win0_8.blk t).view.emb y) 0).val = t.val * 64 + (y 0).val := by blk_simp [ix_8]
  have e1 : (((win0_8.blk t).view.emb y) 1).val = (y 1).val := by blk_simp [ix_8]
  unfold arrayK
  congr 1
  · exact Fin.ext (show t.val = (((win0_8.blk t).view.emb y) 0).val / 64 by omega)
  · exact Fin.ext (show (y 0).val = (((win0_8.blk t).view.emb y) 0).val % 64 by omega)
  · exact Fin.ext (show (y 1).val / 128 = (((win0_8.blk t).view.emb y) 1).val / 128 by omega)
  · exact Fin.ext (show (y 1).val % 128 = (((win0_8.blk t).view.emb y) 1).val % 128 by omega)

end Cert.AttnHand

end
-- ==== Proof.AttnRead.lean ====
/-
  What the reference of the attention computes, at an index.
-/
module

public import proofs.«01_k».proof.Proof.AttnSpec
public import proofs.«01_k».proof.Proof.Gen.AttnRefIdeal.Read
public import Idealize.ShloMosaic.Lib.Pipeline.Value
public import Idealize.ShloMosaic.Lib.ValueIdxRank6

@[expose] public section

set_option maxRecDepth 16384

noncomputable section

namespace Cert.AttnHandRef

open Cert.AttnRefIdeal Cert.AttnRefIdeal.Gen Cert.AttnRefIdeal.Read Idealize.ShloMosaic Idealize.ShloMosaic.TcCoe Idealize.ShloMosaic.Tactic Idealize.SL.Sem
open Cert.AttnSpec (top join score softR attR rms headR tok at4 at5 at6 at7 ix2_congr)

variable (x0 x1 x2 x3 : Vec Ideal S1x64 .f32) (x4 : Vec Ideal S2048x13312 .bf16) (x5 : Vec Ideal S1x128 .f32)
  (x6 : Vec Ideal S1x32x1024x8x2x64 .f32) (x7 : Vec Ideal S1x32x1024x8x128 .f32)

/-- The queries, -/
theorem q_apply (b : Fin 32) (q : Fin 64) (h : Fin 8) (c : Fin 2) (d : Fin 64) :
    val_main_v2 (F := Ideal) x4 (ix5 b q h c d) = x4 (ix2 (tok b q) (at4 h c d)) := by
  unfold val_main_v2 val_main_v1 val_main_v0
  pointwise
  exact congrArg x4 (ix2_congr (by simp; omega) (by simp; omega))

theorem kn_apply (b : Fin 32) (q : Fin 64) (h : Fin 8) (c : Fin 2) (d : Fin 64) :
    val_main_v4 (F := Ideal) x4 (ix5 b q h c d) = x4 (ix2 (tok b q) (at5 h c d)) := by
  unfold val_main_v4 val_main_v3 val_main_v0
  pointwise
  exact congrArg x4 (ix2_congr (by simp; omega) (by simp; omega))

theorem vn_apply (b : Fin 32) (q : Fin 64) (h : Fin 8) (v : Fin 128) :
    val_main_v6 (F := Ideal) x4 (ix4 b q h v) = x4 (ix2 (tok b q) (at6 h v)) := by
  unfold val_main_v6 val_main_v5 val_main_v0
  pointwise
  exact congrArg x4 (ix2_congr (by simp; omega) (by simp; omega))

theorem z_apply (b : Fin 32) (q : Fin 64) (h : Fin 8) (v : Fin 128) :
    val_main_v7 (F := Ideal) x4 (ix2 (tok b q) ⟨128 * h.val + v.val, by omega⟩) = x4 (ix2 (tok b q) (at7 h v)) := by
  unfold val_main_v7 val_main_v0
  pointwise

theorem kc_apply (b : Fin 32) (s : Fin 1024) (h : Fin 8) (c : Fin 2) (d : Fin 64) :
    val_main_v20 (F := Ideal) x6 (ix5 b s h c d) = x6 (ix6 0 b s h c d) := by
  unfold val_main_v20
  refine (shapeCast_dropUnit_apply ![32, 1024, 8, 2, 64] x6 _ _).trans (congrArg x6 ?_)
  funext a
  fin_cases a <;> rfl

theorem vc_apply (b : Fin 32) (s : Fin 1024) (h : Fin 8) (v : Fin 128) :
    val_main_v22 (F := Ideal) x7 (ix4 b s h v) = x7 (ix5 0 b s h v) := by
  unfold val_main_v22
  pointwise

theorem k_apply (b : Fin 32) (s : Fin 1088) (h : Fin 8) (c : Fin 2) (d : Fin 64) :
    val_main_v21 (F := Ideal) x4 x6 (ix5 b s h c d) = join (fun s => x6 (ix6 0 b s h c d)) (fun s => x4 (ix2 (tok b s) (at5 h c d))) s := by
  unfold val_main_v21
  pointwise
  simp only [kc_apply, kn_apply]
  rfl

theorem v_apply (b : Fin 32) (s : Fin 1088) (h : Fin 8) (v : Fin 128) :
    val_main_v23 (F := Ideal) x4 x7 (ix4 b s h v) = join (fun s => x7 (ix5 0 b s h v)) (fun s => x4 (ix2 (tok b s) (at6 h v))) s := by
  unfold val_main_v23
  pointwise
  simp only [vc_apply, vn_apply]
  rfl

/-- The scores in base two, of sequence `b`, row `q`, head `h`, -/
abbrev P (b : Fin 32) (q : Fin 64) (h : Fin 8) : Fin 2 → Fin 1088 → EReal :=
  score (fun c d => x4 (ix2 (tok b q) (at4 h c d))) (fun c d s => x6 (ix6 0 b s h c d)) (fun c d s => x4 (ix2 (tok b s) (at5 h c d)))

theorem score_apply (b : Fin 32) (h : Fin 8) (c : Fin 2) (q : Fin 64) (s : Fin 1088) :
    val_main_v24 (F := Ideal) x4 x6 (ix5 b h c q s) = P x4 x6 b q h c s := by
  unfold val_main_v24
  pointwise
  simp only [q_apply, k_apply]
  rfl

theorem ln2_apply (i : S_.Idx) : val_main_v25 (F := Ideal) i = (Real.log 2 : EReal) := by
  rw [val_main_v25_apply, val_main_cst_2_apply]
  show Ideal.log (Ideal.ofBits .f32 0x40000000#32) = _
  have e : Ideal.ofBits .f32 0x40000000#32 = ((2 : ℝ) : EReal) := by
    simp [Ideal.ofBits, Ideal.ieee, -EReal.coe_mul]; norm_num
  rw [e, Ideal.log_coe, if_neg (by norm_num)]

theorem scaled_apply (b : Fin 32) (h : Fin 8) (c : Fin 2) (q : Fin 64) (s : Fin 1088) :
    val_main_v27 (F := Ideal) x4 x6 (ix5 b h c q s) = P x4 x6 b q h c s * (Real.log 2 : EReal) := by
  rw [val_main_v27_apply, score_apply, val_main_v26_apply, ln2_apply]
  rfl

theorem maxOver_apply (y : FVec Ideal S32x8x2x64x1088 .f32) (z : FVec Ideal S_ .f32) (b : Fin 32) (h : Fin 8) (c : Fin 2) (q : Fin 64) :
    Host.reduce FloatOps.maximumf y z reducesTo_S32x8x2x64x1088_S32x8x2x64_d4 h_S_ (ix4 b h c q)
      = Finset.univ.fold max (z ix0) (fun s : Fin 1088 => y (ix5 b h c q s)) := by
  pointwise
  exact congrArg (fun i => Finset.univ.fold max (z i) _) (Subsingleton.elim _ _)

theorem lam_apply (i : S_.Idx) : val_main_v19 (F := Ideal) x0 x1 x2 x3 i
    = Cert.AttnSpec.lam (fun l => x0 (ix2 0 l)) (fun l => x1 (ix2 0 l)) (fun l => x2 (ix2 0 l)) (fun l => x3 (ix2 0 l)) := by
  unfold val_main_v19 val_main_v18 val_main_v17 val_main_v16 val_main_v15 val_main_v14 val_main_v13 val_main_v12 val_main_v11 val_main_v10
    val_main_v9 val_main_v8 val_main_cst val_main_cst_0 val_main_cst_1
  pointwise
  rfl

theorem negInf : Ideal.ofBits .f32 0xFF800000#32 = ⊥ := by simp [Ideal.ofBits, Ideal.ieee]

theorem max_apply (b : Fin 32) (h : Fin 8) (c : Fin 2) (q : Fin 64) :
    val_main_v30 (F := Ideal) x4 x6 (ix4 b h c q) = top fun s => P x4 x6 b q h c s * (Real.log 2 : EReal) := by
  rw [val_main_v30_apply, val_main_v29_apply]
  have e : val_main_v28 (F := Ideal) x4 x6 (ix4 b h c q) = top fun s => P x4 x6 b q h c s * (Real.log 2 : EReal) := by
    unfold val_main_v28
    rw [maxOver_apply]
    simp only [scaled_apply]
    show Finset.univ.fold max (Ideal.ofBits .f32 0xFF800000#32) _ = _
    rw [negInf]
    rfl
  rw [e]
  show max (Ideal.ofBits .f32 0xFF800000#32) _ = _
  rw [negInf, max_eq_right bot_le]

theorem soft_apply (b : Fin 32) (h : Fin 8) (c : Fin 2) (q : Fin 64) (s : Fin 1088) :
    val_main_v38 (F := Ideal) x4 x6 (ix5 b h c q s) = softR (P x4 x6 b q h c) s := by
  unfold val_main_v38 val_main_v37 val_main_v36 val_main_v35 val_main_v34 val_main_v33 val_main_v32 val_main_v31 val_main_cst_5
  pointwise
  simp only [scaled_apply, max_apply]
  rfl

theorem diff_apply (b : Fin 32) (h : Fin 8) (q : Fin 64) (s : Fin 1088) :
    val_main_v45 (F := Ideal) x0 x1 x2 x3 x4 x6 (ix4 b h q s) = softR (P x4 x6 b q h 0) s
      - Cert.AttnSpec.lam (fun l => x0 (ix2 0 l)) (fun l => x1 (ix2 0 l)) (fun l => x2 (ix2 0 l)) (fun l => x3 (ix2 0 l)) * softR (P x4 x6 b q h 1) s := by
  unfold val_main_v45 val_main_v44 val_main_v43 val_main_v42 val_main_v41 val_main_v40 val_main_v39
  pointwise
  simp only [soft_apply, lam_apply]

/-- The difference of the two maps applied to the values. -/
theorem att_apply (b : Fin 32) (q : Fin 64) (h : Fin 8) (v : Fin 128) :
    val_main_v47 (F := Ideal) x0 x1 x2 x3 x4 x6 x7 (ix4 b q h v)
      = attR (Cert.AttnSpec.lam (fun l => x0 (ix2 0 l)) (fun l => x1 (ix2 0 l)) (fun l => x2 (ix2 0 l)) (fun l => x3 (ix2 0 l)))
          (P x4 x6 b q h) (fun s v => x7 (ix5 0 b s h v)) (fun s v => x4 (ix2 (tok b s) (at6 h v))) v := by
  unfold val_main_v47 val_main_v46
  pointwise
  simp only [v_apply, diff_apply]
  exact Finset.sum_congr rfl fun _ _ => mul_comm _ _

theorem norm_apply (b : Fin 32) (q : Fin 64) (h : Fin 8) (v : Fin 128) :
    val_main_v63 (F := Ideal) x0 x1 x2 x3 x4 x5 x6 x7 (ix4 b q h v)
      = rms (attR (Cert.AttnSpec.lam (fun l => x0 (ix2 0 l)) (fun l => x1 (ix2 0 l)) (fun l => x2 (ix2 0 l)) (fun l => x3 (ix2 0 l)))
          (P x4 x6 b q h) (fun s v => x7 (ix5 0 b s h v)) (fun s v => x4 (ix2 (tok b s) (at6 h v)))) (fun v => x5 (ix2 0 v)) v
        * Ideal.ofBits .f32 0x3F4CCCCD#32 := by
  unfold val_main_v63 val_main_v62 val_main_v61 val_main_v60 val_main_v59 val_main_v58 val_main_v57 val_main_v56 val_main_v55 val_main_v54
    val_main_v53 val_main_v52 val_main_v51 val_main_v50 val_main_v49 val_main_v48 val_main_cst_6 val_main_cst_7 val_main_cst_8 val_main_cst_9
  pointwise
  simp only [att_apply]
  rfl

/-- The reference's value at sequence `b`, row `q`, head `h`, column `v`. -/
def attnR (b : Fin 32) (q : Fin 64) (h : Fin 8) (v : Fin 128) : EReal :=
  headR (Cert.AttnSpec.lam (fun l => x0 (ix2 0 l)) (fun l => x1 (ix2 0 l)) (fun l => x2 (ix2 0 l)) (fun l => x3 (ix2 0 l)))
    (fun c d => x4 (ix2 (tok b q) (at4 h c d))) (fun c d s => x6 (ix6 0 b s h c d))
    (fun c d s => x4 (ix2 (tok b s) (at5 h c d))) (fun s v => x7 (ix5 0 b s h v)) (fun s v => x4 (ix2 (tok b s) (at6 h v)))
    (fun v => x5 (ix2 0 v)) (fun v => x4 (ix2 (tok b q) (at7 h v))) v

theorem result_apply (r : Fin 2048) (l : Fin 1024) :
    val_main_v66 (F := Ideal) x0 x1 x2 x3 x4 x5 x6 x7 (ix2 r l)
      = attnR x0 x1 x2 x3 x4 x5 x6 x7 ⟨r.val / 64, by omega⟩ ⟨r.val % 64, by omega⟩ ⟨l.val / 128, by omega⟩ ⟨l.val % 128, by omega⟩ := by
  unfold val_main_v66 val_main_v65 val_main_v64
  pointwise
  simp only [norm_apply]
  have hr : (tok ⟨r.val / 64, by omega⟩ ⟨r.val % 64, by omega⟩) = r := Fin.ext (by simp; omega)
  have hl : (⟨128 * (l.val / 128) + l.val % 128, by omega⟩ : Fin 1024) = l := Fin.ext (by simp; omega)
  have hz := z_apply x4 ⟨r.val / 64, by omega⟩ ⟨r.val % 64, by omega⟩ ⟨l.val / 128, by omega⟩ ⟨l.val % 128, by omega⟩
  refine congrArg₂ (· * ·) rfl (Eq.trans ?_ hz)
  exact congrArg (val_main_v7 (F := Ideal) x4) (by rw [hr, hl])

end Cert.AttnHandRef

end
-- ==== Proof.AttnClaim.lean ====
/-
  The claims of the attention: the frames, and that the kernel's result is the reference's where the queries and keys are
  finite.
-/
module

public import proofs.«01_k».proof.Defs
public import proofs.«01_k».proof.Proof.AttnWhole
public import proofs.«01_k».proof.Proof.AttnRead
public import proofs.«01_k».proof.Proof.Gen.AttnRefIdeal.Run
public import proofs.«01_k».proof.Proof.Gen.Pre_attn_finite
public import proofs.«01_k».proof.Proof.Gen.Attn.Frame

@[expose] public section

set_option maxRecDepth 16384

noncomputable section

namespace Cert.Pre_attn_finite

open Idealize.ShloMosaic Cert.Pre_attn_finite.Gen

/-- An extended real whose absolute value compares less than infinity is neither infinity. -/
theorem finite_of_lt {x : EReal} (h : Ideal.cmp .olt (max x (-x)) ⊤ = 1#1) : x ≠ ⊤ ∧ x ≠ ⊥ := by
  constructor
  · rintro rfl; simp [Ideal.cmp] at h
  · rintro rfl; simp [Ideal.cmp] at h

variable {x0 x1 x2 x3 : FVec Ideal S1x64 .f32} {p : FVec Ideal S2048x13312 .bf16} {g : FVec Ideal S1x128 .f32}
  {ck : FVec Ideal S1x32x1024x8x2x64 .f32} {cv : FVec Ideal S1x32x1024x8x128 .f32}

/-- Under the precondition the queries and the new keys are finite, -/
theorem rows_finite (h : (fn (F := Ideal) x0 x1 x2 x3 p g ck cv).1 = fun _ => 1#1) (r : Fin 2048) (l : Fin 2048) :
    p (ix2 r ⟨4096 + l.val, by omega⟩) ≠ ⊤ ∧ p (ix2 r ⟨4096 + l.val, by omega⟩) ≠ ⊥ := by
  have hi := congrFun h (ix2 r l)
  unfold fn at hi
  dsimp only at hi
  pointwise at hi
  have e : Ideal.ofBits .bf16 0x7F80#16 = ⊤ := by simp [Ideal.ofBits, Ideal.ieee]
  rw [e] at hi
  exact finite_of_lt hi

/-- and the cached keys. -/
theorem cache_finite (h : (fn (F := Ideal) x0 x1 x2 x3 p g ck cv).2 = fun _ => 1#1) (i : S1x32x1024x8x2x64.Idx) :
    ck i ≠ ⊤ ∧ ck i ≠ ⊥ := by
  have hi := congrFun h i
  unfold fn at hi
  dsimp only at hi
  pointwise at hi
  have e : Ideal.ofBits .f32 0x7F800000#32 = ⊤ := by simp [Ideal.ofBits, Ideal.ieee]
  rw [e] at hi
  exact finite_of_lt hi

end Cert.Pre_attn_finite

namespace Cert.AttnClaims

open Idealize.ShloMosaic Idealize.ShloMosaic.TcCoe Idealize.SL.Sem
open Cert.AttnSpec (tok at4 at5 at6 at7)

/-- From the same arguments the kernel's array and the reference's are one. -/
theorem arrays (a0 a1 a2 a3 : FVec Ideal Cert.AttnIdeal.S1x64 .f32) (p : FVec Ideal Cert.AttnIdeal.S2048x13312 .bf16)
    (g : FVec Ideal Cert.AttnIdeal.S1x128 .f32) (ck : FVec Ideal Cert.AttnIdeal.S1x32x1024x8x2x64 .f32)
    (cv : FVec Ideal Cert.AttnIdeal.S1x32x1024x8x128 .f32)
    (h₁ : (Cert.Pre_attn_finite.fn (F := Ideal) a0 a1 a2 a3 p g ck cv).1 = fun _ => 1#1)
    (h₂ : (Cert.Pre_attn_finite.fn (F := Ideal) a0 a1 a2 a3 p g ck cv).2 = fun _ => 1#1) :
    Cert.AttnRefIdeal.Read.val_main_v66 (F := Ideal) a0 a1 a2 a3 p g ck cv = Cert.AttnHand.arrayK a0 a1 a2 a3 p g ck cv := by
  funext i
  have ei : i = ix2 (i 0 : Fin 2048) (i 1 : Fin 1024) := by
    funext k
    fin_cases k <;> rfl
  rw [ei]
  refine (Cert.AttnHandRef.result_apply a0 a1 a2 a3 p g ck cv (i 0) (i 1)).trans ?_
  have key : ∀ (b : Fin 32) (q : Fin 64) (h : Fin 8) (v : Fin 128),
      Cert.AttnHandRef.attnR a0 a1 a2 a3 p g ck cv b q h v = Cert.AttnHand.attnK a0 a1 a2 a3 p g ck cv b q h v := by
    intro b q h v
    unfold Cert.AttnHandRef.attnR Cert.AttnHand.attnK
    refine Eq.symm (Cert.AttnSpec.head_eq _ _ _ _ ?_ ?_ ?_ _ _ _ _ _)
    · intro c d
      have e := Cert.Pre_attn_finite.rows_finite h₁ (tok b q) ⟨128 * h.val + 64 * c.val + d.val, by omega⟩
      exact e
    · exact fun c d s => Cert.Pre_attn_finite.cache_finite h₂ _
    · intro c d s
      have e := Cert.Pre_attn_finite.rows_finite h₁ (tok b s) ⟨1024 + (128 * h.val + 64 * c.val + d.val), by omega⟩
      rw [Cert.AttnSpec.ix2_congr (a' := tok b s) (b' := at5 h c d) rfl (by simp; omega)] at e
      exact e
  exact key _ _ _ _

theorem frame : Cert.quiescent_Attn := fun m ρ _ => Cert.Attn.Gen.frame m ρ
theorem frameIdeal : Cert.quiescent_AttnIdeal := fun m ρ _ => Cert.AttnIdeal.Gen.frame m ρ
theorem frameIdealPre : Cert.quiescent_AttnIdeal_pre_attn_finite := fun m ρ _ => Cert.AttnIdeal.Gen.frame m ρ
theorem frameRef : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)
theorem frameRefPre : Cert.quiescent_AttnRefIdeal_pre_attn_finite := fun m ρ _ => frameRef m ρ trivial

theorem algebraic : Cert.algebraic_AttnIdeal_AttnRefIdeal_pre_attn_finite := by
  intro m ρ m' ρ' hpre hag
  refine ⟨fun c => Cert.AttnHand.arrayK (m ((c : Thread Cert.AttnIdeal.nD Cert.AttnIdeal.τ).loc Cert.AttnIdeal.main_arg0))
    (m ((c : Thread Cert.AttnIdeal.nD Cert.AttnIdeal.τ).loc Cert.AttnIdeal.main_arg1))
    (m ((c : Thread Cert.AttnIdeal.nD Cert.AttnIdeal.τ).loc Cert.AttnIdeal.main_arg2))
    (m ((c : Thread Cert.AttnIdeal.nD Cert.AttnIdeal.τ).loc Cert.AttnIdeal.main_arg3))
    (m ((c : Thread Cert.AttnIdeal.nD Cert.AttnIdeal.τ).loc Cert.AttnIdeal.main_arg4))
    (m ((c : Thread Cert.AttnIdeal.nD Cert.AttnIdeal.τ).loc Cert.AttnIdeal.main_arg5))
    (m ((c : Thread Cert.AttnIdeal.nD Cert.AttnIdeal.τ).loc Cert.AttnIdeal.main_arg6))
    (m ((c : Thread Cert.AttnIdeal.nD Cert.AttnIdeal.τ).loc Cert.AttnIdeal.main_arg7)), ?_, ?_⟩
  · exact (θ_run Cert.AttnIdeal.defs _ _).mono (fun _ h c => ⟨(h c).1.trans (Cert.AttnHand.final m c), (h c).2⟩)
      (Cert.AttnIdeal.Value.run_blocks (F := Ideal) m ρ)
  · refine (θ_run Cert.AttnRefIdeal.defs _ _).mono (fun _ h c => ⟨((h c).1.trans (Cert.AttnRefIdeal.Read.val_main_v66_eq m' c)).trans ?_, (h c).2⟩)
      (Cert.AttnRefIdeal.Value.run (F := Ideal) m' ρ')
    obtain ⟨e0, e1, e2, e3, e4, e5, e6, e7⟩ := hag c
    rw [e0, e1, e2, e3, e4, e5, e6, e7]
    exact arrays _ _ _ _ _ _ _ _ (hpre c).1 (hpre c).2

end Cert.AttnClaims

end
-- ==== Proof.MergeSpec.lean ====
/-
  The mathematics of the memory attention and the merge, one row at a time, for the two ways of writing the attention: a
  softmax in base two whose reciprocal sum is applied after the values, and a softmax in base e. No program is named here.
-/
module

public import proofs.«01_k».proof.Proof.AttnSpec

@[expose] public section

noncomputable section

namespace Cert.MergeSpec

open Idealize.ShloMosaic
open Cert.AttnSpec (top top_mul top_coe exp2_coe_eq)

/-- The base-two softmax of the scores `P` against the values `v`, divided by the sum at the end. -/
def memK (P v : Fin 256 → EReal) : EReal :=
  (∑ n, Ideal.exp2 (P n - top P) * v n) * Ideal.div 1 (∑ n, Ideal.exp2 (P n - top P))

/-- The softmax of the scores times the logarithm of two. -/
def softR (P : Fin 256 → EReal) (n : Fin 256) : EReal :=
  Ideal.div (Ideal.exp (P n * (Real.log 2 : EReal) - top fun k => P k * (Real.log 2 : EReal)))
    (∑ k, Ideal.exp (P k * (Real.log 2 : EReal) - top fun k => P k * (Real.log 2 : EReal)))

/-- That softmax against the values `v`. -/
def memR (P v : Fin 256 → EReal) : EReal := ∑ n, softR P n * v n

/-- A nonnegative real factor goes into a finite sum of extended reals. -/
theorem sum_mul {n : ℕ} (s : Finset (Fin n)) (f : Fin n → EReal) (r : EReal) (h0 : 0 ≤ r) (ht : r ≠ ⊤) : (∑ k ∈ s, f k) * r = ∑ k ∈ s, f k * r := by
  induction s using Finset.induction_on with
  | empty => simp
  | insert a s ha ih => rw [Finset.sum_insert ha, Finset.sum_insert ha, EReal.right_distrib_of_nonneg_of_ne_top h0 ht, ih]

/-- For real scores the two are one function of the scores and the values. -/
theorem mem_eq (P v : Fin 256 → EReal) (hP : ∀ s, P s ≠ ⊤ ∧ P s ≠ ⊥) : memK P v = memR P v := by
  obtain ⟨p, rfl⟩ : ∃ p : Fin 256 → ℝ, P = fun s => (p s : EReal) :=
    ⟨fun s => (P s).toReal, funext fun s => (EReal.coe_toReal (hP s).1 (hP s).2).symm⟩
  have hl : 0 < Real.log 2 := Real.log_pos (by norm_num)
  unfold memK memR softR
  simp only [top_mul _ _ hl]
  obtain ⟨i, hi⟩ := top_coe p
  rw [hi]
  have hk : ∀ k, Ideal.exp2 ((p k : EReal) - (p i : EReal)) = ((Real.exp ((p k - p i) * Real.log 2) : ℝ) : EReal) := by
    intro k
    rw [← EReal.coe_sub, exp2_coe_eq]
  have hr : ∀ k, Ideal.exp ((p k : EReal) * (Real.log 2 : EReal) - (p i : EReal) * (Real.log 2 : EReal))
      = ((Real.exp ((p k - p i) * Real.log 2) : ℝ) : EReal) := by
    intro k
    rw [← EReal.coe_mul, ← EReal.coe_mul, ← EReal.coe_sub, Ideal.exp_coe, sub_mul]
  simp only [hk, hr]
  have hs : (∑ k, ((Real.exp ((p k - p i) * Real.log 2) : ℝ) : EReal)) = ((∑ k, Real.exp ((p k - p i) * Real.log 2) : ℝ) : EReal) :=
    (map_sum (⟨⟨Real.toEReal, EReal.coe_zero⟩, EReal.coe_add⟩ : ℝ →+ EReal) _ _).symm
  have hpos : 0 < ∑ k, Real.exp ((p k - p i) * Real.log 2) :=
    Finset.sum_pos (fun k _ => Real.exp_pos _) Finset.univ_nonempty
  rw [hs, Ideal.div_coe hpos.ne', one_mul, sum_mul _ _ _ (by exact_mod_cast (one_div_pos.mpr hpos).le) (EReal.coe_ne_top _)]
  refine Finset.sum_congr rfl fun k _ => ?_
  rw [Ideal.div_coe hpos.ne', mul_right_comm]

/-- The gated sum of the three branches' projections: gates `g`, branches `a`, `b`, `o`, weights `w`. -/
def merged (g : Fin 3 → Fin 1024 → EReal) (a b o : Fin 1024 → EReal) (w : Fin 3 → Fin 1024 → Fin 1024 → EReal) (k : Fin 1024) : EReal :=
  g 0 k * (∑ j, a j * w 0 j k) + g 1 k * (∑ j, b j * w 1 j k) + g 2 k * ∑ j, o j * w 2 j k

/-- The residual plus the merged row's projection. -/
def result (x h : Fin 1024 → EReal) (w : Fin 1024 → Fin 1024 → EReal) (l : Fin 1024) : EReal := x l + ∑ k, h k * w k l

/-- Column `d` of head `h`, and the head and the place in it of column `j`. -/
abbrev col (h : Fin 4) (d : Fin 256) : Fin 1024 := ⟨256 * h.val + d.val, by omega⟩
abbrev hd (j : Fin 1024) : Fin 4 := ⟨j.val / 256, by omega⟩
abbrev at_ (j : Fin 1024) : Fin 256 := ⟨j.val % 256, by omega⟩

/-- The scores of the query row `q` in head `h` against the keys `k`. -/
def score (q : Fin 1024 → EReal) (k : Fin 256 → Fin 1024 → EReal) (h : Fin 4) (n : Fin 256) : EReal := ∑ d, q (col h d) * k n (col h d)

/-- The gated attention row, as the kernel writes it, -/
def branchK (q z : Fin 1024 → EReal) (k v : Fin 256 → Fin 1024 → EReal) (j : Fin 1024) : EReal :=
  memK (score q k (hd j)) (fun n => v n j) * z j
/-- and as the reference does. -/
def branchR (q z : Fin 1024 → EReal) (k v : Fin 256 → Fin 1024 → EReal) (j : Fin 1024) : EReal :=
  memR (score q k (hd j)) (fun n => v n j) * z j

/-- They are one function of real queries and keys. -/
theorem branch_eq (q z : Fin 1024 → EReal) (k v : Fin 256 → Fin 1024 → EReal) (hq : ∀ j, q j ≠ ⊤ ∧ q j ≠ ⊥) (hk : ∀ n j, k n j ≠ ⊤ ∧ k n j ≠ ⊥) :
    branchK q z k v = branchR q z k v := by
  funext j
  unfold branchK branchR
  exact congrArg (· * z j) (mem_eq (score q k (hd j)) _ fun n =>
    Cert.AttnSpec.sum_mul_real (fun d => q (col (hd j) d)) (fun d => k n (col (hd j) d)) (fun d => hq _) fun d => hk _ _)

end Cert.MergeSpec

end
-- ==== Proof.HgrnSpec.lean ====
/-
  The mathematics of a gated state over 64 frames, one entry at a time, for the two ways of writing it: all frames at once with
  the running sum of the log gates, and four blocks of 16. No program is named here.
-/
module

public import proofs.«01_k».proof.Proof.MergeSpec
public import Idealize.ShloMosaic.Lib.WordCmp

@[expose] public section

noncomputable section

namespace Cert.HgrnSpec

open Idealize.ShloMosaic

/-- The running sum of the log gates as the kernel forms it: of the rounded parts, and of the rests. -/
def runK (g : Fin 64 → EReal) (t : Fin 64) : EReal :=
  (∑ x : Fin 64, if x.val ≤ t.val then g x else 0) + ∑ x : Fin 64, if x.val ≤ t.val then g x - g x else 0

/-- The state after all frames at once, from keys `κ`, values `ω`, log gates `g` and the state before. -/
def stateK (κ ω g : Fin 64 → EReal) (s0 : EReal) : EReal :=
  Ideal.exp (runK g 63) * s0 + ∑ x : Fin 64, ω x * (κ x * Ideal.exp (runK g 63 - runK g x))

/-- Frame `x` of block `n`. -/
abbrev at_ (n : Fin 4) (x : Fin 16) : Fin 64 := ⟨16 * n.val + x.val, by omega⟩

/-- The running sum within a block. -/
def runR (g : Fin 64 → EReal) (n : Fin 4) (j : Fin 16) : EReal := ∑ x : Fin 16, if x.val ≤ j.val then g (at_ n x) else 0

/-- The state after block `n`. -/
def stepR (κ ω g : Fin 64 → EReal) (n : Fin 4) (s : EReal) : EReal :=
  Ideal.exp (runR g n 15) * s + ∑ x : Fin 16, κ (at_ n x) * Ideal.exp (runR g n 15 - runR g n x) * ω (at_ n x)

/-- A function of the frames, continued by zero. -/
def ext {α : Type} [Zero α] (f : Fin 64 → α) (n : ℕ) : α := if h : n < 64 then f ⟨n, h⟩ else 0

theorem ext_val {α : Type} [Zero α] (f : Fin 64 → α) (x : Fin 64) : ext f x.val = f x := dif_pos x.isLt

/-- The sum of the first `n` log gates. -/
def P (γ : Fin 64 → ℝ) (n : ℕ) : ℝ := ∑ x ∈ Finset.range n, ext γ x

/-- The state after the first `n` frames. -/
def closed (κ ω : Fin 64 → EReal) (γ : Fin 64 → ℝ) (s0 : EReal) (n : ℕ) : EReal :=
  ((Real.exp (P γ n) : ℝ) : EReal) * s0 + ∑ x ∈ Finset.range n, ext κ x * ext ω x * ((Real.exp (P γ n - P γ (x + 1)) : ℝ) : EReal)

theorem sum_le (f : ℕ → ℝ) (n t : ℕ) (h : t < n) : (∑ x : Fin n, if x.val ≤ t then f x.val else 0) = ∑ x ∈ Finset.range (t + 1), f x := by
  rw [Fin.sum_univ_eq_sum_range (fun x => if x ≤ t then f x else 0) n, ← Finset.sum_filter]
  refine Finset.sum_congr ?_ fun _ _ => rfl
  ext x
  simp only [Finset.mem_filter, Finset.mem_range]
  omega

theorem coe_sum {ι : Type} (s : Finset ι) (f : ι → ℝ) : (∑ k ∈ s, (f k : EReal)) = ((∑ k ∈ s, f k : ℝ) : EReal) :=
  (map_sum (⟨⟨Real.toEReal, EReal.coe_zero⟩, EReal.coe_add⟩ : ℝ →+ EReal) _ _).symm

theorem coe_ite (p : Prop) [Decidable p] (a : ℝ) : (if p then (a : EReal) else 0) = ((if p then a else 0 : ℝ) : EReal) := by
  split <;> simp

theorem runK_real (γ : Fin 64 → ℝ) (t : Fin 64) : runK (fun x => (γ x : EReal)) t = ((P γ (t.val + 1) : ℝ) : EReal) := by
  unfold runK P
  have h0 : ∀ x : Fin 64, (γ x : EReal) - (γ x : EReal) = 0 := fun x => by rw [← EReal.coe_sub, sub_self, EReal.coe_zero]
  simp only [h0, ite_self, Finset.sum_const_zero, add_zero, coe_ite, coe_sum]
  rw [← sum_le (ext γ) 64 t.val t.isLt]
  simp only [ext_val]

theorem runR_real (γ : Fin 64 → ℝ) (n : Fin 4) (j : Fin 16) :
    runR (fun x => (γ x : EReal)) n j = ((P γ (16 * n.val + j.val + 1) - P γ (16 * n.val) : ℝ) : EReal) := by
  unfold runR P
  simp only [coe_ite, coe_sum]
  rw [add_assoc, Finset.sum_range_add, add_sub_cancel_left, ← sum_le (fun x => ext γ (16 * n.val + x)) 16 j.val j.isLt]
  exact congrArg _ (Finset.sum_congr rfl fun x _ => by rw [← ext_val γ (at_ n x)])

theorem mul_sum {ι : Type} (s : Finset ι) (f : ι → EReal) (a : ℝ) (h : 0 ≤ a) : (a : EReal) * ∑ k ∈ s, f k = ∑ k ∈ s, (a : EReal) * f k := by
  classical
  induction s using Finset.induction_on with
  | empty => simp
  | insert b s hb ih =>
    rw [Finset.sum_insert hb, Finset.sum_insert hb, EReal.left_distrib_of_nonneg_of_ne_top (by exact_mod_cast h) (EReal.coe_ne_top _), ih]

theorem stateK_closed (κ ω : Fin 64 → EReal) (γ : Fin 64 → ℝ) (s0 : EReal) :
    stateK κ ω (fun x => (γ x : EReal)) s0 = closed κ ω γ s0 64 := by
  unfold stateK closed
  simp only [runK_real, ← EReal.coe_sub, Ideal.exp_coe]
  refine congrArg₂ _ rfl ?_
  rw [← Fin.sum_univ_eq_sum_range (fun x => ext κ x * ext ω x * ((Real.exp (P γ 64 - P γ (x + 1)) : ℝ) : EReal)) 64]
  refine Finset.sum_congr rfl fun x _ => ?_
  rw [ext_val, ext_val]
  show ω x * (κ x * ((Real.exp (P γ 64 - P γ (x.val + 1)) : ℝ) : EReal)) = _
  ac_rfl

theorem stepR_closed (κ ω : Fin 64 → EReal) (γ : Fin 64 → ℝ) (s0 : EReal) (n : Fin 4) :
    stepR κ ω (fun x => (γ x : EReal)) n (closed κ ω γ s0 (16 * n.val)) = closed κ ω γ s0 (16 * n.val + 16) := by
  unfold stepR closed
  simp only [runR_real, ← EReal.coe_sub, Ideal.exp_coe]
  rw [EReal.left_distrib_of_nonneg_of_ne_top (by exact_mod_cast (Real.exp_pos _).le) (EReal.coe_ne_top _), mul_sum _ _ _ (Real.exp_pos _).le,
    Finset.sum_range_add, ← add_assoc]
  refine congrArg₂ _ (congrArg₂ _ ?_ (Finset.sum_congr rfl fun x _ => ?_)) ?_
  · rw [← mul_assoc, ← EReal.coe_mul, ← Real.exp_add]
    congr 4
    show P γ (16 * n.val + 15 + 1) - P γ (16 * n.val) + P γ (16 * n.val) = P γ (16 * n.val + 16)
    ring
  · rw [mul_comm, mul_assoc, ← EReal.coe_mul, ← Real.exp_add]
    have e : P γ (16 * n.val) - P γ (x + 1) + (P γ (16 * n.val + (15 : Fin 16).val + 1) - P γ (16 * n.val)) = P γ (16 * n.val + 16) - P γ (x + 1) := by
      show P γ (16 * n.val) - P γ (x + 1) + (P γ (16 * n.val + 16) - P γ (16 * n.val)) = _
      ring
    rw [e]
  · rw [← Fin.sum_univ_eq_sum_range (fun x => ext κ (16 * n.val + x) * ext ω (16 * n.val + x)
      * ((Real.exp (P γ (16 * n.val + 16) - P γ (16 * n.val + x + 1)) : ℝ) : EReal)) 16]
    refine Finset.sum_congr rfl fun x _ => ?_
    have ek : κ (at_ n x) = ext κ (16 * n.val + x.val) := (ext_val κ (at_ n x)).symm
    have ew : ω (at_ n x) = ext ω (16 * n.val + x.val) := (ext_val ω (at_ n x)).symm
    have e : P γ (16 * n.val + (15 : Fin 16).val + 1) - P γ (16 * n.val) - (P γ (16 * n.val + x.val + 1) - P γ (16 * n.val))
        = P γ (16 * n.val + 16) - P γ (16 * n.val + x.val + 1) := by
      show P γ (16 * n.val + 16) - P γ (16 * n.val) - (P γ (16 * n.val + x.val + 1) - P γ (16 * n.val)) = _
      ring
    rw [e, ek, ew]
    ac_rfl

/-- For real log gates the two are one function of the keys, the values and the state before. -/
theorem state_eq (κ ω g : Fin 64 → EReal) (s0 : EReal) (hg : ∀ x, g x ≠ ⊤ ∧ g x ≠ ⊥) :
    stateK κ ω g s0 = stepR κ ω g 3 (stepR κ ω g 2 (stepR κ ω g 1 (stepR κ ω g 0 s0))) := by
  obtain ⟨γ, rfl⟩ : ∃ γ : Fin 64 → ℝ, g = fun s => (γ s : EReal) :=
    ⟨fun s => (g s).toReal, funext fun s => (EReal.coe_toReal (hg s).1 (hg s).2).symm⟩
  have h0 : closed κ ω γ s0 (16 * (0 : Fin 4).val) = s0 := by
    show closed κ ω γ s0 0 = s0
    simp [closed, P]
  have e0 := stepR_closed κ ω γ s0 0
  have e1 := stepR_closed κ ω γ s0 1
  have e2 := stepR_closed κ ω γ s0 2
  have e3 := stepR_closed κ ω γ s0 3
  rw [h0] at e0
  rw [e0, stateK_closed]
  exact (e3.symm.trans (congrArg _ (e2.symm.trans (congrArg _ e1.symm))))

/-- A comparison of two small indices, as a choice. -/
theorem select_le (x t : ℕ) (hx : x < 2147483648) (ht : t < 2147483648) (a b : EReal) :
    Scalar.select (IntOp.cmpi CmpIPredicate.sle (BitVec.ofNat 32 x) (BitVec.ofNat 32 t)) a b = if x ≤ t then a else b := by
  unfold Scalar.select
  exact if_congr (WordCmp.cmpi_sle_ofNat_eq_one_iff (w := 32) hx ht) rfl rfl

end Cert.HgrnSpec

end
-- ==== Proof.HgrnBlock.lean ====
/-
  The state that the recurrence's kernel leaves after the 64 frames of a sample: the stores of the eight heads, and a head's
  state at an index from the staged blocks.
-/
module

public import proofs.«01_k».proof.Proof.Gen.HgrnIdeal.Value
public import Idealize.ShloMosaic.Lib.Pipeline.ReadBack
public import Idealize.ShloMosaic.Lib.Pipeline.ValueKit
public import proofs.«01_k».proof.Proof.HgrnSpec

@[expose] public section

set_option maxRecDepth 16384

noncomputable section

namespace Cert.HgrnHand

open Cert.HgrnIdeal Cert.HgrnIdeal.Gen Cert.HgrnIdeal.Value Idealize.ShloMosaic Idealize.ShloMosaic.TcCoe Idealize.ShloMosaic.Tactic Idealize.SL.Sem
open Cert.HgrnSpec (runK stateK)

theorem inb_cols (h : Fin 8) : ∀ a : Fin 2, (![0, 128 * h.val] : Fin 2 → ℕ) a + S64x128.size a ≤ S64x1024.size a := by
  revert h; decide
theorem inb_st (h : Fin 8) : ∀ a : Fin 4, (![0, h.val, 0, 0] : Fin 4 → ℕ) a + S1x1x128x128.size a ≤ S1x8x128x128.size a := by
  revert h; decide
theorem slices_h (h : Fin 8) : S64x1024.Slices ![0, 128 * h.val] S64x128 := by
  revert h; decide

/-- Head `h` of a block of columns, and of the states. -/
abbrev colsH (h : Fin 8) : Rect S64x1024 := Rect.unit (s := S64x1024) ![0, 128 * h.val] S64x128.size (inb_cols h)
abbrev stH (h : Fin 8) : Rect S1x8x128x128 := Rect.unit (s := S1x8x128x128) ![0, h.val, 0, 0] S1x1x128x128.size (inb_st h)

section
variable {F : FTy → Type} [FloatOps F]
variable (m : (ℓ : Loc nD τ sig) → Buf (Elt F) ℓ)

/-- The state of head `h` after the frames, from the staged keys `x1`, values `x2`, log forget gates `x4` and states `x5`. -/
def hd (x1 x2 : Vec F S64x1024 .bf16) (x4 : Vec F S64x1024 .f32) (x5 : Vec F S1x8x128x128 .f32) (h : Fin 8) : FVec F S1x1x128x128 .f32 :=
  k0_pay10 (k0_pay48
    (extractStridedSlice S64x128 ![0, 128 * h.val]
      (k0_pay19 (View.ld x4 (Rect.unit (s := S64x1024) ![0, 0] S64x1024.size (by decide)))) (slices_h h))
    (k0_pay36 (View.ld x1 (colsH h))) (View.ld x2 (colsH h)) (k0_pay6 (View.ld x5 (stH h))))

/-- The stores of the states, last first. -/
def pieces (x1 x2 : Vec F S64x1024 .bf16) (x4 : Vec F S64x1024 .f32) (x5 : Vec F S1x8x128x128 .f32) :
    List (View.Piece (Elt F) S1x8x128x128 .f32) :=
  [⟨stH 7, hd x1 x2 x4 x5 7⟩, ⟨stH 6, hd x1 x2 x4 x5 6⟩, ⟨stH 5, hd x1 x2 x4 x5 5⟩, ⟨stH 4, hd x1 x2 x4 x5 4⟩,
   ⟨stH 3, hd x1 x2 x4 x5 3⟩, ⟨stH 2, hd x1 x2 x4 x5 2⟩, ⟨stH 1, hd x1 x2 x4 x5 1⟩, ⟨stH 0, hd x1 x2 x4 x5 0⟩]

/-- After point `t` the states' staging buffer holds the eight heads' states. -/
theorem outs_s (c : Dev nD) (t : Fin cfg0.N) :
    (outsAt0 m c t).2 = View.canon (pieces (iblk m c 1 t) (iblk m c 2 t) (iblk m c 4 t) (iblk m c 5 t)) := by
  unfold outsAt0 out0_A_8
  dsimp only
  rw [View.read_writes_eq_canon _ _ _ (cover0_A_8 c _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread]
  simp (config := {decide := true}) only [↓View.readCov_skip, ↓View.readCov_cons_toLoadRect]
  rfl
end

/-- The running sum of the log forget gates at an index. -/
theorem gates_apply (x4 : Vec Ideal S64x1024 .f32) (t : Fin 64) (l : Fin 1024) :
    k0_pay19 x4 (ix2 t l) = runK (fun s => x4 (ix2 s l)) t := by
  unfold k0_pay19 k0_pay14 runK
  pointwise
  have h : ∀ (x : Fin 64) (a b : EReal), Scalar.select (IntOp.cmpi CmpIPredicate.sle (BitVec.ofNat 32 x.val) (BitVec.ofNat 32 t.val)) a b
      = if x.val ≤ t.val then a else b := fun x a b => Cert.HgrnSpec.select_le _ _ (by omega) (by omega) a b
  simp only [h]

/-- THE STATES' BLOCK at an index: each entry by the kernel's formula, of its head's keys, values and gates. -/
def G (x1 x2 : Vec Ideal S64x1024 .bf16) (x4 : Vec Ideal S64x1024 .f32) (x5 : Vec Ideal S1x8x128x128 .f32) (h : Fin 8) (a b : Fin 128) : EReal :=
  stateK (fun x => x1 (ix2 x ⟨128 * h.val + a.val, by omega⟩)) (fun x => x2 (ix2 x ⟨128 * h.val + b.val, by omega⟩))
    (fun x => x4 (ix2 x ⟨128 * h.val + a.val, by omega⟩)) (x5 (ix4 0 h a b))

theorem hd_apply (x1 x2 : Vec Ideal S64x1024 .bf16) (x4 : Vec Ideal S64x1024 .f32) (x5 : Vec Ideal S1x8x128x128 .f32) (h : Fin 8)
    (a b : Fin 128) : hd x1 x2 x4 x5 h (ix4 0 0 a b) = G x1 x2 x4 x5 h a b := by
  unfold hd k0_pay10 k0_pay48 k0_pay36 k0_pay6 k0_pay44 k0_pay45 G stateK
  rw [View.ld_unit_lit (S := S64x1024) _ x4 (by decide)]
  pointwise
  simp only [gates_apply]

theorem emb_st (h : Fin 8) (u v : Fin 1) (a b : Fin 128) : (stH h).emb (ix4 u v a b) = ix4 0 h a b := by
  funext k
  fin_cases k <;> apply Fin.ext
  · exact (Rect.idx_unit_val _ _ _ _ 0).trans (by show 0 + u.val = 0; omega)
  · exact (Rect.idx_unit_val _ _ _ _ 1).trans (by show h.val + v.val = h.val; omega)
  · exact (Rect.idx_unit_val _ _ _ _ 2).trans (Nat.zero_add _)
  · exact (Rect.idx_unit_val _ _ _ _ 3).trans (Nat.zero_add _)

theorem states_eq (x1 x2 : Vec Ideal S64x1024 .bf16) (x4 : Vec Ideal S64x1024 .f32) (x5 : Vec Ideal S1x8x128x128 .f32) (h : Fin 8)
    (a b : Fin 128) : View.canon (pieces x1 x2 x4 x5) (ix4 0 h a b) = G x1 x2 x4 x5 h a b := by
  refine View.canon_apply_of_pieces (Val := Elt Ideal) (S := S1x8x128x128) (e := .f32)
    (fun y => G x1 x2 x4 x5 (y 1) (y 2) (y 3)) _ ?_ (ix4 0 h a b) ?_
  · have hp : ∀ (h : Fin 8) (x : (stH h).shape.Idx), hd x1 x2 x4 x5 h x
        = G x1 x2 x4 x5 (((stH h).emb x) 1) (((stH h).emb x) 2) (((stH h).emb x) 3) := by
      intro h x
      obtain ⟨u, v, a, b, rfl⟩ : ∃ (u v : Fin 1) (a b : Fin 128), x = ix4 u v a b := ⟨x 0, x 1, x 2, x 3, by funext a; fin_cases a <;> rfl⟩
      rw [emb_st]
      obtain rfl : u = 0 := Subsingleton.elim _ _
      obtain rfl : v = 0 := Subsingleton.elim _ _
      exact hd_apply x1 x2 x4 x5 h a b
    intro p hpm
    unfold pieces at hpm
    simp only [List.mem_cons, List.not_mem_nil, or_false] at hpm
    rcases hpm with rfl | rfl | rfl | rfl | rfl | rfl | rfl | rfl <;> exact hp _
  · exact View.cover_of_tiledL (s := S1x8x128x128) (pieces x1 x2 x4 x5) ![1, 1, 128, 128] (by unfold pieces; rfl) (ix4 0 h a b)

end Cert.HgrnHand

end
-- ==== Proof.HgrnArray.lean ====
/-
  The state that the recurrence's kernel leaves after the sampled frames, at an index, from the argument arrays.
-/
module

public import proofs.«01_k».proof.Proof.HgrnBlock

@[expose] public section

set_option maxRecDepth 16384

noncomputable section

namespace Cert.HgrnHand

open Cert.HgrnIdeal Cert.HgrnIdeal.Gen Cert.HgrnIdeal.Value Idealize.ShloMosaic Idealize.ShloMosaic.TcCoe Idealize.ShloMosaic.Tactic Idealize.SL.Sem
open Cert.HgrnSpec (stateK)

variable (m : (ℓ : Loc nD τ sig) → Buf (Elt Ideal) ℓ)

/-- Where each window's block sits at point `t`: rows `64 t` of the columns of the keys, the values and the gates, and state `t`. -/
theorem ix_1 : ∀ t : Fin cfg0.N, win0_1.index t = ![t.val, 1] := (by decide +kernel : ∀ t : Fin grid0.N, _)
theorem ix_2 : ∀ t : Fin cfg0.N, win0_2.index t = ![t.val, 2] := (by decide +kernel : ∀ t : Fin grid0.N, _)
theorem ix_4 : ∀ t : Fin cfg0.N, win0_4.index t = ![t.val, 0] := (by decide +kernel : ∀ t : Fin grid0.N, _)
theorem ix_5 : ∀ t : Fin cfg0.N, win0_5.index t = ![t.val, 0, 0, 0] := (by decide +kernel : ∀ t : Fin grid0.N, _)
theorem ix_8 : ∀ t : Fin cfg0.N, win0_8.index t = ![t.val, 0, 0, 0] := (by decide +kernel : ∀ t : Fin grid0.N, _)

theorem t_lt (t : Fin cfg0.N) : t.val < 32 := lt_of_lt_of_eq t.isLt N_0

/-- The sample of a point. -/
abbrev smp (t : Fin cfg0.N) : Fin 32 := ⟨t.val, t_lt t⟩
/-- Frame `x` of sample `d`, among all. -/
abbrev rowOf (d : Fin 32) (x : Fin 64) : Fin 2048 := ⟨d.val * 64 + x.val, by omega⟩

/-- The host's array before the region: the state before. -/
theorem V_0 (c : Dev nD) (d : Fin 32) (h : Fin 8) (a b : Fin 128) :
    V m c main_v0 (ix4 d h a b) = m ((c : Thread nD τ).loc main_arg2) (ix5 0 d h a b) := by
  dsimp only [V, hostOps0]
  after_results
  pointwise

/-- The staged blocks, from the arguments. -/
theorem iblk_1 (c : Dev nD) (t : Fin cfg0.N) (x : Fin 64) (l : Fin 1024) :
    iblk m c 1 t (ix2 x l) = m ((c : Thread nD τ).loc main_arg0) (ix2 (rowOf (smp t) x) ⟨1024 + l.val, by omega⟩) := by
  rw [← V_main_arg0 m c]
  blk_simp [iblk]
  refine congrArg _ ?_
  blk_ext [ix_1]
theorem iblk_2 (c : Dev nD) (t : Fin cfg0.N) (x : Fin 64) (l : Fin 1024) :
    iblk m c 2 t (ix2 x l) = m ((c : Thread nD τ).loc main_arg0) (ix2 (rowOf (smp t) x) ⟨2048 + l.val, by omega⟩) := by
  rw [← V_main_arg0 m c]
  blk_simp [iblk]
  refine congrArg _ ?_
  blk_ext [ix_2]
theorem iblk_4 (c : Dev nD) (t : Fin cfg0.N) (x : Fin 64) (l : Fin 1024) :
    iblk m c 4 t (ix2 x l) = m ((c : Thread nD τ).loc main_arg1) (ix2 (rowOf (smp t) x) l) := by
  rw [← V_main_arg1 m c]
  blk_simp [iblk]
  refine congrArg _ ?_
  blk_ext [ix_4]
theorem iblk_5 (c : Dev nD) (t : Fin cfg0.N) (h : Fin 8) (a b : Fin 128) :
    iblk m c 5 t (ix4 0 h a b) = m ((c : Thread nD τ).loc main_arg2) (ix5 0 (smp t) h a b) := by
  rw [← V_0 m c]
  blk_simp [iblk]
  refine congrArg _ ?_
  blk_ext [ix_5]

section
variable (p : Vec Ideal S2048x13312 .bf16) (g : Vec Ideal S2048x1024 .f32) (s : Vec Ideal S1x32x8x128x128 .f32)

/-- The keys, the values and the log forget gates of an entry of the state, frame by frame. -/
def kOf (d : Fin 32) (h : Fin 8) (a : Fin 128) (x : Fin 64) : EReal := p (ix2 (rowOf d x) ⟨1024 + (128 * h.val + a.val), by omega⟩)
def vOf (d : Fin 32) (h : Fin 8) (b : Fin 128) (x : Fin 64) : EReal := p (ix2 (rowOf d x) ⟨2048 + (128 * h.val + b.val), by omega⟩)
def gOf (d : Fin 32) (h : Fin 8) (a : Fin 128) (x : Fin 64) : EReal := g (ix2 (rowOf d x) ⟨128 * h.val + a.val, by omega⟩)

/-- The state after the frames. -/
def arrayS : S32x8x128x128.Idx → EReal := fun i =>
  stateK (kOf p (i 0) (i 1) (i 2)) (vOf p (i 0) (i 1) (i 3)) (gOf g (i 0) (i 1) (i 2)) (s (ix5 0 (i 0) (i 1) (i 2) (i 3)))
end

theorem blk_s (c : Dev nD) (t : Fin cfg0.N) (h : Fin 8) (a b : Fin 128) :
    View.canon (pieces (iblk m c 1 t) (iblk m c 2 t) (iblk m c 4 t) (iblk m c 5 t)) (ix4 0 h a b)
      = arrayS (m ((c : Thread nD τ).loc main_arg0)) (m ((c : Thread nD τ).loc main_arg1)) (m ((c : Thread nD τ).loc main_arg2))
          (ix4 (smp t) h a b) := by
  refine (states_eq _ _ _ _ h a b).trans ?_
  unfold G
  simp only [iblk_1, iblk_2, iblk_4, iblk_5]
  rfl

theorem eta4 {n0 n1 n2 n3 : Nat} (y : (Shape.mk 4 ![n0, n1, n2, n3]).Idx) : y = ix4 (y 0) (y 1) (y 2) (y 3) := by
  funext a; fin_cases a <;> rfl

/-- The kernel's result holds that array of its arguments. -/
theorem final_s (c : Dev nD) : (dats m 0 c).arrAt 8 cfg0.N
      = arrayS (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp
  rw [after0_8, outs_s]
  have h0 : y = ix4 0 (y 1) (y 2) (y 3) := (eta4 (n0 := 1) (n1 := 8) (n2 := 128) (n3 := 128) y).trans
    (congrArg (fun u => ix4 u (y 1) (y 2) (y 3)) (Subsingleton.elim (α := Fin 1) (y 0) 0))
  refine (congrArg _ h0).trans ((blk_s m c t (y 1) (y 2) (y 3)).trans (congrArg _ ?_))
  rw [h0]
  blk_ext [ix_8]

end Cert.HgrnHand

end
-- ==== Proof.HgrnClaim.lean ====
/-
  The claims of the recurrence's state after the sampled frames: the frames, the reference at an index, and that the kernel's
  state is the reference's where the log forget gate is finite.
-/
module

public import proofs.«01_k».proof.Defs
public import proofs.«01_k».proof.Proof.AttnClaim
public import proofs.«01_k».proof.Proof.HgrnArray
public import proofs.«01_k».proof.Proof.Gen.HgrnRefIdeal.Read
public import proofs.«01_k».proof.Proof.Gen.HgrnRefIdeal.Run
public import proofs.«01_k».proof.Proof.Gen.Pre_hgrn_finite
public import proofs.«01_k».proof.Proof.Gen.Hgrn.Frame

@[expose] public section

set_option maxRecDepth 16384

noncomputable section

namespace Cert.HgrnClaims

open Idealize.ShloMosaic Idealize.ShloMosaic.TcCoe Idealize.ShloMosaic.Tactic Idealize.SL.Sem
open Cert.HgrnRefIdeal.Read
open Cert.HgrnSpec (stepR)
open Cert.HgrnHand (kOf vOf gOf arrayS)

variable (p : FVec Ideal Cert.HgrnIdeal.S2048x13312 .bf16) (g : FVec Ideal Cert.HgrnIdeal.S2048x1024 .f32)
  (s : FVec Ideal Cert.HgrnIdeal.S1x32x8x128x128 .f32) (w : FVec Ideal Cert.HgrnIdeal.S1x128 .f32)

theorem select_small (x t : Fin 16) (a b : EReal) :
    Scalar.select (IntOp.cmpi CmpIPredicate.sle (BitVec.ofNat 32 x.val) (BitVec.ofNat 32 t.val)) a b = if x.val ≤ t.val then a else b :=
  Cert.HgrnSpec.select_le _ _ (by omega) (by omega) a b

theorem select_last (x : Fin 16) (a b : EReal) :
    Scalar.select (IntOp.cmpi CmpIPredicate.sle (BitVec.ofNat 32 x.val) 15#32) a b = if x.val ≤ 15 then a else b :=
  Cert.HgrnSpec.select_le _ 15 (by omega) (by omega) a b

/-- The reference at an index: the four blocks one after another. -/
theorem state_apply (d : Fin 32) (h : Fin 8) (a b : Fin 128) :
    val_main_v104 (F := Ideal) p g s (ix4 d h a b)
      = stepR (kOf p d h a) (vOf p d h b) (gOf g d h a) 3 (stepR (kOf p d h a) (vOf p d h b) (gOf g d h a) 2
          (stepR (kOf p d h a) (vOf p d h b) (gOf g d h a) 1 (stepR (kOf p d h a) (vOf p d h b) (gOf g d h a) 0 (s (ix5 0 d h a b))))) := by
  unfold val_main_v104 val_main_v103 val_main_v102 val_main_v101 val_main_v100 val_main_v99 val_main_v98 val_main_v97 val_main_v96
    val_main_v95 val_main_v94 val_main_v93 val_main_v92 val_main_v91 val_main_v90 val_main_v89 val_main_v88 val_main_cst_6 val_main_v87
    val_main_call3_v3 val_main_call3_v2 val_main_call3_v1 val_main_call3_v0 val_main_cst_5 val_main_v86 val_main_v85 val_main_v84
    val_main_v83 val_main_v82 val_main_v81 val_main_v80 val_main_v79 val_main_v78 val_main_v77 val_main_v76 val_main_v75 val_main_v74
    val_main_v73 val_main_v72 val_main_v71 val_main_v70 val_main_v69 val_main_v68 val_main_v67 val_main_v66 val_main_cst_4 val_main_v65
    val_main_call2_v3 val_main_call2_v2 val_main_call2_v1 val_main_call2_v0 val_main_cst_3 val_main_v64 val_main_v63 val_main_v62
    val_main_v61 val_main_v60 val_main_v59 val_main_v58 val_main_v57 val_main_v56 val_main_v55 val_main_v54 val_main_v53 val_main_v52
    val_main_v51 val_main_v50 val_main_v49 val_main_v48 val_main_v47 val_main_v46 val_main_v45 val_main_v44 val_main_cst_2 val_main_v43
    val_main_call1_v3 val_main_call1_v2 val_main_call1_v1 val_main_call1_v0 val_main_cst_1 val_main_v42 val_main_v41 val_main_v40
    val_main_v39 val_main_v38 val_main_v37 val_main_v36 val_main_v35 val_main_v34 val_main_v33 val_main_v32 val_main_v31 val_main_v30
    val_main_v29 val_main_v28 val_main_v27 val_main_v26 val_main_v25 val_main_v24 val_main_v23 val_main_v22 val_main_cst_0 val_main_v21
    val_main_call0_v3 val_main_call0_v2 val_main_call0_v1 val_main_call0_v0 val_main_cst val_main_v20 val_main_v19 val_main_v18 val_main_v17
    val_main_v16 val_main_v15 val_main_v14 val_main_v13 val_main_v12 val_main_v11 val_main_v10 val_main_v9 val_main_v8 val_main_v7
    val_main_v6 val_main_v5 val_main_v4 val_main_v3 val_main_v2 val_main_v1 val_main_v0
  unfold stepR HgrnSpec.runR kOf vOf gOf
  pointwise
  have zero : id (constant (F := Ideal) Cert.HgrnRefIdeal.S_ .f32 0#32) ix0 = (0 : EReal) := by
    show Ideal.ofBits .f32 0x00000000#32 = 0
    simp [Ideal.ofBits, Ideal.ieee]
  have r : ∀ n x : Nat, d.val * 64 + (n + x) = d.val * 64 + n + x := fun n x => (Nat.add_assoc _ _ _).symm
  have e : ∀ x : Nat, 128 * h.val + x = h.val * 128 + x := fun x => by omega
  have f0 : (0 : Fin 4).val = 0 := rfl
  have f1 : (1 : Fin 4).val = 1 := rfl
  have f2 : (2 : Fin 4).val = 2 := rfl
  have f3 : (3 : Fin 4).val = 3 := rfl
  have f15 : (15 : Fin 16).val = 15 := rfl
  simp only [HgrnHand.rowOf, HgrnSpec.at_, f0, f1, f2, f3, f15, Nat.reduceMul, Nat.add_zero, select_small, select_last, zero, r, e]

/-- Under the precondition the log gates are finite. -/
theorem gates_finite (h : Cert.Pre_hgrn_finite.fn (F := Ideal) p g s w = fun _ => 1#1) (i : Cert.HgrnIdeal.S2048x1024.Idx) :
    g i ≠ ⊤ ∧ g i ≠ ⊥ := by
  have hi := congrFun h i
  unfold Cert.Pre_hgrn_finite.fn at hi
  dsimp only at hi
  pointwise at hi
  have e : Ideal.ofBits .f32 0x7F800000#32 = ⊤ := by simp [Ideal.ofBits, Ideal.ieee]
  rw [e] at hi
  exact Cert.Pre_attn_finite.finite_of_lt hi

/-- From the same arguments the kernel's state and the reference's are one. -/
theorem arrays (h : Cert.Pre_hgrn_finite.fn (F := Ideal) p g s w = fun _ => 1#1) :
    val_main_v104 (F := Ideal) p g s = arrayS p g s := by
  funext i
  refine (congrArg _ (Cert.HgrnHand.eta4 (n0 := 32) (n1 := 8) (n2 := 128) (n3 := 128) i)).trans ((state_apply p g s _ _ _ _).trans ?_)
  exact (Cert.HgrnSpec.state_eq _ _ _ _ fun x => gates_finite p g s w h _).symm

/-- The kernel runs safely, and so does the kernel read over the extended reals, -/
theorem frame : Cert.quiescent_Hgrn := fun m ρ _ => Cert.Hgrn.Gen.frame m ρ
theorem frameIdeal : Cert.quiescent_HgrnIdeal := fun m ρ _ => Cert.HgrnIdeal.Gen.frame m ρ
theorem frameIdealPre : Cert.quiescent_HgrnIdeal_pre_hgrn_finite := fun m ρ _ => Cert.HgrnIdeal.Gen.frame m ρ
/-- and its reference. -/
theorem frameRef : Cert.quiescent_HgrnRefIdeal := fun m ρ _ =>
  (θ_run Cert.HgrnRefIdeal.defs _ _).mono (fun r h => ⟨fun c => (h c).2, sem_eq_zero_of_no_sems (by decide) r.2⟩)
    (Cert.HgrnRefIdeal.Value.run (F := Ideal) m ρ)
theorem frameRefPre : Cert.quiescent_HgrnRefIdeal_pre_hgrn_finite := fun m ρ _ => frameRef m ρ trivial

/-- From equal arguments the kernel's state is the reference's. -/
theorem algebraic : Cert.algebraic_HgrnIdeal_HgrnRefIdeal_pre_hgrn_finite := by
  intro m ρ m' ρ' hpre hag
  refine ⟨fun c => arrayS (m ((c : Thread Cert.HgrnIdeal.nD Cert.HgrnIdeal.τ).loc Cert.HgrnIdeal.main_arg0))
      (m ((c : Thread Cert.HgrnIdeal.nD Cert.HgrnIdeal.τ).loc Cert.HgrnIdeal.main_arg1))
      (m ((c : Thread Cert.HgrnIdeal.nD Cert.HgrnIdeal.τ).loc Cert.HgrnIdeal.main_arg2)), ?_, ?_⟩
  · exact (θ_run Cert.HgrnIdeal.defs _ _).mono (fun _ h c => ⟨(h c).2.1.trans (Cert.HgrnHand.final_s m c), (h c).2.2⟩)
      (Cert.HgrnIdeal.Value.run_blocks (F := Ideal) m ρ)
  · refine (θ_run Cert.HgrnRefIdeal.defs _ _).mono (fun _ h c => ⟨((h c).1.trans (val_main_v104_eq m' c)).trans ?_, (h c).2⟩)
      (Cert.HgrnRefIdeal.Value.run (F := Ideal) m' ρ')
    obtain ⟨e0, e1, e2, e3⟩ := hag c
    rw [e0, e1, e2]
    exact arrays _ _ _ _ (hpre c)

end Cert.HgrnClaims

end
-- ==== Proof.InProjBlock.lean ====
/-
  What the projection kernel's body leaves in its four output blocks, as functions of the staged blocks: the column groups of
  the product, each after what it goes through.
-/
module

public import proofs.«01_k».proof.Proof.Gen.InProjIdeal.Value
public import Idealize.ShloMosaic.Lib.Pipeline.ValueKit

@[expose] public section

set_option maxRecDepth 16384

noncomputable section

namespace Cert.InProjHand

open Cert.InProjIdeal Cert.InProjIdeal.Gen Idealize.ShloMosaic Idealize.ShloMosaic.TcCoe Idealize.ShloMosaic.Tactic Idealize.SL.Sem

variable {F : FTy → Type} [FloatOps F]
variable (m : (ℓ : Loc nD τ sig) → Buf (Elt F) ℓ)

/-- ONE HEAD of queries or keys: each half of its 128 lanes divided by its root mean square, then times the gain `g`, which
    is first multiplied by the constant with bits `s`. -/
def half (s : BitVec 32) (x : FVec F S256x128 .f32) (g : Vec F S1x128 .f32) : FVec F S256x128 .f32 :=
  have lo : IVec S256x128 1 := broadcastTo S256x128 (shapeCast S1x128 k0_pay5 shapeCasts_S1x128_S1x128) broadcasts_S1x128_S256x128
  have sq : FVec F S256x128 .f32 := mulf x x
  have z : FVec F S256x128 .f32 := broadcast S256x128 (Scalar.ofBits .f32 0x00000000#32)
  have n : FVec F S256x1 .f32 := broadcast S256x1 (Scalar.ofBits .f32 0x3C800000#32)
  have e : FVec F S256x1 .f32 := broadcast S256x1 (Scalar.ofBits .f32 0x358637BD#32)
  have a : FVec F S256 .f32 := multiReduction .add [1] S256 (select lo sq z) 0x00000000#32 reduces_S256x128_S256 (.inl rfl) rfl
  have b : FVec F S256 .f32 := multiReduction .add [1] S256 (select lo z sq) 0x00000000#32 reduces_S256x128_S256 (.inl rfl) rfl
  have ra : FVec F S256x1 .f32 := rsqrt (addf (mulf (shapeCast S256x1 a shapeCasts_S256_S256x1) n) e)
  have rb : FVec F S256x1 .f32 := rsqrt (addf (mulf (shapeCast S256x1 b shapeCasts_S256_S256x1) n) e)
  have r : FVec F S256x128 .f32 := select lo (broadcastTo S256x128 (shapeCast S256x1 ra shapeCasts_S256x1_S256x1) broadcasts_S256x1_S256x128)
    (broadcastTo S256x128 (shapeCast S256x1 rb shapeCasts_S256x1_S256x1) broadcasts_S256x1_S256x128)
  have gs : FVec F S1x128 .f32 := mulf (shapeCast S1x128 g shapeCasts_S1x128_S1x128) (broadcast S1x128 (Scalar.ofBits .f32 s))
  mulf (mulf x r) (broadcastTo S256x128 gs broadcasts_S1x128_S256x128)

theorem inb_group (j : Fin 13) : ∀ a : Fin 2, (![0, 1024 * j.val] : Fin 2 → ℕ) a + S1024x1024.size a ≤ S1024x13312.size a := by
  revert j; decide
theorem inb_out (j : Fin 13) : ∀ a : Fin 2, (![0, 1024 * j.val] : Fin 2 → ℕ) a + S256x1024.size a ≤ S256x13312.size a := by
  revert j; decide
theorem inb_gain (h : Fin 8) : ∀ a : Fin 2, (![0, 128 * h.val] : Fin 2 → ℕ) a + S1x128.size a ≤ S1x1024.size a := by
  revert h; decide
theorem inb_head (o : Fin 3) (h : Fin 8) : ∀ a : Fin 2, (![0, 4096 + 1024 * o.val + 128 * h.val] : Fin 2 → ℕ) a + S256x128.size a ≤ S256x13312.size a := by
  revert o h; decide
theorem inb_mem (h : Fin 4) : ∀ a : Fin 2, (![0, 8192 + 256 * h.val] : Fin 2 → ℕ) a + S256x256.size a ≤ S256x13312.size a := by
  revert h; decide
theorem inb_keys (h : Fin 8) : ∀ a : Fin 3, (![0, 128 * h.val, 0] : Fin 3 → ℕ) a + S1x128x256.size a ≤ S1x1024x256.size a := by
  revert h; decide
theorem slices_head (h : Fin 8) : S256x1024.Slices ![0, 128 * h.val] S256x128 := by revert h; decide
theorem slices_mem (h : Fin 4) : S256x1024.Slices ![0, 256 * h.val] S256x256 := by revert h; decide

/-- Column group `j` of the weights, -/
abbrev group (j : Fin 13) : Rect S1024x13312 := Rect.unit (s := S1024x13312) ![0, 1024 * j.val] S1024x1024.size (inb_group j)
/-- column group `j` of the output block, -/
abbrev outG (j : Fin 13) : Rect S256x13312 := Rect.unit (s := S256x13312) ![0, 1024 * j.val] S256x1024.size (inb_out j)
/-- head `h` of column group `4 + o` of the output block, -/
abbrev outH (o : Fin 3) (h : Fin 8) : Rect S256x13312 := Rect.unit (s := S256x13312) ![0, 4096 + 1024 * o.val + 128 * h.val] S256x128.size (inb_head o h)
/-- head `h` of the memory queries' column group, -/
abbrev outM (h : Fin 4) : Rect S256x13312 := Rect.unit (s := S256x13312) ![0, 8192 + 256 * h.val] S256x256.size (inb_mem h)
/-- head `h` of the gains, -/
abbrev gainH (h : Fin 8) : Rect S1x1024 := Rect.unit (s := S1x1024) ![0, 128 * h.val] S1x128.size (inb_gain h)
/-- head `h` of the transposed keys. -/
abbrev keysH (h : Fin 8) : Rect S1x1024x256 := Rect.unit (s := S1x1024x256) ![0, 128 * h.val, 0] S1x128x256.size (inb_keys h)

section
variable (x0 : Vec F S256x1024 .f32) (x1 : Vec F S1x1024 .f32) (x2 : Vec F S1024x13312 .bf16) (x3 : Vec F S2x1024 .f32)
  (x4 x5 : Vec F S1x1024 .f32) (x6 : Vec F S1x256 .f32)

/-- The normalised rows of the block. -/
def rows : FVec F S256x1024 .bf16 :=
  k0_pay3 (View.ld x0 (Rect.unit (s := S256x1024) ![0, 0] S256x1024.size inb_S256x1024_S256x1024_0_0))
    (View.ld x1 (Rect.unit (s := S1x1024) ![0, 0] S1x1024.size inb_S1x1024_S1x1024_0_0))

/-- Column group `j` of their product with the weights, -/
def prod (j : Fin 13) : FVec F S256x1024 .f32 := k0_pay4 (rows x0 x1) (View.ld x2 (group j))
/-- head `h`'s query, -/
def query (h : Fin 8) : FVec F S256x128 .f32 :=
  half 0x3E38AA3B#32 (extractStridedSlice S256x128 ![0, 128 * h.val] (prod x0 x1 x2 4) (slices_head h)) (View.ld x4 (gainH h))
/-- head `h`'s key, -/
def key (h : Fin 8) : FVec F S256x128 .f32 :=
  half 0x3F800000#32 (extractStridedSlice S256x128 ![0, 128 * h.val] (prod x0 x1 x2 5) (slices_head h)) (View.ld x5 (gainH h))
/-- and head `h`'s memory query. -/
def memq (h : Fin 4) : FVec F S256x256 .bf16 :=
  k0_pay105 (extractStridedSlice S256x256 ![0, 256 * h.val] (prod x0 x1 x2 8) (slices_mem h))
    (k0_pay104 (View.ld x6 (Rect.unit (s := S1x256) ![0, 0] S1x256.size inb_S1x256_S1x256_0_0)))

/-- The logits of the lower bound, loaded whole. -/
abbrev logits : Vec F S2x1024 .f32 := View.ld x3 (Rect.unit (s := S2x1024) ![0, 0] S2x1024.size inb_S2x1024_S2x1024_0_0)

/-- The stores of the combined output, last first. -/
def pieces : List (View.Piece (Elt F) S256x13312 .bf16) :=
  [⟨outG 0, k0_pay2 (rows x0 x1) (View.ld x2 (group 0))⟩,
   ⟨outG 9, k0_pay1 (rows x0 x1) (View.ld x2 (group 9))⟩,
   ⟨outG 12, k0_pay115 (rows x0 x1) (View.ld x2 (group 12))⟩,
   ⟨outG 7, k0_pay1 (rows x0 x1) (View.ld x2 (group 7))⟩,
   ⟨outG 11, k0_pay115 (rows x0 x1) (View.ld x2 (group 11))⟩,
   ⟨outG 3, k0_pay1 (rows x0 x1) (View.ld x2 (group 3))⟩,
   ⟨outM 3, memq x0 x1 x2 x6 3⟩, ⟨outM 2, memq x0 x1 x2 x6 2⟩, ⟨outM 1, memq x0 x1 x2 x6 1⟩, ⟨outM 0, memq x0 x1 x2 x6 0⟩,
   ⟨outG 10, k0_pay115 (rows x0 x1) (View.ld x2 (group 10))⟩,
   ⟨outG 1, k0_pay99 (logits x3) (rows x0 x1) (View.ld x2 (group 1))⟩,
   ⟨outG 6, k0_pay2 (rows x0 x1) (View.ld x2 (group 6))⟩,
   ⟨outH 0 7, k0_pay39 (query x0 x1 x2 x4 7)⟩, ⟨outH 0 6, k0_pay39 (query x0 x1 x2 x4 6)⟩,
   ⟨outH 0 5, k0_pay39 (query x0 x1 x2 x4 5)⟩, ⟨outH 0 4, k0_pay39 (query x0 x1 x2 x4 4)⟩,
   ⟨outH 0 3, k0_pay39 (query x0 x1 x2 x4 3)⟩, ⟨outH 0 2, k0_pay39 (query x0 x1 x2 x4 2)⟩,
   ⟨outH 0 1, k0_pay39 (query x0 x1 x2 x4 1)⟩, ⟨outH 0 0, k0_pay39 (query x0 x1 x2 x4 0)⟩,
   ⟨outG 2, k0_pay2 (rows x0 x1) (View.ld x2 (group 2))⟩,
   ⟨outH 1 7, k0_pay39 (key x0 x1 x2 x5 7)⟩, ⟨outH 1 6, k0_pay39 (key x0 x1 x2 x5 6)⟩,
   ⟨outH 1 5, k0_pay39 (key x0 x1 x2 x5 5)⟩, ⟨outH 1 4, k0_pay39 (key x0 x1 x2 x5 4)⟩,
   ⟨outH 1 3, k0_pay39 (key x0 x1 x2 x5 3)⟩, ⟨outH 1 2, k0_pay39 (key x0 x1 x2 x5 2)⟩,
   ⟨outH 1 1, k0_pay39 (key x0 x1 x2 x5 1)⟩, ⟨outH 1 0, k0_pay39 (key x0 x1 x2 x5 0)⟩]

/-- The stores of the transposed keys, last first. -/
def keyPieces : List (View.Piece (Elt F) S1x1024x256 .f32) :=
  [⟨keysH 7, k0_pay40 (key x0 x1 x2 x5 7)⟩, ⟨keysH 6, k0_pay40 (key x0 x1 x2 x5 6)⟩, ⟨keysH 5, k0_pay40 (key x0 x1 x2 x5 5)⟩,
   ⟨keysH 4, k0_pay40 (key x0 x1 x2 x5 4)⟩, ⟨keysH 3, k0_pay40 (key x0 x1 x2 x5 3)⟩, ⟨keysH 2, k0_pay40 (key x0 x1 x2 x5 2)⟩,
   ⟨keysH 1, k0_pay40 (key x0 x1 x2 x5 1)⟩, ⟨keysH 0, k0_pay40 (key x0 x1 x2 x5 0)⟩]

end

/-- After point `t` the combined output's staging buffer holds the thirteen column groups, -/
theorem outs_p (c : Dev nD) (t : Fin cfg0.N) :
    (outsAt0 m c t).1 = View.canon (pieces (iblk m c 0 t) (iblk m c 1 t) (iblk m c 2 t) (iblk m c 3 t) (iblk m c 4 t)
      (iblk m c 5 t) (iblk m c 6 t)) := by
  unfold outsAt0 out0_A_7
  dsimp only
  rw [View.read_writes_eq_canon _ _ _ (cover0_A_7 c _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread]
  rw [View.readCov_unit_lit]
  · rfl
  · decide

/-- the log forget gate's staging buffer that gate of column group 1, -/
theorem outs_f (c : Dev nD) (t : Fin cfg0.N) :
    (outsAt0 m c t).2.1 = k0_pay98 (logits (iblk m c 3 t)) (rows (iblk m c 0 t) (iblk m c 1 t)) (View.ld (iblk m c 2 t) (group 1)) := by
  unfold outsAt0 out0_A_8
  dsimp only
  rw [View.read_writes_eq_canon _ _ _ (cover0_A_8 c _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread]
  rw [View.readCov_unit_lit, View.canon_cons_unit_lit]
  · rfl
  all_goals decide

/-- the keys' staging buffer the eight heads' keys, transposed, -/
theorem outs_k (c : Dev nD) (t : Fin cfg0.N) :
    (outsAt0 m c t).2.2.1 = View.canon (keyPieces (iblk m c 0 t) (iblk m c 1 t) (iblk m c 2 t) (iblk m c 5 t)) := by
  unfold outsAt0 out0_A_9
  dsimp only
  rw [View.read_writes_eq_canon _ _ _ (cover0_A_9 c _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread]
  rw [View.readCov_unit_lit]
  · rfl
  · decide

/-- and the values' staging buffer column group 6. -/
theorem outs_v (c : Dev nD) (t : Fin cfg0.N) :
    (outsAt0 m c t).2.2.2 = prod (iblk m c 0 t) (iblk m c 1 t) (iblk m c 2 t) 6 := by
  unfold outsAt0 out0_A_10
  dsimp only
  rw [View.read_writes_eq_canon _ _ _ (cover0_A_10 c _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread]
  rw [View.readCov_unit_lit, View.canon_cons_unit_lit]
  · rfl
  all_goals decide

end Cert.InProjHand

end
-- ==== Proof.InProjSpec.lean ====
/-
  The mathematics of the projection, one row at a time: the row's normalisation, its product with the weights, and what each
  column of the product goes through.
-/
module

public import Idealize.ShloMosaic.Lib.Pointwise
public import Idealize.ShloMosaic.Lib.IdealHost
public import Idealize.ShloMosaic.Lib.Pipeline.Value

@[expose] public section

set_option maxRecDepth 16384

noncomputable section

namespace Cert.InProjSpec

open Idealize.ShloMosaic Idealize.ShloMosaic.TcCoe Idealize.ShloMosaic.Tactic

theorem zero_bits : Ideal.ofBits .f32 0x00000000#32 = 0 := by simp [Ideal.ofBits, Ideal.ieee]
theorem one_bits : Ideal.ofBits .f32 0x3F800000#32 = 1 := by
  have e : Ideal.ofBits .f32 0x3F800000#32 = ((1 : ℝ) : EReal) := by simp [Ideal.ofBits, Ideal.ieee, -EReal.coe_mul]; norm_num
  exact e.trans EReal.coe_one
theorem half_bits : Ideal.ofBits .f32 0x3F000000#32 = ((1 / 2 : ℝ) : EReal) := by
  simp [Ideal.ofBits, Ideal.ieee, -EReal.coe_mul]; norm_num
theorem bits_64 : Ideal.ofBits .f32 0x42800000#32 = ((64 : ℝ) : EReal) := by
  simp [Ideal.ofBits, Ideal.ieee, -EReal.coe_mul]; norm_num
theorem bits_64_inv : Ideal.ofBits .f32 0x3C800000#32 = ((1 / 64 : ℝ) : EReal) := by
  simp [Ideal.ofBits, Ideal.ieee, -EReal.coe_mul]; norm_num
theorem negInf : Ideal.ofBits .f32 0xFF800000#32 = ⊥ := by simp [Ideal.ofBits, Ideal.ieee]

/-- Multiplying by a sixty-fourth is dividing by sixty-four. -/
theorem mul_64_inv (x : EReal) : x * Ideal.ofBits .f32 0x3C800000#32 = Ideal.div x (Ideal.ofBits .f32 0x42800000#32) := by
  rw [bits_64, bits_64_inv, Ideal.div_coe (by norm_num)]

/-- The logistic function by the hyperbolic tangent. -/
theorem half_tanh (x : EReal) : Ideal.ofBits .f32 0x3F000000#32 * Ideal.tanh (Ideal.ofBits .f32 0x3F000000#32 * x) + Ideal.ofBits .f32 0x3F000000#32
    = Ideal.logistic x := by
  rw [half_bits]
  induction x with
  | bot =>
    rw [EReal.coe_mul_bot_of_pos (by norm_num), Ideal.tanh_bot, Ideal.logistic_bot]
    have e : (-1 : EReal) = ((-1 : ℝ) : EReal) := by simp
    rw [e, ← EReal.coe_mul, ← EReal.coe_add, ← EReal.coe_zero]
    norm_num
  | top =>
    rw [EReal.coe_mul_top_of_pos (by norm_num), Ideal.tanh_top, Ideal.logistic_top]
    rw [← EReal.coe_one, ← EReal.coe_mul, ← EReal.coe_add]
    norm_num
  | coe r =>
    rw [← EReal.coe_mul, Ideal.tanh_coe, ← EReal.coe_mul, ← EReal.coe_add, Ideal.logistic_coe]
    congr 1
    rw [Real.tanh_eq_sinh_div_cosh, Real.sinh_eq, Real.cosh_eq]
    have hs : Real.exp (-r) = Real.exp (-(1 / 2 * r)) * Real.exp (-(1 / 2 * r)) := by rw [← Real.exp_add]; ring_nf
    have hi : Real.exp (1 / 2 * r) * Real.exp (-(1 / 2 * r)) = 1 := by rw [← Real.exp_add]; simp
    rw [hs]
    have ha := Real.exp_pos (1 / 2 * r)
    have hb := Real.exp_pos (-(1 / 2 * r))
    generalize Real.exp (1 / 2 * r) = a at *
    generalize Real.exp (-(1 / 2 * r)) = b at *
    have h1 : a + b ≠ 0 := by positivity
    have h2 : 1 + b * b ≠ 0 := by positivity
    field_simp
    linear_combination (2 * b) * hi
/-- One less the logistic function is the logistic function of the negated argument. -/
theorem one_sub_logistic (x : EReal) : 1 - Ideal.logistic x = Ideal.logistic (-x) := by
  induction x with
  | bot => rw [EReal.neg_bot, Ideal.logistic_bot, Ideal.logistic_top, sub_zero]
  | top =>
    rw [EReal.neg_top, Ideal.logistic_bot, Ideal.logistic_top, ← EReal.coe_one, ← EReal.coe_sub, sub_self, EReal.coe_zero]
  | coe r =>
    rw [← EReal.coe_neg, Ideal.logistic_coe, Ideal.logistic_coe, ← EReal.coe_one, ← EReal.coe_sub]
    congr 1
    rw [neg_neg]
    have h : Real.exp r * Real.exp (-r) = 1 := by rw [← Real.exp_add]; simp
    have ha := Real.exp_pos r
    have hb := Real.exp_pos (-r)
    generalize Real.exp r = a at *
    generalize Real.exp (-r) = b at *
    have h1 : 1 + a ≠ 0 := by positivity
    have h2 : 1 + b ≠ 0 := by positivity
    field_simp
    linear_combination h

/-- The logistic function as it is written out. -/
theorem logistic_div (x : EReal) : Ideal.div (Ideal.ofBits .f32 0x3F800000#32) (Ideal.ofBits .f32 0x3F800000#32 + Ideal.exp (-x)) = Ideal.logistic x := by
  rw [one_bits]
  rfl

/-- The reciprocal root mean square of a list of `n` numbers with square sum `s`, `n` given by its bits. -/
def rmsr (n : BitVec 32) (s : EReal) : EReal := Ideal.rsqrt (Ideal.div s (Ideal.ofBits .f32 n) + Ideal.ofBits .f32 0x358637BD#32)

/-- Entry `l` of the normalised row `x` with gain `g`. -/
def normed (x g : Fin 1024 → EReal) (l : Fin 1024) : EReal := x l * rmsr 0x44800000#32 (∑ k, x k * x k) * g l

/-- Entry `col` of the normalised row's product with the weights. -/
def proj (x g : Fin 1024 → EReal) (w : Fin 1024 → Fin 13312 → EReal) (col : Fin 13312) : EReal := ∑ k, normed x g k * w k col

/-- The forget gate's lower bound: the first of two softmax weights. -/
def bound (l : Fin 2 → EReal) : EReal :=
  Ideal.div (Ideal.exp (l 0 - max (l 0) (l 1))) (Ideal.exp (l 0 - max (l 0) (l 1)) + Ideal.exp (l 1 - max (l 0) (l 1)))

/-- Column `col` of the product `a`, divided by the root mean square of the 64 columns it is among, times its gain, -/
def half (a : Fin 13312 → EReal) (g : Fin 64 → EReal) (col : Fin 13312) : EReal :=
  a col * rmsr 0x42800000#32 (∑ d : Fin 64, a ⟨64 * (col.val / 64) + d.val, by omega⟩ * a ⟨64 * (col.val / 64) + d.val, by omega⟩)
    * g ⟨col.val % 64, by omega⟩
/-- and by that of the 256 columns it is among. -/
def full (a : Fin 13312 → EReal) (g : Fin 256 → EReal) (col : Fin 13312) : EReal :=
  a col * rmsr 0x43800000#32 (∑ d : Fin 256, a ⟨256 * (col.val / 256) + d.val, by omega⟩ * a ⟨256 * (col.val / 256) + d.val, by omega⟩)
    * g ⟨col.val % 256, by omega⟩

/-- The log forget gate of column `l`: of column `1024 + l` of the product. -/
def gate (a : Fin 13312 → EReal) (lb : Fin 1024 → EReal) (l : Fin 1024) : EReal :=
  Ideal.log (lb l + (1 - lb l) * Ideal.logistic (a ⟨1024 + l.val, by omega⟩))

/-- WHAT A COLUMN OF THE PRODUCT `a` GOES THROUGH, by its group of 1024: nothing (0, 2, 6); the forget gate's complement (1);
    `x · σ(x)` (3, 7, 9); the queries' and the keys' normalisation by halves of a head (4, 5); the memory queries' by heads (8);
    the merge gates `σ(x)` (10 to 12). -/
def column (a : Fin 13312 → EReal) (lb : Fin 1024 → EReal) (gq gk : Fin 64 → EReal) (gm : Fin 256 → EReal) (col : Fin 13312) : EReal :=
  if col.val / 1024 = 0 ∨ col.val / 1024 = 2 ∨ col.val / 1024 = 6 then a col
  else if col.val / 1024 = 1 then (1 - lb ⟨col.val % 1024, by omega⟩) * Ideal.logistic (-(a col))
  else if col.val / 1024 = 3 ∨ col.val / 1024 = 7 ∨ col.val / 1024 = 9 then a col * Ideal.logistic (a col)
  else if col.val / 1024 = 4 then half a gq col * Ideal.ofBits .f32 0x3E38AA3B#32
  else if col.val / 1024 = 5 then half a gk col
  else if col.val / 1024 = 8 then full a gm col * Ideal.ofBits .f32 0x3DB8AA3B#32
  else Ideal.logistic (a col)

end Cert.InProjSpec

end
-- ==== Proof.InProjGroup.lean ====
/-
  The projection kernel's column groups at an index, from the staged blocks' entries.
-/
module

public import proofs.«01_k».proof.Proof.InProjBlock
public import proofs.«01_k».proof.Proof.InProjSpec

@[expose] public section

set_option maxRecDepth 16384

noncomputable section

namespace Cert.InProjHand

open Cert.InProjIdeal Cert.InProjIdeal.Gen Idealize.ShloMosaic Idealize.ShloMosaic.TcCoe Idealize.ShloMosaic.Tactic Idealize.SL.Sem
open Cert.InProjSpec (zero_bits one_bits negInf mul_64_inv half_tanh one_sub_logistic rmsr normed proj bound gate column)

/-- Whether a lane is among the first 64, as the kernel's comparison says it. -/
theorem lane_lt (l : Fin 128) : IntOp.cmpi CmpIPredicate.slt (BitVec.ofNat 32 l.val) 64#32 = if l.val < 64 then 1#1 else 0#1 := by
  revert l; decide

/-- The sum over the 128 lanes of the first 64 lanes' terms is the sum over those 64, -/
theorem sum_lo (f : Fin 128 → EReal) : (∑ l : Fin 128, if l.val < 64 then f l else 0) = ∑ d : Fin 64, f ⟨d.val, by omega⟩ := by
  rw [Fin.sum_univ_two_halves 64 64 rfl]
  rw [Finset.sum_eq_zero (s := Finset.univ) (f := fun k : Fin 64 => if (64 + k.val) < 64 then _ else _), add_zero]
  · exact Finset.sum_congr rfl fun d _ => if_pos d.isLt
  · exact fun d _ => if_neg (by omega)
/-- and of the others' terms the sum over those. -/
theorem sum_hi (f : Fin 128 → EReal) : (∑ l : Fin 128, if l.val < 64 then 0 else f l) = ∑ d : Fin 64, f ⟨64 + d.val, by omega⟩ := by
  rw [Fin.sum_univ_two_halves 64 64 rfl]
  rw [Finset.sum_eq_zero (s := Finset.univ) (f := fun k : Fin 64 => if k.val < 64 then (0 : EReal) else _), zero_add]
  · exact Finset.sum_congr rfl fun d _ => if_neg (by simp)
  · exact fun d _ => if_pos d.isLt

/-- One head's half at an index. -/
theorem half_apply (s : BitVec 32) (x : FVec Ideal S256x128 .f32) (g : Vec Ideal S1x128 .f32) (r : Fin 256) (l : Fin 128) :
    half s x g (ix2 r l)
      = x (ix2 r l) * rmsr 0x42800000#32 (∑ d : Fin 64, x (ix2 r ⟨64 * (l.val / 64) + d.val, by omega⟩) * x (ix2 r ⟨64 * (l.val / 64) + d.val, by omega⟩))
          * (g (ix2 0 l) * Ideal.ofBits .f32 s) := by
  unfold half k0_pay5
  pointwise
  simp only [lane_lt, zero_bits, mul_64_inv]
  have e : ∀ (b : Prop) [Decidable b] (x y : EReal), Scalar.select (if b then 1#1 else 0#1) x y = if b then x else y := by
    intro b _ x y
    split <;> simp [Scalar.select]
  simp only [e, sum_lo (fun l => x (ix2 r l) * x (ix2 r l)), sum_hi (fun l => x (ix2 r l) * x (ix2 r l))]
  have hl := l.isLt
  by_cases h : l.val < 64
  · have h0 : l.val / 64 = 0 := by omega
    simp only [if_pos h, h0, Nat.mul_zero, Nat.zero_add]
    rfl
  · have h1 : l.val / 64 = 1 := by omega
    simp only [if_neg h, h1, Nat.mul_one]
    rfl

section
variable (x0 : Vec Ideal S256x1024 .f32) (x1 : Vec Ideal S1x1024 .f32) (x2 : Vec Ideal S1024x13312 .bf16) (x3 : Vec Ideal S2x1024 .f32)
  (x4 x5 : Vec Ideal S1x1024 .f32) (x6 : Vec Ideal S1x256 .f32)

theorem rows_apply (r : Fin 256) (k : Fin 1024) :
    rows x0 x1 (ix2 r k) = normed (fun k => x0 (ix2 r k)) (fun k => x1 (ix2 0 k)) k := by
  unfold rows
  rw [View.ld_unit_lit _ x0 (by decide), View.ld_unit_lit _ x1 (by decide)]
  unfold k0_pay3
  pointwise
  rfl

/-- Row `r` of the block's product with the weights. -/
def acc (r : Fin 256) : Fin 13312 → EReal :=
  proj (fun k => x0 (ix2 r k)) (fun k => x1 (ix2 0 k)) fun k c => x2 (ix2 k c)

/-- Column `l` of group `j`. -/
abbrev at_ (j : Fin 13) (l : Fin 1024) : Fin 13312 := ⟨1024 * j.val + l.val, by omega⟩

theorem group_apply (j : Fin 13) (k l : Fin 1024) : View.ld x2 (group j) (ix2 k l) = x2 (ix2 k (at_ j l)) := by
  refine congrArg x2 ?_
  funext a
  fin_cases a <;> apply Fin.ext <;> simp [LoadRect.idx]

theorem prod_apply (j : Fin 13) (r : Fin 256) (l : Fin 1024) : prod x0 x1 x2 j (ix2 r l) = acc x0 x1 x2 r (at_ j l) := by
  unfold prod k0_pay4
  pointwise
  simp only [rows_apply, group_apply]
  rfl

theorem thru_apply (j : Fin 13) (r : Fin 256) (l : Fin 1024) :
    k0_pay2 (rows x0 x1) (View.ld x2 (group j)) (ix2 r l) = acc x0 x1 x2 r (at_ j l) := by
  rw [← prod_apply]
  unfold k0_pay2 prod k0_pay4
  pointwise

theorem silu_apply (j : Fin 13) (r : Fin 256) (l : Fin 1024) :
    k0_pay1 (rows x0 x1) (View.ld x2 (group j)) (ix2 r l) = acc x0 x1 x2 r (at_ j l) * Ideal.logistic (acc x0 x1 x2 r (at_ j l)) := by
  rw [← half_tanh, ← prod_apply]
  unfold k0_pay1 prod k0_pay4
  pointwise

theorem gate_apply (j : Fin 13) (r : Fin 256) (l : Fin 1024) :
    k0_pay115 (rows x0 x1) (View.ld x2 (group j)) (ix2 r l) = Ideal.logistic (acc x0 x1 x2 r (at_ j l)) := by
  rw [← half_tanh, ← prod_apply]
  unfold k0_pay115 prod k0_pay4
  pointwise

theorem bound_apply (l : Fin 1024) : k0_pay96 (logits x3) (ix2 0 l) = bound fun i => x3 (ix2 i l) := by
  unfold logits
  rw [View.ld_unit_lit _ x3 (by decide)]
  unfold k0_pay96
  pointwise
  rw [negInf]
  simp [Fin.sum_univ_two, Finset.fold, bound]

theorem sig_apply (r : Fin 256) (l : Fin 1024) :
    k0_pay97 (rows x0 x1) (View.ld x2 (group 1)) (ix2 r l) = Ideal.logistic (acc x0 x1 x2 r (at_ 1 l)) := by
  rw [← half_tanh, ← prod_apply]
  unfold k0_pay97 prod k0_pay4
  pointwise

theorem logf_apply (r : Fin 256) (l : Fin 1024) :
    k0_pay98 (logits x3) (rows x0 x1) (View.ld x2 (group 1)) (ix2 r l)
      = gate (acc x0 x1 x2 r) (fun l => bound fun i => x3 (ix2 i l)) l := by
  unfold k0_pay98
  pointwise
  rw [bound_apply, sig_apply]
  rfl

theorem forget_apply (r : Fin 256) (l : Fin 1024) :
    k0_pay99 (logits x3) (rows x0 x1) (View.ld x2 (group 1)) (ix2 r l)
      = (1 - bound fun i => x3 (ix2 i l)) * Ideal.logistic (-(acc x0 x1 x2 r (at_ 1 l))) := by
  unfold k0_pay99
  pointwise
  rw [bound_apply, sig_apply, one_sub_logistic]

theorem gain_apply (x : Vec Ideal S1x1024 .f32) (h : Fin 8) (l : Fin 128) :
    View.ld x (gainH h) (ix2 0 l) = x (ix2 0 ⟨128 * h.val + l.val, by omega⟩) := by
  refine congrArg x ?_
  funext a
  fin_cases a <;> apply Fin.ext <;> simp [LoadRect.idx]

/-- Column `l` of head `h` of group `j`. -/
abbrev atH (j : Fin 13) (h : Fin 8) (l : Fin 128) : Fin 13312 := ⟨1024 * j.val + 128 * h.val + l.val, by omega⟩

theorem slice_apply (j : Fin 13) (h : Fin 8) (r : Fin 256) (l : Fin 128) :
    extractStridedSlice S256x128 ![0, 128 * h.val] (prod x0 x1 x2 j) (slices_head h) (ix2 r l) = acc x0 x1 x2 r (atH j h l) := by
  pointwise
  rw [prod_apply]
  exact congrArg _ (Fin.ext (by simp; omega))

theorem half_head (s : BitVec 32) (j : Fin 13) (g : Fin 64 → EReal) (x : Vec Ideal S1x1024 .f32) (hg : ∀ l : Fin 1024, x (ix2 0 l) = g ⟨l.val % 64, by omega⟩)
    (h : Fin 8) (r : Fin 256) (l : Fin 128) :
    half s (extractStridedSlice S256x128 ![0, 128 * h.val] (prod x0 x1 x2 j) (slices_head h)) (View.ld x (gainH h)) (ix2 r l)
      = Cert.InProjSpec.half (acc x0 x1 x2 r) g (atH j h l) * Ideal.ofBits .f32 s := by
  rw [half_apply, gain_apply, hg]
  simp only [slice_apply]
  unfold Cert.InProjSpec.half
  rw [← mul_assoc]
  have e1 : ∀ d : Fin 64, atH j h ⟨64 * (l.val / 64) + d.val, by omega⟩ = ⟨64 * ((atH j h l).val / 64) + d.val, by omega⟩ :=
    fun d => Fin.ext (by simp; omega)
  have e2 : (⟨(128 * h.val + l.val) % 64, by omega⟩ : Fin 64) = ⟨(atH j h l).val % 64, by omega⟩ := Fin.ext (by simp; omega)
  simp only [e1, e2]

theorem query_apply (gq : Fin 64 → EReal) (hg : ∀ l : Fin 1024, x4 (ix2 0 l) = gq ⟨l.val % 64, by omega⟩) (h : Fin 8) (r : Fin 256) (l : Fin 128) :
    query x0 x1 x2 x4 h (ix2 r l) = Cert.InProjSpec.half (acc x0 x1 x2 r) gq (atH 4 h l) * Ideal.ofBits .f32 0x3E38AA3B#32 :=
  half_head x0 x1 x2 _ 4 gq x4 hg h r l

theorem key_apply (gk : Fin 64 → EReal) (hg : ∀ l : Fin 1024, x5 (ix2 0 l) = gk ⟨l.val % 64, by omega⟩) (h : Fin 8) (r : Fin 256) (l : Fin 128) :
    key x0 x1 x2 x5 h (ix2 r l) = Cert.InProjSpec.half (acc x0 x1 x2 r) gk (atH 5 h l) :=
  (half_head x0 x1 x2 _ 5 gk x5 hg h r l).trans (by rw [one_bits, mul_one])

/-- Column `l` of head `h` of the memory queries' group. -/
abbrev atM (h : Fin 4) (l : Fin 256) : Fin 13312 := ⟨8192 + 256 * h.val + l.val, by omega⟩

theorem sliceM_apply (h : Fin 4) (r l : Fin 256) :
    extractStridedSlice S256x256 ![0, 256 * h.val] (prod x0 x1 x2 8) (slices_mem h) (ix2 r l) = acc x0 x1 x2 r (atM h l) := by
  pointwise
  rw [prod_apply]
  exact congrArg _ (Fin.ext (by simp; omega))

theorem memq_apply (h : Fin 4) (r l : Fin 256) :
    memq x0 x1 x2 x6 h (ix2 r l)
      = Cert.InProjSpec.full (acc x0 x1 x2 r) (fun d => x6 (ix2 0 d)) (atM h l) * Ideal.ofBits .f32 0x3DB8AA3B#32 := by
  unfold memq
  rw [View.ld_unit_lit _ x6 (by decide)]
  unfold k0_pay105 k0_pay104
  pointwise
  have e : ∀ d : Fin 256, prod x0 x1 x2 8 (ix2 r ⟨256 * h.val + d.val, by omega⟩) = acc x0 x1 x2 r (atM h d) := fun d => by
    rw [prod_apply]
    exact congrArg _ (Fin.ext (by simp; omega))
  simp only [e]
  unfold Cert.InProjSpec.full
  have e1 : ∀ d : Fin 256, (⟨256 * ((atM h l).val / 256) + d.val, by omega⟩ : Fin 13312) = atM h d := fun d => Fin.ext (by simp; omega)
  have e2 : (⟨(atM h l).val % 256, by omega⟩ : Fin 256) = l := Fin.ext (by simp; omega)
  simp only [e1, e2]
  rfl

end

end Cert.InProjHand

end
-- ==== Proof.InProjWhole.lean ====
/-
  The projection kernel's output blocks and arrays at an index.
-/
module

public import proofs.«01_k».proof.Proof.InProjGroup
public import Idealize.ShloMosaic.Lib.Claim

@[expose] public section

set_option maxRecDepth 16384

noncomputable section

namespace Cert.InProjHand

open Cert.InProjIdeal Cert.InProjIdeal.Gen Cert.InProjIdeal.Value Idealize.ShloMosaic Idealize.ShloMosaic.TcCoe Idealize.ShloMosaic.Tactic Idealize.SL.Sem
open Cert.InProjSpec (rmsr normed proj bound gate column)

variable (m : (ℓ : Loc nD τ sig) → Buf (Elt Ideal) ℓ)

section
variable (x0 : Vec Ideal S256x1024 .f32) (x1 : Vec Ideal S1x1024 .f32) (x2 : Vec Ideal S1024x13312 .bf16) (x3 : Vec Ideal S2x1024 .f32)
  (x4 x5 : Vec Ideal S1x1024 .f32) (x6 : Vec Ideal S1x256 .f32) (gq gk : Fin 64 → EReal)

/-- The combined block's entries. -/
def blockOf : S256x13312.Idx → EReal := fun y =>
  column (acc x0 x1 x2 (y 0)) (fun l => bound fun i => x3 (ix2 i l)) gq gk (fun d => x6 (ix2 0 d)) (y 1)

theorem emb_G (j : Fin 13) (r : Fin 256) (l : Fin 1024) : (outG j).emb (ix2 r l) = ix2 r (at_ j l) := by
  funext a
  fin_cases a <;> apply Fin.ext
  · exact (Rect.idx_unit_val _ _ _ _ 0).trans (Nat.zero_add _)
  · exact Rect.idx_unit_val _ _ _ _ 1
theorem emb_H (o : Fin 3) (h : Fin 8) (r : Fin 256) (l : Fin 128) :
    (outH o h).emb (ix2 r l) = ix2 r ⟨4096 + 1024 * o.val + 128 * h.val + l.val, by omega⟩ := by
  funext a
  fin_cases a <;> apply Fin.ext
  · exact (Rect.idx_unit_val _ _ _ _ 0).trans (Nat.zero_add _)
  · exact Rect.idx_unit_val _ _ _ _ 1
theorem emb_M (h : Fin 4) (r l : Fin 256) : (outM h).emb (ix2 r l) = ix2 r (atM h l) := by
  funext a
  fin_cases a <;> apply Fin.ext
  · exact (Rect.idx_unit_val _ _ _ _ 0).trans (Nat.zero_add _)
  · exact Rect.idx_unit_val _ _ _ _ 1
theorem emb_K (h : Fin 8) (l : Fin 128) (r : Fin 256) : (keysH h).emb (ix3 0 l r) = ix3 0 ⟨128 * h.val + l.val, by omega⟩ r := by
  funext a
  fin_cases a <;> apply Fin.ext
  · exact (Rect.idx_unit_val _ _ _ _ 0).trans (Nat.zero_add _)
  · exact Rect.idx_unit_val _ _ _ _ 1
  · exact (Rect.idx_unit_val _ _ _ _ 2).trans (Nat.zero_add _)

theorem grp_G (j : Fin 13) (l : Fin 1024) : (at_ j l).val / 1024 = j.val := by simp; omega

/-- A store of a whole column group holds the block's entries there. -/
theorem piece_G (j : Fin 13) (w : FVec Ideal S256x1024 .bf16)
    (h : ∀ r l, w (ix2 r l) = blockOf x0 x1 x2 x3 x6 gq gk (ix2 r (at_ j l))) (x : (outG j).shape.Idx) :
    w x = blockOf x0 x1 x2 x3 x6 gq gk ((outG j).emb x) := by
  obtain ⟨r, l, rfl⟩ : ∃ (r : Fin 256) (l : Fin 1024), x = ix2 r l := ⟨x 0, x 1, by funext a; fin_cases a <;> rfl⟩
  rw [emb_G]
  exact h r l

theorem thru_G (j : Fin 13) (hj : j.val = 0 ∨ j.val = 2 ∨ j.val = 6) (x : (outG j).shape.Idx) :
    k0_pay2 (rows x0 x1) (View.ld x2 (group j)) x = blockOf x0 x1 x2 x3 x6 gq gk ((outG j).emb x) :=
  piece_G x0 x1 x2 x3 x6 gq gk j _ (fun r l => by
    rw [thru_apply]
    show _ = column (acc x0 x1 x2 r) _ gq gk _ (at_ j l)
    unfold column
    rw [grp_G, if_pos hj]) x

theorem silu_G (j : Fin 13) (hj : j.val = 3 ∨ j.val = 7 ∨ j.val = 9) (x : (outG j).shape.Idx) :
    k0_pay1 (rows x0 x1) (View.ld x2 (group j)) x = blockOf x0 x1 x2 x3 x6 gq gk ((outG j).emb x) :=
  piece_G x0 x1 x2 x3 x6 gq gk j _ (fun r l => by
    rw [silu_apply]
    show _ = column (acc x0 x1 x2 r) _ gq gk _ (at_ j l)
    unfold column
    rw [grp_G, if_neg (by omega), if_neg (by omega), if_pos hj]) x

theorem gate_G (j : Fin 13) (hj : 10 ≤ j.val) (x : (outG j).shape.Idx) :
    k0_pay115 (rows x0 x1) (View.ld x2 (group j)) x = blockOf x0 x1 x2 x3 x6 gq gk ((outG j).emb x) :=
  piece_G x0 x1 x2 x3 x6 gq gk j _ (fun r l => by
    rw [gate_apply]
    show _ = column (acc x0 x1 x2 r) _ gq gk _ (at_ j l)
    unfold column
    rw [grp_G, if_neg (by omega), if_neg (by omega), if_neg (by omega), if_neg (by omega), if_neg (by omega), if_neg (by omega)]) x

theorem forget_G (x : (outG 1).shape.Idx) :
    k0_pay99 (logits x3) (rows x0 x1) (View.ld x2 (group 1)) x = blockOf x0 x1 x2 x3 x6 gq gk ((outG 1).emb x) :=
  piece_G x0 x1 x2 x3 x6 gq gk 1 _ (fun r l => by
    rw [forget_apply]
    show _ = column (acc x0 x1 x2 r) _ gq gk _ (at_ 1 l)
    have e : (⟨(at_ 1 l).val % 1024, by omega⟩ : Fin 1024) = l := Fin.ext (by simp)
    unfold column
    rw [grp_G, if_neg (by decide), if_pos (by decide), e]) x

theorem query_G (hq : ∀ l : Fin 1024, x4 (ix2 0 l) = gq ⟨l.val % 64, by omega⟩) (h : Fin 8) (x : (outH 0 h).shape.Idx) :
    k0_pay39 (query x0 x1 x2 x4 h) x = blockOf x0 x1 x2 x3 x6 gq gk ((outH 0 h).emb x) := by
  obtain ⟨r, l, rfl⟩ : ∃ (r : Fin 256) (l : Fin 128), x = ix2 r l := ⟨x 0, x 1, by funext a; fin_cases a <;> rfl⟩
  rw [emb_H]
  have e : (⟨4096 + 1024 * (0 : Fin 3).val + 128 * h.val + l.val, by omega⟩ : Fin 13312) = atH 4 h l := Fin.ext (by simp)
  have e' : (atH 4 h l).val / 1024 = 4 := by simp; omega
  rw [e]
  refine (query_apply x0 x1 x2 x4 gq hq h r l).trans ?_
  show _ = column (acc x0 x1 x2 r) _ gq gk _ (atH 4 h l)
  unfold column
  rw [e', if_neg (by decide), if_neg (by decide), if_neg (by decide), if_pos rfl]

theorem key_G (hk : ∀ l : Fin 1024, x5 (ix2 0 l) = gk ⟨l.val % 64, by omega⟩) (h : Fin 8) (x : (outH 1 h).shape.Idx) :
    k0_pay39 (key x0 x1 x2 x5 h) x = blockOf x0 x1 x2 x3 x6 gq gk ((outH 1 h).emb x) := by
  obtain ⟨r, l, rfl⟩ : ∃ (r : Fin 256) (l : Fin 128), x = ix2 r l := ⟨x 0, x 1, by funext a; fin_cases a <;> rfl⟩
  rw [emb_H]
  have e : (⟨4096 + 1024 * (1 : Fin 3).val + 128 * h.val + l.val, by omega⟩ : Fin 13312) = atH 5 h l := Fin.ext (by simp)
  have e' : (atH 5 h l).val / 1024 = 5 := by simp; omega
  rw [e]
  refine (key_apply x0 x1 x2 x5 gk hk h r l).trans ?_
  show _ = column (acc x0 x1 x2 r) _ gq gk _ (atH 5 h l)
  unfold column
  rw [e', if_neg (by decide), if_neg (by decide), if_neg (by decide), if_neg (by decide), if_pos rfl]

theorem memq_G (h : Fin 4) (x : (outM h).shape.Idx) :
    memq x0 x1 x2 x6 h x = blockOf x0 x1 x2 x3 x6 gq gk ((outM h).emb x) := by
  obtain ⟨r, l, rfl⟩ : ∃ (r : Fin 256) (l : Fin 256), x = ix2 r l := ⟨x 0, x 1, by funext a; fin_cases a <;> rfl⟩
  rw [emb_M]
  have e' : (atM h l).val / 1024 = 8 := by simp; omega
  refine (memq_apply x0 x1 x2 x6 h r l).trans ?_
  show _ = column (acc x0 x1 x2 r) _ gq gk _ (atM h l)
  unfold column
  rw [e', if_neg (by decide), if_neg (by decide), if_neg (by decide), if_neg (by decide), if_neg (by decide), if_pos rfl]

/-- THE COMBINED BLOCK at an index. -/
theorem blockOf_eq (hq : ∀ l : Fin 1024, x4 (ix2 0 l) = gq ⟨l.val % 64, by omega⟩) (hk : ∀ l : Fin 1024, x5 (ix2 0 l) = gk ⟨l.val % 64, by omega⟩)
    (y : S256x13312.Idx) : View.canon (pieces x0 x1 x2 x3 x4 x5 x6) y = blockOf x0 x1 x2 x3 x6 gq gk y := by
  refine View.canon_apply_of_pieces (Val := Elt Ideal) (S := S256x13312) (e := .bf16) (blockOf x0 x1 x2 x3 x6 gq gk) _ ?_ y ?_
  · intro p hpm
    unfold pieces at hpm
    simp only [List.mem_cons, List.not_mem_nil, or_false] at hpm
    rcases hpm with rfl | rfl | rfl | rfl | rfl | rfl | rfl | rfl | rfl | rfl | rfl | rfl | rfl | rfl | rfl | rfl | rfl | rfl | rfl | rfl
      | rfl | rfl | rfl | rfl | rfl | rfl | rfl | rfl | rfl | rfl
    · exact thru_G x0 x1 x2 x3 x6 gq gk 0 (by decide)
    · exact silu_G x0 x1 x2 x3 x6 gq gk 9 (by decide)
    · exact gate_G x0 x1 x2 x3 x6 gq gk 12 (by decide)
    · exact silu_G x0 x1 x2 x3 x6 gq gk 7 (by decide)
    · exact gate_G x0 x1 x2 x3 x6 gq gk 11 (by decide)
    · exact silu_G x0 x1 x2 x3 x6 gq gk 3 (by decide)
    · exact memq_G x0 x1 x2 x3 x6 gq gk 3
    · exact memq_G x0 x1 x2 x3 x6 gq gk 2
    · exact memq_G x0 x1 x2 x3 x6 gq gk 1
    · exact memq_G x0 x1 x2 x3 x6 gq gk 0
    · exact gate_G x0 x1 x2 x3 x6 gq gk 10 (by decide)
    · exact forget_G x0 x1 x2 x3 x6 gq gk
    · exact thru_G x0 x1 x2 x3 x6 gq gk 6 (by decide)
    · exact query_G x0 x1 x2 x3 x4 x6 gq gk hq 7
    · exact query_G x0 x1 x2 x3 x4 x6 gq gk hq 6
    · exact query_G x0 x1 x2 x3 x4 x6 gq gk hq 5
    · exact query_G x0 x1 x2 x3 x4 x6 gq gk hq 4
    · exact query_G x0 x1 x2 x3 x4 x6 gq gk hq 3
    · exact query_G x0 x1 x2 x3 x4 x6 gq gk hq 2
    · exact query_G x0 x1 x2 x3 x4 x6 gq gk hq 1
    · exact query_G x0 x1 x2 x3 x4 x6 gq gk hq 0
    · exact thru_G x0 x1 x2 x3 x6 gq gk 2 (by decide)
    · exact key_G x0 x1 x2 x3 x5 x6 gq gk hk 7
    · exact key_G x0 x1 x2 x3 x5 x6 gq gk hk 6
    · exact key_G x0 x1 x2 x3 x5 x6 gq gk hk 5
    · exact key_G x0 x1 x2 x3 x5 x6 gq gk hk 4
    · exact key_G x0 x1 x2 x3 x5 x6 gq gk hk 3
    · exact key_G x0 x1 x2 x3 x5 x6 gq gk hk 2
    · exact key_G x0 x1 x2 x3 x5 x6 gq gk hk 1
    · exact key_G x0 x1 x2 x3 x5 x6 gq gk hk 0
  · exact View.cover_of_tiledBy (pieces x0 x1 x2 x3 x4 x5 x6) ![256, 128] (by sl_kernel_rfl) y

/-- THE TRANSPOSED KEYS' BLOCK at an index. -/
theorem keys_eq (hk : ∀ l : Fin 1024, x5 (ix2 0 l) = gk ⟨l.val % 64, by omega⟩) (l : Fin 1024) (r : Fin 256) :
    View.canon (keyPieces x0 x1 x2 x5) (ix3 0 l r) = Cert.InProjSpec.half (acc x0 x1 x2 r) gk (at_ 5 l) := by
  refine View.canon_apply_of_pieces (Val := Elt Ideal) (S := S1x1024x256) (e := .f32)
    (fun y => Cert.InProjSpec.half (acc x0 x1 x2 (y 2)) gk (at_ 5 (y 1))) _ ?_ (ix3 0 l r) ?_
  · have hp : ∀ (h : Fin 8) (x : (keysH h).shape.Idx), k0_pay40 (key x0 x1 x2 x5 h) x
        = Cert.InProjSpec.half (acc x0 x1 x2 (((keysH h).emb x) 2)) gk (at_ 5 (((keysH h).emb x) 1)) := by
      intro h x
      obtain ⟨l, r, rfl⟩ : ∃ (l : Fin 128) (r : Fin 256), x = ix3 0 l r :=
        ⟨x 1, x 2, by funext a; fin_cases a; exact Fin.ext (by have := (x 0).isLt; change (x 0).val < 1 at this; show (x 0).val = 0; omega); rfl; rfl⟩
      rw [emb_K]
      have e : k0_pay40 (key x0 x1 x2 x5 h) (ix3 0 l r) = key x0 x1 x2 x5 h (ix2 r l) := by
        unfold k0_pay40
        pointwise
      refine e.trans ((key_apply x0 x1 x2 x5 gk hk h r l).trans ?_)
      show _ = Cert.InProjSpec.half (acc x0 x1 x2 r) gk (at_ 5 ⟨128 * h.val + l.val, _⟩)
      exact congrArg _ (Fin.ext (by simp; omega))
    intro p hpm
    unfold keyPieces at hpm
    simp only [List.mem_cons, List.not_mem_nil, or_false] at hpm
    rcases hpm with rfl | rfl | rfl | rfl | rfl | rfl | rfl | rfl <;> exact hp _
  · exact View.cover_of_tiledL (s := S1x1024x256) (keyPieces x0 x1 x2 x5) ![1, 128, 256] (by unfold keyPieces; rfl) (ix3 0 l r)

end

end Cert.InProjHand

end
-- ==== Proof.InProjArray.lean ====
/-
  The arrays the projection kernel writes, at an index, from the argument arrays.
-/
module

public import proofs.«01_k».proof.Proof.InProjWhole

@[expose] public section

set_option maxRecDepth 16384

noncomputable section

namespace Cert.InProjHand

open Cert.InProjIdeal Cert.InProjIdeal.Gen Cert.InProjIdeal.Value Idealize.ShloMosaic Idealize.ShloMosaic.TcCoe Idealize.ShloMosaic.Tactic Idealize.SL.Sem
open Cert.InProjSpec (rmsr normed proj bound gate column)

variable (m : (ℓ : Loc nD τ sig) → Buf (Elt Ideal) ℓ)

/-- Where each window's block sits at point `t`: the rows' and the outputs' at rows `256 t`, the transposed keys' at the same
    rows within their batch of 2048, the others the whole array. -/
theorem ix_0 : ∀ t : Fin cfg0.N, win0_0.index t = ![t.val, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![0, 0] := (by decide +kernel : ∀ t : Fin grid0.N, _)
theorem ix_3 : ∀ t : Fin cfg0.N, win0_3.index t = ![0, 0] := (by decide +kernel : ∀ t : Fin grid0.N, _)
theorem ix_4 : ∀ t : Fin cfg0.N, win0_4.index t = ![0, 0] := (by decide +kernel : ∀ t : Fin grid0.N, _)
theorem ix_5 : ∀ t : Fin cfg0.N, win0_5.index t = ![0, 0] := (by decide +kernel : ∀ t : Fin grid0.N, _)
theorem ix_6 : ∀ t : Fin cfg0.N, win0_6.index t = ![0, 0] := (by decide +kernel : ∀ t : Fin grid0.N, _)
theorem ix_7 : ∀ t : Fin cfg0.N, win0_7.index t = ![t.val, 0] := (by decide +kernel : ∀ t : Fin grid0.N, _)
theorem ix_8 : ∀ t : Fin cfg0.N, win0_8.index t = ![t.val, 0] := (by decide +kernel : ∀ t : Fin grid0.N, _)
theorem ix_9 : ∀ t : Fin cfg0.N, win0_9.index t = ![t.val / 8, 0, t.val % 8] := (by decide +kernel : ∀ t : Fin grid0.N, _)
theorem ix_10 : ∀ t : Fin cfg0.N, win0_10.index t = ![t.val, 0] := (by decide +kernel : ∀ t : Fin grid0.N, _)

theorem t_lt (t : Fin cfg0.N) : t.val < 256 := lt_of_lt_of_eq t.isLt N_0

/-- Row `r` of point `t`'s block, in the whole array. -/
abbrev rowOf (t : Fin cfg0.N) (r : Fin 256) : Fin 65536 := ⟨t.val * 256 + r.val, by have := t_lt t; omega⟩

/-- The host's arrays before the region, from the arguments: the gain and the weights, -/
theorem V_6 (c : Dev nD) (l : Fin 1024) : V m c main_v6 (ix2 0 l) = m ((c : Thread nD τ).loc main_arg1) (ix2 0 l) := by
  dsimp only [V, hostOps0]
  after_results
  pointwise
theorem V_2 (c : Dev nD) (k : Fin 1024) (l : Fin 13312) : V m c main_v2 (ix2 k l) = m ((c : Thread nD τ).loc main_arg2) (ix3 0 k l) := by
  dsimp only [V, hostOps0]
  after_results
  pointwise
/-- the queries' and the keys' gains, repeated every 64 columns, and the memory queries'. -/
theorem V_10 (c : Dev nD) (l : Fin 1024) : V m c main_v10 (ix2 0 l) = m ((c : Thread nD τ).loc main_arg4) (ix2 0 ⟨l.val % 64, by omega⟩) := by
  dsimp only [V, hostOps0]
  after_results
  pointwise
theorem V_14 (c : Dev nD) (l : Fin 1024) : V m c main_v14 (ix2 0 l) = m ((c : Thread nD τ).loc main_arg5) (ix2 0 ⟨l.val % 64, by omega⟩) := by
  dsimp only [V, hostOps0]
  after_results
  pointwise
theorem V_15 (c : Dev nD) (l : Fin 256) : V m c main_v15 (ix2 0 l) = m ((c : Thread nD τ).loc main_arg6) (ix2 0 l) := by
  dsimp only [V, hostOps0]
  after_results
  pointwise

/-- The staged blocks, from the arguments. -/
theorem iblk_0 (c : Dev nD) (t : Fin cfg0.N) (r : Fin 256) (k : Fin 1024) :
    iblk m c 0 t (ix2 r k) = m ((c : Thread nD τ).loc main_arg0) (ix2 (rowOf t r) k) := by
  rw [← V_main_arg0 m c]
  blk_simp [iblk]
  refine congrArg _ ?_
  blk_ext [ix_0]
theorem iblk_1 (c : Dev nD) (t : Fin cfg0.N) (l : Fin 1024) : iblk m c 1 t (ix2 0 l) = m ((c : Thread nD τ).loc main_arg1) (ix2 0 l) := by
  rw [← V_6 m c]
  blk_simp [iblk]
  refine congrArg _ ?_
  blk_ext [ix_1]
theorem iblk_2 (c : Dev nD) (t : Fin cfg0.N) (k : Fin 1024) (l : Fin 13312) :
    iblk m c 2 t (ix2 k l) = m ((c : Thread nD τ).loc main_arg2) (ix3 0 k l) := by
  rw [← V_2 m c]
  blk_simp [iblk]
  refine congrArg _ ?_
  blk_ext [ix_2]
theorem iblk_3 (c : Dev nD) (t : Fin cfg0.N) (i : Fin 2) (l : Fin 1024) : iblk m c 3 t (ix2 i l) = m ((c : Thread nD τ).loc main_arg3) (ix2 i l) := by
  rw [← V_main_arg3 m c]
  blk_simp [iblk]
  refine congrArg _ ?_
  blk_ext [ix_3]
theorem iblk_4 (c : Dev nD) (t : Fin cfg0.N) (l : Fin 1024) :
    iblk m c 4 t (ix2 0 l) = m ((c : Thread nD τ).loc main_arg4) (ix2 0 ⟨l.val % 64, by omega⟩) := by
  rw [← V_10 m c]
  blk_simp [iblk]
  refine congrArg _ ?_
  blk_ext [ix_4]
theorem iblk_5 (c : Dev nD) (t : Fin cfg0.N) (l : Fin 1024) :
    iblk m c 5 t (ix2 0 l) = m ((c : Thread nD τ).loc main_arg5) (ix2 0 ⟨l.val % 64, by omega⟩) := by
  rw [← V_14 m c]
  blk_simp [iblk]
  refine congrArg _ ?_
  blk_ext [ix_5]
theorem iblk_6 (c : Dev nD) (t : Fin cfg0.N) (l : Fin 256) : iblk m c 6 t (ix2 0 l) = m ((c : Thread nD τ).loc main_arg6) (ix2 0 l) := by
  rw [← V_15 m c]
  blk_simp [iblk]
  refine congrArg _ ?_
  blk_ext [ix_6]

section
variable (x : Vec Ideal S65536x1024 .f32) (gn : Vec Ideal S1x1024 .f32) (w : Vec Ideal S1x1024x13312 .f32) (lg : Vec Ideal S2x1024 .f32)
  (gq gk : Vec Ideal S1x64 .f32) (gm : Vec Ideal S1x256 .f32)

/-- Row `r`'s product with the weights, -/
def accA (r : Fin 65536) : Fin 13312 → EReal := proj (fun k => x (ix2 r k)) (fun k => gn (ix2 0 k)) fun k c => w (ix3 0 k c)
/-- the lower bounds, -/
def lbA (l : Fin 1024) : EReal := bound fun i => lg (ix2 i l)
/-- the combined output, -/
def arrayP : S65536x13312.Idx → EReal := fun i =>
  column (accA x gn w (i 0)) (lbA lg) (fun d => gq (ix2 0 d)) (fun d => gk (ix2 0 d)) (fun d => gm (ix2 0 d)) (i 1)
/-- the log forget gate, -/
def arrayF : S65536x1024.Idx → EReal := fun i => gate (accA x gn w (i 0)) (lbA lg) (i 1)
/-- the keys, transposed within each batch, -/
def arrayK : S32x1024x2048.Idx → EReal := fun i =>
  Cert.InProjSpec.half (accA x gn w ⟨2048 * (i 0).val + (i 2).val, by
    have h0 : (i 0).val < 32 := (i 0).isLt
    have h2 : (i 2).val < 2048 := (i 2).isLt
    omega⟩) (fun d => gk (ix2 0 d)) (at_ 5 (i 1))
/-- and the values. -/
def arrayV : S65536x1024.Idx → EReal := fun i => accA x gn w (i 0) (at_ 6 (i 1))
end

theorem acc_eq (c : Dev nD) (t : Fin cfg0.N) (r : Fin 256) : acc (iblk m c 0 t) (iblk m c 1 t) (iblk m c 2 t) r
    = accA (m ((c : Thread nD τ).loc main_arg0)) (m ((c : Thread nD τ).loc main_arg1)) (m ((c : Thread nD τ).loc main_arg2)) (rowOf t r) := by
  unfold acc accA
  simp only [iblk_0, iblk_1, iblk_2]

theorem lb_eq (c : Dev nD) (t : Fin cfg0.N) : (fun l : Fin 1024 => bound fun i => iblk m c 3 t (ix2 i l)) = lbA (m ((c : Thread nD τ).loc main_arg3)) := by
  unfold lbA
  simp only [iblk_3]

/-- What each point's blocks hold, of those arrays. -/
theorem blk_p (c : Dev nD) (t : Fin cfg0.N) (y : S256x13312.Idx) :
    View.canon (pieces (iblk m c 0 t) (iblk m c 1 t) (iblk m c 2 t) (iblk m c 3 t) (iblk m c 4 t) (iblk m c 5 t) (iblk m c 6 t)) y
      = arrayP (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (ix2 (rowOf t (y 0)) (y 1)) := by
  refine (blockOf_eq _ _ _ _ _ _ _ (fun d => m ((c : Thread nD τ).loc main_arg4) (ix2 0 d)) (fun d => m ((c : Thread nD τ).loc main_arg5) (ix2 0 d))
    (iblk_4 m c t) (iblk_5 m c t) y).trans ?_
  unfold blockOf
  rw [acc_eq m c t (y 0), lb_eq m c t]
  simp only [iblk_6]
  rfl
theorem blk_f (c : Dev nD) (t : Fin cfg0.N) (r : Fin 256) (l : Fin 1024) :
    k0_pay98 (logits (iblk m c 3 t)) (rows (iblk m c 0 t) (iblk m c 1 t)) (View.ld (iblk m c 2 t) (group 1)) (ix2 r l)
      = arrayF (m ((c : Thread nD τ).loc main_arg0)) (m ((c : Thread nD τ).loc main_arg1)) (m ((c : Thread nD τ).loc main_arg2))
          (m ((c : Thread nD τ).loc main_arg3)) (ix2 (rowOf t r) l) := by
  refine (logf_apply _ _ _ _ r l).trans ?_
  rw [acc_eq m c t r, lb_eq m c t]
  rfl
theorem blk_k (c : Dev nD) (t : Fin cfg0.N) (l : Fin 1024) (r : Fin 256) :
    View.canon (keyPieces (iblk m c 0 t) (iblk m c 1 t) (iblk m c 2 t) (iblk m c 5 t)) (ix3 0 l r)
      = arrayK (m ((c : Thread nD τ).loc main_arg0)) (m ((c : Thread nD τ).loc main_arg1)) (m ((c : Thread nD τ).loc main_arg2))
          (m ((c : Thread nD τ).loc main_arg5)) (ix3 ⟨t.val / 8, by have := t_lt t; omega⟩ l ⟨t.val % 8 * 256 + r.val, by omega⟩) := by
  refine (keys_eq _ _ _ _ (fun d => m ((c : Thread nD τ).loc main_arg5) (ix2 0 d)) (iblk_5 m c t) l r).trans ?_
  rw [acc_eq m c t r]
  have e : rowOf t r = ⟨2048 * (t.val / 8) + (t.val % 8 * 256 + r.val), by have := t_lt t; omega⟩ :=
    Fin.ext (by show t.val * 256 + r.val = 2048 * (t.val / 8) + (t.val % 8 * 256 + r.val); omega)
  rw [e]
  rfl
theorem blk_v (c : Dev nD) (t : Fin cfg0.N) (r : Fin 256) (l : Fin 1024) :
    prod (iblk m c 0 t) (iblk m c 1 t) (iblk m c 2 t) 6 (ix2 r l)
      = arrayV (m ((c : Thread nD τ).loc main_arg0)) (m ((c : Thread nD τ).loc main_arg1)) (m ((c : Thread nD τ).loc main_arg2)) (ix2 (rowOf t r) l) := by
  refine (prod_apply _ _ _ 6 r l).trans ?_
  rw [acc_eq m c t r]
  rfl

theorem eta2 {n0 n1 : Nat} (y : (Shape.mk 2 ![n0, n1]).Idx) : y = ix2 (y 0) (y 1) := by
  funext a; fin_cases a <;> rfl

/-- The kernel's results hold those arrays of its arguments: the combined output, -/
theorem final_p (c : Dev nD) : (dats m 0 c).arrAt 7 cfg0.N
      = arrayP (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (dats m 0 c).arrAt_eq_of_covers 7 _ (by decide +kernel) fun t hf y => ?_
  blk_simp
  rw [after0_7, outs_p]
  refine (blk_p m c t y).trans (congrArg _ ?_)
  blk_ext [ix_7]

/-- the log forget gate, -/
theorem final_f (c : Dev nD) : (dats m 0 c).arrAt 8 cfg0.N
      = arrayF (m ((c : Thread nD τ).loc main_arg0)) (m ((c : Thread nD τ).loc main_arg1)) (m ((c : Thread nD τ).loc main_arg2))
          (m ((c : Thread nD τ).loc main_arg3)) := by
  refine (dats m 0 c).arrAt_eq_of_covers 8 _ (by decide +kernel) fun t hf y => ?_
  blk_simp
  rw [after0_8, outs_f]
  refine (congrArg _ (eta2 (n0 := 256) (n1 := 1024) y)).trans ((blk_f m c t (y 0) (y 1)).trans (congrArg _ ?_))
  blk_ext [ix_8]

/-- the transposed keys, -/
theorem final_k (c : Dev nD) : (dats m 0 c).arrAt 9 cfg0.N
      = arrayK (m ((c : Thread nD τ).loc main_arg0)) (m ((c : Thread nD τ).loc main_arg1)) (m ((c : Thread nD τ).loc main_arg2))
          (m ((c : Thread nD τ).loc main_arg5)) := by
  refine (dats m 0 c).arrAt_eq_of_covers 9 _ (by decide +kernel) fun t hf y => ?_
  blk_simp
  rw [after0_9, outs_k]
  have hy : y = ix3 (n0 := 1) (n1 := 1024) (n2 := 256) 0 (y 1) (y 2) := by
    funext a; fin_cases a; exact Fin.ext (by have := (y 0).isLt; change (y 0).val < 1 at this; show (y 0).val = 0; omega); rfl; rfl
  refine (congrArg _ hy).trans ((blk_k m c t (y 1) (y 2)).trans (congrArg _ ?_))
  have h0 : (y 0).val = 0 := by have := (y 0).isLt; change (y 0).val < 1 at this; omega
  blk_ext [ix_9]

/-- and the values. -/
theorem final_v (c : Dev nD) : (dats m 0 c).arrAt 10 cfg0.N
      = arrayV (m ((c : Thread nD τ).loc main_arg0)) (m ((c : Thread nD τ).loc main_arg1)) (m ((c : Thread nD τ).loc main_arg2)) := by
  refine (dats m 0 c).arrAt_eq_of_covers 10 _ (by decide +kernel) fun t hf y => ?_
  blk_simp
  rw [after0_10, outs_v]
  refine (congrArg _ (eta2 (n0 := 256) (n1 := 1024) y)).trans ((blk_v m c t (y 0) (y 1)).trans (congrArg _ ?_))
  blk_ext [ix_10]

end Cert.InProjHand

end
-- ==== Proof.InProjRead.lean ====
/-
  What the reference of the projection computes, at an index.
-/
module

public import proofs.«01_k».proof.Proof.InProjSpec
public import proofs.«01_k».proof.Proof.Gen.InProjRefIdeal.Read
public import Idealize.ShloMosaic.Lib.Pipeline.Value
public import Idealize.ShloMosaic.Lib.ValueIdxRank6

@[expose] public section

set_option maxRecDepth 16384

noncomputable section

namespace Cert.InProjHandRef

open Cert.InProjRefIdeal Cert.InProjRefIdeal.Gen Cert.InProjRefIdeal.Read Idealize.ShloMosaic Idealize.ShloMosaic.TcCoe Idealize.ShloMosaic.Tactic Idealize.SL.Sem
open Cert.InProjSpec (rmsr normed proj bound gate column)

variable (x0 : Vec Ideal S65536x1024 .f32) (x1 : Vec Ideal S1x1024 .f32) (x2 : Vec Ideal S1x1024x13312 .f32) (x3 : Vec Ideal S2x1024 .f32)
  (x4 x5 : Vec Ideal S1x64 .f32) (x6 : Vec Ideal S1x256 .f32)

/-- Row `r`'s product with the weights, -/
def acc (r : Fin 65536) : Fin 13312 → EReal := proj (fun k => x0 (ix2 r k)) (fun k => x1 (ix2 0 k)) fun k c => x2 (ix3 0 k c)
/-- and the lower bounds. -/
def lb (l : Fin 1024) : EReal := bound fun i => x3 (ix2 i l)

theorem rows_apply (r : Fin 65536) (l : Fin 1024) :
    val_main_v27 (F := Ideal) x0 x1 (ix2 r l) = normed (fun k => x0 (ix2 r k)) (fun k => x1 (ix2 0 k)) l := by
  unfold val_main_v27 val_main_v26 val_main_v25 val_main_v24 val_main_v23 val_main_v22 val_main_v21 val_main_v20 val_main_v19
    val_main_v18 val_main_v17 val_main_v16 val_main_v15 val_main_v14 val_main_cst_2 val_main_cst_3 val_main_cst_4 normed rmsr
  pointwise

theorem acc_apply (r : Fin 65536) (c : Fin 13312) : val_main_v29 (F := Ideal) x0 x1 x2 (ix2 r c) = acc x0 x1 x2 r c := by
  unfold val_main_v29 val_main_v28 acc proj
  pointwise
  simp only [rows_apply]

theorem soft_apply (l : Fin 1024) : val_main_v10 (F := Ideal) x3 (ix2 0 l) = lb x3 l := by
  unfold val_main_v10 val_main_v9 val_main_v8 val_main_v7 val_main_v6 val_main_v5 val_main_v4 val_main_v3 val_main_v2 val_main_v1 val_main_v0
    val_main_cst val_main_cst_0 val_main_cst_1 lb bound
  pointwise
  simp [Fin.sum_univ_two, Finset.fold, InProjSpec.negInf]

/-- The first row of the running sum over two rows is the first row. -/
theorem first_row (v : FVec Ideal S2x1024 .f32) (z : FVec Ideal S_ .f32) (hz : z (Shape.Idx.first h_S_) = 0) (l : Fin 1024) :
    Host.reduceWindowAdd (F := Ideal) (φ := .f32) ![2, 1] ![1, 1] ![1, 0] ![0, 0] v z reduceWindows_S2x1024_S2x1024_w2s1p1_0_w1s1p0_0 h_S_ (ix2 0 l) = v (ix2 0 l) := by
  unfold Host.reduceWindowAdd
  rw [Ideal.hostReduceWindowAdd_def]
  unfold Ideal.hostReduceWindowAdd Host.reduceWindow
  have hf : List.finRange (Shape.numel ⟨2, ![2, 1]⟩) = [⟨0, by decide⟩, ⟨1, by decide⟩] := by decide +kernel
  have h0 : ((Shape.rowMajor ⟨2, ![2, 1]⟩).symm ⟨0, by decide⟩ 0).val = 0 := by decide +kernel
  have h1 : ((Shape.rowMajor ⟨2, ![2, 1]⟩).symm ⟨1, by decide⟩ 0).val = 1 := by decide +kernel
  have h2 : ((Shape.rowMajor ⟨2, ![2, 1]⟩).symm ⟨1, by decide⟩ 1).val = 0 := by decide +kernel
  dsimp only
  rw [hz, hf, List.foldl_cons, List.foldl_cons, List.foldl_nil]
  rw [dif_neg fun h => by have := (h 0).1; change 1 ≤ 0 * 1 + _ at this; rw [h0] at this; omega, add_zero, zero_add, dif_pos fun a => ?_]
  · refine congrArg v (funext fun a => Fin.ext ?_)
    fin_cases a
    · show 0 * 1 + ((Shape.rowMajor ⟨2, ![2, 1]⟩).symm ⟨1, by decide⟩ 0).val - 1 = 0
      rw [h1]
    · show l.val * 1 + ((Shape.rowMajor ⟨2, ![2, 1]⟩).symm ⟨1, by decide⟩ 1).val - 0 = l.val
      rw [h2]
      omega
  · fin_cases a
    · show 1 ≤ 0 * 1 + ((Shape.rowMajor ⟨2, ![2, 1]⟩).symm ⟨1, by decide⟩ 0).val
        ∧ 0 * 1 + ((Shape.rowMajor ⟨2, ![2, 1]⟩).symm ⟨1, by decide⟩ 0).val - 1 < 2
      rw [h1]
      decide
    · show 0 ≤ l.val * 1 + ((Shape.rowMajor ⟨2, ![2, 1]⟩).symm ⟨1, by decide⟩ 1).val
        ∧ l.val * 1 + ((Shape.rowMajor ⟨2, ![2, 1]⟩).symm ⟨1, by decide⟩ 1).val - 0 < 1024
      rw [h2]
      omega

theorem lb_apply (l : Fin 1024) : val_main_v13 (F := Ideal) x3 (ix1 l) = lb x3 l := by
  refine Eq.trans ?_ (soft_apply x3 l)
  unfold val_main_v13 val_main_v12 val_main_v11
  pointwise
  refine first_row _ _ ?_ l
  unfold val_main_call0_call0_v0 val_main_call0_call0_cst
  pointwise

theorem gate_apply (r : Fin 65536) (l : Fin 1024) :
    val_main_v55 (F := Ideal) x0 x1 x2 x3 (ix2 r l) = gate (acc x0 x1 x2 r) (lb x3) l := by
  unfold val_main_v55 val_main_v54 val_main_v53 val_main_v52 val_main_v51 val_main_v50 val_main_v49 val_main_v48 val_main_v47 val_main_v46
    val_main_v45 val_main_v44 val_main_v43 val_main_v42 val_main_v41 val_main_v31 val_main_cst_5 val_main_cst_6 val_main_cst_7 gate
  pointwise
  simp only [lb_apply, acc_apply]
  rfl

theorem forget_apply (r : Fin 65536) (l : Fin 1024) :
    val_main_v67 (F := Ideal) x0 x1 x2 x3 (ix2 r l) = (1 - lb x3 l) * Ideal.logistic (-(acc x0 x1 x2 r ⟨1024 + l.val, by omega⟩)) := by
  unfold val_main_v67 val_main_v66 val_main_v65 val_main_v64 val_main_v63 val_main_v62 val_main_v61 val_main_v60 val_main_v59 val_main_v58
    val_main_v57 val_main_v56 val_main_v31 val_main_cst_8 val_main_cst_9 val_main_cst_10
  pointwise
  simp only [lb_apply, acc_apply]
  rfl

theorem query_apply (r : Fin 65536) (l : Fin 1024) :
    val_main_v119 (F := Ideal) x0 x1 x2 x4 (ix2 r l)
      = InProjSpec.half (acc x0 x1 x2 r) (fun d => x4 (ix2 0 d)) ⟨4096 + l.val, by omega⟩ * Ideal.ofBits .f32 0x3E38AA3B#32 := by
  unfold val_main_v119 val_main_v84 val_main_v83 val_main_v82 val_main_v81 val_main_v80 val_main_v79 val_main_v78 val_main_v77 val_main_v76 val_main_v75
    val_main_v74 val_main_v73 val_main_v72 val_main_v71 val_main_v70 val_main_v69 val_main_v68 val_main_v34 val_main_cst_11 val_main_cst_12
    val_main_cst_13 val_main_cst_14 InProjSpec.half rmsr
  pointwise
  have e : ∀ x : Nat, 4096 + (l.val / 128 * 128 + l.val / 64 % 2 * 64 + x) = 64 * ((4096 + l.val) / 64) + x := fun x => by omega
  have e' : (4096 + l.val) % 64 = l.val % 64 := by omega
  simp only [acc_apply, e, e', zero_add]

theorem key_apply (r : Fin 65536) (l : Fin 1024) :
    val_main_v100 (F := Ideal) x0 x1 x2 x5 (ix2 r l) = InProjSpec.half (acc x0 x1 x2 r) (fun d => x5 (ix2 0 d)) ⟨5120 + l.val, by omega⟩ := by
  unfold val_main_v100 val_main_v99 val_main_v98 val_main_v97 val_main_v96 val_main_v95 val_main_v94 val_main_v93 val_main_v92 val_main_v91 val_main_v90
    val_main_v89 val_main_v88 val_main_v87 val_main_v86 val_main_v85 val_main_v35 val_main_cst_15 val_main_cst_16 val_main_cst_17 InProjSpec.half rmsr
  pointwise
  have e : ∀ x : Nat, 5120 + (l.val / 128 * 128 + l.val / 64 % 2 * 64 + x) = 64 * ((5120 + l.val) / 64) + x := fun x => by omega
  have e' : (5120 + l.val) % 64 = l.val % 64 := by omega
  simp only [acc_apply, e, e', zero_add]

theorem memq_apply (r : Fin 65536) (l : Fin 1024) :
    val_main_v121 (F := Ideal) x0 x1 x2 x6 (ix2 r l)
      = InProjSpec.full (acc x0 x1 x2 r) (fun d => x6 (ix2 0 d)) ⟨8192 + l.val, by omega⟩ * Ideal.ofBits .f32 0x3DB8AA3B#32 := by
  unfold val_main_v121 val_main_v117 val_main_v116 val_main_v115 val_main_v114 val_main_v113 val_main_v112 val_main_v111 val_main_v110 val_main_v109
    val_main_v108 val_main_v107 val_main_v106 val_main_v105 val_main_v104 val_main_v103 val_main_v102 val_main_v101 val_main_v38 val_main_cst_18
    val_main_cst_19 val_main_cst_20 val_main_cst_21 InProjSpec.full rmsr
  pointwise
  have e : ∀ x : Nat, 8192 + (l.val / 256 * 256 + x) = 256 * ((8192 + l.val) / 256) + x := fun x => by omega
  have e' : (8192 + l.val) % 256 = l.val % 256 := by omega
  simp only [acc_apply, e, e', zero_add]

/-- The three groups that go through `x · σ(x)`, -/
theorem silu3_apply (r : Fin 65536) (l : Fin 1024) : val_main_v118 (F := Ideal) x0 x1 x2 (ix2 r l)
    = acc x0 x1 x2 r ⟨3072 + l.val, by omega⟩ * Ideal.logistic (acc x0 x1 x2 r ⟨3072 + l.val, by omega⟩) := by
  unfold val_main_v118 val_main_call1_v5 val_main_call1_v4 val_main_call1_cst_0 val_main_call1_v3 val_main_call1_v2 val_main_call1_cst
    val_main_call1_v1 val_main_call1_v0 val_main_v33
  pointwise
  simp only [acc_apply]
  rfl
theorem silu7_apply (r : Fin 65536) (l : Fin 1024) : val_main_v120 (F := Ideal) x0 x1 x2 (ix2 r l)
    = acc x0 x1 x2 r ⟨7168 + l.val, by omega⟩ * Ideal.logistic (acc x0 x1 x2 r ⟨7168 + l.val, by omega⟩) := by
  unfold val_main_v120 val_main_call2_v5 val_main_call2_v4 val_main_call2_cst_0 val_main_call2_v3 val_main_call2_v2 val_main_call2_cst
    val_main_call2_v1 val_main_call2_v0 val_main_v37
  pointwise
  simp only [acc_apply]
  rfl
theorem silu9_apply (r : Fin 65536) (l : Fin 1024) : val_main_v122 (F := Ideal) x0 x1 x2 (ix2 r l)
    = acc x0 x1 x2 r ⟨9216 + l.val, by omega⟩ * Ideal.logistic (acc x0 x1 x2 r ⟨9216 + l.val, by omega⟩) := by
  unfold val_main_v122 val_main_call3_v5 val_main_call3_v4 val_main_call3_cst_0 val_main_call3_v3 val_main_call3_v2 val_main_call3_cst
    val_main_call3_v1 val_main_call3_v0 val_main_v39
  pointwise
  simp only [acc_apply]
  rfl

/-- the merge gates, -/
theorem merge_apply (r : Fin 65536) (l : Fin 3072) : val_main_v128 (F := Ideal) x0 x1 x2 (ix2 r l)
    = Ideal.logistic (acc x0 x1 x2 r ⟨10240 + l.val, by omega⟩) := by
  unfold val_main_v128 val_main_v127 val_main_v126 val_main_v125 val_main_v124 val_main_v123 val_main_v40 val_main_cst_22 val_main_cst_23
  pointwise
  simp only [acc_apply]
  rfl

/-- and the groups that stay. -/
theorem thru0_apply (r : Fin 65536) (l : Fin 1024) : val_main_v30 (F := Ideal) x0 x1 x2 (ix2 r l) = acc x0 x1 x2 r ⟨l.val, by omega⟩ := by
  unfold val_main_v30
  pointwise
  simp only [acc_apply]
theorem thru2_apply (r : Fin 65536) (l : Fin 1024) : val_main_v32 (F := Ideal) x0 x1 x2 (ix2 r l) = acc x0 x1 x2 r ⟨2048 + l.val, by omega⟩ := by
  unfold val_main_v32
  pointwise
  simp only [acc_apply]
theorem thru6_apply (r : Fin 65536) (l : Fin 1024) : val_main_v36 (F := Ideal) x0 x1 x2 (ix2 r l) = acc x0 x1 x2 r ⟨6144 + l.val, by omega⟩ := by
  unfold val_main_v36
  pointwise
  simp only [acc_apply]

/-- The transposed keys. -/
theorem keys_apply (b : Fin 32) (l : Fin 1024) (s : Fin 2048) : val_main_v131 (F := Ideal) x0 x1 x2 x5 (ix3 b l s)
    = InProjSpec.half (acc x0 x1 x2 ⟨2048 * b.val + s.val, by omega⟩) (fun d => x5 (ix2 0 d)) ⟨5120 + l.val, by omega⟩ := by
  unfold val_main_v131 val_main_v130
  pointwise
  refine Eq.trans ?_ (key_apply x0 x1 x2 x5 ⟨2048 * b.val + s.val, by omega⟩ l)
  exact congrArg _ (congrArg₂ ix2 (Fin.ext (by show b.val * 2048 + s.val = 2048 * b.val + s.val; omega)) rfl)

/-- A conditional whose branches are both `z` is `z`. -/
theorem dite_to {P : Prop} [Decidable P] {f : P → EReal} {g : ¬P → EReal} {z : EReal} (hf : ∀ h, f h = z) (hg : ∀ h, g h = z) : dite P f g = z := by
  by_cases h : P
  · rw [dif_pos h]; exact hf h
  · rw [dif_neg h]; exact hg h

/-- A function of the column that each piece of the concatenation holds is what the concatenation holds. -/
theorem concat_apply (p0 p1 p2 p3 p4 p5 p6 p7 p8 p9 : S65536x1024.Idx → EReal) (q : S65536x3072.Idx → EReal)
    (h : Shape.Concatenates [S65536x1024, S65536x1024, S65536x1024, S65536x1024, S65536x1024, S65536x1024, S65536x1024, S65536x1024, S65536x1024,
      S65536x1024, S65536x3072] S65536x13312 1)
    (r : Fin 65536) (c : Fin 13312) (G : Fin 13312 → EReal)
    (h0 : ∀ l : Fin 1024, p0 (ix2 r l) = G ⟨0 + l.val, by omega⟩)
    (h1 : ∀ l : Fin 1024, p1 (ix2 r l) = G ⟨1024 + l.val, by omega⟩)
    (h2 : ∀ l : Fin 1024, p2 (ix2 r l) = G ⟨2048 + l.val, by omega⟩)
    (h3 : ∀ l : Fin 1024, p3 (ix2 r l) = G ⟨3072 + l.val, by omega⟩)
    (h4 : ∀ l : Fin 1024, p4 (ix2 r l) = G ⟨4096 + l.val, by omega⟩)
    (h5 : ∀ l : Fin 1024, p5 (ix2 r l) = G ⟨5120 + l.val, by omega⟩)
    (h6 : ∀ l : Fin 1024, p6 (ix2 r l) = G ⟨6144 + l.val, by omega⟩)
    (h7 : ∀ l : Fin 1024, p7 (ix2 r l) = G ⟨7168 + l.val, by omega⟩)
    (h8 : ∀ l : Fin 1024, p8 (ix2 r l) = G ⟨8192 + l.val, by omega⟩)
    (h9 : ∀ l : Fin 1024, p9 (ix2 r l) = G ⟨9216 + l.val, by omega⟩)
    (hq : ∀ l : Fin 3072, q (ix2 r l) = G ⟨10240 + l.val, by omega⟩) :
    concatenate S65536x13312 1 [⟨S65536x1024, p0⟩, ⟨S65536x1024, p1⟩, ⟨S65536x1024, p2⟩, ⟨S65536x1024, p3⟩, ⟨S65536x1024, p4⟩, ⟨S65536x1024, p5⟩,
      ⟨S65536x1024, p6⟩, ⟨S65536x1024, p7⟩, ⟨S65536x1024, p8⟩, ⟨S65536x1024, p9⟩, ⟨S65536x3072, q⟩] h (ix2 r c) = G c := by
  pointwise
  simp only [h0, h1, h2, h3, h4, h5, h6, h7, h8, h9, hq]
  have hG : ∀ a b : Fin 13312, a.val = b.val → G a = G b := fun a b e => congrArg G (Fin.ext e)
  iterate 10 refine dite_to (fun _ => hG _ _ (by dsimp only; omega)) fun _ => ?_
  exact hG _ _ (by dsimp only; omega)

/-- The combined output's entries: what `column` says. -/
theorem combined_apply (r : Fin 65536) (c : Fin 13312) : val_main_v132 (F := Ideal) x0 x1 x2 x3 x4 x5 x6 (ix2 r c)
    = column (acc x0 x1 x2 r) (lb x3) (fun d => x4 (ix2 0 d)) (fun d => x5 (ix2 0 d)) (fun d => x6 (ix2 0 d)) c := by
  rw [val_main_v132_apply]
  show val_main_v129 (F := Ideal) x0 x1 x2 x3 x4 x5 x6 (ix2 r c) = _
  unfold val_main_v129
  refine concat_apply _ _ _ _ _ _ _ _ _ _ _ _ r c _ (fun l => ?_) (fun l => ?_) (fun l => ?_) (fun l => ?_) (fun l => ?_) (fun l => ?_) (fun l => ?_)
    (fun l => ?_) (fun l => ?_) (fun l => ?_) (fun l => ?_)
  · have e : (0 + l.val) / 1024 = 0 := by omega
    rw [thru0_apply]
    simp only [column, e]
    simp
  · have e : (1024 + l.val) / 1024 = 1 := by omega
    have e' : (1024 + l.val) % 1024 = l.val := by omega
    rw [forget_apply]
    simp only [column, e, e']
    simp
  · have e : (2048 + l.val) / 1024 = 2 := by omega
    rw [thru2_apply]
    simp only [column, e]
    simp
  · have e : (3072 + l.val) / 1024 = 3 := by omega
    rw [silu3_apply]
    simp only [column, e]
    simp
  · have e : (4096 + l.val) / 1024 = 4 := by omega
    rw [query_apply]
    simp only [column, e]
    simp
  · have e : (5120 + l.val) / 1024 = 5 := by omega
    rw [key_apply]
    simp only [column, e]
    simp
  · have e : (6144 + l.val) / 1024 = 6 := by omega
    rw [thru6_apply]
    simp only [column, e]
    simp
  · have e : (7168 + l.val) / 1024 = 7 := by omega
    rw [silu7_apply]
    simp only [column, e]
    simp
  · have e : (8192 + l.val) / 1024 = 8 := by omega
    rw [memq_apply]
    simp only [column, e]
    simp
  · have e : (9216 + l.val) / 1024 = 9 := by omega
    rw [silu9_apply]
    simp only [column, e]
    simp
  · rw [merge_apply]
    unfold column
    rw [if_neg (by simp only []; omega), if_neg (by simp only []; omega), if_neg (by simp only []; omega), if_neg (by simp only []; omega),
      if_neg (by simp only []; omega), if_neg (by simp only []; omega)]

end Cert.InProjHandRef

end
-- ==== Proof.InProjClaim.lean ====
/-
  The claims of the projection: the frames, and that the kernel's results are the reference's.
-/
module

public import proofs.«01_k».proof.Defs
public import proofs.«01_k».proof.Proof.InProjArray
public import proofs.«01_k».proof.Proof.InProjRead
public import proofs.«01_k».proof.Proof.Gen.InProjRefIdeal.Run
public import proofs.«01_k».proof.Proof.Gen.InProj.Frame

@[expose] public section

set_option maxRecDepth 16384

noncomputable section

namespace Cert.InProjClaims

open Idealize.ShloMosaic Idealize.ShloMosaic.TcCoe Idealize.SL.Sem
open Cert.InProjRefIdeal.Read

section
variable (x : FVec Ideal Cert.InProjIdeal.S65536x1024 .f32) (gn : FVec Ideal Cert.InProjIdeal.S1x1024 .f32)
  (w : FVec Ideal Cert.InProjIdeal.S1x1024x13312 .f32) (lg : FVec Ideal Cert.InProjIdeal.S2x1024 .f32)
  (gq gk : FVec Ideal Cert.InProjIdeal.S1x64 .f32) (gm : FVec Ideal Cert.InProjIdeal.S1x256 .f32)

/-- From the same arguments the kernel's arrays and the reference's are one: the combined output, -/
theorem array_p : val_main_v132 (F := Ideal) x gn w lg gq gk gm = Cert.InProjHand.arrayP x gn w lg gq gk gm := by
  funext i
  exact (congrArg _ (Cert.InProjHand.eta2 (n0 := 65536) (n1 := 13312) i)).trans (Cert.InProjHandRef.combined_apply x gn w lg gq gk gm (i 0) (i 1))
/-- the log forget gate, -/
theorem array_f : val_main_v55 (F := Ideal) x gn w lg = Cert.InProjHand.arrayF x gn w lg := by
  funext i
  exact (congrArg _ (Cert.InProjHand.eta2 (n0 := 65536) (n1 := 1024) i)).trans (Cert.InProjHandRef.gate_apply x gn w lg (i 0) (i 1))
/-- the transposed keys, -/
theorem array_k : val_main_v131 (F := Ideal) x gn w gk = Cert.InProjHand.arrayK x gn w gk := by
  funext i
  have e : i = ix3 (n0 := 32) (n1 := 1024) (n2 := 2048) (i 0) (i 1) (i 2) := by funext a; fin_cases a <;> rfl
  exact (congrArg _ e).trans (Cert.InProjHandRef.keys_apply x gn w gk (i 0) (i 1) (i 2))
/-- and the values. -/
theorem array_v : val_main_v36 (F := Ideal) x gn w = Cert.InProjHand.arrayV x gn w := by
  funext i
  exact (congrArg _ (Cert.InProjHand.eta2 (n0 := 65536) (n1 := 1024) i)).trans (Cert.InProjHandRef.thru6_apply x gn w (i 0) (i 1))
end

/-- The kernel runs safely, and so does the kernel read over the extended reals, -/
theorem frame : Cert.quiescent_InProj := fun m ρ _ => Cert.InProj.Gen.frame m ρ
theorem frameIdeal : Cert.quiescent_InProjIdeal := fun m ρ _ => Cert.InProjIdeal.Gen.frame m ρ
/-- and its reference. -/
theorem frameRef : Cert.quiescent_InProjRefIdeal := fun m ρ _ =>
  (θ_run Cert.InProjRefIdeal.defs _ _).mono (fun r h => ⟨fun c => (h c).2.2.2.2, sem_eq_zero_of_no_sems (by decide) r.2⟩)
    (Cert.InProjRefIdeal.Value.run (F := Ideal) m ρ)

/-- From equal arguments the kernel's four results are the reference's. -/
theorem algebraic : Cert.algebraic_InProjIdeal_InProjRefIdeal := by
  intro m ρ m' ρ' _ hag
  refine ⟨fun c => Cert.InProjHand.arrayP (m ((c : Thread Cert.InProjIdeal.nD Cert.InProjIdeal.τ).loc Cert.InProjIdeal.main_arg0))
      (m ((c : Thread Cert.InProjIdeal.nD Cert.InProjIdeal.τ).loc Cert.InProjIdeal.main_arg1))
      (m ((c : Thread Cert.InProjIdeal.nD Cert.InProjIdeal.τ).loc Cert.InProjIdeal.main_arg2))
      (m ((c : Thread Cert.InProjIdeal.nD Cert.InProjIdeal.τ).loc Cert.InProjIdeal.main_arg3))
      (m ((c : Thread Cert.InProjIdeal.nD Cert.InProjIdeal.τ).loc Cert.InProjIdeal.main_arg4))
      (m ((c : Thread Cert.InProjIdeal.nD Cert.InProjIdeal.τ).loc Cert.InProjIdeal.main_arg5))
      (m ((c : Thread Cert.InProjIdeal.nD Cert.InProjIdeal.τ).loc Cert.InProjIdeal.main_arg6)),
    fun c => Cert.InProjHand.arrayF (m ((c : Thread Cert.InProjIdeal.nD Cert.InProjIdeal.τ).loc Cert.InProjIdeal.main_arg0))
      (m ((c : Thread Cert.InProjIdeal.nD Cert.InProjIdeal.τ).loc Cert.InProjIdeal.main_arg1))
      (m ((c : Thread Cert.InProjIdeal.nD Cert.InProjIdeal.τ).loc Cert.InProjIdeal.main_arg2))
      (m ((c : Thread Cert.InProjIdeal.nD Cert.InProjIdeal.τ).loc Cert.InProjIdeal.main_arg3)),
    fun c => Cert.InProjHand.arrayK (m ((c : Thread Cert.InProjIdeal.nD Cert.InProjIdeal.τ).loc Cert.InProjIdeal.main_arg0))
      (m ((c : Thread Cert.InProjIdeal.nD Cert.InProjIdeal.τ).loc Cert.InProjIdeal.main_arg1))
      (m ((c : Thread Cert.InProjIdeal.nD Cert.InProjIdeal.τ).loc Cert.InProjIdeal.main_arg2))
      (m ((c : Thread Cert.InProjIdeal.nD Cert.InProjIdeal.τ).loc Cert.InProjIdeal.main_arg5)),
    fun c => Cert.InProjHand.arrayV (m ((c : Thread Cert.InProjIdeal.nD Cert.InProjIdeal.τ).loc Cert.InProjIdeal.main_arg0))
      (m ((c : Thread Cert.InProjIdeal.nD Cert.InProjIdeal.τ).loc Cert.InProjIdeal.main_arg1))
      (m ((c : Thread Cert.InProjIdeal.nD Cert.InProjIdeal.τ).loc Cert.InProjIdeal.main_arg2)), ?_, ?_⟩
  · exact (θ_run Cert.InProjIdeal.defs _ _).mono (fun _ h c => ⟨(h c).1.trans (Cert.InProjHand.final_p m c),
        (h c).2.1.trans (Cert.InProjHand.final_f m c), (h c).2.2.1.trans (Cert.InProjHand.final_k m c),
        (h c).2.2.2.1.trans (Cert.InProjHand.final_v m c), (h c).2.2.2.2⟩)
      (Cert.InProjIdeal.Value.run_blocks (F := Ideal) m ρ)
  · refine (θ_run Cert.InProjRefIdeal.defs _ _).mono (fun _ h c => ?_) (Cert.InProjRefIdeal.Value.run (F := Ideal) m' ρ')
    obtain ⟨h0, h1, h2, h3, hk⟩ := h c
    obtain ⟨e0, e1, e2, e3, e4, e5, e6⟩ := hag c
    refine ⟨(h0.trans (val_main_v132_eq (Idealize.ShloMosaic.StableHlo.launchContents m' c))).trans ?_, (h1.trans (val_main_v55_eq (Idealize.ShloMosaic.StableHlo.launchContents m' c))).trans ?_,
      (h2.trans (val_main_v131_eq (Idealize.ShloMosaic.StableHlo.launchContents m' c))).trans ?_, (h3.trans (val_main_v36_eq (Idealize.ShloMosaic.StableHlo.launchContents m' c))).trans ?_, hk⟩
    · show val_main_v132 (F := Ideal) (m' ((c : Thread Cert.InProjRefIdeal.nD Cert.InProjRefIdeal.τ).loc Cert.InProjRefIdeal.main_arg0))
        (m' ((c : Thread Cert.InProjRefIdeal.nD Cert.InProjRefIdeal.τ).loc Cert.InProjRefIdeal.main_arg1))
        (m' ((c : Thread Cert.InProjRefIdeal.nD Cert.InProjRefIdeal.τ).loc Cert.InProjRefIdeal.main_arg2))
        (m' ((c : Thread Cert.InProjRefIdeal.nD Cert.InProjRefIdeal.τ).loc Cert.InProjRefIdeal.main_arg3))
        (m' ((c : Thread Cert.InProjRefIdeal.nD Cert.InProjRefIdeal.τ).loc Cert.InProjRefIdeal.main_arg4))
        (m' ((c : Thread Cert.InProjRefIdeal.nD Cert.InProjRefIdeal.τ).loc Cert.InProjRefIdeal.main_arg5))
        (m' ((c : Thread Cert.InProjRefIdeal.nD Cert.InProjRefIdeal.τ).loc Cert.InProjRefIdeal.main_arg6)) = _
      rw [e0, e1, e2, e3, e4, e5, e6]
      exact array_p _ _ _ _ _ _ _
    · show val_main_v55 (F := Ideal) (m' ((c : Thread Cert.InProjRefIdeal.nD Cert.InProjRefIdeal.τ).loc Cert.InProjRefIdeal.main_arg0))
        (m' ((c : Thread Cert.InProjRefIdeal.nD Cert.InProjRefIdeal.τ).loc Cert.InProjRefIdeal.main_arg1))
        (m' ((c : Thread Cert.InProjRefIdeal.nD Cert.InProjRefIdeal.τ).loc Cert.InProjRefIdeal.main_arg2))
        (m' ((c : Thread Cert.InProjRefIdeal.nD Cert.InProjRefIdeal.τ).loc Cert.InProjRefIdeal.main_arg3)) = _
      rw [e0, e1, e2, e3]
      exact array_f _ _ _ _
    · show val_main_v131 (F := Ideal) (m' ((c : Thread Cert.InProjRefIdeal.nD Cert.InProjRefIdeal.τ).loc Cert.InProjRefIdeal.main_arg0))
        (m' ((c : Thread Cert.InProjRefIdeal.nD Cert.InProjRefIdeal.τ).loc Cert.InProjRefIdeal.main_arg1))
        (m' ((c : Thread Cert.InProjRefIdeal.nD Cert.InProjRefIdeal.τ).loc Cert.InProjRefIdeal.main_arg2))
        (m' ((c : Thread Cert.InProjRefIdeal.nD Cert.InProjRefIdeal.τ).loc Cert.InProjRefIdeal.main_arg5)) = _
      rw [e0, e1, e2, e5]
      exact array_k _ _ _ _
    · show val_main_v36 (F := Ideal) (m' ((c : Thread Cert.InProjRefIdeal.nD Cert.InProjRefIdeal.τ).loc Cert.InProjRefIdeal.main_arg0))
        (m' ((c : Thread Cert.InProjRefIdeal.nD Cert.InProjRefIdeal.τ).loc Cert.InProjRefIdeal.main_arg1))
        (m' ((c : Thread Cert.InProjRefIdeal.nD Cert.InProjRefIdeal.τ).loc Cert.InProjRefIdeal.main_arg2)) = _
      rw [e0, e1, e2]
      exact array_v _ _ _

end Cert.InProjClaims

end
-- ==== Proof.InProjSArray.lean ====
/-
  The keys and values that the projection kernel writes for the sampled frames, at an index, from the argument arrays. The
  body's rows and column groups are those of the prompt's projection; only the keys are stored untransposed.
-/
module

public import proofs.«01_k».proof.Proof.InProjWhole
public import proofs.«01_k».proof.Proof.Gen.InProjSIdeal.Value

@[expose] public section

set_option maxRecDepth 16384

noncomputable section

namespace Cert.InProjSHand

open Cert.InProjSIdeal Cert.InProjSIdeal.Gen Cert.InProjSIdeal.Value Idealize.ShloMosaic Idealize.ShloMosaic.TcCoe Idealize.ShloMosaic.Tactic Idealize.SL.Sem
open Cert.InProjSpec (rmsr normed proj)
open Cert.InProjHand (acc at_ atH key prod key_apply prod_apply)

theorem inb_keys (h : Fin 8) : ∀ a : Fin 2, (![0, 128 * h.val] : Fin 2 → ℕ) a + S256x128.size a ≤ S256x1024.size a := by
  revert h; decide

/-- Head `h` of the keys' block. -/
abbrev keysH (h : Fin 8) : Rect S256x1024 := Rect.unit (s := S256x1024) ![0, 128 * h.val] S256x128.size (inb_keys h)

section
variable {F : FTy → Type} [FloatOps F]
variable (m : (ℓ : Loc nD τ sig) → Buf (Elt F) ℓ)

/-- The stores of the keys, last first. -/
def keyPieces (x0 : Vec F S256x1024 .f32) (x1 : Vec F S1x1024 .f32) (x2 : Vec F S1024x13312 .bf16) (x5 : Vec F S1x1024 .f32) :
    List (View.Piece (Elt F) S256x1024 .f32) :=
  [⟨keysH 7, key x0 x1 x2 x5 7⟩, ⟨keysH 6, key x0 x1 x2 x5 6⟩, ⟨keysH 5, key x0 x1 x2 x5 5⟩, ⟨keysH 4, key x0 x1 x2 x5 4⟩,
   ⟨keysH 3, key x0 x1 x2 x5 3⟩, ⟨keysH 2, key x0 x1 x2 x5 2⟩, ⟨keysH 1, key x0 x1 x2 x5 1⟩, ⟨keysH 0, key x0 x1 x2 x5 0⟩]

/-- After point `t` the keys' staging buffer holds the eight heads' keys, -/
theorem outs_k (c : Dev nD) (t : Fin cfg0.N) :
    (outsAt0 m c t).2.2.1 = View.canon (keyPieces (iblk m c 0 t) (iblk m c 1 t) (iblk m c 2 t) (iblk m c 5 t)) := by
  unfold outsAt0 out0_A_9
  dsimp only
  rw [View.read_writes_eq_canon _ _ _ (cover0_A_9 c _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread]
  rw [View.readCov_unit_lit]
  · rfl
  · decide

/-- and the values' staging buffer column group 6. -/
theorem outs_v (c : Dev nD) (t : Fin cfg0.N) :
    (outsAt0 m c t).2.2.2 = prod (iblk m c 0 t) (iblk m c 1 t) (iblk m c 2 t) 6 := by
  unfold outsAt0 out0_A_10
  dsimp only
  rw [View.read_writes_eq_canon _ _ _ (cover0_A_10 c _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread]
  rw [View.readCov_unit_lit, View.canon_cons_unit_lit]
  · rfl
  all_goals decide
end

variable (m : (ℓ : Loc nD τ sig) → Buf (Elt Ideal) ℓ)

theorem emb_K (h : Fin 8) (r : Fin 256) (l : Fin 128) : (keysH h).emb (ix2 r l) = ix2 r ⟨128 * h.val + l.val, by omega⟩ := by
  funext a
  fin_cases a <;> apply Fin.ext
  · exact (Rect.idx_unit_val _ _ _ _ 0).trans (Nat.zero_add _)
  · exact Rect.idx_unit_val _ _ _ _ 1

/-- THE KEYS' BLOCK at an index. -/
theorem keys_eq (x0 : Vec Ideal S256x1024 .f32) (x1 : Vec Ideal S1x1024 .f32) (x2 : Vec Ideal S1024x13312 .bf16) (x5 : Vec Ideal S1x1024 .f32)
    (gk : Fin 64 → EReal) (hk : ∀ l : Fin 1024, x5 (ix2 0 l) = gk ⟨l.val % 64, by omega⟩) (r : Fin 256) (l : Fin 1024) :
    View.canon (keyPieces x0 x1 x2 x5) (ix2 r l) = Cert.InProjSpec.half (acc x0 x1 x2 r) gk (at_ 5 l) := by
  refine View.canon_apply_of_pieces (Val := Elt Ideal) (S := S256x1024) (e := .f32)
    (fun y => Cert.InProjSpec.half (acc x0 x1 x2 (y 0)) gk (at_ 5 (y 1))) _ ?_ (ix2 r l) ?_
  · have hp : ∀ (h : Fin 8) (x : (keysH h).shape.Idx), key x0 x1 x2 x5 h x
        = Cert.InProjSpec.half (acc x0 x1 x2 (((keysH h).emb x) 0)) gk (at_ 5 (((keysH h).emb x) 1)) := by
      intro h x
      obtain ⟨r, l, rfl⟩ : ∃ (r : Fin 256) (l : Fin 128), x = ix2 r l := ⟨x 0, x 1, by funext a; fin_cases a <;> rfl⟩
      rw [emb_K]
      refine (key_apply x0 x1 x2 x5 gk hk h r l).trans ?_
      show _ = Cert.InProjSpec.half (acc x0 x1 x2 r) gk (at_ 5 ⟨128 * h.val + l.val, _⟩)
      exact congrArg _ (Fin.ext (by simp; omega))
    intro p hpm
    unfold keyPieces at hpm
    simp only [List.mem_cons, List.not_mem_nil, or_false] at hpm
    rcases hpm with rfl | rfl | rfl | rfl | rfl | rfl | rfl | rfl <;> exact hp _
  · exact View.cover_of_tiledL (s := S256x1024) (keyPieces x0 x1 x2 x5) ![256, 128] (by unfold keyPieces; rfl) (ix2 r l)

/-- Where each window's block sits at point `t`: the rows' and the outputs' at rows `256 t`, the others the whole array. -/
theorem ix_0 : ∀ t : Fin cfg0.N, win0_0.index t = ![t.val, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![0, 0] := (by decide +kernel : ∀ t : Fin grid0.N, _)
theorem ix_5 : ∀ t : Fin cfg0.N, win0_5.index t = ![0, 0] := (by decide +kernel : ∀ t : Fin grid0.N, _)
theorem ix_9 : ∀ t : Fin cfg0.N, win0_9.index t = ![t.val, 0] := (by decide +kernel : ∀ t : Fin grid0.N, _)
theorem ix_10 : ∀ t : Fin cfg0.N, win0_10.index t = ![t.val, 0] := (by decide +kernel : ∀ t : Fin grid0.N, _)

theorem t_lt (t : Fin cfg0.N) : t.val < 8 := lt_of_lt_of_eq t.isLt N_0

/-- Row `r` of point `t`'s block, in the whole array. -/
abbrev rowOf (t : Fin cfg0.N) (r : Fin 256) : Fin 2048 := ⟨t.val * 256 + r.val, by have := t_lt t; omega⟩

/-- The host's arrays before the region, from the arguments: the gain, the weights and the keys' gains. -/
theorem V_6 (c : Dev nD) (l : Fin 1024) : V m c main_v6 (ix2 0 l) = m ((c : Thread nD τ).loc main_arg1) (ix2 0 l) := by
  dsimp only [V, hostOps0]
  after_results
  pointwise
theorem V_2 (c : Dev nD) (k : Fin 1024) (l : Fin 13312) : V m c main_v2 (ix2 k l) = m ((c : Thread nD τ).loc main_arg2) (ix3 0 k l) := by
  dsimp only [V, hostOps0]
  after_results
  pointwise
theorem V_14 (c : Dev nD) (l : Fin 1024) : V m c main_v14 (ix2 0 l) = m ((c : Thread nD τ).loc main_arg5) (ix2 0 ⟨l.val % 64, by omega⟩) := by
  dsimp only [V, hostOps0]
  after_results
  pointwise

/-- The staged blocks, from the arguments. -/
theorem iblk_0 (c : Dev nD) (t : Fin cfg0.N) (r : Fin 256) (k : Fin 1024) :
    iblk m c 0 t (ix2 r k) = m ((c : Thread nD τ).loc main_arg0) (ix2 (rowOf t r) k) := by
  rw [← V_main_arg0 m c]
  blk_simp [iblk]
  refine congrArg _ ?_
  blk_ext [ix_0]
theorem iblk_1 (c : Dev nD) (t : Fin cfg0.N) (l : Fin 1024) : iblk m c 1 t (ix2 0 l) = m ((c : Thread nD τ).loc main_arg1) (ix2 0 l) := by
  rw [← V_6 m c]
  blk_simp [iblk]
  refine congrArg _ ?_
  blk_ext [ix_1]
theorem iblk_2 (c : Dev nD) (t : Fin cfg0.N) (k : Fin 1024) (l : Fin 13312) :
    iblk m c 2 t (ix2 k l) = m ((c : Thread nD τ).loc main_arg2) (ix3 0 k l) := by
  rw [← V_2 m c]
  blk_simp [iblk]
  refine congrArg _ ?_
  blk_ext [ix_2]
theorem iblk_5 (c : Dev nD) (t : Fin cfg0.N) (l : Fin 1024) :
    iblk m c 5 t (ix2 0 l) = m ((c : Thread nD τ).loc main_arg5) (ix2 0 ⟨l.val % 64, by omega⟩) := by
  rw [← V_14 m c]
  blk_simp [iblk]
  refine congrArg _ ?_
  blk_ext [ix_5]

section
variable (x : Vec Ideal S2048x1024 .f32) (gn : Vec Ideal S1x1024 .f32) (w : Vec Ideal S1x1024x13312 .f32) (gk : Vec Ideal S1x64 .f32)

/-- Row `r`'s product with the weights, -/
def accA (r : Fin 2048) : Fin 13312 → EReal := proj (fun k => x (ix2 r k)) (fun k => gn (ix2 0 k)) fun k c => w (ix3 0 k c)
/-- the keys -/
def arrayK : S2048x1024.Idx → EReal := fun i => Cert.InProjSpec.half (accA x gn w (i 0)) (fun d => gk (ix2 0 d)) (at_ 5 (i 1))
/-- and the values. -/
def arrayV : S2048x1024.Idx → EReal := fun i => accA x gn w (i 0) (at_ 6 (i 1))
end

theorem acc_eq (c : Dev nD) (t : Fin cfg0.N) (r : Fin 256) : acc (iblk m c 0 t) (iblk m c 1 t) (iblk m c 2 t) r
    = accA (m ((c : Thread nD τ).loc main_arg0)) (m ((c : Thread nD τ).loc main_arg1)) (m ((c : Thread nD τ).loc main_arg2)) (rowOf t r) := by
  unfold acc accA
  simp only [iblk_0, iblk_1, iblk_2]

/-- What each point's blocks hold, of those arrays. -/
theorem blk_k (c : Dev nD) (t : Fin cfg0.N) (r : Fin 256) (l : Fin 1024) :
    View.canon (keyPieces (iblk m c 0 t) (iblk m c 1 t) (iblk m c 2 t) (iblk m c 5 t)) (ix2 r l)
      = arrayK (m ((c : Thread nD τ).loc main_arg0)) (m ((c : Thread nD τ).loc main_arg1)) (m ((c : Thread nD τ).loc main_arg2))
          (m ((c : Thread nD τ).loc main_arg5)) (ix2 (rowOf t r) l) := by
  refine (keys_eq _ _ _ _ (fun d => m ((c : Thread nD τ).loc main_arg5) (ix2 0 d)) (iblk_5 m c t) r l).trans ?_
  rw [acc_eq m c t r]
  rfl
theorem blk_v (c : Dev nD) (t : Fin cfg0.N) (r : Fin 256) (l : Fin 1024) :
    prod (iblk m c 0 t) (iblk m c 1 t) (iblk m c 2 t) 6 (ix2 r l)
      = arrayV (m ((c : Thread nD τ).loc main_arg0)) (m ((c : Thread nD τ).loc main_arg1)) (m ((c : Thread nD τ).loc main_arg2)) (ix2 (rowOf t r) l) := by
  refine (prod_apply _ _ _ 6 r l).trans ?_
  rw [acc_eq m c t r]
  rfl

theorem eta2 {n0 n1 : Nat} (y : (Shape.mk 2 ![n0, n1]).Idx) : y = ix2 (y 0) (y 1) := by
  funext a; fin_cases a <;> rfl

/-- The kernel's results hold those arrays of its arguments: the keys -/
theorem final_k (c : Dev nD) : (dats m 0 c).arrAt 9 cfg0.N
      = arrayK (m ((c : Thread nD τ).loc main_arg0)) (m ((c : Thread nD τ).loc main_arg1)) (m ((c : Thread nD τ).loc main_arg2))
          (m ((c : Thread nD τ).loc main_arg5)) := by
  refine (dats m 0 c).arrAt_eq_of_covers 9 _ (by decide +kernel) fun t hf y => ?_
  blk_simp
  rw [after0_9, outs_k]
  refine (congrArg _ (eta2 (n0 := 256) (n1 := 1024) y)).trans ((blk_k m c t (y 0) (y 1)).trans (congrArg _ ?_))
  blk_ext [ix_9]

/-- and the values. -/
theorem final_v (c : Dev nD) : (dats m 0 c).arrAt 10 cfg0.N
      = arrayV (m ((c : Thread nD τ).loc main_arg0)) (m ((c : Thread nD τ).loc main_arg1)) (m ((c : Thread nD τ).loc main_arg2)) := by
  refine (dats m 0 c).arrAt_eq_of_covers 10 _ (by decide +kernel) fun t hf y => ?_
  blk_simp
  rw [after0_10, outs_v]
  refine (congrArg _ (eta2 (n0 := 256) (n1 := 1024) y)).trans ((blk_v m c t (y 0) (y 1)).trans (congrArg _ ?_))
  blk_ext [ix_10]

end Cert.InProjSHand

end
-- ==== Proof.InProjSClaim.lean ====
/-
  The claims of the sampled frames' projection: the frames, and that the kernel's keys and values are the reference's.
-/
module

public import proofs.«01_k».proof.Defs
public import proofs.«01_k».proof.Proof.InProjSArray
public import proofs.«01_k».proof.Proof.Gen.InProjSRefIdeal.Read
public import proofs.«01_k».proof.Proof.Gen.InProjSRefIdeal.Run
public import proofs.«01_k».proof.Proof.Gen.InProjS.Frame
public import Idealize.ShloMosaic.Lib.ValueIdxRank6

@[expose] public section

set_option maxRecDepth 16384

noncomputable section

namespace Cert.InProjSClaims

open Idealize.ShloMosaic Idealize.ShloMosaic.TcCoe Idealize.ShloMosaic.Tactic Idealize.SL.Sem
open Cert.InProjSRefIdeal.Read
open Cert.InProjSpec (rmsr normed proj)
open Cert.InProjSHand (accA arrayK arrayV)

section
variable (x : FVec Ideal Cert.InProjSIdeal.S2048x1024 .f32) (gn : FVec Ideal Cert.InProjSIdeal.S1x1024 .f32)
  (w : FVec Ideal Cert.InProjSIdeal.S1x1024x13312 .f32) (gk : FVec Ideal Cert.InProjSIdeal.S1x64 .f32)

theorem rows_apply (r : Fin 2048) (l : Fin 1024) :
    val_main_v13 (F := Ideal) x gn (ix2 r l) = normed (fun k => x (ix2 r k)) (fun k => gn (ix2 0 k)) l := by
  unfold val_main_v13 val_main_v12 val_main_v11 val_main_v10 val_main_v9 val_main_v8 val_main_v7 val_main_v6 val_main_v5 val_main_v4
    val_main_v3 val_main_v2 val_main_v1 val_main_v0 val_main_cst val_main_cst_0 val_main_cst_1 normed rmsr
  pointwise

theorem acc_apply (r : Fin 2048) (c : Fin 13312) : val_main_v15 (F := Ideal) x gn w (ix2 r c) = accA x gn w r c := by
  unfold val_main_v15 val_main_v14 accA proj
  pointwise
  simp only [rows_apply]

theorem key_apply (r : Fin 2048) (l : Fin 1024) :
    val_main_v32 (F := Ideal) x gn w gk (ix2 r l) = InProjSpec.half (accA x gn w r) (fun d => gk (ix2 0 d)) ⟨5120 + l.val, by omega⟩ := by
  unfold val_main_v32 val_main_v31 val_main_v30 val_main_v29 val_main_v28 val_main_v27 val_main_v26 val_main_v25 val_main_v24 val_main_v23
    val_main_v22 val_main_v21 val_main_v20 val_main_v19 val_main_v18 val_main_v17 val_main_v16 val_main_cst_2 val_main_cst_3 val_main_cst_4
    InProjSpec.half rmsr
  pointwise
  have e : ∀ x : Nat, 5120 + (l.val / 128 * 128 + l.val / 64 % 2 * 64 + x) = 64 * ((5120 + l.val) / 64) + x := fun x => by omega
  have e' : (5120 + l.val) % 64 = l.val % 64 := by omega
  simp only [acc_apply, e, e', zero_add]

theorem thru_apply (r : Fin 2048) (l : Fin 1024) : val_main_v33 (F := Ideal) x gn w (ix2 r l) = accA x gn w r ⟨6144 + l.val, by omega⟩ := by
  unfold val_main_v33
  pointwise
  simp only [acc_apply]

/-- From the same arguments the kernel's keys and the reference's are one, -/
theorem array_k : val_main_v32 (F := Ideal) x gn w gk = arrayK x gn w gk := by
  funext i
  exact (congrArg _ (Cert.InProjSHand.eta2 (n0 := 2048) (n1 := 1024) i)).trans (key_apply x gn w gk (i 0) (i 1))
/-- and so are the values. -/
theorem array_v : val_main_v33 (F := Ideal) x gn w = arrayV x gn w := by
  funext i
  exact (congrArg _ (Cert.InProjSHand.eta2 (n0 := 2048) (n1 := 1024) i)).trans (thru_apply x gn w (i 0) (i 1))
end

/-- The kernel runs safely, and so does the kernel read over the extended reals, -/
theorem frame : Cert.quiescent_InProjS := fun m ρ _ => Cert.InProjS.Gen.frame m ρ
theorem frameIdeal : Cert.quiescent_InProjSIdeal := fun m ρ _ => Cert.InProjSIdeal.Gen.frame m ρ
/-- and its reference. -/
theorem frameRef : Cert.quiescent_InProjSRefIdeal := fun m ρ _ =>
  (θ_run Cert.InProjSRefIdeal.defs _ _).mono (fun r h => ⟨fun c => (h c).2.2, sem_eq_zero_of_no_sems (by decide) r.2⟩)
    (Cert.InProjSRefIdeal.Value.run (F := Ideal) m ρ)

/-- From equal arguments the kernel's two results are the reference's. -/
theorem algebraic : Cert.algebraic_InProjSIdeal_InProjSRefIdeal := by
  intro m ρ m' ρ' _ hag
  refine ⟨fun c => arrayK (m ((c : Thread Cert.InProjSIdeal.nD Cert.InProjSIdeal.τ).loc Cert.InProjSIdeal.main_arg0))
      (m ((c : Thread Cert.InProjSIdeal.nD Cert.InProjSIdeal.τ).loc Cert.InProjSIdeal.main_arg1))
      (m ((c : Thread Cert.InProjSIdeal.nD Cert.InProjSIdeal.τ).loc Cert.InProjSIdeal.main_arg2))
      (m ((c : Thread Cert.InProjSIdeal.nD Cert.InProjSIdeal.τ).loc Cert.InProjSIdeal.main_arg5)),
    fun c => arrayV (m ((c : Thread Cert.InProjSIdeal.nD Cert.InProjSIdeal.τ).loc Cert.InProjSIdeal.main_arg0))
      (m ((c : Thread Cert.InProjSIdeal.nD Cert.InProjSIdeal.τ).loc Cert.InProjSIdeal.main_arg1))
      (m ((c : Thread Cert.InProjSIdeal.nD Cert.InProjSIdeal.τ).loc Cert.InProjSIdeal.main_arg2)), ?_, ?_⟩
  · exact (θ_run Cert.InProjSIdeal.defs _ _).mono (fun _ h c => ⟨(h c).2.2.1.trans (Cert.InProjSHand.final_k m c),
        (h c).2.2.2.1.trans (Cert.InProjSHand.final_v m c), (h c).2.2.2.2⟩)
      (Cert.InProjSIdeal.Value.run_blocks (F := Ideal) m ρ)
  · refine (θ_run Cert.InProjSRefIdeal.defs _ _).mono (fun _ h c => ?_) (Cert.InProjSRefIdeal.Value.run (F := Ideal) m' ρ')
    obtain ⟨h0, h1, hk⟩ := h c
    obtain ⟨e0, e1, e2, e3, e4, e5, e6⟩ := hag c
    refine ⟨(h0.trans (val_main_v32_eq (F := Ideal) _ _ _ _)).trans ?_, (h1.trans (val_main_v33_eq (F := Ideal) _ _ _)).trans ?_, hk⟩
    · rw [e0, e1, e2, e5]
      exact array_k _ _ _ _
    · rw [e0, e1, e2]
      exact array_v _ _ _

end Cert.InProjSClaims

end
-- ==== Proof.MemKvBlock.lean ====
/-
  The memory's keys and values: the mathematics, one row at a time, and what the kernel writes of a block of rows.
-/
module

public import proofs.«01_k».proof.Proof.InProjSpec
public import proofs.«01_k».proof.Proof.Gen.MemKvIdeal.Value
public import Idealize.ShloMosaic.Lib.Pipeline.ValueKit

@[expose] public section

set_option maxRecDepth 16384

noncomputable section

namespace Cert.MemKvSpec

open Cert.InProjSpec (rmsr normed)

/-- Column `d` of head `h`, -/
abbrev col (h : Fin 4) (d : Fin 256) : Fin 1024 := ⟨256 * h.val + d.val, by omega⟩
/-- the head and the column in it. -/
abbrev hd (j : Fin 1024) : Fin 4 := ⟨j.val / 256, by omega⟩
abbrev at_ (j : Fin 1024) : Fin 256 := ⟨j.val % 256, by omega⟩

/-- Column `j` of the normalised row's product with the weights: the keys' half, -/
def keyRaw (x g : Fin 1024 → EReal) (w : Fin 1024 → Fin 2048 → EReal) (j : Fin 1024) : EReal := ∑ k, normed x g k * w k ⟨j.val, by omega⟩
/-- the values' half, -/
def value (x g : Fin 1024 → EReal) (w : Fin 1024 → Fin 2048 → EReal) (j : Fin 1024) : EReal := ∑ k, normed x g k * w k ⟨1024 + j.val, by omega⟩
/-- and the key: normalised over its head, times its gain. -/
def key (x g : Fin 1024 → EReal) (w : Fin 1024 → Fin 2048 → EReal) (gk : Fin 256 → EReal) (h : Fin 4) (d : Fin 256) : EReal :=
  keyRaw x g w (col h d) * rmsr 0x43800000#32 (∑ e, keyRaw x g w (col h e) * keyRaw x g w (col h e)) * gk d

end Cert.MemKvSpec

namespace Cert.MemKvHand

open Cert.MemKvIdeal Cert.MemKvIdeal.Gen Cert.MemKvIdeal.Value Idealize.ShloMosaic Idealize.ShloMosaic.TcCoe Idealize.ShloMosaic.Tactic Idealize.SL.Sem
open Cert.InProjSpec (rmsr normed)
open Cert.MemKvSpec (keyRaw value key col hd at_)

variable (x0 : Vec Ideal S256x1024 .f32) (x1 : Vec Ideal S1x1024 .f32) (x2 : Vec Ideal S1024x2048 .bf16) (x3 : Vec Ideal S1x256 .f32)

theorem ld_0 : View.ld x0 r0_0 = x0 := View.ld_unit_lit _ x0 (by decide)
theorem ld_1 : View.ld x1 r0_1 = x1 := View.ld_unit_lit _ x1 (by decide)
theorem ld_2 : View.ld x2 r0_2 = x2 := View.ld_unit_lit _ x2 (by decide)
theorem ld_3 : View.ld x3 r0_3 = x3 := View.ld_unit_lit _ x3 (by decide)

/-- The product of the normalised rows with the weights. -/
theorem prod_apply (r : Fin 256) (c : Fin 2048) :
    k0_pay5 x0 x1 x2 (ix2 r c) = ∑ k, normed (fun k => x0 (ix2 r k)) (fun k => x1 (ix2 0 k)) k * x2 (ix2 k c) := by
  unfold k0_pay5 normed rmsr
  pointwise

/-- The square sum of 256 columns from `o`, -/
theorem squares (y : FVec Ideal S256x2048 .f32) (o : ℕ) (ho : o + 256 ≤ 2048) (hs : S256x2048.Slices ![0, o] S256x256) (r : Fin 256) :
    multiReduction .add [1] S256 (mulf (extractStridedSlice S256x256 ![0, o] y hs) (extractStridedSlice S256x256 ![0, o] y hs)) 0x00000000#32
        reduces_S256x256_S256 (.inl rfl) rfl (ix1 r)
      = ∑ d : Fin 256, y (ix2 r ⟨o + d.val, by omega⟩) * y (ix2 r ⟨o + d.val, by omega⟩) := by
  pointwise

/-- and of a head. -/
theorem square_apply (h : Fin 4) (r : Fin 256) : Fam4_1 x0 x1 x2 x3 h (ix1 r)
    = ∑ d : Fin 256, keyRaw (fun k => x0 (ix2 r k)) (fun k => x1 (ix2 0 k)) (fun k l => x2 (ix2 k l)) (col h d)
        * keyRaw (fun k => x0 (ix2 r k)) (fun k => x1 (ix2 0 k)) (fun k l => x2 (ix2 k l)) (col h d) := by
  have e : Fam4_1 x0 x1 x2 x3 h (ix1 r) = ∑ d : Fin 256, k0_pay5 x0 x1 x2 (ix2 r ⟨256 * h.val + d.val, by omega⟩)
      * k0_pay5 x0 x1 x2 (ix2 r ⟨256 * h.val + d.val, by omega⟩) := by
    fin_cases h
    · exact squares _ 0 (by decide) _ r
    · exact squares _ 256 (by decide) _ r
    · exact squares _ 512 (by decide) _ r
    · exact squares _ 768 (by decide) _ r
  rw [e]
  exact Finset.sum_congr rfl fun d _ => congrArg₂ (· * ·) (prod_apply x0 x1 x2 r _) (prod_apply x0 x1 x2 r _)

/-- The keys by head, -/
theorem keys_apply (r : Fin 256) (h : Fin 4) (d : Fin 256) : out0_4 x0 x1 x2 x3 (ix4 0 r h d)
    = key (fun k => x0 (ix2 r k)) (fun k => x1 (ix2 0 k)) (fun k l => x2 (ix2 k l)) (fun k => x3 (ix2 0 k)) h d := by
  unfold_out out0_4
  rw [ld_0, ld_1, ld_2, ld_3]
  refine (canon4_eq x0 x1 x2 x3 _).trans ?_
  have e1 : (ix4_0 (ix4 0 r h d) : S256x2048.Idx) = ix2 r ⟨(col h d).val, by omega⟩ := by
    funext a; fin_cases a
    · rfl
    · exact Fin.ext (by show h.val * 256 + d.val = 256 * h.val + d.val; omega)
  have e2 : (ix4_1 (ix4 0 r h d) : S256.Idx) = ix1 r := by funext a; fin_cases a; rfl
  have e3 : (ix4_2 (ix4 0 r h d) : S1x256.Idx) = ix2 0 d := by funext a; fin_cases a <;> rfl
  have e4 : sel4 (ix4 0 r h d) = h := rfl
  dsimp only [E4]
  rw [e1, e2, e3, e4, square_apply, prod_apply]
  rfl

/-- the values by head, -/
theorem values_apply (r : Fin 256) (h : Fin 4) (d : Fin 256) : out0_5 x0 x1 x2 x3 (ix4 0 r h d)
    = value (fun k => x0 (ix2 r k)) (fun k => x1 (ix2 0 k)) (fun k l => x2 (ix2 k l)) (col h d) := by
  unfold_out out0_5
  rw [ld_0, ld_1, ld_2]
  refine (canon5_eq x0 x1 x2 _).trans ?_
  have e1 : (ix5_0 (ix4 0 r h d) : S256x2048.Idx) = ix2 r ⟨1024 + (col h d).val, by omega⟩ := by
    funext a; fin_cases a
    · rfl
    · exact Fin.ext (by show h.val * 256 + d.val + 1024 = 1024 + (256 * h.val + d.val); omega)
  dsimp only [E5]
  rw [e1, prod_apply]
  rfl

/-- the keys as rows, -/
theorem keyRows_apply (r : Fin 256) (j : Fin 1024) : out0_6 x0 x1 x2 x3 (ix2 r j)
    = key (fun k => x0 (ix2 r k)) (fun k => x1 (ix2 0 k)) (fun k l => x2 (ix2 k l)) (fun k => x3 (ix2 0 k)) (hd j) (at_ j) := by
  unfold_out out0_6
  rw [ld_0, ld_1, ld_2, ld_3]
  refine (canon6_eq x0 x1 x2 x3 _).trans ?_
  have e1 : (ix6_0 (ix2 r j) : S256x2048.Idx) = ix2 r ⟨(col (hd j) (at_ j)).val, by omega⟩ := by
    funext a; fin_cases a
    · rfl
    · exact Fin.ext (by show j.val = 256 * (j.val / 256) + j.val % 256; omega)
  have e2 : (ix6_1 (ix2 r j) : S256.Idx) = ix1 r := by funext a; fin_cases a; rfl
  have e3 : (ix6_2 (ix2 r j) : S1x256.Idx) = ix2 0 (at_ j) := by funext a; fin_cases a <;> rfl
  have e4 : sel6 (ix2 r j) = hd j := rfl
  have e5 : Fam6_1 x0 x1 x2 x3 = Fam4_1 x0 x1 x2 x3 := rfl
  dsimp only [E6]
  rw [e1, e2, e3, e4, e5, square_apply, prod_apply]
  rfl

/-- and the values as rows. -/
theorem valueRows_apply (r : Fin 256) (j : Fin 1024) : out0_7 x0 x1 x2 x3 (ix2 r j)
    = value (fun k => x0 (ix2 r k)) (fun k => x1 (ix2 0 k)) (fun k l => x2 (ix2 k l)) j := by
  unfold_out out0_7
  rw [ld_0, ld_1, ld_2]
  refine (canon7_eq x0 x1 x2 _).trans ?_
  have e1 : (ix7_0 (ix2 r j) : S256x2048.Idx) = ix2 r ⟨1024 + j.val, by omega⟩ := by
    funext a; fin_cases a
    · rfl
    · exact Fin.ext (by show j.val + 1024 = 1024 + j.val; omega)
  dsimp only [E7]
  rw [e1, prod_apply]
  rfl

end Cert.MemKvHand

end
-- ==== Proof.MemKvArray.lean ====
/-
  The arrays the kernel of the memory's keys and values writes, at an index, from the argument arrays.
-/
module

public import proofs.«01_k».proof.Proof.MemKvBlock

@[expose] public section

set_option maxRecDepth 16384

noncomputable section

namespace Cert.MemKvHand

open Cert.MemKvIdeal Cert.MemKvIdeal.Gen Cert.MemKvIdeal.Value Idealize.ShloMosaic Idealize.ShloMosaic.TcCoe Idealize.ShloMosaic.Tactic Idealize.SL.Sem
open Cert.MemKvSpec (keyRaw value key col hd at_)

variable (m : (ℓ : Loc nD τ sig) → Buf (Elt Ideal) ℓ)

/-- Where each window's block sits at point `t`: the rows' and the outputs' at batch `t`, the gains and the weights whole. -/
theorem ix_0 : ∀ t : Fin cfg0.N, win0_0.index t = ![t.val, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![0, 0] := (by decide +kernel : ∀ t : Fin grid0.N, _)
theorem ix_3 : ∀ t : Fin cfg0.N, win0_3.index t = ![0, 0] := (by decide +kernel : ∀ t : Fin grid0.N, _)
theorem ix_4 : ∀ t : Fin cfg0.N, win0_4.index t = ![t.val, 0, 0, 0] := (by decide +kernel : ∀ t : Fin grid0.N, _)
theorem ix_5 : ∀ t : Fin cfg0.N, win0_5.index t = ![t.val, 0, 0, 0] := (by decide +kernel : ∀ t : Fin grid0.N, _)
theorem ix_6 : ∀ t : Fin cfg0.N, win0_6.index t = ![t.val, 0] := (by decide +kernel : ∀ t : Fin grid0.N, _)
theorem ix_7 : ∀ t : Fin cfg0.N, win0_7.index t = ![t.val, 0] := (by decide +kernel : ∀ t : Fin grid0.N, _)

theorem t_lt (t : Fin cfg0.N) : t.val < 32 := lt_of_lt_of_eq t.isLt N_0

/-- Point `t`'s batch, -/
abbrev batch (t : Fin cfg0.N) : Fin 32 := ⟨t.val, t_lt t⟩
/-- and row `r` of its block in the whole array. -/
abbrev rowOf (t : Fin cfg0.N) (r : Fin 256) : Fin 8192 := ⟨t.val * 256 + r.val, by have := t_lt t; omega⟩

/-- The batch of row `r` of the whole array and its place there. -/
abbrev batchOf (r : Fin 8192) : Fin 32 := ⟨r.val / 256, by omega⟩
abbrev entryOf (r : Fin 8192) : Fin 256 := ⟨r.val % 256, by omega⟩

/-- The host's arrays before the region, from the arguments: the rows, -/
theorem V_0 (c : Dev nD) (r : Fin 8192) (l : Fin 1024) :
    V m c main_v0 (ix2 r l) = m ((c : Thread nD τ).loc main_arg0) (ix3 ⟨r.val / 256, by omega⟩ ⟨r.val % 256, by omega⟩ l) := by
  dsimp only [V, hostOps0]
  after_results
  pointwise
/-- their gain, -/
theorem V_4 (c : Dev nD) (l : Fin 1024) : V m c main_v4 (ix2 0 l) = m ((c : Thread nD τ).loc main_arg1) (ix2 0 l) := by
  dsimp only [V, hostOps0]
  after_results
  pointwise
/-- the weights -/
theorem V_5 (c : Dev nD) (k : Fin 1024) (l : Fin 2048) : V m c main_v5 (ix2 k l) = m ((c : Thread nD τ).loc main_arg2) (ix3 0 k l) := by
  dsimp only [V, hostOps0]
  after_results
  pointwise
/-- and the keys' gain. -/
theorem V_6 (c : Dev nD) (l : Fin 256) : V m c main_v6 (ix2 0 l) = m ((c : Thread nD τ).loc main_arg3) (ix2 0 l) := by
  dsimp only [V, hostOps0]
  after_results
  pointwise

/-- The staged blocks, from the arguments. -/
theorem iblk_0 (c : Dev nD) (t : Fin cfg0.N) (r : Fin 256) (k : Fin 1024) :
    iblk m c 0 t (ix2 r k) = m ((c : Thread nD τ).loc main_arg0) (ix3 (batch t) r k) := by
  have e : (ix3 (batch t) r k : S32x256x1024.Idx) = ix3 ⟨(rowOf t r).val / 256, by omega⟩ ⟨(rowOf t r).val % 256, by omega⟩ k := by
    funext a; fin_cases a
    · exact Fin.ext (by show t.val = (t.val * 256 + r.val) / 256; omega)
    · exact Fin.ext (by show r.val = (t.val * 256 + r.val) % 256; omega)
    · rfl
  rw [e, ← V_0 m c]
  blk_simp [iblk]
  refine congrArg _ ?_
  blk_ext [ix_0]
theorem iblk_1 (c : Dev nD) (t : Fin cfg0.N) (k : Fin 1024) : iblk m c 1 t (ix2 0 k) = m ((c : Thread nD τ).loc main_arg1) (ix2 0 k) := by
  rw [← V_4 m c]
  blk_simp [iblk]
  refine congrArg _ ?_
  blk_ext [ix_1]
theorem iblk_2 (c : Dev nD) (t : Fin cfg0.N) (k : Fin 1024) (l : Fin 2048) :
    iblk m c 2 t (ix2 k l) = m ((c : Thread nD τ).loc main_arg2) (ix3 0 k l) := by
  rw [← V_5 m c]
  blk_simp [iblk]
  refine congrArg _ ?_
  blk_ext [ix_2]
theorem iblk_3 (c : Dev nD) (t : Fin cfg0.N) (k : Fin 256) : iblk m c 3 t (ix2 0 k) = m ((c : Thread nD τ).loc main_arg3) (ix2 0 k) := by
  rw [← V_6 m c]
  blk_simp [iblk]
  refine congrArg _ ?_
  blk_ext [ix_3]

section
variable (x : Vec Ideal S32x256x1024 .f32) (g : Vec Ideal S1x1024 .f32) (w : Vec Ideal S1x1024x2048 .f32) (gk : Vec Ideal S1x256 .f32)

/-- The key and the value of batch `b`'s entry `n`, -/
def keyOf (b : Fin 32) (n : Fin 256) : Fin 4 → Fin 256 → EReal :=
  key (fun k => x (ix3 b n k)) (fun k => g (ix2 0 k)) (fun k l => w (ix3 0 k l)) fun d => gk (ix2 0 d)
def valueOf (b : Fin 32) (n : Fin 256) : Fin 1024 → EReal :=
  value (fun k => x (ix3 b n k)) (fun k => g (ix2 0 k)) fun k l => w (ix3 0 k l)

/-- the four arrays: the keys and the values by head, -/
def arrayK : S32x256x4x256.Idx → EReal := fun i => keyOf x g w gk (i 0) (i 1) (i 2) (i 3)
def arrayV : S32x256x4x256.Idx → EReal := fun i => valueOf x g w (i 0) (i 1) (col (i 2) (i 3))
/-- and as rows. -/
def rowsK : S8192x1024.Idx → EReal := fun i =>
  keyOf x g w gk (batchOf (i 0)) (entryOf (i 0)) (hd (i 1)) (at_ (i 1))
def rowsV : S8192x1024.Idx → EReal := fun i =>
  valueOf x g w (batchOf (i 0)) (entryOf (i 0)) (i 1)
end

theorem keyOf_congr (x g w gk) {b b' : Fin 32} {n n' : Fin 256} (hb : b = b') (hn : n = n') : keyOf x g w gk b n = keyOf x g w gk b' n' := by
  subst hb hn; rfl
theorem valueOf_congr (x g w) {b b' : Fin 32} {n n' : Fin 256} (hb : b = b') (hn : n = n') : valueOf x g w b n = valueOf x g w b' n' := by
  subst hb hn; rfl

/-- What each point's blocks hold, of those arrays. -/
theorem blk_k (c : Dev nD) (t : Fin cfg0.N) (r : Fin 256) (h : Fin 4) (d : Fin 256) :
    out0_4 (iblk m c 0 t) (iblk m c 1 t) (iblk m c 2 t) (iblk m c 3 t) (ix4 0 r h d) = arrayK (m ((c : Thread nD τ).loc main_arg0)) (m ((c : Thread nD τ).loc main_arg1)) (m ((c : Thread nD τ).loc main_arg2)) (m ((c : Thread nD τ).loc main_arg3)) (ix4 (batch t) r h d) := by
  refine (keys_apply _ _ _ _ r h d).trans ?_
  simp only [iblk_0, iblk_1, iblk_2, iblk_3]
  rfl
theorem blk_v (c : Dev nD) (t : Fin cfg0.N) (r : Fin 256) (h : Fin 4) (d : Fin 256) :
    out0_5 (iblk m c 0 t) (iblk m c 1 t) (iblk m c 2 t) (iblk m c 3 t) (ix4 0 r h d) = arrayV (m ((c : Thread nD τ).loc main_arg0)) (m ((c : Thread nD τ).loc main_arg1)) (m ((c : Thread nD τ).loc main_arg2)) (ix4 (batch t) r h d) := by
  refine (values_apply _ _ _ _ r h d).trans ?_
  simp only [iblk_0, iblk_1, iblk_2]
  rfl
theorem blk_kb (c : Dev nD) (t : Fin cfg0.N) (r : Fin 256) (j : Fin 1024) :
    out0_6 (iblk m c 0 t) (iblk m c 1 t) (iblk m c 2 t) (iblk m c 3 t) (ix2 r j) = rowsK (m ((c : Thread nD τ).loc main_arg0)) (m ((c : Thread nD τ).loc main_arg1)) (m ((c : Thread nD τ).loc main_arg2)) (m ((c : Thread nD τ).loc main_arg3)) (ix2 (rowOf t r) j) := by
  refine (keyRows_apply _ _ _ _ r j).trans ?_
  simp only [iblk_0, iblk_1, iblk_2, iblk_3]
  refine congrFun (congrFun (keyOf_congr _ _ _ _ (b := batch t) (n := r) ?_ ?_) (hd j)) (at_ j)
  · exact Fin.ext (by show t.val = (t.val * 256 + r.val) / 256; omega)
  · exact Fin.ext (by show r.val = (t.val * 256 + r.val) % 256; omega)
theorem blk_vb (c : Dev nD) (t : Fin cfg0.N) (r : Fin 256) (j : Fin 1024) :
    out0_7 (iblk m c 0 t) (iblk m c 1 t) (iblk m c 2 t) (iblk m c 3 t) (ix2 r j) = rowsV (m ((c : Thread nD τ).loc main_arg0)) (m ((c : Thread nD τ).loc main_arg1)) (m ((c : Thread nD τ).loc main_arg2)) (ix2 (rowOf t r) j) := by
  refine (valueRows_apply _ _ _ _ r j).trans ?_
  simp only [iblk_0, iblk_1, iblk_2]
  refine congrFun (valueOf_congr _ _ _ (b := batch t) (n := r) ?_ ?_) j
  · exact Fin.ext (by show t.val = (t.val * 256 + r.val) / 256; omega)
  · exact Fin.ext (by show r.val = (t.val * 256 + r.val) % 256; omega)

theorem eta2 {n0 n1 : Nat} (y : (Shape.mk 2 ![n0, n1]).Idx) : y = ix2 (y 0) (y 1) := by
  funext a; fin_cases a <;> rfl
theorem eta4 {n1 n2 n3 : Nat} (y : (Shape.mk 4 ![1, n1, n2, n3]).Idx) : y = ix4 0 (y 1) (y 2) (y 3) := by
  funext a; fin_cases a
  · exact Fin.ext (by have := (y 0).isLt; change (y 0).val < 1 at this; show (y 0).val = 0; omega)
  · rfl
  · rfl
  · rfl

/-- The kernel's results hold those arrays of its arguments: the keys -/
theorem final_k (c : Dev nD) : (dats m 0 c).arrAt 4 cfg0.N = arrayK (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  refine (congrArg _ (eta4 (n1 := 256) (n2 := 4) (n3 := 256) y)).trans ((blk_k m c t (y 1) (y 2) (y 3)).trans (congrArg _ ?_))
  have h0 : (y 0).val = 0 := by have := (y 0).isLt; change (y 0).val < 1 at this; omega
  blk_ext [ix_4]
/-- and the values by head, -/
theorem final_v (c : Dev nD) : (dats m 0 c).arrAt 5 cfg0.N = arrayV (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  refine (congrArg _ (eta4 (n1 := 256) (n2 := 4) (n3 := 256) y)).trans ((blk_v m c t (y 1) (y 2) (y 3)).trans (congrArg _ ?_))
  have h0 : (y 0).val = 0 := by have := (y 0).isLt; change (y 0).val < 1 at this; omega
  blk_ext [ix_5]
/-- and as rows. -/
theorem final_kb (c : Dev nD) : (dats m 0 c).arrAt 6 cfg0.N = rowsK (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  refine (congrArg _ (eta2 (n0 := 256) (n1 := 1024) y)).trans ((blk_kb m c t (y 0) (y 1)).trans (congrArg _ ?_))
  blk_ext [ix_6]
theorem final_vb (c : Dev nD) : (dats m 0 c).arrAt 7 cfg0.N = rowsV (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7]
  refine (congrArg _ (eta2 (n0 := 256) (n1 := 1024) y)).trans ((blk_vb m c t (y 0) (y 1)).trans (congrArg _ ?_))
  blk_ext [ix_7]

end Cert.MemKvHand

end
-- ==== Proof.MemKvRead.lean ====
/-
  What the reference of the memory's keys and values computes, at an index.
-/
module

public import proofs.«01_k».proof.Proof.MemKvBlock
public import proofs.«01_k».proof.Proof.Gen.MemKvRefIdeal.Read

@[expose] public section

set_option maxRecDepth 16384

noncomputable section

namespace Cert.MemKvHandRef

open Cert.MemKvRefIdeal Cert.MemKvRefIdeal.Gen Cert.MemKvRefIdeal.Read Idealize.ShloMosaic Idealize.ShloMosaic.TcCoe Idealize.ShloMosaic.Tactic Idealize.SL.Sem
open Cert.InProjSpec (rmsr normed)
open Cert.MemKvSpec (keyRaw value key col hd at_)

variable (x0 : Vec Ideal S32x256x1024 .f32) (x1 : Vec Ideal S1x1024 .f32) (x2 : Vec Ideal S1x1024x2048 .f32) (x3 : Vec Ideal S1x256 .f32)

/-- The normalised rows, -/
theorem rows_apply (b : Fin 32) (n : Fin 256) (l : Fin 1024) :
    val_main_v13 (F := Ideal) x0 x1 (ix3 b n l) = normed (fun k => x0 (ix3 b n k)) (fun k => x1 (ix2 0 k)) l := by
  unfold val_main_v13 val_main_v12 val_main_v11 val_main_v10 val_main_v9 val_main_v8 val_main_v7 val_main_v6 val_main_v5 val_main_v4 val_main_v3
    val_main_v2 val_main_v1 val_main_v0 val_main_cst val_main_cst_0 val_main_cst_1 normed rmsr
  pointwise

/-- their product with the weights, -/
theorem prod_apply (b : Fin 32) (n : Fin 256) (c : Fin 2048) : val_main_v15 (F := Ideal) x0 x1 x2 (ix3 b n c)
    = ∑ k, normed (fun k => x0 (ix3 b n k)) (fun k => x1 (ix2 0 k)) k * x2 (ix3 0 k c) := by
  unfold val_main_v15 val_main_v14
  pointwise
  simp only [rows_apply]

/-- its halves by head, -/
theorem keyRaw_apply (b : Fin 32) (n : Fin 256) (h : Fin 4) (d : Fin 256) : val_main_v18 (F := Ideal) x0 x1 x2 (ix4 b n h d)
    = keyRaw (fun k => x0 (ix3 b n k)) (fun k => x1 (ix2 0 k)) (fun k c => x2 (ix3 0 k c)) (col h d) := by
  unfold val_main_v18 val_main_v16
  pointwise
  simp only [prod_apply]
  have e : ∀ p, (⟨h.val * 256 + d.val, p⟩ : Fin 2048) = ⟨(col h d).val, by omega⟩ := fun p => Fin.ext (by show h.val * 256 + d.val = 256 * h.val + d.val; omega)
  simp only [e]
  rfl
theorem values_apply (b : Fin 32) (n : Fin 256) (h : Fin 4) (d : Fin 256) : val_main_v33 (F := Ideal) x0 x1 x2 (ix4 b n h d)
    = value (fun k => x0 (ix3 b n k)) (fun k => x1 (ix2 0 k)) (fun k c => x2 (ix3 0 k c)) (col h d) := by
  unfold val_main_v33 val_main_v17
  pointwise
  simp only [prod_apply]
  have e : ∀ p, (⟨1024 + (h.val * 256 + d.val), p⟩ : Fin 2048) = ⟨1024 + (col h d).val, by omega⟩ := fun p =>
    Fin.ext (by show 1024 + (h.val * 256 + d.val) = 1024 + (256 * h.val + d.val); omega)
  simp only [e]
  rfl

/-- the keys, -/
theorem keys_apply (b : Fin 32) (n : Fin 256) (h : Fin 4) (d : Fin 256) : val_main_v32 (F := Ideal) x0 x1 x2 x3 (ix4 b n h d)
    = key (fun k => x0 (ix3 b n k)) (fun k => x1 (ix2 0 k)) (fun k c => x2 (ix3 0 k c)) (fun k => x3 (ix2 0 k)) h d := by
  unfold val_main_v32 val_main_v31 val_main_v30 val_main_v29 val_main_v28 val_main_v27 val_main_v26 val_main_v25 val_main_v24 val_main_v23
    val_main_v22 val_main_v21 val_main_v20 val_main_v19 val_main_cst_2 val_main_cst_3 val_main_cst_4
  pointwise
  simp only [keyRaw_apply]
  rfl

/-- the keys as rows -/
theorem keyRows_apply (r : Fin 8192) (j : Fin 1024) : val_main_v35 (F := Ideal) x0 x1 x2 x3 (ix2 r j)
    = key (fun k => x0 (ix3 ⟨r.val / 256, by omega⟩ ⟨r.val % 256, by omega⟩ k)) (fun k => x1 (ix2 0 k)) (fun k c => x2 (ix3 0 k c)) (fun k => x3 (ix2 0 k)) (hd j) (at_ j) := by
  unfold val_main_v35 val_main_v34
  pointwise
  simp only [keys_apply]

/-- and the values. -/
theorem valueRows_apply (r : Fin 8192) (j : Fin 1024) : val_main_v37 (F := Ideal) x0 x1 x2 (ix2 r j)
    = value (fun k => x0 (ix3 ⟨r.val / 256, by omega⟩ ⟨r.val % 256, by omega⟩ k)) (fun k => x1 (ix2 0 k)) (fun k c => x2 (ix3 0 k c)) j := by
  unfold val_main_v37 val_main_v36
  pointwise
  simp only [values_apply]
  exact congrArg _ (Fin.ext (by show 256 * (j.val / 256) + j.val % 256 = j.val; omega))

end Cert.MemKvHandRef

end
-- ==== Proof.MemKvClaim.lean ====
/-
  The claims of the memory's keys and values: the frames, and that the kernel's results are the reference's.
-/
module

public import proofs.«01_k».proof.Defs
public import proofs.«01_k».proof.Proof.MemKvArray
public import proofs.«01_k».proof.Proof.MemKvRead
public import proofs.«01_k».proof.Proof.Gen.MemKvRefIdeal.Run
public import proofs.«01_k».proof.Proof.Gen.MemKv.Frame

@[expose] public section

set_option maxRecDepth 16384

noncomputable section

namespace Cert.MemKvClaims

open Idealize.ShloMosaic Idealize.ShloMosaic.TcCoe Idealize.SL.Sem
open Cert.MemKvRefIdeal.Read

section
variable (x : FVec Ideal Cert.MemKvIdeal.S32x256x1024 .f32) (g : FVec Ideal Cert.MemKvIdeal.S1x1024 .f32)
  (w : FVec Ideal Cert.MemKvIdeal.S1x1024x2048 .f32) (gk : FVec Ideal Cert.MemKvIdeal.S1x256 .f32)

theorem eta4 {n0 n1 n2 n3 : Nat} (i : (Shape.mk 4 ![n0, n1, n2, n3]).Idx) : i = ix4 (i 0) (i 1) (i 2) (i 3) := by
  funext a; fin_cases a <;> rfl

/-- From the same arguments the kernel's arrays and the reference's are one: the keys -/
theorem array_k : val_main_v32 (F := Ideal) x g w gk = Cert.MemKvHand.arrayK x g w gk := by
  funext i
  exact (congrArg _ (eta4 (n0 := 32) (n1 := 256) (n2 := 4) (n3 := 256) i)).trans (Cert.MemKvHandRef.keys_apply x g w gk (i 0) (i 1) (i 2) (i 3))
/-- and the values by head, -/
theorem array_v : val_main_v33 (F := Ideal) x g w = Cert.MemKvHand.arrayV x g w := by
  funext i
  exact (congrArg _ (eta4 (n0 := 32) (n1 := 256) (n2 := 4) (n3 := 256) i)).trans (Cert.MemKvHandRef.values_apply x g w (i 0) (i 1) (i 2) (i 3))
/-- and as rows. -/
theorem rows_k : val_main_v35 (F := Ideal) x g w gk = Cert.MemKvHand.rowsK x g w gk := by
  funext i
  exact (congrArg _ (Cert.MemKvHand.eta2 (n0 := 8192) (n1 := 1024) i)).trans (Cert.MemKvHandRef.keyRows_apply x g w gk (i 0) (i 1))
theorem rows_v : val_main_v37 (F := Ideal) x g w = Cert.MemKvHand.rowsV x g w := by
  funext i
  exact (congrArg _ (Cert.MemKvHand.eta2 (n0 := 8192) (n1 := 1024) i)).trans (Cert.MemKvHandRef.valueRows_apply x g w (i 0) (i 1))
end

/-- The kernel runs safely, and so does the kernel read over the extended reals, -/
theorem frame : Cert.quiescent_MemKv := fun m ρ _ => Cert.MemKv.Gen.frame m ρ
theorem frameIdeal : Cert.quiescent_MemKvIdeal := fun m ρ _ => Cert.MemKvIdeal.Gen.frame m ρ
/-- and its reference. -/
theorem frameRef : Cert.quiescent_MemKvRefIdeal := fun m ρ _ =>
  (θ_run Cert.MemKvRefIdeal.defs _ _).mono (fun r h => ⟨fun c => (h c).2.2.2.2, sem_eq_zero_of_no_sems (by decide) r.2⟩)
    (Cert.MemKvRefIdeal.Value.run (F := Ideal) m ρ)

/-- From equal arguments the kernel's four results are the reference's. -/
theorem algebraic : Cert.algebraic_MemKvIdeal_MemKvRefIdeal := by
  intro m ρ m' ρ' _ hag
  refine ⟨fun c => Cert.MemKvHand.arrayK (m ((c : Thread Cert.MemKvIdeal.nD Cert.MemKvIdeal.τ).loc Cert.MemKvIdeal.main_arg0))
      (m ((c : Thread Cert.MemKvIdeal.nD Cert.MemKvIdeal.τ).loc Cert.MemKvIdeal.main_arg1))
      (m ((c : Thread Cert.MemKvIdeal.nD Cert.MemKvIdeal.τ).loc Cert.MemKvIdeal.main_arg2))
      (m ((c : Thread Cert.MemKvIdeal.nD Cert.MemKvIdeal.τ).loc Cert.MemKvIdeal.main_arg3)),
    fun c => Cert.MemKvHand.arrayV (m ((c : Thread Cert.MemKvIdeal.nD Cert.MemKvIdeal.τ).loc Cert.MemKvIdeal.main_arg0))
      (m ((c : Thread Cert.MemKvIdeal.nD Cert.MemKvIdeal.τ).loc Cert.MemKvIdeal.main_arg1))
      (m ((c : Thread Cert.MemKvIdeal.nD Cert.MemKvIdeal.τ).loc Cert.MemKvIdeal.main_arg2)),
    fun c => Cert.MemKvHand.rowsK (m ((c : Thread Cert.MemKvIdeal.nD Cert.MemKvIdeal.τ).loc Cert.MemKvIdeal.main_arg0))
      (m ((c : Thread Cert.MemKvIdeal.nD Cert.MemKvIdeal.τ).loc Cert.MemKvIdeal.main_arg1))
      (m ((c : Thread Cert.MemKvIdeal.nD Cert.MemKvIdeal.τ).loc Cert.MemKvIdeal.main_arg2))
      (m ((c : Thread Cert.MemKvIdeal.nD Cert.MemKvIdeal.τ).loc Cert.MemKvIdeal.main_arg3)),
    fun c => Cert.MemKvHand.rowsV (m ((c : Thread Cert.MemKvIdeal.nD Cert.MemKvIdeal.τ).loc Cert.MemKvIdeal.main_arg0))
      (m ((c : Thread Cert.MemKvIdeal.nD Cert.MemKvIdeal.τ).loc Cert.MemKvIdeal.main_arg1))
      (m ((c : Thread Cert.MemKvIdeal.nD Cert.MemKvIdeal.τ).loc Cert.MemKvIdeal.main_arg2)), ?_, ?_⟩
  · exact (θ_run Cert.MemKvIdeal.defs _ _).mono (fun _ h c => ⟨(h c).1.trans (Cert.MemKvHand.final_k m c),
        (h c).2.1.trans (Cert.MemKvHand.final_v m c), (h c).2.2.1.trans (Cert.MemKvHand.final_kb m c),
        (h c).2.2.2.1.trans (Cert.MemKvHand.final_vb m c), (h c).2.2.2.2⟩)
      (Cert.MemKvIdeal.Value.run_blocks (F := Ideal) m ρ)
  · refine (θ_run Cert.MemKvRefIdeal.defs _ _).mono (fun _ h c => ?_) (Cert.MemKvRefIdeal.Value.run (F := Ideal) m' ρ')
    obtain ⟨h0, h1, h2, h3, hk⟩ := h c
    obtain ⟨e0, e1, e2, e3⟩ := hag c
    refine ⟨(h0.trans (val_main_v32_eq (F := Ideal) _ _ _ _)).trans ?_, (h1.trans (val_main_v33_eq (F := Ideal) _ _ _)).trans ?_,
      (h2.trans (val_main_v35_eq (F := Ideal) m' c)).trans ?_, (h3.trans (val_main_v37_eq (F := Ideal) _ _ _)).trans ?_, hk⟩
    all_goals clear h0 h1 h2 h3 hk
    · rw [e0, e1, e2, e3]
      exact array_k _ _ _ _
    · rw [e0, e1, e2]
      exact array_v _ _ _
    · rw [e0, e1, e2, e3]
      exact rows_k _ _ _ _
    · rw [e0, e1, e2]
      exact rows_v _ _ _

end Cert.MemKvClaims

end
-- ==== Proof.MergeBlock.lean ====
/-
  What the merge kernel's body leaves in its output block, at an index, from the staged blocks.
-/
module

public import proofs.«01_k».proof.Proof.MergeSpec
public import proofs.«01_k».proof.Proof.InProjSpec
public import proofs.«01_k».proof.Proof.Gen.MergeIdeal.Value
public import Idealize.ShloMosaic.Lib.Pipeline.ValueKit

@[expose] public section

set_option maxRecDepth 16384

noncomputable section

namespace Cert.MergeHand

open Cert.MergeIdeal Cert.MergeIdeal.Gen Idealize.ShloMosaic Idealize.ShloMosaic.TcCoe Idealize.ShloMosaic.Tactic Idealize.SL.Sem
open Cert.AttnSpec (top)
open Cert.MergeSpec (memK merged result col hd at_ score branchK)

theorem inb_cols (h : Fin 4) : ∀ a : Fin 2, (![0, 256 * h.val] : Fin 2 → ℕ) a + S512x256.size a ≤ S512x1024.size a := by
  revert h; decide
theorem inb_rows (h : Fin 4) : ∀ a : Fin 2, (![0, 256 * h.val] : Fin 2 → ℕ) a + S256x256.size a ≤ S256x1024.size a := by
  revert h; decide

/-- Head `h`'s columns of the rows, and of the memory. -/
abbrev cols (h : Fin 4) : Rect S512x1024 := Rect.unit (s := S512x1024) ![0, 256 * h.val] S512x256.size (inb_cols h)
abbrev mems (h : Fin 4) : Rect S256x1024 := Rect.unit (s := S256x1024) ![0, 256 * h.val] S256x256.size (inb_rows h)

theorem ld_cols (h : Fin 4) (X : Vec Ideal S512x1024 .bf16) (r : Fin 512) (d : Fin 256) : View.ld X (cols h) (ix2 r d) = X (ix2 r (col h d)) := by
  refine congrArg X ?_
  funext a
  fin_cases a <;> apply Fin.ext <;> simp [LoadRect.idx]
theorem ld_mems (h : Fin 4) (X : Vec Ideal S256x1024 .bf16) (r : Fin 256) (d : Fin 256) : View.ld X (mems h) (ix2 r d) = X (ix2 r (col h d)) := by
  refine congrArg X ?_
  funext a
  fin_cases a <;> apply Fin.ext <;> simp [LoadRect.idx]

/-- Head `h`'s gated attention. -/
def head (q z : Vec Ideal S512x1024 .bf16) (k v : Vec Ideal S256x1024 .bf16) (h : Fin 4) : FVec Ideal S512x256 .bf16 :=
  k0_pay10 (k0_pay2 (View.ld q (cols h)) (View.ld k (mems h))) (View.ld v (mems h)) (View.ld z (cols h))

theorem pay2_apply (h : Fin 4) (q : Vec Ideal S512x1024 .bf16) (k : Vec Ideal S256x1024 .bf16) (r : Fin 512) (n : Fin 256) :
    k0_pay2 (View.ld q (cols h)) (View.ld k (mems h)) (ix2 r n) = score (fun j => q (ix2 r j)) (fun n j => k (ix2 n j)) h n := by
  unfold k0_pay2 score
  pointwise

theorem pay10_apply (s : FVec Ideal S512x256 .f32) (v : Vec Ideal S256x256 .bf16) (z : Vec Ideal S512x256 .bf16) (r : Fin 512) (d : Fin 256) :
    k0_pay10 s v z (ix2 r d) = memK (fun n => s (ix2 r n)) (fun n => v (ix2 n d)) * z (ix2 r d) := by
  unfold k0_pay10 memK
  pointwise
  simp only [InProjSpec.negInf]
  rfl

theorem head_apply (q z : Vec Ideal S512x1024 .bf16) (k v : Vec Ideal S256x1024 .bf16) (h : Fin 4) (r : Fin 512) (d : Fin 256) :
    head q z k v h (ix2 r d) = branchK (fun j => q (ix2 r j)) (fun j => z (ix2 r j)) (fun n j => k (ix2 n j)) (fun n j => v (ix2 n j)) (col h d) := by
  unfold head branchK
  rw [pay10_apply]
  have e : hd (col h d) = h := Fin.ext (by simp; omega)
  simp only [pay2_apply, e]
  refine congrArg₂ (· * ·) (congrArg _ ?_) (ld_cols h z r d)
  exact funext fun n => ld_mems h v n d

/-- The four heads side by side. -/
def heads (q z : Vec Ideal S512x1024 .bf16) (k v : Vec Ideal S256x1024 .bf16) : FVec Ideal S512x1024 .bf16 :=
  concatenate S512x1024 1 [⟨S512x256, head q z k v 0⟩, ⟨S512x256, head q z k v 1⟩, ⟨S512x256, head q z k v 2⟩, ⟨S512x256, head q z k v 3⟩]
    concatenates_S512x256_S512x256_S512x256_S512x256_S512x1024_d1

/-- A conditional whose branches are both `z` is `z`. -/
theorem dite_to {P : Prop} [Decidable P] {f : P → EReal} {g : ¬P → EReal} {z : EReal} (hf : ∀ h, f h = z) (hg : ∀ h, g h = z) : dite P f g = z := by
  by_cases h : P
  · rw [dif_pos h]; exact hf h
  · rw [dif_neg h]; exact hg h

theorem cat_apply (p0 p1 p2 p3 : FVec Ideal S512x256 .bf16) (r : Fin 512) (j : Fin 1024) (G : Fin 1024 → EReal)
    (h0 : ∀ d, p0 (ix2 r d) = G (col 0 d)) (h1 : ∀ d, p1 (ix2 r d) = G (col 1 d)) (h2 : ∀ d, p2 (ix2 r d) = G (col 2 d)) (h3 : ∀ d, p3 (ix2 r d) = G (col 3 d)) :
    concatenate S512x1024 1 [⟨S512x256, p0⟩, ⟨S512x256, p1⟩, ⟨S512x256, p2⟩, ⟨S512x256, p3⟩]
      concatenates_S512x256_S512x256_S512x256_S512x256_S512x1024_d1 (ix2 r j) = G j := by
  pointwise
  simp only [h0, h1, h2, h3]
  refine dite_to (fun _ => ?_) fun _ => dite_to (fun _ => ?_) fun _ => dite_to (fun _ => ?_) fun _ => ?_ <;>
    exact congrArg G (Fin.ext (by simp; try omega))

theorem heads_apply (q z : Vec Ideal S512x1024 .bf16) (k v : Vec Ideal S256x1024 .bf16) (r : Fin 512) (j : Fin 1024) :
    heads q z k v (ix2 r j) = branchK (fun j => q (ix2 r j)) (fun j => z (ix2 r j)) (fun n j => k (ix2 n j)) (fun n j => v (ix2 n j)) j :=
  cat_apply _ _ _ _ r j (branchK (fun j => q (ix2 r j)) (fun j => z (ix2 r j)) (fun n j => k (ix2 n j)) (fun n j => v (ix2 n j)))
    (head_apply q z k v 0 r) (head_apply q z k v 1 r) (head_apply q z k v 2 r) (head_apply q z k v 3 r)

/-- One branch's gate times its projection. -/
def gated (g : Vec Ideal S512x1024 .bf16) (a : FVec Ideal S512x1024 .bf16) (w : Vec Ideal S1x1024x1024 .bf16) : FVec Ideal S512x1024 .f32 := k0_pay6 g a w

theorem gated_apply (g : Vec Ideal S512x1024 .bf16) (a : FVec Ideal S512x1024 .bf16) (w : Vec Ideal S1x1024x1024 .bf16) (r : Fin 512) (l : Fin 1024) :
    gated g a w (ix2 r l) = g (ix2 r l) * ∑ j, a (ix2 r j) * w (ix3 0 j l) := by
  unfold gated k0_pay6
  pointwise

/-- The rows plus the projection of the merged branches. -/
def final_ (x : Vec Ideal S512x1024 .f32) (u0 u1 u2 : FVec Ideal S512x1024 .f32) (w : Vec Ideal S1024x1024 .bf16) : FVec Ideal S512x1024 .f32 :=
  addf x (matmul (φ₂ := .bf16) dot_S512x1024_S1024x1024_S512x1024_1_0_0_1_n_n none (truncf .bf16 (addf (addf u0 u1) u2) bitsLt_bf16_f32) w (constant S512x1024 .f32 0x00000000#32))

theorem final_apply (x : Vec Ideal S512x1024 .f32) (u0 u1 u2 : FVec Ideal S512x1024 .f32) (w : Vec Ideal S1024x1024 .bf16) (r : Fin 512) (l : Fin 1024) :
    final_ x u0 u1 u2 w (ix2 r l) = x (ix2 r l) + ∑ k, (u0 (ix2 r k) + u1 (ix2 r k) + u2 (ix2 r k)) * w (ix2 k l) := by
  unfold final_
  pointwise

section
variable (x0 : Vec Ideal S512x1024 .f32) (x1 x2 x3 x4 x5 x6 x7 : Vec Ideal S512x1024 .bf16) (x8 x9 : Vec Ideal S256x1024 .bf16)
  (x10 : Vec Ideal S3x1024x1024 .bf16) (x11 : Vec Ideal S1024x1024 .bf16)

/-- The third branch's projection, with the later two heads written like the first. -/
theorem pay14_eq (v8 v11 : FVec Ideal S512x256 .f32) (v44 v62 : FVec Ideal S512x256 .bf16) (v73 : Vec Ideal S256x256 .bf16) (v77 : Vec Ideal S512x256 .bf16)
    (v91 : Vec Ideal S256x256 .bf16) (v95 : Vec Ideal S512x256 .bf16) (w : Vec Ideal S1x1024x1024 .bf16) (g : Vec Ideal S512x1024 .bf16) :
    mulf (k0_pay13 g) (k0_pay14 v8 v11 v44 v62 (k0_pay12 v8) v73 v77 v91 v95 w)
      = gated g (concatenate S512x1024 1 [⟨S512x256, v44⟩, ⟨S512x256, v62⟩, ⟨S512x256, k0_pay10 v8 v73 v77⟩, ⟨S512x256, k0_pay10 v11 v91 v95⟩]
          concatenates_S512x256_S512x256_S512x256_S512x256_S512x1024_d1) w := rfl

/-- The other gate's product and the sum. -/
theorem pay9_eq (u : FVec Ideal S512x1024 .f32) (g a : Vec Ideal S512x1024 .bf16) (w : Vec Ideal S1x1024x1024 .bf16) :
    k0_pay9 u (k0_pay7 g) a (k0_pay8 w) = addf u (gated g a w) := rfl

theorem pay1_eq (u v w : FVec Ideal S512x1024 .f32) (x : Vec Ideal S512x1024 .f32) (y : Vec Ideal S1024x1024 .bf16) :
    k0_pay1 u v w x y = addf x (matmul (φ₂ := .bf16) dot_S512x1024_S1024x1024_S512x1024_1_0_0_1_n_n none (truncf .bf16 (addf u (mulf v w)) bitsLt_bf16_f32) y
      (constant S512x1024 .f32 0x00000000#32)) := by
  unfold k0_pay1
  simp only [shapeCast_self]

theorem out_eq : out0_12 x0 x1 x2 x3 x4 x5 x6 x7 x8 x9 x10 x11
    = final_ x0 (gated x5 x1 (View.ld x10 r0_9)) (gated x6 x2 (View.ld x10 r0_10)) (gated x7 (heads x3 x4 x8 x9) (View.ld x10 r0_11)) x11 := by
  unfold out0_12
  rw [View.canon_cons_unit_lit _ _ _ (by decide)]
  have e : ∀ (e : EltTy) (X : Vec Ideal S512x1024 e), View.ld X r0_8 = X := fun e X => View.ld_unit_lit _ X (by decide)
  have e' : View.ld x11 r0_12 = x11 := View.ld_unit_lit _ x11 (by decide)
  simp only [e, e']
  unfold k0_pay15
  rw [pay1_eq, pay14_eq, pay9_eq]
  rfl

/-- The block's entry at row `r`, column `l`. -/
theorem out_apply (r : Fin 512) (l : Fin 1024) : out0_12 x0 x1 x2 x3 x4 x5 x6 x7 x8 x9 x10 x11 (ix2 r l)
    = result (fun l => x0 (ix2 r l)) (merged ![fun k => x5 (ix2 r k), fun k => x6 (ix2 r k), fun k => x7 (ix2 r k)] (fun j => x1 (ix2 r j)) (fun j => x2 (ix2 r j))
        (branchK (fun j => x3 (ix2 r j)) (fun j => x4 (ix2 r j)) (fun n j => x8 (ix2 n j)) (fun n j => x9 (ix2 n j)))
        fun i j k => x10 (ix3 i j k)) (fun k l => x11 (ix2 k l)) l := by
  rw [out_eq, final_apply]
  have e0 : ∀ j k, View.ld x10 r0_9 (ix3 0 j k) = x10 (ix3 0 j k) := fun j k => congrArg x10 (by funext a; fin_cases a <;> apply Fin.ext <;> simp [LoadRect.idx])
  have e1 : ∀ j k, View.ld x10 r0_10 (ix3 0 j k) = x10 (ix3 1 j k) := fun j k => congrArg x10 (by funext a; fin_cases a <;> apply Fin.ext <;> simp [LoadRect.idx])
  have e2 : ∀ j k, View.ld x10 r0_11 (ix3 0 j k) = x10 (ix3 2 j k) := fun j k => congrArg x10 (by funext a; fin_cases a <;> apply Fin.ext <;> simp [LoadRect.idx])
  simp only [gated_apply, heads_apply, e0, e1, e2]
  rfl
end

end Cert.MergeHand

end
-- ==== Proof.MergeArray.lean ====
/-
  The array the merge kernel writes, at an index, from the argument arrays.
-/
module

public import proofs.«01_k».proof.Proof.MergeBlock

@[expose] public section

set_option maxRecDepth 16384

noncomputable section

namespace Cert.MergeHand

open Cert.MergeIdeal Cert.MergeIdeal.Gen Cert.MergeIdeal.Value Idealize.ShloMosaic Idealize.ShloMosaic.TcCoe Idealize.ShloMosaic.Tactic Idealize.SL.Sem
open Cert.MergeSpec (merged result branchK)

variable (m : (ℓ : Loc nD τ sig) → Buf (Elt Ideal) ℓ)

/-- Where each window's block sits at point `t`: the rows' and the output's at rows `512 t`, those of the combined
    projection at its column blocks 8 to 12, the memory's at its batch's 256 rows, the weights whole. -/
theorem ix_0 : ∀ t : Fin cfg0.N, win0_0.index t = ![t.val, 0] := (by decide +kernel : ∀ t : Fin grid0.N, _)
theorem ix_1 : ∀ t : Fin cfg0.N, win0_1.index t = ![t.val, 0] := (by decide +kernel : ∀ t : Fin grid0.N, _)
theorem ix_2 : ∀ t : Fin cfg0.N, win0_2.index t = ![t.val, 0] := (by decide +kernel : ∀ t : Fin grid0.N, _)
theorem ix_3 : ∀ t : Fin cfg0.N, win0_3.index t = ![t.val, 8] := (by decide +kernel : ∀ t : Fin grid0.N, _)
theorem ix_4 : ∀ t : Fin cfg0.N, win0_4.index t = ![t.val, 9] := (by decide +kernel : ∀ t : Fin grid0.N, _)
theorem ix_5 : ∀ t : Fin cfg0.N, win0_5.index t = ![t.val, 10] := (by decide +kernel : ∀ t : Fin grid0.N, _)
theorem ix_6 : ∀ t : Fin cfg0.N, win0_6.index t = ![t.val, 11] := (by decide +kernel : ∀ t : Fin grid0.N, _)
theorem ix_7 : ∀ t : Fin cfg0.N, win0_7.index t = ![t.val, 12] := (by decide +kernel : ∀ t : Fin grid0.N, _)
theorem ix_8 : ∀ t : Fin cfg0.N, win0_8.index t = ![t.val / 4, 0] := (by decide +kernel : ∀ t : Fin grid0.N, _)
theorem ix_9 : ∀ t : Fin cfg0.N, win0_9.index t = ![t.val / 4, 0] := (by decide +kernel : ∀ t : Fin grid0.N, _)
theorem ix_10 : ∀ t : Fin cfg0.N, win0_10.index t = ![0, 0, 0] := (by decide +kernel : ∀ t : Fin grid0.N, _)
theorem ix_11 : ∀ t : Fin cfg0.N, win0_11.index t = ![0, 0] := (by decide +kernel : ∀ t : Fin grid0.N, _)
theorem ix_12 : ∀ t : Fin cfg0.N, win0_12.index t = ![t.val, 0] := (by decide +kernel : ∀ t : Fin grid0.N, _)

theorem t_lt (t : Fin cfg0.N) : t.val < 128 := lt_of_lt_of_eq t.isLt N_0

/-- Row `r` of point `t`'s block, in the whole array, -/
abbrev rowOf (t : Fin cfg0.N) (r : Fin 512) : Fin 65536 := ⟨t.val * 512 + r.val, by have := t_lt t; omega⟩
/-- and the memory's row `n` for the batch of row `r` of the whole array. -/
abbrev memOf (r : Fin 65536) (n : Fin 256) : Fin 8192 := ⟨r.val / 2048 * 256 + n.val, by omega⟩

/-- The host's arrays before the region, from the arguments: the rows, -/
theorem V_0 (c : Dev nD) (r : Fin 65536) (l : Fin 1024) :
    V m c main_v0 (ix2 r l) = m ((c : Thread nD τ).loc main_arg0) (ix3 ⟨r.val / 2048, by omega⟩ ⟨r.val % 2048, by omega⟩ l) := by
  dsimp only [V, hostOps0]
  after_results
  pointwise
/-- the branches' weights -/
theorem V_2 (c : Dev nD) (i : Fin 3) (k l : Fin 1024) : V m c main_v2 (ix3 i k l) = m ((c : Thread nD τ).loc main_arg6) (ix4 0 i k l) := by
  dsimp only [V, hostOps0]
  after_results
  pointwise
/-- and the output's. -/
theorem V_4 (c : Dev nD) (k l : Fin 1024) : V m c main_v4 (ix2 k l) = m ((c : Thread nD τ).loc main_arg7) (ix3 0 k l) := by
  dsimp only [V, hostOps0]
  after_results
  pointwise

/-- The staged blocks, from the arguments. -/
theorem iblk_0 (c : Dev nD) (t : Fin cfg0.N) (r : Fin 512) (k : Fin 1024) : iblk m c 0 t (ix2 r k)
    = m ((c : Thread nD τ).loc main_arg0) (ix3 ⟨(rowOf t r).val / 2048, by omega⟩ ⟨(rowOf t r).val % 2048, by omega⟩ k) := by
  rw [← V_0 m c]
  blk_simp [iblk]
  refine congrArg _ ?_
  blk_ext [ix_0]
theorem iblk_1 (c : Dev nD) (t : Fin cfg0.N) (r : Fin 512) (k : Fin 1024) :
    iblk m c 1 t (ix2 r k) = m ((c : Thread nD τ).loc main_arg1) (ix2 (rowOf t r) k) := by
  rw [← V_main_arg1 m c]
  blk_simp [iblk]
  refine congrArg _ ?_
  blk_ext [ix_1]
theorem iblk_2 (c : Dev nD) (t : Fin cfg0.N) (r : Fin 512) (k : Fin 1024) :
    iblk m c 2 t (ix2 r k) = m ((c : Thread nD τ).loc main_arg2) (ix2 (rowOf t r) k) := by
  rw [← V_main_arg2 m c]
  blk_simp [iblk]
  refine congrArg _ ?_
  blk_ext [ix_2]
theorem iblk_3 (c : Dev nD) (t : Fin cfg0.N) (r : Fin 512) (k : Fin 1024) :
    iblk m c 3 t (ix2 r k) = m ((c : Thread nD τ).loc main_arg3) (ix2 (rowOf t r) ⟨8192 + k.val, by omega⟩) := by
  rw [← V_main_arg3 m c]
  blk_simp [iblk]
  refine congrArg _ ?_
  blk_ext [ix_3]
theorem iblk_4 (c : Dev nD) (t : Fin cfg0.N) (r : Fin 512) (k : Fin 1024) :
    iblk m c 4 t (ix2 r k) = m ((c : Thread nD τ).loc main_arg3) (ix2 (rowOf t r) ⟨9216 + k.val, by omega⟩) := by
  rw [← V_main_arg3 m c]
  blk_simp [iblk]
  refine congrArg _ ?_
  blk_ext [ix_4]
theorem iblk_5 (c : Dev nD) (t : Fin cfg0.N) (r : Fin 512) (k : Fin 1024) :
    iblk m c 5 t (ix2 r k) = m ((c : Thread nD τ).loc main_arg3) (ix2 (rowOf t r) ⟨10240 + k.val, by omega⟩) := by
  rw [← V_main_arg3 m c]
  blk_simp [iblk]
  refine congrArg _ ?_
  blk_ext [ix_5]
theorem iblk_6 (c : Dev nD) (t : Fin cfg0.N) (r : Fin 512) (k : Fin 1024) :
    iblk m c 6 t (ix2 r k) = m ((c : Thread nD τ).loc main_arg3) (ix2 (rowOf t r) ⟨11264 + k.val, by omega⟩) := by
  rw [← V_main_arg3 m c]
  blk_simp [iblk]
  refine congrArg _ ?_
  blk_ext [ix_6]
theorem iblk_7 (c : Dev nD) (t : Fin cfg0.N) (r : Fin 512) (k : Fin 1024) :
    iblk m c 7 t (ix2 r k) = m ((c : Thread nD τ).loc main_arg3) (ix2 (rowOf t r) ⟨12288 + k.val, by omega⟩) := by
  rw [← V_main_arg3 m c]
  blk_simp [iblk]
  refine congrArg _ ?_
  blk_ext [ix_7]
/-- Point `t`'s rows are of batch `t / 4`. -/
theorem memOf_eq (t : Fin cfg0.N) (r : Fin 512) (n : Fin 256) : memOf (rowOf t r) n = ⟨t.val / 4 * 256 + n.val, by have := t_lt t; omega⟩ :=
  Fin.ext (by show (t.val * 512 + r.val) / 2048 * 256 + n.val = t.val / 4 * 256 + n.val; omega)
theorem iblk_8 (c : Dev nD) (t : Fin cfg0.N) (r : Fin 512) (n : Fin 256) (k : Fin 1024) :
    iblk m c 8 t (ix2 n k) = m ((c : Thread nD τ).loc main_arg4) (ix2 (memOf (rowOf t r) n) k) := by
  rw [← V_main_arg4 m c, memOf_eq]
  blk_simp [iblk]
  refine congrArg _ ?_
  blk_ext [ix_8]
theorem iblk_9 (c : Dev nD) (t : Fin cfg0.N) (r : Fin 512) (n : Fin 256) (k : Fin 1024) :
    iblk m c 9 t (ix2 n k) = m ((c : Thread nD τ).loc main_arg5) (ix2 (memOf (rowOf t r) n) k) := by
  rw [← V_main_arg5 m c, memOf_eq]
  blk_simp [iblk]
  refine congrArg _ ?_
  blk_ext [ix_9]
theorem iblk_10 (c : Dev nD) (t : Fin cfg0.N) (i : Fin 3) (k l : Fin 1024) :
    iblk m c 10 t (ix3 i k l) = m ((c : Thread nD τ).loc main_arg6) (ix4 0 i k l) := by
  rw [← V_2 m c]
  blk_simp [iblk]
  refine congrArg _ ?_
  blk_ext [ix_10]
theorem iblk_11 (c : Dev nD) (t : Fin cfg0.N) (k l : Fin 1024) : iblk m c 11 t (ix2 k l) = m ((c : Thread nD τ).loc main_arg7) (ix3 0 k l) := by
  rw [← V_4 m c]
  blk_simp [iblk]
  refine congrArg _ ?_
  blk_ext [ix_11]

section
variable (x : Vec Ideal S32x2048x1024 .f32) (ya yb : Vec Ideal S65536x1024 .bf16) (p : Vec Ideal S65536x13312 .bf16) (k v : Vec Ideal S8192x1024 .bf16)
  (wb : Vec Ideal S1x3x1024x1024 .f32) (wo : Vec Ideal S1x1024x1024 .f32)

/-- Row `r` of the output. -/
def rowK (r : Fin 65536) : Fin 1024 → EReal :=
  result (fun l => x (ix3 ⟨r.val / 2048, by omega⟩ ⟨r.val % 2048, by omega⟩ l))
    (merged ![fun l => p (ix2 r ⟨10240 + l.val, by omega⟩), fun l => p (ix2 r ⟨11264 + l.val, by omega⟩), fun l => p (ix2 r ⟨12288 + l.val, by omega⟩)]
      (fun j => ya (ix2 r j)) (fun j => yb (ix2 r j))
      (branchK (fun j => p (ix2 r ⟨8192 + j.val, by omega⟩)) (fun j => p (ix2 r ⟨9216 + j.val, by omega⟩))
        (fun n j => k (ix2 (memOf r n) j)) (fun n j => v (ix2 (memOf r n) j)))
      fun i j l => wb (ix4 0 i j l)) fun j l => wo (ix3 0 j l)

/-- The output. -/
def arrayK : S65536x1024.Idx → EReal := fun i => rowK x ya yb p k v wb wo (i 0) (i 1)
end

/-- What each point's block holds, of that array. -/
theorem blk_y (c : Dev nD) (t : Fin cfg0.N) (r : Fin 512) (l : Fin 1024) :
    out0_12 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (ix2 r l)
      = arrayK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (ix2 (rowOf t r) l) := by
  refine (out_apply _ _ _ _ _ _ _ _ _ _ _ _ r l).trans ?_
  simp only [iblk_0, iblk_1, iblk_2, iblk_3, iblk_4, iblk_5, iblk_6, iblk_7, iblk_8 m c t r, iblk_9 m c t r, iblk_10, iblk_11]
  rfl

theorem eta2 {n0 n1 : Nat} (y : (Shape.mk 2 ![n0, n1]).Idx) : y = ix2 (y 0) (y 1) := by
  funext a; fin_cases a <;> rfl

/-- The kernel's result holds that array of its arguments. -/
theorem final_y (c : Dev nD) : (dats m 0 c).arrAt 12 cfg0.N
      = arrayK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (dats m 0 c).arrAt_eq_of_covers 12 _ (by decide +kernel) fun t hf y => ?_
  blk_simp
  rw [after0_12]
  refine (congrArg _ (eta2 (n0 := 512) (n1 := 1024) y)).trans ((blk_y m c t (y 0) (y 1)).trans (congrArg _ ?_))
  blk_ext [ix_12]

end Cert.MergeHand

end
-- ==== Proof.MergeRead.lean ====
/-
  What the reference of the merge computes, at an index.
-/
module

public import proofs.«01_k».proof.Proof.MergeSpec
public import proofs.«01_k».proof.Proof.InProjSpec
public import proofs.«01_k».proof.Proof.Gen.MergeRefIdeal.Read
public import Idealize.ShloMosaic.Lib.Pipeline.Value

@[expose] public section

set_option maxRecDepth 16384

noncomputable section

namespace Cert.MergeHandRef

open Cert.MergeRefIdeal Cert.MergeRefIdeal.Gen Cert.MergeRefIdeal.Read Idealize.ShloMosaic Idealize.ShloMosaic.TcCoe Idealize.ShloMosaic.Tactic Idealize.SL.Sem
open Cert.AttnSpec (top ix2_congr)
open Cert.MergeSpec (softR memR merged result col hd at_ score branchR)

variable (x0 : Vec Ideal S32x2048x1024 .f32) (x1 x2 : Vec Ideal S65536x1024 .bf16) (x3 : Vec Ideal S65536x13312 .bf16) (x4 x5 : Vec Ideal S8192x1024 .bf16)
  (x6 : Vec Ideal S1x3x1024x1024 .f32) (x7 : Vec Ideal S1x1024x1024 .f32)

/-- The row of batch `b`'s token `t`, and of its memory's entry `n`. -/
abbrev tok (b : Fin 32) (t : Fin 2048) : Fin 65536 := ⟨2048 * b.val + t.val, by omega⟩
abbrev ent (b : Fin 32) (n : Fin 256) : Fin 8192 := ⟨256 * b.val + n.val, by omega⟩

/-- The queries, -/
theorem q_apply (b : Fin 32) (t : Fin 2048) (h : Fin 4) (d : Fin 256) :
    val_main_v2 (F := Ideal) x3 (ix4 b t h d) = x3 (ix2 (tok b t) ⟨8192 + (col h d).val, by omega⟩) := by
  unfold val_main_v2 val_main_v1 val_main_v0
  pointwise
  exact congrArg x3 (ix2_congr (by simp; omega) (by simp; omega))
/-- the gate path, -/
theorem z_apply (b : Fin 32) (t : Fin 2048) (j : Fin 1024) : val_main_v4 (F := Ideal) x3 (ix3 b t j) = x3 (ix2 (tok b t) ⟨9216 + j.val, by omega⟩) := by
  unfold val_main_v4 val_main_v3 val_main_v0
  pointwise
  exact congrArg x3 (ix2_congr (by simp; omega) (by simp))
/-- the keys -/
theorem k_apply (b : Fin 32) (n : Fin 256) (h : Fin 4) (d : Fin 256) : val_main_v8 (F := Ideal) x4 (ix4 b n h d) = x4 (ix2 (ent b n) (col h d)) := by
  unfold val_main_v8 val_main_v7
  pointwise
  exact congrArg x4 (ix2_congr (by simp; omega) (by simp; omega))
/-- and the values. -/
theorem v_apply (b : Fin 32) (n : Fin 256) (h : Fin 4) (d : Fin 256) : val_main_v10 (F := Ideal) x5 (ix4 b n h d) = x5 (ix2 (ent b n) (col h d)) := by
  unfold val_main_v10 val_main_v9
  pointwise
  exact congrArg x5 (ix2_congr (by simp; omega) (by simp; omega))

/-- The scores in base two, of batch `b`, token `t`, head `h`. -/
abbrev P (b : Fin 32) (t : Fin 2048) (h : Fin 4) : Fin 256 → EReal :=
  score (fun j => x3 (ix2 (tok b t) ⟨8192 + j.val, by omega⟩)) (fun n j => x4 (ix2 (ent b n) j)) h

theorem score_apply (b : Fin 32) (h : Fin 4) (t : Fin 2048) (n : Fin 256) : val_main_v11 (F := Ideal) x3 x4 (ix4 b h t n) = P x3 x4 b t h n := by
  unfold val_main_v11
  pointwise
  simp only [q_apply, k_apply]
  rfl

theorem ln2_apply (i : S_.Idx) : val_main_v12 (F := Ideal) i = (Real.log 2 : EReal) := by
  unfold val_main_v12 val_main_cst
  pointwise
  show Ideal.log (Ideal.ofBits .f32 0x40000000#32) = _
  have e : Ideal.ofBits .f32 0x40000000#32 = ((2 : ℝ) : EReal) := by
    simp [Ideal.ofBits, Ideal.ieee, -EReal.coe_mul]; norm_num
  rw [e, Ideal.log_coe, if_neg (by norm_num)]

theorem scaled_apply (b : Fin 32) (h : Fin 4) (t : Fin 2048) (n : Fin 256) :
    val_main_v14 (F := Ideal) x3 x4 (ix4 b h t n) = P x3 x4 b t h n * (Real.log 2 : EReal) := by
  rw [val_main_v14_apply, score_apply, val_main_v13_apply, ln2_apply]
  rfl

theorem maxOver_apply (y : FVec Ideal S32x4x2048x256 .f32) (z : FVec Ideal S_ .f32) (b : Fin 32) (h : Fin 4) (t : Fin 2048) :
    Host.reduce FloatOps.maximumf y z reducesTo_S32x4x2048x256_S32x4x2048_d3 h_S_ (ix3 b h t)
      = Finset.univ.fold max (z ix0) (fun n : Fin 256 => y (ix4 b h t n)) := by
  pointwise
  exact congrArg (fun i => Finset.univ.fold max (z i) _) (Subsingleton.elim _ _)

theorem max_apply (b : Fin 32) (h : Fin 4) (t : Fin 2048) :
    val_main_v17 (F := Ideal) x3 x4 (ix3 b h t) = top fun n => P x3 x4 b t h n * (Real.log 2 : EReal) := by
  rw [val_main_v17_apply, val_main_v16_apply]
  have e : val_main_v15 (F := Ideal) x3 x4 (ix3 b h t) = top fun n => P x3 x4 b t h n * (Real.log 2 : EReal) := by
    unfold val_main_v15
    rw [maxOver_apply]
    simp only [scaled_apply]
    show Finset.univ.fold max (Ideal.ofBits .f32 0xFF800000#32) _ = _
    rw [InProjSpec.negInf]
    rfl
  rw [e]
  show max (Ideal.ofBits .f32 0xFF800000#32) _ = _
  rw [InProjSpec.negInf, max_eq_right bot_le]

theorem soft_apply (b : Fin 32) (h : Fin 4) (t : Fin 2048) (n : Fin 256) :
    val_main_v25 (F := Ideal) x3 x4 (ix4 b h t n) = softR (P x3 x4 b t h) n := by
  unfold val_main_v25 val_main_v24 val_main_v23 val_main_v22 val_main_v21 val_main_v20 val_main_v19 val_main_v18 val_main_cst_2
  pointwise
  simp only [scaled_apply, max_apply]
  rfl

theorem att_apply (b : Fin 32) (t : Fin 2048) (j : Fin 1024) :
    val_main_v28 (F := Ideal) x3 x4 x5 (ix3 b t j) = memR (P x3 x4 b t (hd j)) (fun n => x5 (ix2 (ent b n) j)) := by
  unfold val_main_v28 val_main_v27 val_main_v26
  pointwise
  simp only [v_apply, soft_apply]
  have e : ∀ (h : Fin 4) (d : Fin 256), h.val = j.val / 256 → d.val = j.val % 256 → ∀ b' : Fin 32, b' = b → ∀ t' : Fin 2048, t' = t →
      (∑ n, x5 (ix2 (ent b' n) (col h d)) * softR (P x3 x4 b' t' h) n) = memR (P x3 x4 b t (hd j)) (fun n => x5 (ix2 (ent b n) j)) := by
    rintro h d h1 h2 b' rfl t' rfl
    obtain rfl : h = hd j := Fin.ext h1
    obtain rfl : d = at_ j := Fin.ext h2
    have hc : col (hd j) (at_ j) = j := Fin.ext (by simp; omega)
    rw [hc]
    exact Finset.sum_congr rfl fun _ _ => mul_comm _ _
  exact e _ _ rfl rfl _ rfl _ rfl

theorem gate0_apply (b : Fin 32) (t : Fin 2048) (l : Fin 1024) : val_main_v30 (F := Ideal) x3 (ix3 b t l) = x3 (ix2 (tok b t) ⟨10240 + l.val, by omega⟩) := by
  unfold val_main_v30 val_main_v29 val_main_v6 val_main_v5 val_main_v0
  pointwise
  exact congrArg x3 (ix2_congr (by simp; omega) (by simp <;> omega))
theorem gate1_apply (b : Fin 32) (t : Fin 2048) (l : Fin 1024) : val_main_v38 (F := Ideal) x3 (ix3 b t l) = x3 (ix2 (tok b t) ⟨11264 + l.val, by omega⟩) := by
  unfold val_main_v38 val_main_v37 val_main_v6 val_main_v5 val_main_v0
  pointwise
  exact congrArg x3 (ix2_congr (by simp; omega) (by simp <;> omega))
theorem gate2_apply (b : Fin 32) (t : Fin 2048) (l : Fin 1024) : val_main_v47 (F := Ideal) x3 (ix3 b t l) = x3 (ix2 (tok b t) ⟨12288 + l.val, by omega⟩) := by
  unfold val_main_v47 val_main_v46 val_main_v6 val_main_v5 val_main_v0
  pointwise
  exact congrArg x3 (ix2_congr (by simp; omega) (by simp <;> omega))

theorem proj0_apply (b : Fin 32) (t : Fin 2048) (l : Fin 1024) : val_main_v35 (F := Ideal) x1 x6 (ix3 b t l) = ∑ j, x1 (ix2 (tok b t) j) * x6 (ix4 0 0 j l) := by
  unfold val_main_v35 val_main_v34 val_main_v33 val_main_v32 val_main_v31
  pointwise
  exact Finset.sum_congr rfl fun j _ => congrArg (· * _) (congrArg x1 (ix2_congr (by simp; omega) rfl))
theorem proj1_apply (b : Fin 32) (t : Fin 2048) (l : Fin 1024) : val_main_v43 (F := Ideal) x2 x6 (ix3 b t l) = ∑ j, x2 (ix2 (tok b t) j) * x6 (ix4 0 1 j l) := by
  unfold val_main_v43 val_main_v42 val_main_v41 val_main_v40 val_main_v39
  pointwise
  exact Finset.sum_congr rfl fun j _ => congrArg (· * _) (congrArg x2 (ix2_congr (by simp; omega) rfl))
theorem proj2_apply (b : Fin 32) (t : Fin 2048) (l : Fin 1024) : val_main_v51 (F := Ideal) x3 x4 x5 x6 (ix3 b t l)
    = ∑ j, branchR (fun j => x3 (ix2 (tok b t) ⟨8192 + j.val, by omega⟩)) (fun j => x3 (ix2 (tok b t) ⟨9216 + j.val, by omega⟩))
        (fun n j => x4 (ix2 (ent b n) j)) (fun n j => x5 (ix2 (ent b n) j)) j * x6 (ix4 0 2 j l) := by
  unfold val_main_v51 val_main_v50 val_main_v49 val_main_v48
  pointwise
  simp only [att_apply, z_apply]
  rfl

/-- The merged branches. -/
theorem merged_apply (b : Fin 32) (t : Fin 2048) (l : Fin 1024) : val_main_v53 (F := Ideal) x1 x2 x3 x4 x5 x6 (ix3 b t l)
    = merged ![fun l => x3 (ix2 (tok b t) ⟨10240 + l.val, by omega⟩), fun l => x3 (ix2 (tok b t) ⟨11264 + l.val, by omega⟩), fun l => x3 (ix2 (tok b t) ⟨12288 + l.val, by omega⟩)]
        (fun j => x1 (ix2 (tok b t) j)) (fun j => x2 (ix2 (tok b t) j))
        (branchR (fun j => x3 (ix2 (tok b t) ⟨8192 + j.val, by omega⟩)) (fun j => x3 (ix2 (tok b t) ⟨9216 + j.val, by omega⟩))
          (fun n j => x4 (ix2 (ent b n) j)) (fun n j => x5 (ix2 (ent b n) j))) (fun i j l => x6 (ix4 0 i j l)) l := by
  unfold val_main_v53 val_main_v52 val_main_v45 val_main_v44 val_main_v36
  pointwise
  simp only [gate0_apply, gate1_apply, gate2_apply, proj0_apply, proj1_apply, proj2_apply]
  rfl

/-- Row `r` of the reference's result. -/
def rowR (r : Fin 65536) : Fin 1024 → EReal :=
  result (fun l => x0 (ix3 ⟨r.val / 2048, by omega⟩ ⟨r.val % 2048, by omega⟩ l))
    (merged ![fun l => x3 (ix2 r ⟨10240 + l.val, by omega⟩), fun l => x3 (ix2 r ⟨11264 + l.val, by omega⟩), fun l => x3 (ix2 r ⟨12288 + l.val, by omega⟩)]
      (fun j => x1 (ix2 r j)) (fun j => x2 (ix2 r j))
      (branchR (fun j => x3 (ix2 r ⟨8192 + j.val, by omega⟩)) (fun j => x3 (ix2 r ⟨9216 + j.val, by omega⟩))
        (fun n j => x4 (ix2 (ent ⟨r.val / 2048, by omega⟩ n) j)) (fun n j => x5 (ix2 (ent ⟨r.val / 2048, by omega⟩ n) j)))
      fun i j l => x6 (ix4 0 i j l)) fun j l => x7 (ix3 0 j l)

theorem result_apply (r : Fin 65536) (l : Fin 1024) :
    val_main_v57 (F := Ideal) x0 x1 x2 x3 x4 x5 x6 x7 (ix2 r l) = rowR x0 x1 x2 x3 x4 x5 x6 x7 r l := by
  unfold val_main_v57 val_main_v56 val_main_v55 val_main_v54
  pointwise
  simp only [merged_apply]
  have hr : tok ⟨r.val / 2048, by omega⟩ ⟨r.val % 2048, by omega⟩ = r := Fin.ext (by simp; omega)
  rw [hr]
  rfl

end Cert.MergeHandRef

end
-- ==== Proof.MergeClaim.lean ====
/-
  The claims of the merge: the frames, and that the kernel's result is the reference's where the memory attention's queries
  and keys are finite.
-/
module

public import proofs.«01_k».proof.Defs
public import proofs.«01_k».proof.Proof.AttnClaim
public import proofs.«01_k».proof.Proof.MergeArray
public import proofs.«01_k».proof.Proof.MergeRead
public import proofs.«01_k».proof.Proof.Gen.MergeRefIdeal.Run
public import proofs.«01_k».proof.Proof.Gen.Pre_merge_finite
public import proofs.«01_k».proof.Proof.Gen.Merge.Frame

@[expose] public section

set_option maxRecDepth 16384

noncomputable section

namespace Cert.MergeClaims

open Idealize.ShloMosaic Idealize.ShloMosaic.TcCoe Idealize.SL.Sem
open Cert.Pre_merge_finite Cert.Pre_merge_finite.Gen

variable {x : FVec Ideal S32x2048x1024 .f32} {ya yb : FVec Ideal S65536x1024 .bf16} {p : FVec Ideal S65536x13312 .bf16}
  {k v : FVec Ideal S8192x1024 .bf16} {wb : FVec Ideal S1x3x1024x1024 .f32} {wo : FVec Ideal S1x1024x1024 .f32}

/-- Under the precondition the queries are finite, -/
theorem queries_finite (h : (fn (F := Ideal) x ya yb p k v wb wo).1 = fun _ => 1#1) (r : Fin 65536) (j : Fin 1024) :
    p (ix2 r ⟨8192 + j.val, by omega⟩) ≠ ⊤ ∧ p (ix2 r ⟨8192 + j.val, by omega⟩) ≠ ⊥ := by
  have hi := congrFun h (ix2 r j)
  unfold fn at hi
  dsimp only at hi
  pointwise at hi
  have e : Ideal.ofBits .bf16 0x7F80#16 = ⊤ := by simp [Ideal.ofBits, Ideal.ieee]
  rw [e] at hi
  exact Cert.Pre_attn_finite.finite_of_lt hi

/-- and the memory's keys. -/
theorem keys_finite (h : (fn (F := Ideal) x ya yb p k v wb wo).2 = fun _ => 1#1) (i : S8192x1024.Idx) : k i ≠ ⊤ ∧ k i ≠ ⊥ := by
  have hi := congrFun h i
  unfold fn at hi
  dsimp only at hi
  pointwise at hi
  have e : Ideal.ofBits .bf16 0x7F80#16 = ⊤ := by simp [Ideal.ofBits, Ideal.ieee]
  rw [e] at hi
  exact Cert.Pre_attn_finite.finite_of_lt hi

/-- Under it a row of the reference's result is the kernel's. -/
theorem rows (h₁ : (fn (F := Ideal) x ya yb p k v wb wo).1 = fun _ => 1#1) (h₂ : (fn (F := Ideal) x ya yb p k v wb wo).2 = fun _ => 1#1)
    (r : Fin 65536) : Cert.MergeHandRef.rowR x ya yb p k v wb wo r = Cert.MergeHand.rowK x ya yb p k v wb wo r := by
  have hm : ∀ n, Cert.MergeHandRef.ent ⟨r.val / 2048, by omega⟩ n = Cert.MergeHand.memOf r n := fun n =>
    Fin.ext (congrArg (· + n.val) (Nat.mul_comm _ _))
  have hb := Cert.MergeSpec.branch_eq (fun j => p (ix2 r ⟨8192 + j.val, by omega⟩)) (fun j => p (ix2 r ⟨9216 + j.val, by omega⟩))
    (fun n j => k (ix2 (Cert.MergeHand.memOf r n) j)) (fun n j => v (ix2 (Cert.MergeHand.memOf r n) j))
    (fun j => queries_finite h₁ r j) fun n j => keys_finite h₂ _
  unfold Cert.MergeHandRef.rowR Cert.MergeHand.rowK
  rw [show Cert.MergeSpec.branchK _ _ _ _ = _ from funext fun j => congrFun hb j]
  simp only [hm]

/-- From the same arguments the kernel's array and the reference's are one. -/
theorem arrays (h₁ : (fn (F := Ideal) x ya yb p k v wb wo).1 = fun _ => 1#1) (h₂ : (fn (F := Ideal) x ya yb p k v wb wo).2 = fun _ => 1#1) :
    Cert.MergeRefIdeal.Read.val_main_v57 (F := Ideal) x ya yb p k v wb wo = Cert.MergeHand.arrayK x ya yb p k v wb wo := by
  funext i
  refine (congrArg _ (Cert.MergeHand.eta2 (n0 := 65536) (n1 := 1024) i)).trans ((Cert.MergeHandRef.result_apply x ya yb p k v wb wo (i 0) (i 1)).trans ?_)
  exact congrFun (rows h₁ h₂ (i 0)) (i 1)

/-- The kernel runs safely, and so does the kernel read over the extended reals, -/
theorem frame : Cert.quiescent_Merge := fun m ρ _ => Cert.Merge.Gen.frame m ρ
theorem frameIdeal : Cert.quiescent_MergeIdeal := fun m ρ _ => Cert.MergeIdeal.Gen.frame m ρ
theorem frameIdealPre : Cert.quiescent_MergeIdeal_pre_merge_finite := fun m ρ _ => Cert.MergeIdeal.Gen.frame m ρ
/-- and its reference. -/
theorem frameRef : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)
theorem frameRefPre : Cert.quiescent_MergeRefIdeal_pre_merge_finite := fun m ρ _ => frameRef m ρ trivial

/-- From equal arguments the kernel's result is the reference's. -/
theorem algebraic : Cert.algebraic_MergeIdeal_MergeRefIdeal_pre_merge_finite := by
  intro m ρ m' ρ' hpre hag
  refine ⟨fun c => Cert.MergeHand.arrayK (m ((c : Thread Cert.MergeIdeal.nD Cert.MergeIdeal.τ).loc Cert.MergeIdeal.main_arg0))
      (m ((c : Thread Cert.MergeIdeal.nD Cert.MergeIdeal.τ).loc Cert.MergeIdeal.main_arg1))
      (m ((c : Thread Cert.MergeIdeal.nD Cert.MergeIdeal.τ).loc Cert.MergeIdeal.main_arg2))
      (m ((c : Thread Cert.MergeIdeal.nD Cert.MergeIdeal.τ).loc Cert.MergeIdeal.main_arg3))
      (m ((c : Thread Cert.MergeIdeal.nD Cert.MergeIdeal.τ).loc Cert.MergeIdeal.main_arg4))
      (m ((c : Thread Cert.MergeIdeal.nD Cert.MergeIdeal.τ).loc Cert.MergeIdeal.main_arg5))
      (m ((c : Thread Cert.MergeIdeal.nD Cert.MergeIdeal.τ).loc Cert.MergeIdeal.main_arg6))
      (m ((c : Thread Cert.MergeIdeal.nD Cert.MergeIdeal.τ).loc Cert.MergeIdeal.main_arg7)), ?_, ?_⟩
  · exact (θ_run Cert.MergeIdeal.defs _ _).mono (fun _ h c => ⟨(h c).1.trans (Cert.MergeHand.final_y m c), (h c).2⟩)
      (Cert.MergeIdeal.Value.run_blocks (F := Ideal) m ρ)
  · refine (θ_run Cert.MergeRefIdeal.defs _ _).mono (fun _ h c => ⟨((h c).1.trans (Cert.MergeRefIdeal.Read.val_main_v57_eq m' c)).trans ?_, (h c).2⟩)
      (Cert.MergeRefIdeal.Value.run (F := Ideal) m' ρ')
    obtain ⟨e0, e1, e2, e3, e4, e5, e6, e7⟩ := hag c
    rw [e0, e1, e2, e3, e4, e5, e6, e7]
    exact arrays (hpre c).1 (hpre c).2

end Cert.MergeClaims

end
-- ==== Proof.MergeSBlock.lean ====
/-
  What the merge kernel's body leaves in its output block for the sampled frames, eight samples to a block, at an index, from the
  staged blocks.
-/
module

public import proofs.«01_k».proof.Proof.MergeSpec
public import proofs.«01_k».proof.Proof.InProjSpec
public import proofs.«01_k».proof.Proof.Gen.MergeSIdeal.Value
public import Idealize.ShloMosaic.Lib.Pipeline.ValueKit

@[expose] public section

set_option maxRecDepth 16384

noncomputable section

namespace Cert.MergeSHand

open Cert.MergeSIdeal Cert.MergeSIdeal.Gen Idealize.ShloMosaic Idealize.ShloMosaic.TcCoe Idealize.ShloMosaic.Tactic Idealize.SL.Sem
open Cert.AttnSpec (top)
open Cert.MergeSpec (memK merged result col hd at_ score branchK)

theorem inb_cols (j : Fin 8) (h : Fin 4) : ∀ a : Fin 2, (![64 * j.val, 256 * h.val] : Fin 2 → ℕ) a + S64x256.size a ≤ S512x1024.size a := by
  revert j h; decide
theorem inb_rows (j : Fin 8) (h : Fin 4) : ∀ a : Fin 2, (![256 * j.val, 256 * h.val] : Fin 2 → ℕ) a + S256x256.size a ≤ S2048x1024.size a := by
  revert j h; decide

/-- Head `h`'s columns of the rows of sample `j`, and of its memory. -/
abbrev cols (j : Fin 8) (h : Fin 4) : Rect S512x1024 := Rect.unit (s := S512x1024) ![64 * j.val, 256 * h.val] S64x256.size (inb_cols j h)
abbrev mems (j : Fin 8) (h : Fin 4) : Rect S2048x1024 := Rect.unit (s := S2048x1024) ![256 * j.val, 256 * h.val] S256x256.size (inb_rows j h)

/-- Row `r` of sample `j`, and its memory's entry `n`. -/
abbrev row (j : Fin 8) (r : Fin 64) : Fin 512 := ⟨64 * j.val + r.val, by omega⟩
abbrev mem (j : Fin 8) (n : Fin 256) : Fin 2048 := ⟨256 * j.val + n.val, by omega⟩

theorem ld_cols (j : Fin 8) (h : Fin 4) (X : Vec Ideal S512x1024 .bf16) (r : Fin 64) (d : Fin 256) :
    View.ld X (cols j h) (ix2 r d) = X (ix2 (row j r) (col h d)) := by
  refine congrArg X ?_
  funext a
  fin_cases a <;> apply Fin.ext <;> simp [LoadRect.idx]
theorem ld_mems (j : Fin 8) (h : Fin 4) (X : Vec Ideal S2048x1024 .bf16) (r : Fin 256) (d : Fin 256) :
    View.ld X (mems j h) (ix2 r d) = X (ix2 (mem j r) (col h d)) := by
  refine congrArg X ?_
  funext a
  fin_cases a <;> apply Fin.ext <;> simp [LoadRect.idx]

/-- Sample `j`'s gated attention in head `h`. -/
def head (q z : Vec Ideal S512x1024 .bf16) (k v : Vec Ideal S2048x1024 .bf16) (j : Fin 8) (h : Fin 4) : FVec Ideal S64x256 .bf16 :=
  k0_pay37 (k0_pay2 (View.ld q (cols j h)) (View.ld k (mems j h))) (View.ld v (mems j h)) (View.ld z (cols j h))

theorem pay2_apply (j : Fin 8) (h : Fin 4) (q : Vec Ideal S512x1024 .bf16) (k : Vec Ideal S2048x1024 .bf16) (r : Fin 64) (n : Fin 256) :
    k0_pay2 (View.ld q (cols j h)) (View.ld k (mems j h)) (ix2 r n)
      = score (fun l => q (ix2 (row j r) l)) (fun n l => k (ix2 (mem j n) l)) h n := by
  unfold k0_pay2 score
  pointwise

theorem pay37_apply (s : FVec Ideal S64x256 .f32) (v : Vec Ideal S256x256 .bf16) (z : Vec Ideal S64x256 .bf16) (r : Fin 64) (d : Fin 256) :
    k0_pay37 s v z (ix2 r d) = memK (fun n => s (ix2 r n)) (fun n => v (ix2 n d)) * z (ix2 r d) := by
  unfold k0_pay37 memK
  pointwise
  simp only [InProjSpec.negInf]
  rfl

theorem head_apply (q z : Vec Ideal S512x1024 .bf16) (k v : Vec Ideal S2048x1024 .bf16) (j : Fin 8) (h : Fin 4) (r : Fin 64) (d : Fin 256) :
    head q z k v j h (ix2 r d) = branchK (fun l => q (ix2 (row j r) l)) (fun l => z (ix2 (row j r) l)) (fun n l => k (ix2 (mem j n) l))
      (fun n l => v (ix2 (mem j n) l)) (col h d) := by
  unfold head branchK
  rw [pay37_apply]
  have e : hd (col h d) = h := Fin.ext (by simp; omega)
  simp only [pay2_apply, e]
  refine congrArg₂ (· * ·) (congrArg _ ?_) (ld_cols j h z r d)
  exact funext fun n => ld_mems j h v n d

/-- A sample's four heads side by side, -/
def part (q z : Vec Ideal S512x1024 .bf16) (k v : Vec Ideal S2048x1024 .bf16) (j : Fin 8) : FVec Ideal S64x1024 .bf16 :=
  concatenate S64x1024 1 [⟨S64x256, head q z k v j 0⟩, ⟨S64x256, head q z k v j 1⟩, ⟨S64x256, head q z k v j 2⟩, ⟨S64x256, head q z k v j 3⟩]
    concatenates_S64x256_S64x256_S64x256_S64x256_S64x1024_d1
/-- and eight samples one below the other. -/
def stacked (p : Fin 8 → FVec Ideal S64x1024 .bf16) : FVec Ideal S512x1024 .bf16 :=
  concatenate S512x1024 0 [⟨S64x1024, p 0⟩, ⟨S64x1024, p 1⟩, ⟨S64x1024, p 2⟩, ⟨S64x1024, p 3⟩, ⟨S64x1024, p 4⟩, ⟨S64x1024, p 5⟩, ⟨S64x1024, p 6⟩, ⟨S64x1024, p 7⟩]
    concatenates_S64x1024_S64x1024_S64x1024_S64x1024_S64x1024_S64x1024_S64x1024_S64x1024_S512x1024_d0

/-- A conditional whose branches are both `z` is `z`. -/
theorem dite_to {P : Prop} [Decidable P] {f : P → EReal} {g : ¬P → EReal} {z : EReal} (hf : ∀ h, f h = z) (hg : ∀ h, g h = z) : dite P f g = z := by
  by_cases h : P
  · rw [dif_pos h]; exact hf h
  · rw [dif_neg h]; exact hg h

theorem cat_apply (p : Fin 4 → FVec Ideal S64x256 .bf16) (r : Fin 64) (l : Fin 1024) (G : Fin 1024 → EReal) (h : ∀ i d, p i (ix2 r d) = G (col i d)) :
    concatenate S64x1024 1 [⟨S64x256, p 0⟩, ⟨S64x256, p 1⟩, ⟨S64x256, p 2⟩, ⟨S64x256, p 3⟩]
      concatenates_S64x256_S64x256_S64x256_S64x256_S64x1024_d1 (ix2 r l) = G l := by
  pointwise
  simp only [h]
  refine dite_to (fun _ => ?_) fun _ => dite_to (fun _ => ?_) fun _ => dite_to (fun _ => ?_) fun _ => ?_ <;>
    exact congrArg G (Fin.ext (by simp; try omega))

theorem stacked_apply (p : Fin 8 → FVec Ideal S64x1024 .bf16) (r : Fin 512) (l : Fin 1024) (G : Fin 512 → EReal) (h : ∀ j x, p j (ix2 x l) = G (row j x)) :
    stacked p (ix2 r l) = G r := by
  unfold stacked
  pointwise
  simp only [h]
  refine dite_to (fun _ => ?_) fun _ => dite_to (fun _ => ?_) fun _ => dite_to (fun _ => ?_) fun _ => dite_to (fun _ => ?_) fun _ =>
      dite_to (fun _ => ?_) fun _ => dite_to (fun _ => ?_) fun _ => dite_to (fun _ => ?_) fun _ => ?_ <;>
    exact congrArg G (Fin.ext (by simp; try omega))

theorem part_apply (q z : Vec Ideal S512x1024 .bf16) (k v : Vec Ideal S2048x1024 .bf16) (j : Fin 8) (r : Fin 64) (l : Fin 1024) :
    part q z k v j (ix2 r l) = branchK (fun l => q (ix2 (row j r) l)) (fun l => z (ix2 (row j r) l)) (fun n l => k (ix2 (mem j n) l))
      (fun n l => v (ix2 (mem j n) l)) l :=
  cat_apply (head q z k v j) r l (branchK (fun l => q (ix2 (row j r) l)) (fun l => z (ix2 (row j r) l)) (fun n l => k (ix2 (mem j n) l))
    (fun n l => v (ix2 (mem j n) l))) fun h d => head_apply q z k v j h r d

/-- The sample of a row of the block. -/
abbrev smp (r : Fin 512) : Fin 8 := ⟨r.val / 64, by omega⟩

def heads (q z : Vec Ideal S512x1024 .bf16) (k v : Vec Ideal S2048x1024 .bf16) : FVec Ideal S512x1024 .bf16 := stacked (part q z k v)

theorem heads_apply (q z : Vec Ideal S512x1024 .bf16) (k v : Vec Ideal S2048x1024 .bf16) (r : Fin 512) (l : Fin 1024) :
    heads q z k v (ix2 r l) = branchK (fun j => q (ix2 r j)) (fun j => z (ix2 r j)) (fun n j => k (ix2 (mem (smp r) n) j))
      (fun n j => v (ix2 (mem (smp r) n) j)) l :=
  stacked_apply (part q z k v) r l (fun r => branchK (fun j => q (ix2 r j)) (fun j => z (ix2 r j)) (fun n j => k (ix2 (mem (smp r) n) j))
      (fun n j => v (ix2 (mem (smp r) n) j)) l) fun j x => by
    have e : smp (row j x) = j := Fin.ext (by show (64 * j.val + x.val) / 64 = j.val; omega)
    simp only [e]
    exact part_apply q z k v j x l

/-- One branch's gate times its projection. -/
def gated (g : Vec Ideal S512x1024 .bf16) (a : FVec Ideal S512x1024 .bf16) (w : Vec Ideal S1x1024x1024 .bf16) : FVec Ideal S512x1024 .f32 :=
  mulf (k0_pay35 g) (matmul (φ₂ := .bf16) dot_S512x1024_S1024x1024_S512x1024_1_0_0_1_n_n none a (shapeCast S1024x1024 w shapeCasts_S1x1024x1024_S1024x1024)
    (constant S512x1024 .f32 0x00000000#32))

theorem gated_apply (g : Vec Ideal S512x1024 .bf16) (a : FVec Ideal S512x1024 .bf16) (w : Vec Ideal S1x1024x1024 .bf16) (r : Fin 512) (l : Fin 1024) :
    gated g a w (ix2 r l) = g (ix2 r l) * ∑ j, a (ix2 r j) * w (ix3 0 j l) := by
  unfold gated k0_pay35
  pointwise

/-- The rows plus the projection of the merged branches. -/
def final_ (x : Vec Ideal S512x1024 .f32) (u0 u1 u2 : FVec Ideal S512x1024 .f32) (w : Vec Ideal S1024x1024 .bf16) : FVec Ideal S512x1024 .f32 :=
  addf x (matmul (φ₂ := .bf16) dot_S512x1024_S1024x1024_S512x1024_1_0_0_1_n_n none (truncf .bf16 (addf (addf u0 u1) u2) bitsLt_bf16_f32) w (constant S512x1024 .f32 0x00000000#32))

theorem final_apply (x : Vec Ideal S512x1024 .f32) (u0 u1 u2 : FVec Ideal S512x1024 .f32) (w : Vec Ideal S1024x1024 .bf16) (r : Fin 512) (l : Fin 1024) :
    final_ x u0 u1 u2 w (ix2 r l) = x (ix2 r l) + ∑ k, (u0 (ix2 r k) + u1 (ix2 r k) + u2 (ix2 r k)) * w (ix2 k l) := by
  unfold final_
  pointwise

section
variable (x0 : Vec Ideal S512x1024 .f32) (x1 x2 x3 x4 x5 x6 x7 : Vec Ideal S512x1024 .bf16) (x8 x9 : Vec Ideal S2048x1024 .bf16)
  (x10 : Vec Ideal S3x1024x1024 .bf16) (x11 : Vec Ideal S1024x1024 .bf16)

theorem pay1_eq (u g : FVec Ideal S512x1024 .f32) (h : FVec Ideal S512x1024 .bf16) (w : Vec Ideal S1x1024x1024 .bf16) (x : Vec Ideal S512x1024 .f32)
    (y : Vec Ideal S1024x1024 .bf16) : k0_pay1 u h g w x y
      = addf x (matmul (φ₂ := .bf16) dot_S512x1024_S1024x1024_S512x1024_1_0_0_1_n_n none (truncf .bf16 (addf u (mulf g (matmul (φ₂ := .bf16)
          dot_S512x1024_S1024x1024_S512x1024_1_0_0_1_n_n none h (shapeCast S1024x1024 w shapeCasts_S1x1024x1024_S1024x1024)
          (constant S512x1024 .f32 0x00000000#32)))) bitsLt_bf16_f32) y (constant S512x1024 .f32 0x00000000#32)) := by
  unfold k0_pay1
  simp only [shapeCast_self]

theorem out_eq : out0_12 x0 x1 x2 x3 x4 x5 x6 x7 x8 x9 x10 x11
    = final_ x0 (gated x5 x1 (View.ld x10 r0_65)) (gated x6 x2 (View.ld x10 r0_66)) (gated x7 (heads x3 x4 x8 x9) (View.ld x10 r0_67)) x11 := by
  unfold out0_12
  rw [View.canon_cons_unit_lit _ _ _ (by decide)]
  have e : ∀ (e : EltTy) (X : Vec Ideal S512x1024 e), View.ld X r0_64 = X := fun e X => View.ld_unit_lit _ X (by decide)
  have e' : View.ld x11 r0_68 = x11 := View.ld_unit_lit _ x11 (by decide)
  simp only [e, e']
  rw [pay1_eq]
  rfl

/-- The block's entry at row `r`, column `l`. -/
theorem out_apply (r : Fin 512) (l : Fin 1024) : out0_12 x0 x1 x2 x3 x4 x5 x6 x7 x8 x9 x10 x11 (ix2 r l)
    = result (fun l => x0 (ix2 r l)) (merged ![fun k => x5 (ix2 r k), fun k => x6 (ix2 r k), fun k => x7 (ix2 r k)] (fun j => x1 (ix2 r j)) (fun j => x2 (ix2 r j))
        (branchK (fun j => x3 (ix2 r j)) (fun j => x4 (ix2 r j)) (fun n j => x8 (ix2 (mem (smp r) n) j)) (fun n j => x9 (ix2 (mem (smp r) n) j)))
        fun i j k => x10 (ix3 i j k)) (fun k l => x11 (ix2 k l)) l := by
  rw [out_eq, final_apply]
  have e0 : ∀ j k, View.ld x10 r0_65 (ix3 0 j k) = x10 (ix3 0 j k) := fun j k => congrArg x10 (by funext a; fin_cases a <;> apply Fin.ext <;> simp [LoadRect.idx])
  have e1 : ∀ j k, View.ld x10 r0_66 (ix3 0 j k) = x10 (ix3 1 j k) := fun j k => congrArg x10 (by funext a; fin_cases a <;> apply Fin.ext <;> simp [LoadRect.idx])
  have e2 : ∀ j k, View.ld x10 r0_67 (ix3 0 j k) = x10 (ix3 2 j k) := fun j k => congrArg x10 (by funext a; fin_cases a <;> apply Fin.ext <;> simp [LoadRect.idx])
  simp only [gated_apply, heads_apply, e0, e1, e2]
  rfl
end

end Cert.MergeSHand

end
-- ==== Proof.MergeSArray.lean ====
/-
  The array the merge kernel writes for the sampled frames, at an index, from the argument arrays.
-/
module

public import proofs.«01_k».proof.Proof.MergeSBlock

@[expose] public section

set_option maxRecDepth 16384

noncomputable section

namespace Cert.MergeSHand

open Cert.MergeSIdeal Cert.MergeSIdeal.Gen Cert.MergeSIdeal.Value Idealize.ShloMosaic Idealize.ShloMosaic.TcCoe Idealize.ShloMosaic.Tactic Idealize.SL.Sem
open Cert.MergeSpec (merged result branchK hd at_)

variable (m : (ℓ : Loc nD τ sig) → Buf (Elt Ideal) ℓ)

/-- Where each window's block sits at point `t`: the rows' and the output's at rows `512 t`, those of the combined
    projection at its column blocks 8 to 12, the memory's at rows `2048 t`, the weights whole. -/
theorem ix_0 : ∀ t : Fin cfg0.N, win0_0.index t = ![t.val, 0] := (by decide +kernel : ∀ t : Fin grid0.N, _)
theorem ix_1 : ∀ t : Fin cfg0.N, win0_1.index t = ![t.val, 0] := (by decide +kernel : ∀ t : Fin grid0.N, _)
theorem ix_2 : ∀ t : Fin cfg0.N, win0_2.index t = ![t.val, 0] := (by decide +kernel : ∀ t : Fin grid0.N, _)
theorem ix_3 : ∀ t : Fin cfg0.N, win0_3.index t = ![t.val, 8] := (by decide +kernel : ∀ t : Fin grid0.N, _)
theorem ix_4 : ∀ t : Fin cfg0.N, win0_4.index t = ![t.val, 9] := (by decide +kernel : ∀ t : Fin grid0.N, _)
theorem ix_5 : ∀ t : Fin cfg0.N, win0_5.index t = ![t.val, 10] := (by decide +kernel : ∀ t : Fin grid0.N, _)
theorem ix_6 : ∀ t : Fin cfg0.N, win0_6.index t = ![t.val, 11] := (by decide +kernel : ∀ t : Fin grid0.N, _)
theorem ix_7 : ∀ t : Fin cfg0.N, win0_7.index t = ![t.val, 12] := (by decide +kernel : ∀ t : Fin grid0.N, _)
theorem ix_8 : ∀ t : Fin cfg0.N, win0_8.index t = ![t.val, 0] := (by decide +kernel : ∀ t : Fin grid0.N, _)
theorem ix_9 : ∀ t : Fin cfg0.N, win0_9.index t = ![t.val, 0] := (by decide +kernel : ∀ t : Fin grid0.N, _)
theorem ix_10 : ∀ t : Fin cfg0.N, win0_10.index t = ![0, 0, 0] := (by decide +kernel : ∀ t : Fin grid0.N, _)
theorem ix_11 : ∀ t : Fin cfg0.N, win0_11.index t = ![0, 0] := (by decide +kernel : ∀ t : Fin grid0.N, _)
theorem ix_12 : ∀ t : Fin cfg0.N, win0_12.index t = ![t.val, 0] := (by decide +kernel : ∀ t : Fin grid0.N, _)

theorem t_lt (t : Fin cfg0.N) : t.val < 4 := lt_of_lt_of_eq t.isLt N_0

/-- Row `r` of point `t`'s block, in the whole array, -/
abbrev rowOf (t : Fin cfg0.N) (r : Fin 512) : Fin 2048 := ⟨t.val * 512 + r.val, by have := t_lt t; omega⟩
/-- and the memory's entry `n` for the sample of row `r` of the whole array. -/
abbrev ent (x : Vec Ideal S1x32x256x4x256 .f32) (r : Fin 2048) (n : Fin 256) (j : Fin 1024) : EReal :=
  x (ix5 0 ⟨r.val / 64, by omega⟩ n (hd j) (at_ j))

/-- The host's arrays before the region, from the arguments: the rows, -/
theorem V_0 (c : Dev nD) (r : Fin 2048) (l : Fin 1024) :
    V m c main_v6 (ix2 r l) = m ((c : Thread nD τ).loc main_arg0) (ix3 ⟨r.val / 64, by omega⟩ ⟨r.val % 64, by omega⟩ l) := by
  dsimp only [V, hostOps0]
  after_results
  pointwise
/-- the branches' weights -/
theorem V_2 (c : Dev nD) (i : Fin 3) (k l : Fin 1024) : V m c main_v8 (ix3 i k l) = m ((c : Thread nD τ).loc main_arg6) (ix4 0 i k l) := by
  dsimp only [V, hostOps0]
  after_results
  pointwise
/-- and the output's. -/
theorem V_4 (c : Dev nD) (k l : Fin 1024) : V m c main_v10 (ix2 k l) = m ((c : Thread nD τ).loc main_arg7) (ix3 0 k l) := by
  dsimp only [V, hostOps0]
  after_results
  pointwise

/-- The memory's rows, keys and values. -/
theorem V_k (c : Dev nD) (r : Fin 8192) (j : Fin 1024) : V m c main_v2 (ix2 r j)
    = m ((c : Thread nD τ).loc main_arg4) (ix5 0 ⟨r.val / 256, by omega⟩ ⟨r.val % 256, by omega⟩ (hd j) (at_ j)) := by
  dsimp only [V, hostOps0]
  after_results
  pointwise
theorem V_v (c : Dev nD) (r : Fin 8192) (j : Fin 1024) : V m c main_v5 (ix2 r j)
    = m ((c : Thread nD τ).loc main_arg5) (ix5 0 ⟨r.val / 256, by omega⟩ ⟨r.val % 256, by omega⟩ (hd j) (at_ j)) := by
  dsimp only [V, hostOps0]
  after_results
  pointwise

/-- The staged blocks, from the arguments. -/
theorem iblk_0 (c : Dev nD) (t : Fin cfg0.N) (r : Fin 512) (k : Fin 1024) : iblk m c 0 t (ix2 r k)
    = m ((c : Thread nD τ).loc main_arg0) (ix3 ⟨(rowOf t r).val / 64, by omega⟩ ⟨(rowOf t r).val % 64, by omega⟩ k) := by
  rw [← V_0 m c]
  blk_simp [iblk]
  refine congrArg _ ?_
  blk_ext [ix_0]
theorem iblk_1 (c : Dev nD) (t : Fin cfg0.N) (r : Fin 512) (k : Fin 1024) :
    iblk m c 1 t (ix2 r k) = m ((c : Thread nD τ).loc main_arg1) (ix2 (rowOf t r) k) := by
  rw [← V_main_arg1 m c]
  blk_simp [iblk]
  refine congrArg _ ?_
  blk_ext [ix_1]
theorem iblk_2 (c : Dev nD) (t : Fin cfg0.N) (r : Fin 512) (k : Fin 1024) :
    iblk m c 2 t (ix2 r k) = m ((c : Thread nD τ).loc main_arg2) (ix2 (rowOf t r) k) := by
  rw [← V_main_arg2 m c]
  blk_simp [iblk]
  refine congrArg _ ?_
  blk_ext [ix_2]
theorem iblk_3 (c : Dev nD) (t : Fin cfg0.N) (r : Fin 512) (k : Fin 1024) :
    iblk m c 3 t (ix2 r k) = m ((c : Thread nD τ).loc main_arg3) (ix2 (rowOf t r) ⟨8192 + k.val, by omega⟩) := by
  rw [← V_main_arg3 m c]
  blk_simp [iblk]
  refine congrArg _ ?_
  blk_ext [ix_3]
theorem iblk_4 (c : Dev nD) (t : Fin cfg0.N) (r : Fin 512) (k : Fin 1024) :
    iblk m c 4 t (ix2 r k) = m ((c : Thread nD τ).loc main_arg3) (ix2 (rowOf t r) ⟨9216 + k.val, by omega⟩) := by
  rw [← V_main_arg3 m c]
  blk_simp [iblk]
  refine congrArg _ ?_
  blk_ext [ix_4]
theorem iblk_5 (c : Dev nD) (t : Fin cfg0.N) (r : Fin 512) (k : Fin 1024) :
    iblk m c 5 t (ix2 r k) = m ((c : Thread nD τ).loc main_arg3) (ix2 (rowOf t r) ⟨10240 + k.val, by omega⟩) := by
  rw [← V_main_arg3 m c]
  blk_simp [iblk]
  refine congrArg _ ?_
  blk_ext [ix_5]
theorem iblk_6 (c : Dev nD) (t : Fin cfg0.N) (r : Fin 512) (k : Fin 1024) :
    iblk m c 6 t (ix2 r k) = m ((c : Thread nD τ).loc main_arg3) (ix2 (rowOf t r) ⟨11264 + k.val, by omega⟩) := by
  rw [← V_main_arg3 m c]
  blk_simp [iblk]
  refine congrArg _ ?_
  blk_ext [ix_6]
theorem iblk_7 (c : Dev nD) (t : Fin cfg0.N) (r : Fin 512) (k : Fin 1024) :
    iblk m c 7 t (ix2 r k) = m ((c : Thread nD τ).loc main_arg3) (ix2 (rowOf t r) ⟨12288 + k.val, by omega⟩) := by
  rw [← V_main_arg3 m c]
  blk_simp [iblk]
  refine congrArg _ ?_
  blk_ext [ix_7]
/-- A sample's memory among the rows of its point's block. -/
theorem ent_at (t : Fin cfg0.N) (r : Fin 512) (n : Fin 256) (x : Vec Ideal S1x32x256x4x256 .f32) (j : Fin 1024) (h : t.val * 2048 + (mem (smp r) n).val < 8192) :
    x (ix5 0 ⟨(⟨t.val * 2048 + (mem (smp r) n).val, h⟩ : Fin 8192).val / 256, by omega⟩
        ⟨(⟨t.val * 2048 + (mem (smp r) n).val, h⟩ : Fin 8192).val % 256, by omega⟩ (hd j) (at_ j)) = ent x (rowOf t r) n j := by
  have e1 : (⟨(⟨t.val * 2048 + (mem (smp r) n).val, h⟩ : Fin 8192).val / 256, by omega⟩ : Fin 32) = ⟨(rowOf t r).val / 64, by omega⟩ :=
    Fin.ext (by show (t.val * 2048 + (256 * (r.val / 64) + n.val)) / 256 = (t.val * 512 + r.val) / 64; omega)
  have e2 : (⟨(⟨t.val * 2048 + (mem (smp r) n).val, h⟩ : Fin 8192).val % 256, by omega⟩ : Fin 256) = n :=
    Fin.ext (by show (t.val * 2048 + (256 * (r.val / 64) + n.val)) % 256 = n.val; omega)
  rw [e1, e2]
theorem iblk_8 (c : Dev nD) (t : Fin cfg0.N) (r : Fin 512) (n : Fin 256) (k : Fin 1024) :
    iblk m c 8 t (ix2 (mem (smp r) n) k) = ent (m ((c : Thread nD τ).loc main_arg4)) (rowOf t r) n k := by
  have ht := t_lt t
  rw [← ent_at t r n _ k (by show t.val * 2048 + (256 * (r.val / 64) + n.val) < 8192; omega), ← V_k m c]
  blk_simp [iblk]
  refine congrArg _ ?_
  blk_ext [ix_8]
theorem iblk_9 (c : Dev nD) (t : Fin cfg0.N) (r : Fin 512) (n : Fin 256) (k : Fin 1024) :
    iblk m c 9 t (ix2 (mem (smp r) n) k) = ent (m ((c : Thread nD τ).loc main_arg5)) (rowOf t r) n k := by
  have ht := t_lt t
  rw [← ent_at t r n _ k (by show t.val * 2048 + (256 * (r.val / 64) + n.val) < 8192; omega), ← V_v m c]
  blk_simp [iblk]
  refine congrArg _ ?_
  blk_ext [ix_9]
theorem iblk_10 (c : Dev nD) (t : Fin cfg0.N) (i : Fin 3) (k l : Fin 1024) :
    iblk m c 10 t (ix3 i k l) = m ((c : Thread nD τ).loc main_arg6) (ix4 0 i k l) := by
  rw [← V_2 m c]
  blk_simp [iblk]
  refine congrArg _ ?_
  blk_ext [ix_10]
theorem iblk_11 (c : Dev nD) (t : Fin cfg0.N) (k l : Fin 1024) : iblk m c 11 t (ix2 k l) = m ((c : Thread nD τ).loc main_arg7) (ix3 0 k l) := by
  rw [← V_4 m c]
  blk_simp [iblk]
  refine congrArg _ ?_
  blk_ext [ix_11]

section
variable (x : Vec Ideal S32x64x1024 .f32) (ya yb : Vec Ideal S2048x1024 .bf16) (p : Vec Ideal S2048x13312 .bf16) (k v : Vec Ideal S1x32x256x4x256 .f32)
  (wb : Vec Ideal S1x3x1024x1024 .f32) (wo : Vec Ideal S1x1024x1024 .f32)

/-- Row `r` of the output. -/
def rowK (r : Fin 2048) : Fin 1024 → EReal :=
  result (fun l => x (ix3 ⟨r.val / 64, by omega⟩ ⟨r.val % 64, by omega⟩ l))
    (merged ![fun l => p (ix2 r ⟨10240 + l.val, by omega⟩), fun l => p (ix2 r ⟨11264 + l.val, by omega⟩), fun l => p (ix2 r ⟨12288 + l.val, by omega⟩)]
      (fun j => ya (ix2 r j)) (fun j => yb (ix2 r j))
      (branchK (fun j => p (ix2 r ⟨8192 + j.val, by omega⟩)) (fun j => p (ix2 r ⟨9216 + j.val, by omega⟩))
        (ent k r) (ent v r))
      fun i j l => wb (ix4 0 i j l)) fun j l => wo (ix3 0 j l)

/-- The output. -/
def arrayK : S2048x1024.Idx → EReal := fun i => rowK x ya yb p k v wb wo (i 0) (i 1)
end

/-- What each point's block holds, of that array. -/
theorem blk_y (c : Dev nD) (t : Fin cfg0.N) (r : Fin 512) (l : Fin 1024) :
    out0_12 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (ix2 r l)
      = arrayK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (ix2 (rowOf t r) l) := by
  refine (out_apply _ _ _ _ _ _ _ _ _ _ _ _ r l).trans ?_
  simp only [iblk_0, iblk_1, iblk_2, iblk_3, iblk_4, iblk_5, iblk_6, iblk_7, iblk_8 m c t r, iblk_9 m c t r, iblk_10, iblk_11]
  rfl

theorem eta2 {n0 n1 : Nat} (y : (Shape.mk 2 ![n0, n1]).Idx) : y = ix2 (y 0) (y 1) := by
  funext a; fin_cases a <;> rfl

/-- The kernel's result holds that array of its arguments. -/
theorem final_y (c : Dev nD) : (dats m 0 c).arrAt 12 cfg0.N
      = arrayK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (dats m 0 c).arrAt_eq_of_covers 12 _ (by decide +kernel) fun t hf y => ?_
  blk_simp
  rw [after0_12]
  refine (congrArg _ (eta2 (n0 := 512) (n1 := 1024) y)).trans ((blk_y m c t (y 0) (y 1)).trans (congrArg _ ?_))
  blk_ext [ix_12]

end Cert.MergeSHand

end
-- ==== Proof.MergeSRead.lean ====
/-
  What the reference of the merge for the sampled frames computes, at an index.
-/
module

public import proofs.«01_k».proof.Proof.MergeSpec
public import proofs.«01_k».proof.Proof.InProjSpec
public import proofs.«01_k».proof.Proof.Gen.MergeSRefIdeal.Read
public import Idealize.ShloMosaic.Lib.Pipeline.Value

@[expose] public section

set_option maxRecDepth 16384

noncomputable section

namespace Cert.MergeSHandRef

open Cert.MergeSRefIdeal Cert.MergeSRefIdeal.Gen Cert.MergeSRefIdeal.Read Idealize.ShloMosaic Idealize.ShloMosaic.TcCoe Idealize.ShloMosaic.Tactic Idealize.SL.Sem
open Cert.AttnSpec (top ix2_congr)
open Cert.MergeSpec (softR memR merged result col hd at_ score branchR)

variable (x0 : Vec Ideal S32x64x1024 .f32) (x1 x2 : Vec Ideal S2048x1024 .bf16) (x3 : Vec Ideal S2048x13312 .bf16) (x4 x5 : Vec Ideal S1x32x256x4x256 .f32)
  (x6 : Vec Ideal S1x3x1024x1024 .f32) (x7 : Vec Ideal S1x1024x1024 .f32)

/-- The row of batch `b`'s token `t`, and its memory's entry `n`. -/
abbrev tok (b : Fin 32) (t : Fin 64) : Fin 2048 := ⟨64 * b.val + t.val, by omega⟩
abbrev ent (x : Vec Ideal S1x32x256x4x256 .f32) (b : Fin 32) (n : Fin 256) (j : Fin 1024) : EReal := x (ix5 0 b n (hd j) (at_ j))

theorem hd_col (h : Fin 4) (d : Fin 256) : hd (col h d) = h := Fin.ext (by simp; omega)
theorem at_col (h : Fin 4) (d : Fin 256) : at_ (col h d) = d := Fin.ext (by simp)

/-- The queries, -/
theorem q_apply (b : Fin 32) (t : Fin 64) (h : Fin 4) (d : Fin 256) :
    val_main_v2 (F := Ideal) x3 (ix4 b t h d) = x3 (ix2 (tok b t) ⟨8192 + (col h d).val, by omega⟩) := by
  unfold val_main_v2 val_main_v1 val_main_v0
  pointwise
  exact congrArg x3 (ix2_congr (by simp; omega) (by simp; omega))
/-- the gate path, -/
theorem z_apply (b : Fin 32) (t : Fin 64) (j : Fin 1024) : val_main_v4 (F := Ideal) x3 (ix3 b t j) = x3 (ix2 (tok b t) ⟨9216 + j.val, by omega⟩) := by
  unfold val_main_v4 val_main_v3 val_main_v0
  pointwise
  exact congrArg x3 (ix2_congr (by simp; omega) (by simp))
/-- the keys -/
theorem k_apply (b : Fin 32) (n : Fin 256) (h : Fin 4) (d : Fin 256) : val_main_v7 (F := Ideal) x4 (ix4 b n h d) = ent x4 b n (col h d) := by
  unfold val_main_v7
  pointwise
  unfold ent
  rw [hd_col, at_col]
/-- and the values. -/
theorem v_apply (b : Fin 32) (n : Fin 256) (h : Fin 4) (d : Fin 256) : val_main_v23 (F := Ideal) x5 (ix4 b n h d) = ent x5 b n (col h d) := by
  unfold val_main_v23
  pointwise
  unfold ent
  rw [hd_col, at_col]

/-- The scores in base two, of batch `b`, token `t`, head `h`. -/
abbrev P (b : Fin 32) (t : Fin 64) (h : Fin 4) : Fin 256 → EReal :=
  score (fun j => x3 (ix2 (tok b t) ⟨8192 + j.val, by omega⟩)) (fun n j => ent x4 b n j) h

theorem score_apply (b : Fin 32) (h : Fin 4) (t : Fin 64) (n : Fin 256) : val_main_v8 (F := Ideal) x3 x4 (ix4 b h t n) = P x3 x4 b t h n := by
  unfold val_main_v8
  pointwise
  simp only [q_apply, k_apply]
  rfl

theorem ln2_apply (i : S_.Idx) : val_main_v9 (F := Ideal) i = (Real.log 2 : EReal) := by
  unfold val_main_v9 val_main_cst
  pointwise
  show Ideal.log (Ideal.ofBits .f32 0x40000000#32) = _
  have e : Ideal.ofBits .f32 0x40000000#32 = ((2 : ℝ) : EReal) := by
    simp [Ideal.ofBits, Ideal.ieee, -EReal.coe_mul]; norm_num
  rw [e, Ideal.log_coe, if_neg (by norm_num)]

theorem scaled_apply (b : Fin 32) (h : Fin 4) (t : Fin 64) (n : Fin 256) :
    val_main_v11 (F := Ideal) x3 x4 (ix4 b h t n) = P x3 x4 b t h n * (Real.log 2 : EReal) := by
  rw [val_main_v11_apply, score_apply, val_main_v10_apply, ln2_apply]
  rfl

theorem maxOver_apply (y : FVec Ideal S32x4x64x256 .f32) (z : FVec Ideal S_ .f32) (b : Fin 32) (h : Fin 4) (t : Fin 64) :
    Host.reduce FloatOps.maximumf y z reducesTo_S32x4x64x256_S32x4x64_d3 h_S_ (ix3 b h t)
      = Finset.univ.fold max (z ix0) (fun n : Fin 256 => y (ix4 b h t n)) := by
  pointwise
  exact congrArg (fun i => Finset.univ.fold max (z i) _) (Subsingleton.elim _ _)

theorem max_apply (b : Fin 32) (h : Fin 4) (t : Fin 64) :
    val_main_v14 (F := Ideal) x3 x4 (ix3 b h t) = top fun n => P x3 x4 b t h n * (Real.log 2 : EReal) := by
  rw [val_main_v14_apply, val_main_v13_apply]
  have e : val_main_v12 (F := Ideal) x3 x4 (ix3 b h t) = top fun n => P x3 x4 b t h n * (Real.log 2 : EReal) := by
    unfold val_main_v12
    rw [maxOver_apply]
    simp only [scaled_apply]
    show Finset.univ.fold max (Ideal.ofBits .f32 0xFF800000#32) _ = _
    rw [InProjSpec.negInf]
    rfl
  rw [e]
  show max (Ideal.ofBits .f32 0xFF800000#32) _ = _
  rw [InProjSpec.negInf, max_eq_right bot_le]

theorem soft_apply (b : Fin 32) (h : Fin 4) (t : Fin 64) (n : Fin 256) :
    val_main_v22 (F := Ideal) x3 x4 (ix4 b h t n) = softR (P x3 x4 b t h) n := by
  unfold val_main_v22 val_main_v21 val_main_v20 val_main_v19 val_main_v18 val_main_v17 val_main_v16 val_main_v15 val_main_cst_2
  pointwise
  simp only [scaled_apply, max_apply]
  rfl

theorem att_apply (b : Fin 32) (t : Fin 64) (j : Fin 1024) :
    val_main_v26 (F := Ideal) x3 x4 x5 (ix3 b t j) = memR (P x3 x4 b t (hd j)) (fun n => ent x5 b n j) := by
  unfold val_main_v26 val_main_v25 val_main_v24
  pointwise
  simp only [v_apply, soft_apply]
  have e : ∀ (h : Fin 4) (d : Fin 256), h.val = j.val / 256 → d.val = j.val % 256 → ∀ b' : Fin 32, b' = b → ∀ t' : Fin 64, t' = t →
      (∑ n, ent x5 b' n (col h d) * softR (P x3 x4 b' t' h) n) = memR (P x3 x4 b t (hd j)) (fun n => ent x5 b n j) := by
    rintro h d h1 h2 b' rfl t' rfl
    obtain rfl : h = hd j := Fin.ext h1
    obtain rfl : d = at_ j := Fin.ext h2
    have hc : col (hd j) (at_ j) = j := Fin.ext (by simp; omega)
    rw [hc]
    exact Finset.sum_congr rfl fun _ _ => mul_comm _ _
  exact e _ _ rfl rfl _ rfl _ rfl

theorem gate0_apply (b : Fin 32) (t : Fin 64) (l : Fin 1024) : val_main_v28 (F := Ideal) x3 (ix3 b t l) = x3 (ix2 (tok b t) ⟨10240 + l.val, by omega⟩) := by
  unfold val_main_v28 val_main_v27 val_main_v6 val_main_v5 val_main_v0
  pointwise
  exact congrArg x3 (ix2_congr (by simp; omega) (by simp <;> omega))
theorem gate1_apply (b : Fin 32) (t : Fin 64) (l : Fin 1024) : val_main_v36 (F := Ideal) x3 (ix3 b t l) = x3 (ix2 (tok b t) ⟨11264 + l.val, by omega⟩) := by
  unfold val_main_v36 val_main_v35 val_main_v6 val_main_v5 val_main_v0
  pointwise
  exact congrArg x3 (ix2_congr (by simp; omega) (by simp <;> omega))
theorem gate2_apply (b : Fin 32) (t : Fin 64) (l : Fin 1024) : val_main_v45 (F := Ideal) x3 (ix3 b t l) = x3 (ix2 (tok b t) ⟨12288 + l.val, by omega⟩) := by
  unfold val_main_v45 val_main_v44 val_main_v6 val_main_v5 val_main_v0
  pointwise
  exact congrArg x3 (ix2_congr (by simp; omega) (by simp <;> omega))

theorem proj0_apply (b : Fin 32) (t : Fin 64) (l : Fin 1024) : val_main_v33 (F := Ideal) x1 x6 (ix3 b t l) = ∑ j, x1 (ix2 (tok b t) j) * x6 (ix4 0 0 j l) := by
  unfold val_main_v33 val_main_v32 val_main_v31 val_main_v30 val_main_v29
  pointwise
  exact Finset.sum_congr rfl fun j _ => congrArg (· * _) (congrArg x1 (ix2_congr (by simp; omega) rfl))
theorem proj1_apply (b : Fin 32) (t : Fin 64) (l : Fin 1024) : val_main_v41 (F := Ideal) x2 x6 (ix3 b t l) = ∑ j, x2 (ix2 (tok b t) j) * x6 (ix4 0 1 j l) := by
  unfold val_main_v41 val_main_v40 val_main_v39 val_main_v38 val_main_v37
  pointwise
  exact Finset.sum_congr rfl fun j _ => congrArg (· * _) (congrArg x2 (ix2_congr (by simp; omega) rfl))
theorem proj2_apply (b : Fin 32) (t : Fin 64) (l : Fin 1024) : val_main_v49 (F := Ideal) x3 x4 x5 x6 (ix3 b t l)
    = ∑ j, branchR (fun j => x3 (ix2 (tok b t) ⟨8192 + j.val, by omega⟩)) (fun j => x3 (ix2 (tok b t) ⟨9216 + j.val, by omega⟩))
        (fun n j => ent x4 b n j) (fun n j => ent x5 b n j) j * x6 (ix4 0 2 j l) := by
  unfold val_main_v49 val_main_v48 val_main_v47 val_main_v46
  pointwise
  simp only [att_apply, z_apply]
  rfl

/-- The merged branches. -/
theorem merged_apply (b : Fin 32) (t : Fin 64) (l : Fin 1024) : val_main_v51 (F := Ideal) x1 x2 x3 x4 x5 x6 (ix3 b t l)
    = merged ![fun l => x3 (ix2 (tok b t) ⟨10240 + l.val, by omega⟩), fun l => x3 (ix2 (tok b t) ⟨11264 + l.val, by omega⟩), fun l => x3 (ix2 (tok b t) ⟨12288 + l.val, by omega⟩)]
        (fun j => x1 (ix2 (tok b t) j)) (fun j => x2 (ix2 (tok b t) j))
        (branchR (fun j => x3 (ix2 (tok b t) ⟨8192 + j.val, by omega⟩)) (fun j => x3 (ix2 (tok b t) ⟨9216 + j.val, by omega⟩))
          (fun n j => ent x4 b n j) (fun n j => ent x5 b n j)) (fun i j l => x6 (ix4 0 i j l)) l := by
  unfold val_main_v51 val_main_v50 val_main_v43 val_main_v42 val_main_v34
  pointwise
  simp only [gate0_apply, gate1_apply, gate2_apply, proj0_apply, proj1_apply, proj2_apply]
  rfl

/-- Row `r` of the reference's result. -/
def rowR (r : Fin 2048) : Fin 1024 → EReal :=
  result (fun l => x0 (ix3 ⟨r.val / 64, by omega⟩ ⟨r.val % 64, by omega⟩ l))
    (merged ![fun l => x3 (ix2 r ⟨10240 + l.val, by omega⟩), fun l => x3 (ix2 r ⟨11264 + l.val, by omega⟩), fun l => x3 (ix2 r ⟨12288 + l.val, by omega⟩)]
      (fun j => x1 (ix2 r j)) (fun j => x2 (ix2 r j))
      (branchR (fun j => x3 (ix2 r ⟨8192 + j.val, by omega⟩)) (fun j => x3 (ix2 r ⟨9216 + j.val, by omega⟩))
        (fun n j => ent x4 ⟨r.val / 64, by omega⟩ n j) (fun n j => ent x5 ⟨r.val / 64, by omega⟩ n j))
      fun i j l => x6 (ix4 0 i j l)) fun j l => x7 (ix3 0 j l)

theorem result_apply (r : Fin 2048) (l : Fin 1024) :
    val_main_v55 (F := Ideal) x0 x1 x2 x3 x4 x5 x6 x7 (ix2 r l) = rowR x0 x1 x2 x3 x4 x5 x6 x7 r l := by
  unfold val_main_v55 val_main_v54 val_main_v53 val_main_v52
  pointwise
  simp only [merged_apply]
  have hr : tok ⟨r.val / 64, by omega⟩ ⟨r.val % 64, by omega⟩ = r := Fin.ext (by simp; omega)
  rw [hr]
  rfl

end Cert.MergeSHandRef

end
-- ==== Proof.MergeSClaim.lean ====
/-
  The claims of the merge for the sampled frames: the frames, and that the kernel's result is the reference's where the memory attention's queries
  and keys are finite.
-/
module

public import proofs.«01_k».proof.Defs
public import proofs.«01_k».proof.Proof.AttnClaim
public import proofs.«01_k».proof.Proof.MergeSArray
public import proofs.«01_k».proof.Proof.MergeSRead
public import proofs.«01_k».proof.Proof.Gen.MergeSRefIdeal.Run
public import proofs.«01_k».proof.Proof.Gen.Pre_merges_finite
public import proofs.«01_k».proof.Proof.Gen.MergeS.Frame

@[expose] public section

set_option maxRecDepth 16384

noncomputable section

namespace Cert.MergeSClaims

open Idealize.ShloMosaic Idealize.ShloMosaic.TcCoe Idealize.SL.Sem
open Cert.Pre_merges_finite Cert.Pre_merges_finite.Gen

variable {x : FVec Ideal S32x64x1024 .f32} {ya yb : FVec Ideal S2048x1024 .bf16} {p : FVec Ideal S2048x13312 .bf16}
  {k v : FVec Ideal S1x32x256x4x256 .f32} {wb : FVec Ideal S1x3x1024x1024 .f32} {wo : FVec Ideal S1x1024x1024 .f32}

/-- Under the precondition the queries are finite, -/
theorem queries_finite (h : (fn (F := Ideal) x ya yb p k v wb wo).1 = fun _ => 1#1) (r : Fin 2048) (j : Fin 1024) :
    p (ix2 r ⟨8192 + j.val, by omega⟩) ≠ ⊤ ∧ p (ix2 r ⟨8192 + j.val, by omega⟩) ≠ ⊥ := by
  have hi := congrFun h (ix2 r j)
  unfold fn at hi
  dsimp only at hi
  pointwise at hi
  have e : Ideal.ofBits .bf16 0x7F80#16 = ⊤ := by simp [Ideal.ofBits, Ideal.ieee]
  rw [e] at hi
  exact Cert.Pre_attn_finite.finite_of_lt hi

/-- and the memory's keys. -/
theorem keys_finite (h : (fn (F := Ideal) x ya yb p k v wb wo).2 = fun _ => 1#1) (i : S1x32x256x4x256.Idx) : k i ≠ ⊤ ∧ k i ≠ ⊥ := by
  have hi := congrFun h i
  unfold fn at hi
  dsimp only at hi
  pointwise at hi
  have e : Ideal.ofBits .f32 0x7F800000#32 = ⊤ := by simp [Ideal.ofBits, Ideal.ieee]
  rw [e] at hi
  exact Cert.Pre_attn_finite.finite_of_lt hi

/-- Under it a row of the reference's result is the kernel's. -/
theorem rows (h₁ : (fn (F := Ideal) x ya yb p k v wb wo).1 = fun _ => 1#1) (h₂ : (fn (F := Ideal) x ya yb p k v wb wo).2 = fun _ => 1#1)
    (r : Fin 2048) : Cert.MergeSHandRef.rowR x ya yb p k v wb wo r = Cert.MergeSHand.rowK x ya yb p k v wb wo r := by
  have hb := Cert.MergeSpec.branch_eq (fun j => p (ix2 r ⟨8192 + j.val, by omega⟩)) (fun j => p (ix2 r ⟨9216 + j.val, by omega⟩))
    (Cert.MergeSHand.ent k r) (Cert.MergeSHand.ent v r) (fun j => queries_finite h₁ r j) fun n j => keys_finite h₂ _
  unfold Cert.MergeSHandRef.rowR Cert.MergeSHand.rowK
  rw [show Cert.MergeSpec.branchK _ _ _ _ = _ from funext fun j => congrFun hb j]

/-- From the same arguments the kernel's array and the reference's are one. -/
theorem arrays (h₁ : (fn (F := Ideal) x ya yb p k v wb wo).1 = fun _ => 1#1) (h₂ : (fn (F := Ideal) x ya yb p k v wb wo).2 = fun _ => 1#1) :
    Cert.MergeSRefIdeal.Read.val_main_v55 (F := Ideal) x ya yb p k v wb wo = Cert.MergeSHand.arrayK x ya yb p k v wb wo := by
  funext i
  refine (congrArg _ (Cert.MergeSHand.eta2 (n0 := 2048) (n1 := 1024) i)).trans ((Cert.MergeSHandRef.result_apply x ya yb p k v wb wo (i 0) (i 1)).trans ?_)
  exact congrFun (rows h₁ h₂ (i 0)) (i 1)

/-- The kernel runs safely, and so does the kernel read over the extended reals, -/
theorem frame : Cert.quiescent_MergeS := fun m ρ _ => Cert.MergeS.Gen.frame m ρ
theorem frameIdeal : Cert.quiescent_MergeSIdeal := fun m ρ _ => Cert.MergeSIdeal.Gen.frame m ρ
theorem frameIdealPre : Cert.quiescent_MergeSIdeal_pre_merges_finite := fun m ρ _ => Cert.MergeSIdeal.Gen.frame m ρ
/-- and its reference. -/
theorem frameRef : Cert.quiescent_MergeSRefIdeal := fun m ρ _ =>
  (θ_run Cert.MergeSRefIdeal.defs _ _).mono (fun r h => ⟨fun c => (h c).2, sem_eq_zero_of_no_sems (by decide) r.2⟩)
    (Cert.MergeSRefIdeal.Value.run (F := Ideal) m ρ)
theorem frameRefPre : Cert.quiescent_MergeSRefIdeal_pre_merges_finite := fun m ρ _ => frameRef m ρ trivial

/-- From equal arguments the kernel's result is the reference's. -/
theorem algebraic : Cert.algebraic_MergeSIdeal_MergeSRefIdeal_pre_merges_finite := by
  intro m ρ m' ρ' hpre hag
  refine ⟨fun c => Cert.MergeSHand.arrayK (m ((c : Thread Cert.MergeSIdeal.nD Cert.MergeSIdeal.τ).loc Cert.MergeSIdeal.main_arg0))
      (m ((c : Thread Cert.MergeSIdeal.nD Cert.MergeSIdeal.τ).loc Cert.MergeSIdeal.main_arg1))
      (m ((c : Thread Cert.MergeSIdeal.nD Cert.MergeSIdeal.τ).loc Cert.MergeSIdeal.main_arg2))
      (m ((c : Thread Cert.MergeSIdeal.nD Cert.MergeSIdeal.τ).loc Cert.MergeSIdeal.main_arg3))
      (m ((c : Thread Cert.MergeSIdeal.nD Cert.MergeSIdeal.τ).loc Cert.MergeSIdeal.main_arg4))
      (m ((c : Thread Cert.MergeSIdeal.nD Cert.MergeSIdeal.τ).loc Cert.MergeSIdeal.main_arg5))
      (m ((c : Thread Cert.MergeSIdeal.nD Cert.MergeSIdeal.τ).loc Cert.MergeSIdeal.main_arg6))
      (m ((c : Thread Cert.MergeSIdeal.nD Cert.MergeSIdeal.τ).loc Cert.MergeSIdeal.main_arg7)), ?_, ?_⟩
  · exact (θ_run Cert.MergeSIdeal.defs _ _).mono (fun _ h c => ⟨(h c).1.trans (Cert.MergeSHand.final_y m c), (h c).2⟩)
      (Cert.MergeSIdeal.Value.run_blocks (F := Ideal) m ρ)
  · refine (θ_run Cert.MergeSRefIdeal.defs _ _).mono (fun _ h c => ⟨((h c).1.trans (Cert.MergeSRefIdeal.Read.val_main_v55_eq m' c)).trans ?_, (h c).2⟩)
      (Cert.MergeSRefIdeal.Value.run (F := Ideal) m' ρ')
    obtain ⟨e0, e1, e2, e3, e4, e5, e6, e7⟩ := hag c
    rw [e0, e1, e2, e3, e4, e5, e6, e7]
    exact arrays (hpre c).1 (hpre c).2

end Cert.MergeSClaims

end
-- ==== Proof.HgrnOSpec.lean ====
/-
  The mathematics of the recurrence's output over 64 frames, one column of values at a time, for the two ways of writing it: the
  attention among all frames at once with the state before them, and four blocks of 16 with the state before each. No program is
  named here.
-/
module

public import proofs.«01_k».proof.Proof.AttnSpec
public import proofs.«01_k».proof.Proof.HgrnSpec

@[expose] public section

noncomputable section

namespace Cert.HgrnOSpec

open Idealize.ShloMosaic
open Cert.HgrnSpec

/-- The point that the kernel takes the exponents of block `n` from. -/
def anc (b : Fin 64 → EReal) (n : Fin 4) : EReal := if h : n.val = 0 then 0 else b ⟨16 * n.val - 1, by omega⟩

/-- The kernel's attention of frame `j` of block `n` to frame `s`, from queries `q`, keys `κ` and running sums `b` of the lanes. -/
def attK (q κ b : Fin 128 → Fin 64 → EReal) (n : Fin 4) (j : Fin 16) (s : Fin 64) : EReal :=
  if s.val ≤ 16 * n.val + j.val then
    ∑ x, q x (at_ n j) * Ideal.exp (b x (at_ n j) - anc (b x) n)
      * (κ x s * Ideal.exp (if s.val < 16 * n.val + 16 then anc (b x) n - b x s else 0))
  else 0

/-- The kernel's output before the norm, from values `ω` and states `σ`. -/
def outK (q κ g : Fin 128 → Fin 64 → EReal) (ω : Fin 64 → EReal) (σ : Fin 128 → EReal) (n : Fin 4) (j : Fin 16) : EReal :=
  ∑ x, q x (at_ n j) * Ideal.exp (runK (g x) (at_ n j)) * σ x + ∑ s, attK q κ (fun x => runK (g x)) n j s * ω s

/-- The attention within a block. -/
def attR (q κ g : Fin 128 → Fin 64 → EReal) (n : Fin 4) (j y : Fin 16) : EReal :=
  if y.val ≤ j.val then
    ∑ x, q x (at_ n j) * Ideal.exp (runR (g x) n j) * (κ x (at_ n y) * Ideal.exp (-runR (g x) n y))
  else 0

/-- The state of a lane before block `n`. -/
def before (κ ω g : Fin 64 → EReal) (s0 : EReal) : Fin 4 → EReal :=
  ![s0, stepR κ ω g 0 s0, stepR κ ω g 1 (stepR κ ω g 0 s0), stepR κ ω g 2 (stepR κ ω g 1 (stepR κ ω g 0 s0))]

/-- The output before the norm, block by block. -/
def outR (q κ g : Fin 128 → Fin 64 → EReal) (ω : Fin 64 → EReal) (σ : Fin 128 → EReal) (n : Fin 4) (j : Fin 16) : EReal :=
  ∑ y, attR q κ g n j y * ω (at_ n y) + ∑ x, q x (at_ n j) * Ideal.exp (runR (g x) n j) * before (κ x) ω (g x) (σ x) n

/-- What frame `s` adds to the output of a frame with queries `θ` after `T` frames, in the reals. -/
def add (θ : Fin 128 → ℝ) (k γ : Fin 128 → Fin 64 → ℝ) (w : Fin 64 → ℝ) (T s : ℕ) : ℝ :=
  (∑ x, θ x * ext (k x) s * Real.exp (P (γ x) T - P (γ x) (s + 1))) * ext w s

/-- The output as one sum. -/
def whole (θ : Fin 128 → ℝ) (k γ : Fin 128 → Fin 64 → ℝ) (w : Fin 64 → ℝ) (σ : Fin 128 → EReal) (T : ℕ) : EReal :=
  ∑ x, ((θ x * Real.exp (P (γ x) T) : ℝ) : EReal) * σ x + ((∑ s ∈ Finset.range T, add θ k γ w T s : ℝ) : EReal)

theorem ext_coe (f : Fin 64 → ℝ) (n : ℕ) : ext (fun x => (f x : EReal)) n = ((ext f n : ℝ) : EReal) := by
  unfold ext
  split <;> simp

theorem ext_at (f : Fin 64 → ℝ) (n : Fin 4) (y : Fin 16) : f (at_ n y) = ext f (16 * n.val + y.val) := (ext_val f (at_ n y)).symm

/-- A real times a sum with a real summand. -/
theorem mul_add_coe (a r : ℝ) (x : EReal) : (a : EReal) * (x + (r : EReal)) = (a : EReal) * x + ((a * r : ℝ) : EReal) := by
  induction x with
  | coe x => rw [← EReal.coe_add, ← EReal.coe_mul, ← EReal.coe_mul, ← EReal.coe_add, mul_add]
  | top =>
    rw [EReal.top_add_coe]
    rcases lt_trichotomy a 0 with h | h | h
    · rw [EReal.coe_mul_top_of_neg h, EReal.bot_add]
    · subst h; simp
    · rw [EReal.coe_mul_top_of_pos h, EReal.top_add_coe]
  | bot =>
    rw [EReal.bot_add]
    rcases lt_trichotomy a 0 with h | h | h
    · rw [EReal.coe_mul_bot_of_neg h, EReal.top_add_coe]
    · subst h; simp
    · rw [EReal.coe_mul_bot_of_pos h, EReal.bot_add]

theorem anc_real (γ : Fin 64 → ℝ) (n : Fin 4) : anc (runK (fun y => (γ y : EReal))) n = ((P γ (16 * n.val) : ℝ) : EReal) := by
  unfold anc
  split
  · next h => simp [h, P]
  · next h =>
    rw [runK_real]
    show ((P γ (16 * n.val - 1 + 1) : ℝ) : EReal) = _
    rw [Nat.sub_add_cancel (by omega)]

theorem before_closed (κ ω : Fin 64 → EReal) (γ : Fin 64 → ℝ) (s0 : EReal) (n : Fin 4) :
    before κ ω (fun x => (γ x : EReal)) s0 n = closed κ ω γ s0 (16 * n.val) := by
  have h0 : closed κ ω γ s0 (16 * (0 : Fin 4).val) = s0 := by
    show closed κ ω γ s0 0 = s0
    simp [closed, P]
  have e0 := stepR_closed κ ω γ s0 0
  have e1 := stepR_closed κ ω γ s0 1
  have e2 := stepR_closed κ ω γ s0 2
  rw [h0] at e0
  fin_cases n
  · exact h0.symm
  · exact e0
  · exact (congrArg _ e0).trans e1
  · exact (congrArg _ ((congrArg _ e0).trans e1)).trans e2

variable (q k γ : Fin 128 → Fin 64 → ℝ) (w : Fin 64 → ℝ) (σ : Fin 128 → EReal) (n : Fin 4) (j : Fin 16)

theorem outK_whole : outK (fun x y => (q x y : EReal)) (fun x y => (k x y : EReal)) (fun x y => (γ x y : EReal)) (fun y => (w y : EReal)) σ n j
    = whole (fun x => q x (at_ n j)) k γ w σ (16 * n.val + j.val + 1) := by
  unfold outK whole
  refine congrArg₂ _ (Finset.sum_congr rfl fun x _ => ?_) ?_
  · rw [runK_real, Ideal.exp_coe, ← EReal.coe_mul]
  · rw [← sum_le (add (fun x => q x (at_ n j)) k γ w (16 * n.val + j.val + 1)) 64 (16 * n.val + j.val) (by omega), ← coe_sum]
    refine Finset.sum_congr rfl fun s _ => ?_
    unfold attK
    split
    · next h =>
      simp only [if_pos (show s.val < 16 * n.val + 16 by omega), anc_real, runK_real, ← EReal.coe_sub, Ideal.exp_coe, ← EReal.coe_mul, coe_sum]
      unfold add
      rw [ext_val]
      congr 2
      refine Finset.sum_congr rfl fun x _ => ?_
      rw [ext_val, show P (γ x) (16 * n.val + j.val + 1) - P (γ x) (s.val + 1)
        = (P (γ x) (16 * n.val + j.val + 1) - P (γ x) (16 * n.val)) + (P (γ x) (16 * n.val) - P (γ x) (s.val + 1)) by ring, Real.exp_add]
      ring
    · next h => simp

theorem outR_whole : outR (fun x y => (q x y : EReal)) (fun x y => (k x y : EReal)) (fun x y => (γ x y : EReal)) (fun y => (w y : EReal)) σ n j
    = whole (fun x => q x (at_ n j)) k γ w σ (16 * n.val + j.val + 1) := by
  unfold outR whole
  have hs : ∀ x, (q x (at_ n j) : EReal) * Ideal.exp (runR (fun y => (γ x y : EReal)) n j)
        * before (fun y => (k x y : EReal)) (fun y => (w y : EReal)) (fun y => (γ x y : EReal)) (σ x) n
      = ((q x (at_ n j) * Real.exp (P (γ x) (16 * n.val + j.val + 1)) : ℝ) : EReal) * σ x
        + ((∑ s ∈ Finset.range (16 * n.val), q x (at_ n j) * ext (k x) s * Real.exp (P (γ x) (16 * n.val + j.val + 1) - P (γ x) (s + 1)) * ext w s : ℝ) : EReal) := by
    intro x
    rw [before_closed, runR_real, Ideal.exp_coe, ← EReal.coe_mul]
    unfold closed
    simp only [ext_coe, ← EReal.coe_mul, coe_sum]
    rw [mul_add_coe, ← mul_assoc, ← EReal.coe_mul, Finset.mul_sum]
    refine congrArg₂ _ (congrArg₂ _ (congrArg _ ?_) rfl) (congrArg _ (Finset.sum_congr rfl fun s _ => ?_))
    · rw [mul_assoc, ← Real.exp_add]
      congr 2
      ring
    · rw [show P (γ x) (16 * n.val + j.val + 1) - P (γ x) (s + 1)
        = (P (γ x) (16 * n.val + j.val + 1) - P (γ x) (16 * n.val)) + (P (γ x) (16 * n.val) - P (γ x) (s + 1)) by ring, Real.exp_add]
      ring
  have ha : ∑ y, attR (fun x y => (q x y : EReal)) (fun x y => (k x y : EReal)) (fun x y => (γ x y : EReal)) n j y * (w (at_ n y) : EReal)
      = ((∑ y ∈ Finset.range (j.val + 1), add (fun x => q x (at_ n j)) k γ w (16 * n.val + j.val + 1) (16 * n.val + y) : ℝ) : EReal) := by
    rw [← sum_le (fun y => add (fun x => q x (at_ n j)) k γ w (16 * n.val + j.val + 1) (16 * n.val + y)) 16 j.val j.isLt, ← coe_sum]
    refine Finset.sum_congr rfl fun y _ => ?_
    unfold attR
    split
    · next h =>
      simp only [runR_real, ← EReal.coe_neg, Ideal.exp_coe, ← EReal.coe_mul, coe_sum]
      unfold add
      rw [ext_at w n y]
      congr 2
      refine Finset.sum_congr rfl fun x _ => ?_
      rw [ext_at (k x) n y, show P (γ x) (16 * n.val + j.val + 1) - P (γ x) (16 * n.val + y.val + 1)
        = (P (γ x) (16 * n.val + j.val + 1) - P (γ x) (16 * n.val)) + -(P (γ x) (16 * n.val + y.val + 1) - P (γ x) (16 * n.val)) by ring,
        Real.exp_add]
      ring
    · next h => simp
  refine (congrArg₂ _ ha (Finset.sum_congr rfl fun x _ => hs x)).trans ?_
  rw [Finset.sum_add_distrib, coe_sum, add_left_comm, ← EReal.coe_add]
  refine congrArg (fun r : ℝ => _ + (r : EReal)) ?_
  rw [add_assoc (16 * n.val), Finset.sum_range_add _ (16 * n.val) (j.val + 1), Finset.sum_comm]
  refine (add_comm _ _).trans (congrArg₂ _ (Finset.sum_congr rfl fun s _ => ?_) rfl)
  unfold add
  rw [Finset.sum_mul]

/-- An extended real that is an infinity. -/
def Inf (x : EReal) : Prop := x = ⊤ ∨ x = ⊥

theorem inf_coe (a : ℝ) : ¬Inf (a : EReal) := fun h => h.elim (EReal.coe_ne_top a) (EReal.coe_ne_bot a)

theorem inf_zero : ¬Inf 0 := inf_coe 0

theorem inf_add (x y : EReal) : Inf (x + y) ↔ Inf x ∨ Inf y := by
  unfold Inf
  induction x <;> induction y <;> simp [← EReal.coe_add, EReal.coe_ne_top, EReal.coe_ne_bot]

theorem inf_sum {ι : Type} (s : Finset ι) (f : ι → EReal) : Inf (∑ k ∈ s, f k) ↔ ∃ k ∈ s, Inf (f k) := by
  classical
  induction s using Finset.induction_on with
  | empty => simp [inf_zero]
  | insert b s hb ih => rw [Finset.sum_insert hb, inf_add, ih]; simp

theorem inf_mul (a : ℝ) (x : EReal) : Inf ((a : EReal) * x) ↔ a ≠ 0 ∧ Inf x := by
  rcases lt_trichotomy a 0 with h | h | h
  · induction x
    · rw [EReal.coe_mul_bot_of_neg h]; simp [Inf, h.ne]
    · rw [← EReal.coe_mul]; exact iff_of_false (inf_coe _) fun h => inf_coe _ h.2
    · rw [EReal.coe_mul_top_of_neg h]; simp [Inf, h.ne]
  · subst h; simp [inf_zero]
  · induction x
    · rw [EReal.coe_mul_bot_of_pos h]; simp [Inf, h.ne']
    · rw [← EReal.coe_mul]; exact iff_of_false (inf_coe _) fun h => inf_coe _ h.2
    · rw [EReal.coe_mul_top_of_pos h]; simp [Inf, h.ne']

theorem inf_mul' (a : ℝ) (x : EReal) : Inf (x * (a : EReal)) ↔ Inf x ∧ a ≠ 0 := by rw [mul_comm, inf_mul, and_comm]

theorem toReal_of (x : EReal) (h : ¬Inf x) : ((x.toReal : ℝ) : EReal) = x :=
  EReal.coe_toReal (fun e => h (.inl e)) fun e => h (.inr e)

/-- The frames and lanes at which an infinite key reaches the output. -/
def Hit (κ : Fin 128 → Fin 64 → EReal) (θ : Fin 128 → ℝ) (w : Fin 64 → ℝ) (T : ℕ) : Prop :=
  ∃ (y : Fin 64) (x : Fin 128), y.val < T ∧ w y ≠ 0 ∧ θ x ≠ 0 ∧ Inf (κ x y)

variable (κ : Fin 128 → Fin 64 → EReal)

theorem attK_form (s : Fin 64) (h : s.val ≤ 16 * n.val + j.val) :
    attK (fun x y => (q x y : EReal)) κ (fun x => runK fun y => (γ x y : EReal)) n j s
      = ∑ x, ((q x (at_ n j) * Real.exp (P (γ x) (16 * n.val + j.val + 1) - P (γ x) (16 * n.val)) : ℝ) : EReal)
          * (κ x s * ((Real.exp (P (γ x) (16 * n.val) - P (γ x) (s.val + 1)) : ℝ) : EReal)) := by
  unfold attK
  rw [if_pos h]
  simp only [if_pos (show s.val < 16 * n.val + 16 by omega), anc_real, runK_real, ← EReal.coe_sub, Ideal.exp_coe, ← EReal.coe_mul]

theorem attR_form (y : Fin 16) (h : y.val ≤ j.val) :
    attR (fun x y => (q x y : EReal)) κ (fun x y => (γ x y : EReal)) n j y
      = ∑ x, ((q x (at_ n j) * Real.exp (P (γ x) (16 * n.val + j.val + 1) - P (γ x) (16 * n.val)) : ℝ) : EReal)
          * (κ x (at_ n y) * ((Real.exp (-(P (γ x) (16 * n.val + y.val + 1) - P (γ x) (16 * n.val))) : ℝ) : EReal)) := by
  unfold attR
  rw [if_pos h]
  simp only [runR_real, ← EReal.coe_neg, Ideal.exp_coe, ← EReal.coe_mul]

theorem inf_lane (c d : ℝ) (x : EReal) (a : ℝ) (hc : c ≠ 0) (hd : d ≠ 0) : Inf (((a * c : ℝ) : EReal) * (x * (d : EReal))) ↔ a ≠ 0 ∧ Inf x := by
  rw [inf_mul, inf_mul']
  simp [hc, hd]

/-- Where the kernel's output before the norm is infinite. -/
theorem outK_inf : Inf (outK (fun x y => (q x y : EReal)) κ (fun x y => (γ x y : EReal)) (fun y => (w y : EReal)) σ n j)
    ↔ (∃ x, q x (at_ n j) ≠ 0 ∧ Inf (σ x)) ∨ Hit κ (fun x => q x (at_ n j)) w (16 * n.val + j.val + 1) := by
  unfold outK Hit
  rw [inf_add, inf_sum, inf_sum]
  refine or_congr ?_ ?_
  · refine exists_congr fun x => ?_
    rw [runK_real, Ideal.exp_coe, ← EReal.coe_mul, inf_mul]
    simp [(Real.exp_pos _).ne']
  · refine exists_congr fun s => ?_
    rw [inf_mul']
    by_cases h : s.val ≤ 16 * n.val + j.val
    · rw [attK_form q γ n j κ s h, inf_sum]
      simp only [inf_lane _ _ _ _ (Real.exp_pos _).ne' (Real.exp_pos _).ne']
      constructor
      · rintro ⟨-, ⟨x, -, hx⟩, hw⟩; exact ⟨x, by omega, hw, hx.1, hx.2⟩
      · rintro ⟨x, -, hw, hx⟩; exact ⟨Finset.mem_univ _, ⟨x, Finset.mem_univ _, hx⟩, hw⟩
    · unfold attK
      rw [if_neg h]
      constructor
      · rintro ⟨-, h0, -⟩; exact absurd h0 inf_zero
      · rintro ⟨x, hs, -⟩; omega

/-- Where the output of the blocks is. -/
theorem outR_inf : Inf (outR (fun x y => (q x y : EReal)) κ (fun x y => (γ x y : EReal)) (fun y => (w y : EReal)) σ n j)
    ↔ (∃ x, q x (at_ n j) ≠ 0 ∧ Inf (σ x)) ∨ Hit κ (fun x => q x (at_ n j)) w (16 * n.val + j.val + 1) := by
  have ha : Inf (∑ y, attR (fun x y => (q x y : EReal)) κ (fun x y => (γ x y : EReal)) n j y * (w (at_ n y) : EReal))
      ↔ ∃ y : Fin 16, y.val ≤ j.val ∧ w (at_ n y) ≠ 0 ∧ ∃ x, q x (at_ n j) ≠ 0 ∧ Inf (κ x (at_ n y)) := by
    rw [inf_sum]
    refine exists_congr fun y => ?_
    rw [inf_mul']
    by_cases h : y.val ≤ j.val
    · rw [attR_form q γ n j κ y h, inf_sum]
      simp only [inf_lane _ _ _ _ (Real.exp_pos _).ne' (Real.exp_pos _).ne']
      constructor
      · rintro ⟨-, ⟨x, -, hx⟩, hw⟩; exact ⟨h, hw, x, hx⟩
      · rintro ⟨-, hw, x, hx⟩; exact ⟨Finset.mem_univ _, ⟨x, Finset.mem_univ _, hx⟩, hw⟩
    · unfold attR
      rw [if_neg h]
      constructor
      · rintro ⟨-, h0, -⟩; exact absurd h0 inf_zero
      · rintro ⟨hy, -⟩; exact absurd hy h
  have hs : ∀ x, Inf ((q x (at_ n j) : EReal) * Ideal.exp (runR (fun y => (γ x y : EReal)) n j)
        * before (κ x) (fun y => (w y : EReal)) (fun y => (γ x y : EReal)) (σ x) n)
      ↔ q x (at_ n j) ≠ 0 ∧ (Inf (σ x) ∨ ∃ y : Fin 64, y.val < 16 * n.val ∧ w y ≠ 0 ∧ Inf (κ x y)) := by
    intro x
    rw [before_closed, runR_real, Ideal.exp_coe, ← EReal.coe_mul, inf_mul]
    unfold closed
    rw [inf_add, inf_mul, inf_sum]
    simp only [ext_coe, inf_mul', ne_eq, mul_eq_zero, (Real.exp_pos _).ne', or_false, not_false_eq_true, true_and, and_true, Finset.mem_range]
    refine and_congr_right fun _ => or_congr_right ?_
    constructor
    · rintro ⟨y, hy, hk, hw⟩
      have e : y < 64 := by omega
      refine ⟨⟨y, e⟩, hy, ?_, ?_⟩
      · rwa [ext, dif_pos e] at hw
      · rwa [ext, dif_pos e] at hk
    · rintro ⟨y, hy, hw, hk⟩
      exact ⟨y.val, hy, by rwa [ext_val], by rwa [ext_val]⟩
  unfold outR
  rw [inf_add]
  refine (or_congr ha ((inf_sum _ _).trans (exists_congr fun x => and_congr_right fun _ => hs x))).trans ?_
  unfold Hit
  constructor
  · rintro (⟨y, hy, hw, x, hx⟩ | ⟨x, -, hq, hx | ⟨y, hy, hw, hk⟩⟩)
    · exact .inr ⟨at_ n y, x, by show 16 * n.val + y.val < _; omega, hw, hx.1, hx.2⟩
    · exact .inl ⟨x, hq, hx⟩
    · exact .inr ⟨y, x, by omega, hw, hq, hk⟩
  · rintro (⟨x, hq, hx⟩ | ⟨y, x, hy, hw, hq, hk⟩)
    · exact .inr ⟨x, Finset.mem_univ _, hq, .inl hx⟩
    · by_cases h : y.val < 16 * n.val
      · exact .inr ⟨x, Finset.mem_univ _, hq, .inr ⟨y, h, hw, hk⟩⟩
      · have e : at_ n ⟨y.val - 16 * n.val, by omega⟩ = y := Fin.ext (by show 16 * n.val + (y.val - 16 * n.val) = y.val; omega)
        exact .inl ⟨⟨y.val - 16 * n.val, by omega⟩, by show y.val - 16 * n.val ≤ j.val; omega, by rwa [e], x, hq, by rwa [e]⟩

/-- Where no infinite key reaches the output, the keys may be taken finite. -/
theorem outK_fin (h : ¬Hit κ (fun x => q x (at_ n j)) w (16 * n.val + j.val + 1)) :
    outK (fun x y => (q x y : EReal)) κ (fun x y => (γ x y : EReal)) (fun y => (w y : EReal)) σ n j
      = outK (fun x y => (q x y : EReal)) (fun x y => ((κ x y).toReal : EReal)) (fun x y => (γ x y : EReal)) (fun y => (w y : EReal)) σ n j := by
  unfold outK
  refine congrArg₂ _ rfl (Finset.sum_congr rfl fun s _ => ?_)
  by_cases hs : s.val ≤ 16 * n.val + j.val
  · by_cases hw : w s = 0
    · simp [hw]
    · rw [attK_form q γ n j _ s hs, attK_form q γ n j _ s hs]
      refine congrArg (· * _) (Finset.sum_congr rfl fun x _ => ?_)
      by_cases hq : q x (at_ n j) = 0
      · rw [hq, zero_mul, EReal.coe_zero, zero_mul, zero_mul]
      · rw [toReal_of _ fun hi => h ⟨s, x, by omega, hw, hq, hi⟩]
  · unfold attK
    rw [if_neg hs, if_neg hs]

theorem outR_fin (h : ¬Hit κ (fun x => q x (at_ n j)) w (16 * n.val + j.val + 1)) :
    outR (fun x y => (q x y : EReal)) κ (fun x y => (γ x y : EReal)) (fun y => (w y : EReal)) σ n j
      = outR (fun x y => (q x y : EReal)) (fun x y => ((κ x y).toReal : EReal)) (fun x y => (γ x y : EReal)) (fun y => (w y : EReal)) σ n j := by
  unfold outR
  refine congrArg₂ _ (Finset.sum_congr rfl fun y _ => ?_) (Finset.sum_congr rfl fun x _ => ?_)
  · by_cases hy : y.val ≤ j.val
    · by_cases hw : w (at_ n y) = 0
      · simp [hw]
      · rw [attR_form q γ n j _ y hy, attR_form q γ n j _ y hy]
        refine congrArg (· * _) (Finset.sum_congr rfl fun x _ => ?_)
        by_cases hq : q x (at_ n j) = 0
        · rw [hq, zero_mul, EReal.coe_zero, zero_mul, zero_mul]
        · rw [toReal_of _ fun hi => h ⟨at_ n y, x, by show 16 * n.val + y.val < _; omega, hw, hq, hi⟩]
    · unfold attR
      rw [if_neg hy, if_neg hy]
  · by_cases hq : q x (at_ n j) = 0
    · simp [hq]
    · rw [before_closed, before_closed]
      unfold closed
      refine congrArg (_ * ·) (congrArg (_ + ·) (Finset.sum_congr rfl fun y hy => ?_))
      have hy := Finset.mem_range.mp hy
      have e : y < 64 := by omega
      simp only [ext, dif_pos e]
      by_cases hw : w ⟨y, e⟩ = 0
      · rw [hw, EReal.coe_zero, mul_zero, mul_zero]
      · rw [toReal_of _ fun hi => h ⟨⟨y, e⟩, x, by show y < _; omega, hw, hq, hi⟩]

/-- For real queries, values and log gates the two are one where they are finite, and they are infinite together. -/
theorem out_or (κ g q : Fin 128 → Fin 64 → EReal) (ω : Fin 64 → EReal) (σ : Fin 128 → EReal) (n : Fin 4) (j : Fin 16)
    (hq : ∀ x y, q x y ≠ ⊤ ∧ q x y ≠ ⊥) (hg : ∀ x y, g x y ≠ ⊤ ∧ g x y ≠ ⊥) (hω : ∀ y, ω y ≠ ⊤ ∧ ω y ≠ ⊥) :
    outK q κ g ω σ n j = outR q κ g ω σ n j ∨ Inf (outK q κ g ω σ n j) ∧ Inf (outR q κ g ω σ n j) := by
  have real : ∀ f : Fin 128 → Fin 64 → EReal, (∀ x y, f x y ≠ ⊤ ∧ f x y ≠ ⊥) → ∃ r : Fin 128 → Fin 64 → ℝ, f = fun x y => (r x y : EReal) :=
    fun f h => ⟨fun x y => (f x y).toReal, funext fun x => funext fun y => (EReal.coe_toReal (h x y).1 (h x y).2).symm⟩
  obtain ⟨q, rfl⟩ := real q hq
  obtain ⟨γ, rfl⟩ := real g hg
  obtain ⟨w, rfl⟩ : ∃ w : Fin 64 → ℝ, ω = fun y => (w y : EReal) :=
    ⟨fun y => (ω y).toReal, funext fun y => (EReal.coe_toReal (hω y).1 (hω y).2).symm⟩
  by_cases h : Hit κ (fun x => q x (at_ n j)) w (16 * n.val + j.val + 1)
  · exact .inr ⟨(outK_inf q γ w σ n j κ).mpr (.inr h), (outR_inf q γ w σ n j κ).mpr (.inr h)⟩
  · refine .inl ((outK_fin q γ w σ n j κ h).trans (Eq.trans ?_ (outR_fin q γ w σ n j κ h).symm))
    exact (outK_whole q (fun x y => (κ x y).toReal) γ w σ n j).trans (outR_whole q (fun x y => (κ x y).toReal) γ w σ n j).symm

/-- The norm of a row with an infinite entry is zero. -/
theorem rms_inf (o u : Fin 128 → EReal) (v : Fin 128) (h : ∃ k, Inf (o k)) : Cert.AttnSpec.rms o u v = 0 := by
  obtain ⟨k, hk⟩ := h
  have sq : ∀ x : EReal, 0 ≤ x * x := fun x => by
    induction x with
    | coe x => rw [← EReal.coe_mul]; exact_mod_cast mul_self_nonneg x
    | top => simp
    | bot => simp
  have top : ∑ k, o k * o k = ⊤ := by
    have h1 : o k * o k = ⊤ := by rcases hk with e | e <;> rw [e] <;> simp
    exact top_le_iff.mp (h1 ▸ Finset.single_le_sum (f := fun k => o k * o k) (fun i _ => sq (o i)) (Finset.mem_univ k))
  unfold Cert.AttnSpec.rms
  have hd : Ideal.div ⊤ (Ideal.ofBits .f32 0x43000000#32) = ⊤ := by
    simp [Ideal.ofBits, Ideal.ieee, Ideal.div]
    rw [← EReal.coe_mul, ← EReal.coe_inv]
    exact EReal.top_mul_coe_of_pos (by positivity)
  have he : (⊤ : EReal) + Ideal.ofBits .f32 0x358637BD#32 = ⊤ := by
    simp [Ideal.ofBits, Ideal.ieee]
    rw [← EReal.coe_mul, EReal.top_add_coe]
  rw [top, hd, he, Ideal.rsqrt_top, mul_zero, zero_mul]

/-- For real queries, values and log gates the norms of the two rows are one function of the keys and the states before. -/
theorem row_eq (q κ g : Fin 128 → Fin 64 → EReal) (ω : Fin 128 → Fin 64 → EReal) (σ : Fin 128 → Fin 128 → EReal) (u : Fin 128 → EReal)
    (n : Fin 4) (j : Fin 16) (v : Fin 128)
    (hq : ∀ x y, q x y ≠ ⊤ ∧ q x y ≠ ⊥) (hg : ∀ x y, g x y ≠ ⊤ ∧ g x y ≠ ⊥) (hω : ∀ c y, ω c y ≠ ⊤ ∧ ω c y ≠ ⊥) :
    Cert.AttnSpec.rms (fun c => outK q κ g (ω c) (σ c) n j) u v = Cert.AttnSpec.rms (fun c => outR q κ g (ω c) (σ c) n j) u v := by
  by_cases h : ∃ c, Inf (outK q κ g (ω c) (σ c) n j) ∧ Inf (outR q κ g (ω c) (σ c) n j)
  · obtain ⟨c, hK, hR⟩ := h
    rw [rms_inf _ _ _ ⟨c, hK⟩, rms_inf _ _ _ ⟨c, hR⟩]
  · refine congrArg (fun o => Cert.AttnSpec.rms o u v) (funext fun c => ?_)
    exact (out_or κ g q (ω c) (σ c) n j hq hg (hω c)).resolve_right fun hc => h ⟨c, hc⟩

end Cert.HgrnOSpec

end
-- ==== Proof.HgrnOBlock.lean ====
/-
  The output that the recurrence's kernel leaves for the 64 frames of a sample: the stores of the eight heads, and a head's
  output from the staged blocks.
-/
module

public import proofs.«01_k».proof.Proof.Gen.HgrnOIdeal.Value
public import Idealize.ShloMosaic.Lib.Pipeline.ReadBack
public import Idealize.ShloMosaic.Lib.Pipeline.ValueKit
public import proofs.«01_k».proof.Proof.AttnSpec
public import proofs.«01_k».proof.Proof.HgrnBlock
public import proofs.«01_k».proof.Proof.HgrnOSpec

@[expose] public section

set_option maxRecDepth 16384

noncomputable section

namespace Cert.HgrnOHand

open Cert.HgrnOIdeal Cert.HgrnOIdeal.Gen Cert.HgrnOIdeal.Value Idealize.ShloMosaic Idealize.ShloMosaic.TcCoe Idealize.ShloMosaic.Tactic Idealize.SL.Sem
open Cert.HgrnHand (colsH stH slices_h)
open Cert.HgrnSpec (runK at_)
open Cert.HgrnOSpec (anc attK outK)
open Cert.AttnSpec (rms)

section
variable {F : FTy → Type} [FloatOps F]
variable (m : (ℓ : Loc nD τ sig) → Buf (Elt F) ℓ)

/-- The running sum of the log forget gates of a head, from the staged gates. -/
def gt (x4 : Vec F S64x1024 .f32) (h : Fin 8) : FVec F S64x128 .f32 :=
  extractStridedSlice S64x128 ![0, 128 * h.val]
    (k0_pay19 (View.ld x4 (Rect.unit (s := S64x1024) ![0, 0] S64x1024.size (by decide)))) (slices_h h)

/-- The attention of a head's frames among themselves, from its running sum `b`, its queries and its keys. -/
def att (b q k : FVec F S64x128 .f32) : FVec F S64x64 .bf16 :=
  k0_pay98 k0_pay14 (iota .tc S64x128 32 [0] iota_S64x128_d0_w32) b q k k0_pay90 (k0_pay91 b) (k0_pay92 b) (k0_pay93 b) (k0_pay94 (iota .tc S64x128 32 [0] iota_S64x128_d0_w32) b k) (k0_pay95 (iota .tc S64x128 32 [0] iota_S64x128_d0_w32) b k)
    (k0_pay96 (iota .tc S64x128 32 [0] iota_S64x128_d0_w32)) (k0_pay97 b)

/-- The output of head `h`, from the staged queries, keys, values and gate columns, log forget gates, states and scales. -/
def hd (x0 x1 x2 x3 : Vec F S64x1024 .bf16) (x4 : Vec F S64x1024 .f32) (x5 : Vec F S1x8x128x128 .f32) (x6 : Vec F S1x128 .f32)
    (h : Fin 8) : FVec F S64x128 .bf16 :=
  k0_pay170 (k0_pay46 (gt x4 h) (k0_pay28 (View.ld x0 (colsH h)))) (k0_pay47 (View.ld x2 (colsH h)) (k0_pay6 (View.ld x5 (stH h))))
    (att (gt x4 h) (k0_pay28 (View.ld x0 (colsH h))) (k0_pay36 (View.ld x1 (colsH h))))
    (View.ld x6 (Rect.unit (s := S1x128) ![0, 0] S1x128.size (by decide))) (View.ld x3 (colsH h))

/-- The stores of the heads, last first. -/
def pieces (x0 x1 x2 x3 : Vec F S64x1024 .bf16) (x4 : Vec F S64x1024 .f32) (x5 : Vec F S1x8x128x128 .f32) (x6 : Vec F S1x128 .f32) :
    List (View.Piece (Elt F) S64x1024 .bf16) :=
  [⟨colsH 7, hd x0 x1 x2 x3 x4 x5 x6 7⟩, ⟨colsH 6, hd x0 x1 x2 x3 x4 x5 x6 6⟩, ⟨colsH 5, hd x0 x1 x2 x3 x4 x5 x6 5⟩,
   ⟨colsH 4, hd x0 x1 x2 x3 x4 x5 x6 4⟩, ⟨colsH 3, hd x0 x1 x2 x3 x4 x5 x6 3⟩, ⟨colsH 2, hd x0 x1 x2 x3 x4 x5 x6 2⟩,
   ⟨colsH 1, hd x0 x1 x2 x3 x4 x5 x6 1⟩, ⟨colsH 0, hd x0 x1 x2 x3 x4 x5 x6 0⟩]

/-- After point `t` the output's staging buffer holds the eight heads' outputs. -/
theorem outs_o (c : Dev nD) (t : Fin cfg0.N) :
    (outsAt0 m c t).1 = View.canon (pieces (iblk m c 0 t) (iblk m c 1 t) (iblk m c 2 t) (iblk m c 3 t) (iblk m c 4 t) (iblk m c 5 t)
      (iblk m c 6 t)) := by
  unfold outsAt0 out0_A_7
  dsimp only
  rw [View.read_writes_eq_canon _ _ _ (cover0_A_7 c _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread]
  simp (config := {decide := true}) only [↓View.readCov_skip, ↓View.readCov_cons_toLoadRect]
  rfl
end

/-- A comparison of two small indices, as a choice. -/
theorem select_lt (x t : ℕ) (hx : x < 2147483648) (ht : t < 2147483648) (a b : EReal) :
    Scalar.select (IntOp.cmpi CmpIPredicate.slt (BitVec.ofNat 32 x) (BitVec.ofNat 32 t)) a b = if x < t then a else b := by
  unfold Scalar.select
  exact if_congr (WordCmp.cmpi_slt_ofNat_eq_one_iff (w := 32) hx ht) rfl rfl

/-- The running sum of the log forget gates at an index. -/
theorem gates_apply (x4 : Vec Ideal S64x1024 .f32) (t : Fin 64) (l : Fin 1024) :
    k0_pay19 x4 (ix2 t l) = runK (fun s => x4 (ix2 s l)) t := Cert.HgrnHand.gates_apply x4 t l

theorem gt_apply (x4 : Vec Ideal S64x1024 .f32) (h : Fin 8) (t : Fin 64) (x : Fin 128) :
    gt x4 h (ix2 t x) = runK (fun s => x4 (ix2 s ⟨128 * h.val + x.val, by omega⟩)) t := by
  unfold gt
  rw [View.ld_unit_lit (S := S64x1024) _ x4 (by decide)]
  pointwise
  exact gates_apply x4 t _

/-- The attention at an index. -/
theorem att_apply (b q k : FVec Ideal S64x128 .f32) (n : Fin 4) (j : Fin 16) (s : Fin 64) :
    att b q k (ix2 (at_ n j) s)
      = attK (fun x y => q (ix2 y x)) (fun x y => k (ix2 y x)) (fun x y => b (ix2 y x)) n j s := by
  unfold att k0_pay98 k0_pay14 k0_pay90 k0_pay91 k0_pay92 k0_pay93 k0_pay94 k0_pay95 k0_pay96 k0_pay97 k0_pay90 k0_pay91 k0_pay92 attK anc
  have s0 : ∀ (x : Fin 64) (a b : EReal), Scalar.select (IntOp.cmpi CmpIPredicate.slt (BitVec.ofNat 32 x.val) 16#32) a b
      = if x.val < 16 then a else b := fun x a b => select_lt _ 16 (by omega) (by omega) a b
  have s1 : ∀ (x : Fin 64) (a b : EReal), Scalar.select (IntOp.cmpi CmpIPredicate.slt (BitVec.ofNat 32 x.val) 32#32) a b
      = if x.val < 32 then a else b := fun x a b => select_lt _ 32 (by omega) (by omega) a b
  have s2 : ∀ (x : Fin 64) (a b : EReal), Scalar.select (IntOp.cmpi CmpIPredicate.slt (BitVec.ofNat 32 x.val) 48#32) a b
      = if x.val < 48 then a else b := fun x a b => select_lt _ 48 (by omega) (by omega) a b
  have s3 : ∀ (x : Fin 64) (a b : EReal), Scalar.select (IntOp.cmpi CmpIPredicate.slt (BitVec.ofNat 32 x.val) 64#32) a b
      = if x.val < 64 then a else b := fun x a b => select_lt _ 64 (by omega) (by omega) a b
  fin_cases n
  all_goals
    pointwise
    rw [Cert.HgrnSpec.select_le _ _ (by omega) (by omega)]
    simp only [s0, s1, s2, s3, sub_zero]
  · have e : at_ 0 j = ⟨j.val, by omega⟩ := Fin.ext (Nat.zero_add _)
    rw [e]
  · rfl
  · refine if_congr Iff.rfl ?_ rfl
    have e : ∀ h, (⟨32 + (32 + j.val - 16 - 16), h⟩ : Fin 64) = at_ 2 j := fun _ => Fin.ext (by show 32 + (32 + j.val - 16 - 16) = 32 + j.val; omega)
    rw [dif_neg (by omega), dif_neg (by omega), dif_pos (by omega)]
    simp only [e]
  · refine if_congr Iff.rfl ?_ rfl
    have e : ∀ h, (⟨48 + (48 + j.val - 16 - 16 - 16), h⟩ : Fin 64) = at_ 3 j := fun _ => Fin.ext (by show 48 + (48 + j.val - 16 - 16 - 16) = 48 + j.val; omega)
    rw [dif_neg (by omega), dif_neg (by omega), dif_neg (by omega)]
    simp only [e, if_pos s.isLt]

/-- A head's output before its norm, from the staged blocks. -/
def O (x0 x1 x2 : Vec Ideal S64x1024 .bf16) (x4 : Vec Ideal S64x1024 .f32) (x5 : Vec Ideal S1x8x128x128 .f32) (h : Fin 8) (n : Fin 4)
    (j : Fin 16) (c : Fin 128) : EReal :=
  outK (fun x y => x0 (ix2 y ⟨128 * h.val + x.val, by omega⟩)) (fun x y => x1 (ix2 y ⟨128 * h.val + x.val, by omega⟩))
    (fun x y => x4 (ix2 y ⟨128 * h.val + x.val, by omega⟩)) (fun y => x2 (ix2 y ⟨128 * h.val + c.val, by omega⟩)) (fun x => x5 (ix4 0 h x c)) n j

/-- THE OUTPUT'S BLOCK at an index: each entry by the kernel's formula, of its head's queries, keys, values and gates. -/
def G (x0 x1 x2 x3 : Vec Ideal S64x1024 .bf16) (x4 : Vec Ideal S64x1024 .f32) (x5 : Vec Ideal S1x8x128x128 .f32) (x6 : Vec Ideal S1x128 .f32)
    (h : Fin 8) (n : Fin 4) (j : Fin 16) (c : Fin 128) : EReal :=
  rms (O x0 x1 x2 x4 x5 h n j) (fun c => x6 (ix2 0 c)) c * x3 (ix2 (at_ n j) ⟨128 * h.val + c.val, by omega⟩)

theorem hd_apply (x0 x1 x2 x3 : Vec Ideal S64x1024 .bf16) (x4 : Vec Ideal S64x1024 .f32) (x5 : Vec Ideal S1x8x128x128 .f32)
    (x6 : Vec Ideal S1x128 .f32) (h : Fin 8) (n : Fin 4) (j : Fin 16) (c : Fin 128) :
    hd x0 x1 x2 x3 x4 x5 x6 h (ix2 (at_ n j) c) = G x0 x1 x2 x3 x4 x5 x6 h n j c := by
  unfold hd k0_pay170 k0_pay47 k0_pay44 k0_pay45 k0_pay46 k0_pay6 G rms O outK
  rw [View.ld_unit_lit (S := S1x128) _ x6 (by decide)]
  pointwise
  simp only [att_apply, gt_apply]
  unfold k0_pay28 k0_pay36
  pointwise

theorem emb_cols (h : Fin 8) (t : Fin 64) (c : Fin 128) : (colsH h).emb (ix2 t c) = ix2 t ⟨128 * h.val + c.val, by omega⟩ := by
  funext k
  fin_cases k <;> apply Fin.ext
  · exact (Rect.idx_unit_val _ _ _ _ 0).trans (Nat.zero_add _)
  · exact Rect.idx_unit_val _ _ _ _ 1

/-- The block, the frame within the block, the head and the lane of an entry. -/
abbrev blkOf (t : Fin 64) : Fin 4 := ⟨t.val / 16, by omega⟩
abbrev frmOf (t : Fin 64) : Fin 16 := ⟨t.val % 16, by omega⟩
abbrev headOf (l : Fin 1024) : Fin 8 := ⟨l.val / 128, by omega⟩
abbrev laneOf (l : Fin 1024) : Fin 128 := ⟨l.val % 128, by omega⟩

theorem out_eq (x0 x1 x2 x3 : Vec Ideal S64x1024 .bf16) (x4 : Vec Ideal S64x1024 .f32) (x5 : Vec Ideal S1x8x128x128 .f32)
    (x6 : Vec Ideal S1x128 .f32) (t : Fin 64) (l : Fin 1024) :
    View.canon (pieces x0 x1 x2 x3 x4 x5 x6) (ix2 t l) = G x0 x1 x2 x3 x4 x5 x6 (headOf l) (blkOf t) (frmOf t) (laneOf l) := by
  refine View.canon_apply_of_pieces (Val := Elt Ideal) (S := S64x1024) (e := .bf16)
    (fun y => G x0 x1 x2 x3 x4 x5 x6 (headOf (y 1)) (blkOf (y 0)) (frmOf (y 0)) (laneOf (y 1))) _ ?_ (ix2 t l) ?_
  · have hp : ∀ (h : Fin 8) (x : (colsH h).shape.Idx), hd x0 x1 x2 x3 x4 x5 x6 h x
        = G x0 x1 x2 x3 x4 x5 x6 (headOf (((colsH h).emb x) 1)) (blkOf (((colsH h).emb x) 0)) (frmOf (((colsH h).emb x) 0))
            (laneOf (((colsH h).emb x) 1)) := by
      intro h x
      obtain ⟨t, c, rfl⟩ : ∃ (t : Fin 64) (c : Fin 128), x = ix2 t c := ⟨x 0, x 1, by funext a; fin_cases a <;> rfl⟩
      rw [emb_cols]
      have et : t = at_ (blkOf t) (frmOf t) := Fin.ext (Nat.div_add_mod t.val 16).symm
      have eh : headOf ⟨128 * h.val + c.val, by omega⟩ = h := Fin.ext (by show (128 * h.val + c.val) / 128 = h.val; omega)
      have el : laneOf ⟨128 * h.val + c.val, by omega⟩ = c := Fin.ext (by show (128 * h.val + c.val) % 128 = c.val; omega)
      show _ = G x0 x1 x2 x3 x4 x5 x6 (headOf ⟨128 * h.val + c.val, _⟩) (blkOf t) (frmOf t) (laneOf ⟨128 * h.val + c.val, _⟩)
      rw [eh, el]
      exact (congrArg (fun r => hd x0 x1 x2 x3 x4 x5 x6 h (ix2 r c)) et).trans (hd_apply x0 x1 x2 x3 x4 x5 x6 h _ _ c)
    intro p hpm
    unfold pieces at hpm
    simp only [List.mem_cons, List.not_mem_nil, or_false] at hpm
    rcases hpm with rfl | rfl | rfl | rfl | rfl | rfl | rfl | rfl <;> exact hp _
  · exact View.cover_of_tiledL (s := S64x1024) (pieces x0 x1 x2 x3 x4 x5 x6) ![64, 128] (by unfold pieces; rfl) (ix2 t l)

end Cert.HgrnOHand

end
-- ==== Proof.HgrnOArray.lean ====
/-
  The output that the recurrence's kernel leaves for the sampled frames, at an index, from the argument arrays.
-/
module

public import proofs.«01_k».proof.Proof.HgrnArray
public import proofs.«01_k».proof.Proof.HgrnOBlock

@[expose] public section

set_option maxRecDepth 16384

noncomputable section

namespace Cert.HgrnOHand

open Cert.HgrnOIdeal Cert.HgrnOIdeal.Gen Cert.HgrnOIdeal.Value Idealize.ShloMosaic Idealize.ShloMosaic.TcCoe Idealize.ShloMosaic.Tactic Idealize.SL.Sem
open Cert.HgrnHand (kOf vOf gOf rowOf)
open Cert.HgrnSpec (at_)
open Cert.HgrnOSpec (outK)
open Cert.AttnSpec (rms)

variable (m : (ℓ : Loc nD τ sig) → Buf (Elt Ideal) ℓ)

/-- Where each window's block sits at point `t`: rows `64 t` of the columns of the queries, the keys, the values, the gate path and
    the gates, and state `t`. -/
theorem ix_0 : ∀ t : Fin cfg0.N, win0_0.index t = ![t.val, 0] := (by decide +kernel : ∀ t : Fin grid0.N, _)
theorem ix_1 : ∀ t : Fin cfg0.N, win0_1.index t = ![t.val, 1] := (by decide +kernel : ∀ t : Fin grid0.N, _)
theorem ix_2 : ∀ t : Fin cfg0.N, win0_2.index t = ![t.val, 2] := (by decide +kernel : ∀ t : Fin grid0.N, _)
theorem ix_3 : ∀ t : Fin cfg0.N, win0_3.index t = ![t.val, 3] := (by decide +kernel : ∀ t : Fin grid0.N, _)
theorem ix_4 : ∀ t : Fin cfg0.N, win0_4.index t = ![t.val, 0] := (by decide +kernel : ∀ t : Fin grid0.N, _)
theorem ix_5 : ∀ t : Fin cfg0.N, win0_5.index t = ![t.val, 0, 0, 0] := (by decide +kernel : ∀ t : Fin grid0.N, _)
theorem ix_6 : ∀ t : Fin cfg0.N, win0_6.index t = ![0, 0] := (by decide +kernel : ∀ t : Fin grid0.N, _)
theorem ix_7 : ∀ t : Fin cfg0.N, win0_7.index t = ![t.val, 0] := (by decide +kernel : ∀ t : Fin grid0.N, _)

theorem t_lt (t : Fin cfg0.N) : t.val < 32 := lt_of_lt_of_eq t.isLt N_0

/-- The sample of a point. -/
abbrev smp (t : Fin cfg0.N) : Fin 32 := ⟨t.val, t_lt t⟩

/-- The host's arrays before the region: the state before, and the scales. -/
theorem V_0 (c : Dev nD) (d : Fin 32) (h : Fin 8) (a b : Fin 128) :
    V m c main_v0 (ix4 d h a b) = m ((c : Thread nD τ).loc main_arg2) (ix5 0 d h a b) := by
  dsimp only [V, hostOps0]
  after_results
  pointwise

theorem V_2 (c : Dev nD) (b : Fin 128) : V m c main_v2 (ix2 0 b) = m ((c : Thread nD τ).loc main_arg3) (ix2 0 b) := by
  dsimp only [V, hostOps0]
  after_results
  pointwise

/-- The staged blocks, from the arguments. -/
theorem iblk_0 (c : Dev nD) (t : Fin cfg0.N) (x : Fin 64) (l : Fin 1024) :
    iblk m c 0 t (ix2 x l) = m ((c : Thread nD τ).loc main_arg0) (ix2 (rowOf (smp t) x) ⟨l.val, by omega⟩) := by
  rw [← V_main_arg0 m c]
  blk_simp [iblk]
  refine congrArg _ ?_
  blk_ext [ix_0]
theorem iblk_1 (c : Dev nD) (t : Fin cfg0.N) (x : Fin 64) (l : Fin 1024) :
    iblk m c 1 t (ix2 x l) = m ((c : Thread nD τ).loc main_arg0) (ix2 (rowOf (smp t) x) ⟨1024 + l.val, by omega⟩) := by
  rw [← V_main_arg0 m c]
  blk_simp [iblk]
  refine congrArg _ ?_
  blk_ext [ix_1]
theorem iblk_2 (c : Dev nD) (t : Fin cfg0.N) (x : Fin 64) (l : Fin 1024) :
    iblk m c 2 t (ix2 x l) = m ((c : Thread nD τ).loc main_arg0) (ix2 (rowOf (smp t) x) ⟨2048 + l.val, by omega⟩) := by
  rw [← V_main_arg0 m c]
  blk_simp [iblk]
  refine congrArg _ ?_
  blk_ext [ix_2]
theorem iblk_3 (c : Dev nD) (t : Fin cfg0.N) (x : Fin 64) (l : Fin 1024) :
    iblk m c 3 t (ix2 x l) = m ((c : Thread nD τ).loc main_arg0) (ix2 (rowOf (smp t) x) ⟨3072 + l.val, by omega⟩) := by
  rw [← V_main_arg0 m c]
  blk_simp [iblk]
  refine congrArg _ ?_
  blk_ext [ix_3]
theorem iblk_4 (c : Dev nD) (t : Fin cfg0.N) (x : Fin 64) (l : Fin 1024) :
    iblk m c 4 t (ix2 x l) = m ((c : Thread nD τ).loc main_arg1) (ix2 (rowOf (smp t) x) l) := by
  rw [← V_main_arg1 m c]
  blk_simp [iblk]
  refine congrArg _ ?_
  blk_ext [ix_4]
theorem iblk_5 (c : Dev nD) (t : Fin cfg0.N) (h : Fin 8) (a b : Fin 128) :
    iblk m c 5 t (ix4 0 h a b) = m ((c : Thread nD τ).loc main_arg2) (ix5 0 (smp t) h a b) := by
  rw [← V_0 m c]
  blk_simp [iblk]
  refine congrArg _ ?_
  blk_ext [ix_5]

theorem iblk_6 (c : Dev nD) (t : Fin cfg0.N) (b : Fin 128) :
    iblk m c 6 t (ix2 0 b) = m ((c : Thread nD τ).loc main_arg3) (ix2 0 b) := by
  rw [← V_2 m c]
  blk_simp [iblk]
  refine congrArg _ ?_
  blk_ext [ix_6]

section
variable (p : Vec Ideal S2048x13312 .bf16) (g : Vec Ideal S2048x1024 .f32) (s : Vec Ideal S1x32x8x128x128 .f32) (w : Vec Ideal S1x128 .f32)

/-- The queries of a lane, frame by frame. -/
def qOf (d : Fin 32) (h : Fin 8) (a : Fin 128) (x : Fin 64) : EReal := p (ix2 (rowOf d x) ⟨128 * h.val + a.val, by omega⟩)

/-- The output of the recurrence before its norm, at lane `c` of head `h`, frame `j` of block `n` of sample `d`. -/
def preS (d : Fin 32) (h : Fin 8) (n : Fin 4) (j : Fin 16) (c : Fin 128) : EReal :=
  outK (qOf p d h) (kOf p d h) (gOf g d h) (vOf p d h c) (fun a => s (ix5 0 d h a c)) n j

/-- The output of sample `d` at frame `t` and column `l`. -/
def entry (d : Fin 32) (t : Fin 64) (l : Fin 1024) : EReal :=
  rms (preS p g s d (headOf l) (blkOf t) (frmOf t)) (fun c => w (ix2 0 c)) (laneOf l)
    * p (ix2 (rowOf d t) ⟨3072 + l.val, by omega⟩)

/-- The sample of a row, and its frame. -/
abbrev smpOf (r : Fin 2048) : Fin 32 := ⟨r.val / 64, by omega⟩
abbrev timeOf (r : Fin 2048) : Fin 64 := ⟨r.val % 64, by omega⟩

/-- The recurrence's output. -/
def arrayO : S2048x1024.Idx → EReal := fun i => entry p g s w (smpOf (i 0)) (timeOf (i 0)) (i 1)
end

theorem blk_o (c : Dev nD) (t : Fin cfg0.N) (x : Fin 64) (l : Fin 1024) :
    View.canon (pieces (iblk m c 0 t) (iblk m c 1 t) (iblk m c 2 t) (iblk m c 3 t) (iblk m c 4 t) (iblk m c 5 t) (iblk m c 6 t)) (ix2 x l)
      = entry (m ((c : Thread nD τ).loc main_arg0)) (m ((c : Thread nD τ).loc main_arg1)) (m ((c : Thread nD τ).loc main_arg2))
          (m ((c : Thread nD τ).loc main_arg3)) (smp t) x l := by
  refine (out_eq _ _ _ _ _ _ _ x l).trans ?_
  unfold G O
  simp only [iblk_0, iblk_1, iblk_2, iblk_3, iblk_4, iblk_5, iblk_6]
  refine congrArg₂ (· * ·) rfl (congrArg _ ?_)
  have ex : at_ (blkOf x) (frmOf x) = x := Fin.ext (Nat.div_add_mod x.val 16)
  have el : 128 * (headOf l).val + (laneOf l).val = l.val := Nat.div_add_mod l.val 128
  rw [ex]
  exact congrArg (ix2 _) (Fin.ext (congrArg (3072 + ·) el))

/-- The kernel's result holds that array of its arguments. -/
theorem final_o (c : Dev nD) : (dats m 0 c).arrAt 7 cfg0.N
      = arrayO (m ((c : Thread nD τ).loc main_arg0)) (m ((c : Thread nD τ).loc main_arg1)) (m ((c : Thread nD τ).loc main_arg2))
          (m ((c : Thread nD τ).loc main_arg3)) := by
  refine (dats m 0 c).arrAt_eq_of_covers 7 _ (by decide +kernel) fun t hf y => ?_
  blk_simp
  rw [after0_7, outs_o]
  obtain ⟨x, l, rfl⟩ : ∃ (x : Fin 64) (l : Fin 1024), y = ix2 x l := ⟨y 0, y 1, by funext a; fin_cases a <;> rfl⟩
  refine (blk_o m c t x l).trans ?_
  have e : arrayO (m ((c : Thread nD τ).loc main_arg0)) (m ((c : Thread nD τ).loc main_arg1)) (m ((c : Thread nD τ).loc main_arg2))
          (m ((c : Thread nD τ).loc main_arg3)) (ix2 (rowOf (smp t) x) l)
      = entry (m ((c : Thread nD τ).loc main_arg0)) (m ((c : Thread nD τ).loc main_arg1)) (m ((c : Thread nD τ).loc main_arg2))
          (m ((c : Thread nD τ).loc main_arg3)) (smp t) x l := by
    have es : smpOf (rowOf (smp t) x) = smp t := Fin.ext (by show (t.val * 64 + x.val) / 64 = t.val; omega)
    have et : timeOf (rowOf (smp t) x) = x := Fin.ext (by show (t.val * 64 + x.val) % 64 = x.val; omega)
    show entry _ _ _ _ (smpOf (rowOf (smp t) x)) (timeOf (rowOf (smp t) x)) l = _
    rw [es, et]
  refine e.symm.trans (congrArg _ ?_)
  blk_ext [ix_7]

end Cert.HgrnOHand

end
-- ==== Proof.HgrnOClaim.lean ====
/-
  The claims of the recurrence's output for the sampled frames: the frames, the reference at an index, and that the kernel's
  output is the reference's where the log forget gate, the queries and the values are finite.
-/
module

public import proofs.«01_k».proof.Defs
public import proofs.«01_k».proof.Proof.HgrnClaim
public import proofs.«01_k».proof.Proof.HgrnOArray
public import proofs.«01_k».proof.Proof.Gen.HgrnORefIdeal.Read
public import proofs.«01_k».proof.Proof.Gen.HgrnORefIdeal.Run
public import proofs.«01_k».proof.Proof.Gen.Pre_hgrno_finite
public import proofs.«01_k».proof.Proof.Gen.HgrnO.Frame

@[expose] public section

set_option maxRecDepth 16384

noncomputable section

namespace Cert.HgrnOClaims

open Idealize.ShloMosaic Idealize.ShloMosaic.TcCoe Idealize.ShloMosaic.Tactic Idealize.SL.Sem
open Cert.HgrnORefIdeal.Read
open Cert.HgrnSpec (at_ stepR runR)
open Cert.HgrnOSpec (attR outR before)
open Cert.AttnSpec (rms)
open Cert.HgrnHand (kOf vOf gOf rowOf)
open Cert.HgrnOHand (qOf headOf laneOf blkOf frmOf smpOf timeOf preS entry arrayO)
open Cert.HgrnClaims (select_small select_last)

variable (p : FVec Ideal Cert.HgrnOIdeal.S2048x13312 .bf16) (g : FVec Ideal Cert.HgrnOIdeal.S2048x1024 .f32)
  (s : FVec Ideal Cert.HgrnOIdeal.S1x32x8x128x128 .f32) (w : FVec Ideal Cert.HgrnOIdeal.S1x128 .f32)

/-- The reference before its norm at an index, block `n`. -/
theorem pre_apply (n : Fin 4) (d : Fin 32) (h : Fin 8) (j : Fin 16) (c : Fin 128) :
    val_main_v176 (F := Ideal) p g s (ix5 n d h j c)
      = outR (qOf p d h) (kOf p d h) (gOf g d h) (vOf p d h c) (fun a => s (ix5 0 d h a c)) n j := by
  unfold val_main_v176 val_main_v175 val_main_v174 val_main_v173 val_main_v172 val_main_v156 val_main_v155 val_main_v154 val_main_v153
    val_main_v152 val_main_v151 val_main_call7_v2 val_main_call7_v1 val_main_call7_v0 val_main_cst_10 val_main_v150 val_main_v149
    val_main_v148 val_main_v147 val_main_v146 val_main_v145 val_main_v144 val_main_v143 val_main_v142 val_main_v141 val_main_v139
    val_main_cst_9 val_main_v138 val_main_call6_v3 val_main_call6_v2 val_main_call6_v1 val_main_call6_v0 val_main_cst_8 val_main_v137
    val_main_v136 val_main_v135 val_main_v134 val_main_v133 val_main_v132 val_main_v131 val_main_v130 val_main_v129 val_main_v128
    val_main_v127 val_main_v126 val_main_v125 val_main_v124 val_main_v123 val_main_v122 val_main_v121 val_main_v120 val_main_v119
    val_main_v118 val_main_v117 val_main_v116 val_main_v115 val_main_v114 val_main_v113 val_main_call5_v2 val_main_call5_v1
    val_main_call5_v0 val_main_cst_7 val_main_v112 val_main_v111 val_main_v110 val_main_v109 val_main_v108 val_main_v107 val_main_v106
    val_main_v105 val_main_v104 val_main_v103 val_main_v102 val_main_v101 val_main_cst_6 val_main_v100 val_main_call4_v3 val_main_call4_v2
    val_main_call4_v1 val_main_call4_v0 val_main_cst_5 val_main_v99 val_main_v98 val_main_v97 val_main_v96 val_main_v95 val_main_v94
    val_main_v93 val_main_v92 val_main_v91 val_main_v90 val_main_v89 val_main_v88 val_main_v87 val_main_v86 val_main_v85 val_main_v84
    val_main_v83 val_main_v82 val_main_v81 val_main_v80 val_main_v79 val_main_v78 val_main_v77 val_main_v76 val_main_v75 val_main_call3_v2
    val_main_call3_v1 val_main_call3_v0 val_main_cst_4 val_main_v74 val_main_v73 val_main_v72 val_main_v71 val_main_v70 val_main_v69
    val_main_v68 val_main_v67 val_main_v66 val_main_v65 val_main_v64 val_main_v63 val_main_cst_3 val_main_v62 val_main_call2_v3
    val_main_call2_v2 val_main_call2_v1 val_main_call2_v0 val_main_cst_2 val_main_v61 val_main_v60 val_main_v59 val_main_v58 val_main_v57
    val_main_v56 val_main_v55 val_main_v54 val_main_v53 val_main_v52 val_main_v51 val_main_v50 val_main_v49 val_main_v48 val_main_v47
    val_main_v46 val_main_v45 val_main_v44 val_main_v43 val_main_v42 val_main_v41 val_main_v40 val_main_v39 val_main_v38 val_main_v37
    val_main_call1_v2 val_main_call1_v1 val_main_call1_v0 val_main_cst_1 val_main_v36 val_main_v35 val_main_v34 val_main_v33 val_main_v32
    val_main_v31 val_main_v30 val_main_v29 val_main_v28 val_main_v27 val_main_v26 val_main_v25 val_main_cst_0 val_main_v24
    val_main_call0_v3 val_main_call0_v2 val_main_call0_v1 val_main_call0_v0 val_main_cst val_main_v23 val_main_v22 val_main_v21
    val_main_v20 val_main_v19 val_main_v18 val_main_v17 val_main_v16 val_main_v15 val_main_v14 val_main_v13 val_main_v12 val_main_v11
    val_main_v10 val_main_v9 val_main_v8 val_main_v7 val_main_v6 val_main_v5 val_main_v4 val_main_v3 val_main_v2 val_main_v1 val_main_v0
  unfold outR attR before
  have zero : id (constant (F := Ideal) Cert.HgrnORefIdeal.S_ .f32 0#32) ix0 = (0 : EReal) := by
    show Ideal.ofBits .f32 0x00000000#32 = 0
    simp [Ideal.ofBits, Ideal.ieee]
  have r : ∀ n x : Nat, d.val * 64 + (n + x) = d.val * 64 + n + x := fun n x => (Nat.add_assoc _ _ _).symm
  have e : ∀ x : Nat, 128 * h.val + x = h.val * 128 + x := fun x => by omega
  have f0 : (0 : Fin 4).val = 0 := rfl
  have f1 : (1 : Fin 4).val = 1 := rfl
  have f2 : (2 : Fin 4).val = 2 := rfl
  have f3 : (3 : Fin 4).val = 3 := rfl
  have f15 : (15 : Fin 16).val = 15 := rfl
  obtain rfl | rfl | rfl | rfl : n = 0 ∨ n = 1 ∨ n = 2 ∨ n = 3 := by omega
  all_goals
    pointwise
    first | unfold stepR runR | unfold runR
    unfold qOf kOf vOf gOf
    simp only [rowOf, at_, f0, f1, f2, f3, f15, Nat.reduceMul, Nat.add_zero, select_small, select_last, zero, r, e]

/-- The reference at an index. -/
theorem ref_apply (i : Fin 2048) (l : Fin 1024) :
    val_main_v195 (F := Ideal) p g s w (ix2 i l)
      = rms (fun c => outR (qOf p (smpOf i) (headOf l)) (kOf p (smpOf i) (headOf l)) (gOf g (smpOf i) (headOf l)) (vOf p (smpOf i) (headOf l) c)
          (fun a => s (ix5 0 (smpOf i) (headOf l) a c)) (blkOf (timeOf i)) (frmOf (timeOf i))) (fun c => w (ix2 0 c)) (laneOf l)
        * p (ix2 i ⟨3072 + l.val, by omega⟩) := by
  unfold val_main_v195 val_main_v194 val_main_v193 val_main_v192 val_main_v191 val_main_v190 val_main_v189 val_main_v188 val_main_v187
    val_main_v186 val_main_v185 val_main_v184 val_main_cst_13 val_main_v183 val_main_v182 val_main_cst_12 val_main_v181 val_main_v180
    val_main_cst_11 val_main_v179 val_main_v178 val_main_v177 val_main_v0
  unfold rms
  pointwise
  have e1 : ∀ h, (⟨i.val / 16 % 4, h⟩ : Fin 4) = blkOf (timeOf i) := fun _ => Fin.ext (by show i.val / 16 % 4 = i.val % 64 / 16; omega)
  have e2 : ∀ h, (⟨i.val % 16, h⟩ : Fin 16) = frmOf (timeOf i) := fun _ => Fin.ext (by show i.val % 16 = i.val % 64 % 16; omega)
  simp only [e1, e2, pre_apply]

section
variable {p g s w}

/-- Under the precondition the log gates are finite, -/
theorem gates_finite (h : (Cert.Pre_hgrno_finite.fn (F := Ideal) p g s w).1 = fun _ => 1#1) (i : Cert.HgrnOIdeal.S2048x1024.Idx) :
    g i ≠ ⊤ ∧ g i ≠ ⊥ := by
  have hi := congrFun h i
  unfold Cert.Pre_hgrno_finite.fn at hi
  dsimp only at hi
  pointwise at hi
  have e : Ideal.ofBits .f32 0x7F800000#32 = ⊤ := by simp [Ideal.ofBits, Ideal.ieee]
  rw [e] at hi
  exact Cert.Pre_attn_finite.finite_of_lt hi

/-- the queries -/
theorem queries_finite (h : (Cert.Pre_hgrno_finite.fn (F := Ideal) p g s w).2.1 = fun _ => 1#1) (i : Fin 2048) (l : Fin 1024) :
    p (ix2 i ⟨l.val, by omega⟩) ≠ ⊤ ∧ p (ix2 i ⟨l.val, by omega⟩) ≠ ⊥ := by
  have hi := congrFun h (ix2 i l)
  unfold Cert.Pre_hgrno_finite.fn at hi
  dsimp only at hi
  pointwise at hi
  have e : Ideal.ofBits .bf16 0x7F80#16 = ⊤ := by simp [Ideal.ofBits, Ideal.ieee]
  rw [e] at hi
  exact Cert.Pre_attn_finite.finite_of_lt hi

/-- and the values. -/
theorem values_finite (h : (Cert.Pre_hgrno_finite.fn (F := Ideal) p g s w).2.2 = fun _ => 1#1) (i : Fin 2048) (l : Fin 1024) :
    p (ix2 i ⟨2048 + l.val, by omega⟩) ≠ ⊤ ∧ p (ix2 i ⟨2048 + l.val, by omega⟩) ≠ ⊥ := by
  have hi := congrFun h (ix2 i l)
  unfold Cert.Pre_hgrno_finite.fn at hi
  dsimp only at hi
  pointwise at hi
  have e : Ideal.ofBits .bf16 0x7F80#16 = ⊤ := by simp [Ideal.ofBits, Ideal.ieee]
  rw [e] at hi
  exact Cert.Pre_attn_finite.finite_of_lt hi
end

/-- From the same arguments the kernel's output and the reference's are one. -/
theorem arrays (h1 : (Cert.Pre_hgrno_finite.fn (F := Ideal) p g s w).1 = fun _ => 1#1)
    (h2 : (Cert.Pre_hgrno_finite.fn (F := Ideal) p g s w).2.1 = fun _ => 1#1)
    (h3 : (Cert.Pre_hgrno_finite.fn (F := Ideal) p g s w).2.2 = fun _ => 1#1) :
    val_main_v195 (F := Ideal) p g s w = arrayO p g s w := by
  funext y
  obtain ⟨i, l, rfl⟩ : ∃ (i : Fin 2048) (l : Fin 1024), y = ix2 i l := ⟨y 0, y 1, by funext a; fin_cases a <;> rfl⟩
  refine (ref_apply p g s w i l).trans ?_
  show _ = entry p g s w (smpOf i) (timeOf i) l
  unfold entry preS
  have ei : rowOf (smpOf i) (timeOf i) = i := Fin.ext (by show i.val / 64 * 64 + i.val % 64 = i.val; omega)
  rw [ei]
  refine congrArg (· * _) (Cert.HgrnOSpec.row_eq _ _ _ _ _ _ _ _ _ ?_ ?_ ?_).symm
  · exact fun x t => queries_finite h2 _ ⟨128 * (headOf l).val + x.val, by omega⟩
  · exact fun x t => gates_finite h1 _
  · exact fun c t => values_finite h3 _ ⟨128 * (headOf l).val + c.val, by omega⟩

/-- The kernel runs safely, and so does the kernel read over the extended reals, -/
theorem frame : Cert.quiescent_HgrnO := fun m ρ _ => Cert.HgrnO.Gen.frame m ρ
theorem frameIdeal : Cert.quiescent_HgrnOIdeal := fun m ρ _ => Cert.HgrnOIdeal.Gen.frame m ρ
theorem frameIdealPre : Cert.quiescent_HgrnOIdeal_pre_hgrno_finite := fun m ρ _ => Cert.HgrnOIdeal.Gen.frame m ρ
/-- and its reference. -/
theorem frameRef : Cert.quiescent_HgrnORefIdeal := fun m ρ _ =>
  (θ_run Cert.HgrnORefIdeal.defs _ _).mono (fun r h => ⟨fun c => (h c).2, sem_eq_zero_of_no_sems (by decide) r.2⟩)
    (Cert.HgrnORefIdeal.Value.run (F := Ideal) m ρ)
theorem frameRefPre : Cert.quiescent_HgrnORefIdeal_pre_hgrno_finite := fun m ρ _ => frameRef m ρ trivial

/-- From equal arguments the kernel's output is the reference's. -/
theorem algebraic : Cert.algebraic_HgrnOIdeal_HgrnORefIdeal_pre_hgrno_finite := by
  intro m ρ m' ρ' hpre hag
  refine ⟨fun c => arrayO (m ((c : Thread Cert.HgrnOIdeal.nD Cert.HgrnOIdeal.τ).loc Cert.HgrnOIdeal.main_arg0))
      (m ((c : Thread Cert.HgrnOIdeal.nD Cert.HgrnOIdeal.τ).loc Cert.HgrnOIdeal.main_arg1))
      (m ((c : Thread Cert.HgrnOIdeal.nD Cert.HgrnOIdeal.τ).loc Cert.HgrnOIdeal.main_arg2))
      (m ((c : Thread Cert.HgrnOIdeal.nD Cert.HgrnOIdeal.τ).loc Cert.HgrnOIdeal.main_arg3)), ?_, ?_⟩
  · exact (θ_run Cert.HgrnOIdeal.defs _ _).mono (fun _ h c => ⟨(h c).1.trans (Cert.HgrnOHand.final_o m c), (h c).2.2⟩)
      (Cert.HgrnOIdeal.Value.run_blocks (F := Ideal) m ρ)
  · refine (θ_run Cert.HgrnORefIdeal.defs _ _).mono (fun _ h c =>
        ⟨((h c).1.trans (val_main_v195_eq (Idealize.ShloMosaic.StableHlo.launchContents m' c))).trans ?_, (h c).2⟩)
      (Cert.HgrnORefIdeal.Value.run (F := Ideal) m' ρ')
    obtain ⟨e0, e1, e2, e3⟩ := hag c
    refine Eq.trans ?_ (arrays _ _ _ _ (hpre c).1 (hpre c).2.1 (hpre c).2.2)
    rw [← e0, ← e1, ← e2, ← e3]

end Cert.HgrnOClaims

end
-- ==== Proof.lean ====
/- The proof of the claim: the witnesses of the programs' stated facts, then the claims in their order. -/
module

public import proofs.«01_k».proof.Defs
public import proofs.«01_k».proof.Proof.AttnClaim
public import proofs.«01_k».proof.Proof.HgrnClaim
public import proofs.«01_k».proof.Proof.InProjClaim
public import proofs.«01_k».proof.Proof.InProjSClaim
public import proofs.«01_k».proof.Proof.MemKvClaim
public import proofs.«01_k».proof.Proof.MergeClaim
public import proofs.«01_k».proof.Proof.MergeSClaim
public import proofs.«01_k».proof.Proof.HgrnOClaim

@[expose] public section

noncomputable section

namespace Cert.Proof

/-- Every claim of the certificate holds. -/
theorem claim : Cert.Claim := ⟨Cert.Attn.Gen.facts, Cert.AttnIdeal.Gen.facts, Cert.AttnRefIdeal.Gen.facts,
  Cert.Hgrn.Gen.facts, Cert.HgrnIdeal.Gen.facts, Cert.HgrnRefIdeal.Gen.facts, Cert.InProj.Gen.facts,
  Cert.InProjIdeal.Gen.facts, Cert.InProjRefIdeal.Gen.facts, Cert.InProjS.Gen.facts,
  Cert.InProjSIdeal.Gen.facts, Cert.InProjSRefIdeal.Gen.facts, Cert.MemKv.Gen.facts, Cert.MemKvIdeal.Gen.facts, Cert.MemKvRefIdeal.Gen.facts,
  Cert.Merge.Gen.facts, Cert.MergeIdeal.Gen.facts, Cert.MergeRefIdeal.Gen.facts,
  Cert.MergeS.Gen.facts, Cert.MergeSIdeal.Gen.facts, Cert.MergeSRefIdeal.Gen.facts,
  Cert.HgrnO.Gen.facts, Cert.HgrnOIdeal.Gen.facts, Cert.HgrnORefIdeal.Gen.facts, Cert.Pre_attn_finite.Gen.facts, Cert.Pre_hgrn_finite.Gen.facts, Cert.Pre_merge_finite.Gen.facts, Cert.Pre_merges_finite.Gen.facts,
  Cert.Pre_hgrno_finite.Gen.facts,
  AttnClaims.frame, AttnClaims.frameIdeal, AttnClaims.frameIdealPre, AttnClaims.frameRef, AttnClaims.frameRefPre,
  HgrnClaims.frame, HgrnClaims.frameIdeal, HgrnClaims.frameIdealPre, HgrnClaims.frameRef, HgrnClaims.frameRefPre,
  InProjClaims.frame, InProjClaims.frameIdeal, InProjClaims.frameRef,
  InProjSClaims.frame, InProjSClaims.frameIdeal, InProjSClaims.frameRef, MemKvClaims.frame, MemKvClaims.frameIdeal, MemKvClaims.frameRef,
  MergeClaims.frame, MergeClaims.frameIdeal, MergeClaims.frameIdealPre, MergeClaims.frameRef, MergeClaims.frameRefPre,
  MergeSClaims.frame, MergeSClaims.frameIdeal, MergeSClaims.frameIdealPre, MergeSClaims.frameRef, MergeSClaims.frameRefPre,
  HgrnOClaims.frame, HgrnOClaims.frameIdeal, HgrnOClaims.frameIdealPre, HgrnOClaims.frameRef, HgrnOClaims.frameRefPre,
  trivial, AttnClaims.algebraic, trivial, HgrnClaims.algebraic, trivial, InProjClaims.algebraic, trivial, InProjSClaims.algebraic, trivial, MemKvClaims.algebraic, trivial, MergeClaims.algebraic, trivial, MergeSClaims.algebraic, trivial, HgrnOClaims.algebraic⟩

end Cert.Proof

end
